-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjFirst (m : (ℓ : Loc Cert.ProjFirst.nD Cert.ProjFirst.τ Cert.ProjFirst.sig) → Buf (Elt Bits) ℓ) : Prop :=
  True

def Pre_ProjFirstIdeal (m : (ℓ : Loc Cert.ProjFirstIdeal.nD Cert.ProjFirstIdeal.τ Cert.ProjFirstIdeal.sig) → Buf (Elt Ideal) ℓ) : Prop :=
  True

def Pre_ProjFirstRefIdeal (m : (ℓ : Loc Cert.ProjFirstRefIdeal.nD Cert.ProjFirstRefIdeal.τ Cert.ProjFirstRefIdeal.sig) → Buf (Elt Ideal) ℓ) : Prop :=
  True

def Pre_MergeFirst (m : (ℓ : Loc Cert.MergeFirst.nD Cert.MergeFirst.τ Cert.MergeFirst.sig) → Buf (Elt Bits) ℓ) : Prop :=
  True

def Pre_MergeFirstIdeal (m : (ℓ : Loc Cert.MergeFirstIdeal.nD Cert.MergeFirstIdeal.τ Cert.MergeFirstIdeal.sig) → Buf (Elt Ideal) ℓ) : Prop :=
  True

def Pre_MergeFirstRefIdeal (m : (ℓ : Loc Cert.MergeFirstRefIdeal.nD Cert.MergeFirstRefIdeal.τ Cert.MergeFirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18)
      ∧ r.2.mem ((c.tc : Thread Cert.MergeRefIdeal.nD Cert.MergeRefIdeal.τ).loc Cert.MergeRefIdeal.main_arg19) = m ((c.tc : Thread Cert.MergeRefIdeal.nD Cert.MergeRefIdeal.τ).loc Cert.MergeRefIdeal.main_arg19))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_ProjFirst [hProjFirst : Cert.ProjFirst.Facts] : Prop :=
  ∀ (m : (ℓ : Loc Cert.ProjFirst.nD Cert.ProjFirst.τ Cert.ProjFirst.sig) → Buf (Elt Bits) ℓ) (g : Dev Cert.ProjFirst.nD → PrngReg), Pre_ProjFirst m →
    θ_run (Cert.ProjFirst.defs (F := Bits)) (onTc (τ := Cert.ProjFirst.τ) (Cert.ProjFirst.main (F := Bits))) ⟨m, fun _ => 0, g⟩ (fun r => (∀ c : Dev Cert.ProjFirst.nD,
      r.2.mem ((c.tc : Thread Cert.ProjFirst.nD Cert.ProjFirst.τ).loc Cert.ProjFirst.main_arg0) = m ((c.tc : Thread Cert.ProjFirst.nD Cert.ProjFirst.τ).loc Cert.ProjFirst.main_arg0)
      ∧ r.2.mem ((c.tc : Thread Cert.ProjFirst.nD Cert.ProjFirst.τ).loc Cert.ProjFirst.main_arg1) = m ((c.tc : Thread Cert.ProjFirst.nD Cert.ProjFirst.τ).loc Cert.ProjFirst.main_arg1)
      ∧ r.2.mem ((c.tc : Thread Cert.ProjFirst.nD Cert.ProjFirst.τ).loc Cert.ProjFirst.main_arg2) = m ((c.tc : Thread Cert.ProjFirst.nD Cert.ProjFirst.τ).loc Cert.ProjFirst.main_arg2)
      ∧ r.2.mem ((c.tc : Thread Cert.ProjFirst.nD Cert.ProjFirst.τ).loc Cert.ProjFirst.main_arg3) = m ((c.tc : Thread Cert.ProjFirst.nD Cert.ProjFirst.τ).loc Cert.ProjFirst.main_arg3)
      ∧ r.2.mem ((c.tc : Thread Cert.ProjFirst.nD Cert.ProjFirst.τ).loc Cert.ProjFirst.main_arg4) = m ((c.tc : Thread Cert.ProjFirst.nD Cert.ProjFirst.τ).loc Cert.ProjFirst.main_arg4))
      ∧ r.2.sem = fun _ => 0)

def quiescent_ProjFirstIdeal [hProjFirstIdeal : Cert.ProjFirstIdeal.Facts] : Prop :=
  ∀ (m : (ℓ : Loc Cert.ProjFirstIdeal.nD Cert.ProjFirstIdeal.τ Cert.ProjFirstIdeal.sig) → Buf (Elt Ideal) ℓ) (g : Dev Cert.ProjFirstIdeal.nD → PrngReg), Pre_ProjFirstIdeal m →
    θ_run (Cert.ProjFirstIdeal.defs (F := Ideal)) (onTc (τ := Cert.ProjFirstIdeal.τ) (Cert.ProjFirstIdeal.main (F := Ideal))) ⟨m, fun _ => 0, g⟩ (fun r => (∀ c : Dev Cert.ProjFirstIdeal.nD,
      r.2.mem ((c.tc : Thread Cert.ProjFirstIdeal.nD Cert.ProjFirstIdeal.τ).loc Cert.ProjFirstIdeal.main_arg0) = m ((c.tc : Thread Cert.ProjFirstIdeal.nD Cert.ProjFirstIdeal.τ).loc Cert.ProjFirstIdeal.main_arg0)
      ∧ r.2.mem ((c.tc : Thread Cert.ProjFirstIdeal.nD Cert.ProjFirstIdeal.τ).loc Cert.ProjFirstIdeal.main_arg1) = m ((c.tc : Thread Cert.ProjFirstIdeal.nD Cert.ProjFirstIdeal.τ).loc Cert.ProjFirstIdeal.main_arg1)
      ∧ r.2.mem ((c.tc : Thread Cert.ProjFirstIdeal.nD Cert.ProjFirstIdeal.τ).loc Cert.ProjFirstIdeal.main_arg2) = m ((c.tc : Thread Cert.ProjFirstIdeal.nD Cert.ProjFirstIdeal.τ).loc Cert.ProjFirstIdeal.main_arg2)
      ∧ r.2.mem ((c.tc : Thread Cert.ProjFirstIdeal.nD Cert.ProjFirstIdeal.τ).loc Cert.ProjFirstIdeal.main_arg3) = m ((c.tc : Thread Cert.ProjFirstIdeal.nD Cert.ProjFirstIdeal.τ).loc Cert.ProjFirstIdeal.main_arg3)
      ∧ r.2.mem ((c.tc : Thread Cert.ProjFirstIdeal.nD Cert.ProjFirstIdeal.τ).loc Cert.ProjFirstIdeal.main_arg4) = m ((c.tc : Thread Cert.ProjFirstIdeal.nD Cert.ProjFirstIdeal.τ).loc Cert.ProjFirstIdeal.main_arg4))
      ∧ r.2.sem = fun _ => 0)

def quiescent_ProjFirstRefIdeal [hProjFirstRefIdeal : Cert.ProjFirstRefIdeal.Facts] : Prop :=
  ∀ (m : (ℓ : Loc Cert.ProjFirstRefIdeal.nD Cert.ProjFirstRefIdeal.τ Cert.ProjFirstRefIdeal.sig) → Buf (Elt Ideal) ℓ) (g : Dev Cert.ProjFirstRefIdeal.nD → PrngReg), Pre_ProjFirstRefIdeal m →
    θ_run (Cert.ProjFirstRefIdeal.defs (F := Ideal)) (onTc (τ := Cert.ProjFirstRefIdeal.τ) (Cert.ProjFirstRefIdeal.main (F := Ideal))) ⟨m, fun _ => 0, g⟩ (fun r => (∀ c : Dev Cert.ProjFirstRefIdeal.nD,
      r.2.mem ((c.tc : Thread Cert.ProjFirstRefIdeal.nD Cert.ProjFirstRefIdeal.τ).loc Cert.ProjFirstRefIdeal.main_arg0) = m ((c.tc : Thread Cert.ProjFirstRefIdeal.nD Cert.ProjFirstRefIdeal.τ).loc Cert.ProjFirstRefIdeal.main_arg0)
      ∧ r.2.mem ((c.tc : Thread Cert.ProjFirstRefIdeal.nD Cert.ProjFirstRefIdeal.τ).loc Cert.ProjFirstRefIdeal.main_arg1) = m ((c.tc : Thread Cert.ProjFirstRefIdeal.nD Cert.ProjFirstRefIdeal.τ).loc Cert.ProjFirstRefIdeal.main_arg1)
      ∧ r.2.mem ((c.tc : Thread Cert.ProjFirstRefIdeal.nD Cert.ProjFirstRefIdeal.τ).loc Cert.ProjFirstRefIdeal.main_arg2) = m ((c.tc : Thread Cert.ProjFirstRefIdeal.nD Cert.ProjFirstRefIdeal.τ).loc Cert.ProjFirstRefIdeal.main_arg2)
      ∧ r.2.mem ((c.tc : Thread Cert.ProjFirstRefIdeal.nD Cert.ProjFirstRefIdeal.τ).loc Cert.ProjFirstRefIdeal.main_arg3) = m ((c.tc : Thread Cert.ProjFirstRefIdeal.nD Cert.ProjFirstRefIdeal.τ).loc Cert.ProjFirstRefIdeal.main_arg3)
      ∧ r.2.mem ((c.tc : Thread Cert.ProjFirstRefIdeal.nD Cert.ProjFirstRefIdeal.τ).loc Cert.ProjFirstRefIdeal.main_arg4) = m ((c.tc : Thread Cert.ProjFirstRefIdeal.nD Cert.ProjFirstRefIdeal.τ).loc Cert.ProjFirstRefIdeal.main_arg4))
      ∧ r.2.sem = fun _ => 0)

def quiescent_MergeFirst [hMergeFirst : Cert.MergeFirst.Facts] : Prop :=
  ∀ (m : (ℓ : Loc Cert.MergeFirst.nD Cert.MergeFirst.τ Cert.MergeFirst.sig) → Buf (Elt Bits) ℓ) (g : Dev Cert.MergeFirst.nD → PrngReg), Pre_MergeFirst m →
    θ_run (Cert.MergeFirst.defs (F := Bits)) (onTc (τ := Cert.MergeFirst.τ) (Cert.MergeFirst.main (F := Bits))) ⟨m, fun _ => 0, g⟩ (fun r => (∀ c : Dev Cert.MergeFirst.nD,
      r.2.mem ((c.tc : Thread Cert.MergeFirst.nD Cert.MergeFirst.τ).loc Cert.MergeFirst.main_arg0) = m ((c.tc : Thread Cert.MergeFirst.nD Cert.MergeFirst.τ).loc Cert.MergeFirst.main_arg0)
      ∧ r.2.mem ((c.tc : Thread Cert.MergeFirst.nD Cert.MergeFirst.τ).loc Cert.MergeFirst.main_arg1) = m ((c.tc : Thread Cert.MergeFirst.nD Cert.MergeFirst.τ).loc Cert.MergeFirst.main_arg1)
      ∧ r.2.mem ((c.tc : Thread Cert.MergeFirst.nD Cert.MergeFirst.τ).loc Cert.MergeFirst.main_arg2) = m ((c.tc : Thread Cert.MergeFirst.nD Cert.MergeFirst.τ).loc Cert.MergeFirst.main_arg2)
      ∧ r.2.mem ((c.tc : Thread Cert.MergeFirst.nD Cert.MergeFirst.τ).loc Cert.MergeFirst.main_arg3) = m ((c.tc : Thread Cert.MergeFirst.nD Cert.MergeFirst.τ).loc Cert.MergeFirst.main_arg3)
      ∧ r.2.mem ((c.tc : Thread Cert.MergeFirst.nD Cert.MergeFirst.τ).loc Cert.MergeFirst.main_arg4) = m ((c.tc : Thread Cert.MergeFirst.nD Cert.MergeFirst.τ).loc Cert.MergeFirst.main_arg4)
      ∧ r.2.mem ((c.tc : Thread Cert.MergeFirst.nD Cert.MergeFirst.τ).loc Cert.MergeFirst.main_arg5) = m ((c.tc : Thread Cert.MergeFirst.nD Cert.MergeFirst.τ).loc Cert.MergeFirst.main_arg5)
      ∧ r.2.mem ((c.tc : Thread Cert.MergeFirst.nD Cert.MergeFirst.τ).loc Cert.MergeFirst.main_arg6) = m ((c.tc : Thread Cert.MergeFirst.nD Cert.MergeFirst.τ).loc Cert.MergeFirst.main_arg6)
      ∧ r.2.mem ((c.tc : Thread Cert.MergeFirst.nD Cert.MergeFirst.τ).loc Cert.MergeFirst.main_arg7) = m ((c.tc : Thread Cert.MergeFirst.nD Cert.MergeFirst.τ).loc Cert.MergeFirst.main_arg7)
      ∧ r.2.mem ((c.tc : Thread Cert.MergeFirst.nD Cert.MergeFirst.τ).loc Cert.MergeFirst.main_arg8) = m ((c.tc : Thread Cert.MergeFirst.nD Cert.MergeFirst.τ).loc Cert.MergeFirst.main_arg8)
      ∧ r.2.mem ((c.tc : Thread Cert.MergeFirst.nD Cert.MergeFirst.τ).loc Cert.MergeFirst.main_arg9) = m ((c.tc : Thread Cert.MergeFirst.nD Cert.MergeFirst.τ).loc Cert.MergeFirst.main_arg9)
      ∧ r.2.mem ((c.tc : Thread Cert.MergeFirst.nD Cert.MergeFirst.τ).loc Cert.MergeFirst.main_arg10) = m ((c.tc : Thread Cert.MergeFirst.nD Cert.MergeFirst.τ).loc Cert.MergeFirst.main_arg10)
      ∧ r.2.mem ((c.tc : Thread Cert.MergeFirst.nD Cert.MergeFirst.τ).loc Cert.MergeFirst.main_arg11) = m ((c.tc : Thread Cert.MergeFirst.nD Cert.MergeFirst.τ).loc Cert.MergeFirst.main_arg11)
      ∧ r.2.mem ((c.tc : Thread Cert.MergeFirst.nD Cert.MergeFirst.τ).loc Cert.MergeFirst.main_arg12) = m ((c.tc : Thread Cert.MergeFirst.nD Cert.MergeFirst.τ).loc Cert.MergeFirst.main_arg12)
      ∧ r.2.mem ((c.tc : Thread Cert.MergeFirst.nD Cert.MergeFirst.τ).loc Cert.MergeFirst.main_arg13) = m ((c.tc : Thread Cert.MergeFirst.nD Cert.MergeFirst.τ).loc Cert.MergeFirst.main_arg13)
      ∧ r.2.mem ((c.tc : Thread Cert.MergeFirst.nD Cert.MergeFirst.τ).loc Cert.MergeFirst.main_arg14) = m ((c.tc : Thread Cert.MergeFirst.nD Cert.MergeFirst.τ).loc Cert.MergeFirst.main_arg14)
      ∧ r.2.mem ((c.tc : Thread Cert.MergeFirst.nD Cert.MergeFirst.τ).loc Cert.MergeFirst.main_arg15) = m ((c.tc : Thread Cert.MergeFirst.nD Cert.MergeFirst.τ).loc Cert.MergeFirst.main_arg15)
      ∧ r.2.mem ((c.tc : Thread Cert.MergeFirst.nD Cert.MergeFirst.τ).loc Cert.MergeFirst.main_arg16) = m ((c.tc : Thread Cert.MergeFirst.nD Cert.MergeFirst.τ).loc Cert.MergeFirst.main_arg16)
      ∧ r.2.mem ((c.tc : Thread Cert.MergeFirst.nD Cert.MergeFirst.τ).loc Cert.MergeFirst.main_arg17) = m ((c.tc : Thread Cert.MergeFirst.nD Cert.MergeFirst.τ).loc Cert.MergeFirst.main_arg17)
      ∧ r.2.mem ((c.tc : Thread Cert.MergeFirst.nD Cert.MergeFirst.τ).loc Cert.MergeFirst.main_arg18) = m ((c.tc : Thread Cert.MergeFirst.nD Cert.MergeFirst.τ).loc Cert.MergeFirst.main_arg18)
      ∧ r.2.mem ((c.tc : Thread Cert.MergeFirst.nD Cert.MergeFirst.τ).loc Cert.MergeFirst.main_arg19) = m ((c.tc : Thread Cert.MergeFirst.nD Cert.MergeFirst.τ).loc Cert.MergeFirst.main_arg19)
      ∧ r.2.mem ((c.tc : Thread Cert.MergeFirst.nD Cert.MergeFirst.τ).loc Cert.MergeFirst.main_arg20) = m ((c.tc : Thread Cert.MergeFirst.nD Cert.MergeFirst.τ).loc Cert.MergeFirst.main_arg20))
      ∧ r.2.sem = fun _ => 0)

def quiescent_MergeFirstIdeal [hMergeFirstIdeal : Cert.MergeFirstIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg), Pre_MergeFirstIdeal m →
    θ_run (Cert.MergeFirstIdeal.defs (F := Ideal)) (onTc (τ := Cert.MergeFirstIdeal.τ) (Cert.MergeFirstIdeal.main (F := Ideal))) ⟨m, fun _ => 0, g⟩ (fun r => (∀ c : Dev Cert.MergeFirstIdeal.nD,
      r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
      ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
      ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
      ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
      ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
      ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
      ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
      ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7)
      ∧ r.2.mem ((c.tc : Thread Cert.MergeFirstIdeal.nD Cert.MergeFirstIdeal.τ).loc Cert.MergeFirstIdeal.main_arg8) = m ((c.tc : Thread Cert.MergeFirstIdeal.nD Cert.MergeFirstIdeal.τ).loc Cert.MergeFirstIdeal.main_arg8)
      ∧ r.2.mem ((c.tc : Thread Cert.MergeFirstIdeal.nD Cert.MergeFirstIdeal.τ).loc Cert.MergeFirstIdeal.main_arg9) = m ((c.tc : Thread Cert.MergeFirstIdeal.nD Cert.MergeFirstIdeal.τ).loc Cert.MergeFirstIdeal.main_arg9)
      ∧ r.2.mem ((c.tc : Thread Cert.MergeFirstIdeal.nD Cert.MergeFirstIdeal.τ).loc Cert.MergeFirstIdeal.main_arg10) = m ((c.tc : Thread Cert.MergeFirstIdeal.nD Cert.MergeFirstIdeal.τ).loc Cert.MergeFirstIdeal.main_arg10)
      ∧ r.2.mem ((c.tc : Thread Cert.MergeFirstIdeal.nD Cert.MergeFirstIdeal.τ).loc Cert.MergeFirstIdeal.main_arg11) = m ((c.tc : Thread Cert.MergeFirstIdeal.nD Cert.MergeFirstIdeal.τ).loc Cert.MergeFirstIdeal.main_arg11)
      ∧ r.2.mem ((c.tc : Thread Cert.MergeFirstIdeal.nD Cert.MergeFirstIdeal.τ).loc Cert.MergeFirstIdeal.main_arg12) = m ((c.tc : Thread Cert.MergeFirstIdeal.nD Cert.MergeFirstIdeal.τ).loc Cert.MergeFirstIdeal.main_arg12)
      ∧ r.2.mem ((c.tc : Thread Cert.MergeFirstIdeal.nD Cert.MergeFirstIdeal.τ).loc Cert.MergeFirstIdeal.main_arg13) = m ((c.tc : Thread Cert.MergeFirstIdeal.nD Cert.MergeFirstIdeal.τ).loc Cert.MergeFirstIdeal.main_arg13)
      ∧ r.2.mem ((c.tc : Thread Cert.MergeFirstIdeal.nD Cert.MergeFirstIdeal.τ).loc Cert.MergeFirstIdeal.main_arg14) = m ((c.tc : Thread Cert.MergeFirstIdeal.nD Cert.MergeFirstIdeal.τ).loc Cert.MergeFirstIdeal.main_arg14)
      ∧ r.2.mem ((c.tc : Thread Cert.MergeFirstIdeal.nD Cert.MergeFirstIdeal.τ).loc Cert.MergeFirstIdeal.main_arg15) = m ((c.tc : Thread Cert.MergeFirstIdeal.nD Cert.MergeFirstIdeal.τ).loc Cert.MergeFirstIdeal.main_arg15)
      ∧ r.2.mem ((c.tc : Thread Cert.MergeFirstIdeal.nD Cert.MergeFirstIdeal.τ).loc Cert.MergeFirstIdeal.main_arg16) = m ((c.tc : Thread Cert.MergeFirstIdeal.nD Cert.MergeFirstIdeal.τ).loc Cert.MergeFirstIdeal.main_arg16)
      ∧ r.2.mem ((c.tc : Thread Cert.MergeFirstIdeal.nD Cert.MergeFirstIdeal.τ).loc Cert.MergeFirstIdeal.main_arg17) = m ((c.tc : Thread Cert.MergeFirstIdeal.nD Cert.MergeFirstIdeal.τ).loc Cert.MergeFirstIdeal.main_arg17)
      ∧ r.2.mem ((c.tc : Thread Cert.MergeFirstIdeal.nD Cert.MergeFirstIdeal.τ).loc Cert.MergeFirstIdeal.main_arg18) = m ((c.tc : Thread Cert.MergeFirstIdeal.nD Cert.MergeFirstIdeal.τ).loc Cert.MergeFirstIdeal.main_arg18)
      ∧ r.2.mem ((c.tc : Thread Cert.MergeFirstIdeal.nD Cert.MergeFirstIdeal.τ).loc Cert.MergeFirstIdeal.main_arg19) = m ((c.tc : Thread Cert.MergeFirstIdeal.nD Cert.MergeFirstIdeal.τ).loc Cert.MergeFirstIdeal.main_arg19)
      ∧ r.2.mem ((c.tc : Thread Cert.MergeFirstIdeal.nD Cert.MergeFirstIdeal.τ).loc Cert.MergeFirstIdeal.main_arg20) = m ((c.tc : Thread Cert.MergeFirstIdeal.nD Cert.MergeFirstIdeal.τ).loc Cert.MergeFirstIdeal.main_arg20))
      ∧ r.2.sem = fun _ => 0)

def quiescent_MergeFirstRefIdeal [hMergeFirstRefIdeal : Cert.MergeFirstRefIdeal.Facts] : Prop :=
  ∀ (m : (ℓ : Loc Cert.MergeFirstRefIdeal.nD Cert.MergeFirstRefIdeal.τ Cert.MergeFirstRefIdeal.sig) → Buf (Elt Ideal) ℓ) (g : Dev Cert.MergeFirstRefIdeal.nD → PrngReg), Pre_MergeFirstRefIdeal m →
    θ_run (Cert.MergeFirstRefIdeal.defs (F := Ideal)) (onTc (τ := Cert.MergeFirstRefIdeal.τ) (Cert.MergeFirstRefIdeal.main (F := Ideal))) ⟨m, fun _ => 0, g⟩ (fun r => (∀ c : Dev Cert.MergeFirstRefIdeal.nD,
      r.2.mem ((c.tc : Thread Cert.MergeFirstRefIdeal.nD Cert.MergeFirstRefIdeal.τ).loc Cert.MergeFirstRefIdeal.main_arg0) = m ((c.tc : Thread Cert.MergeFirstRefIdeal.nD Cert.MergeFirstRefIdeal.τ).loc Cert.MergeFirstRefIdeal.main_arg0)
      ∧ r.2.mem ((c.tc : Thread Cert.MergeFirstRefIdeal.nD Cert.MergeFirstRefIdeal.τ).loc Cert.MergeFirstRefIdeal.main_arg1) = m ((c.tc : Thread Cert.MergeFirstRefIdeal.nD Cert.MergeFirstRefIdeal.τ).loc Cert.MergeFirstRefIdeal.main_arg1)
      ∧ r.2.mem ((c.tc : Thread Cert.MergeFirstRefIdeal.nD Cert.MergeFirstRefIdeal.τ).loc Cert.MergeFirstRefIdeal.main_arg2) = m ((c.tc : Thread Cert.MergeFirstRefIdeal.nD Cert.MergeFirstRefIdeal.τ).loc Cert.MergeFirstRefIdeal.main_arg2)
      ∧ r.2.mem ((c.tc : Thread Cert.MergeFirstRefIdeal.nD Cert.MergeFirstRefIdeal.τ).loc Cert.MergeFirstRefIdeal.main_arg3) = m ((c.tc : Thread Cert.MergeFirstRefIdeal.nD Cert.MergeFirstRefIdeal.τ).loc Cert.MergeFirstRefIdeal.main_arg3)
      ∧ r.2.mem ((c.tc : Thread Cert.MergeFirstRefIdeal.nD Cert.MergeFirstRefIdeal.τ).loc Cert.MergeFirstRefIdeal.main_arg4) = m ((c.tc : Thread Cert.MergeFirstRefIdeal.nD Cert.MergeFirstRefIdeal.τ).loc Cert.MergeFirstRefIdeal.main_arg4)
      ∧ r.2.mem ((c.tc : Thread Cert.MergeFirstRefIdeal.nD Cert.MergeFirstRefIdeal.τ).loc Cert.MergeFirstRefIdeal.main_arg5) = m ((c.tc : Thread Cert.MergeFirstRefIdeal.nD Cert.MergeFirstRefIdeal.τ).loc Cert.MergeFirstRefIdeal.main_arg5)
      ∧ r.2.mem ((c.tc : Thread Cert.MergeFirstRefIdeal.nD Cert.MergeFirstRefIdeal.τ).loc Cert.MergeFirstRefIdeal.main_arg6) = m ((c.tc : Thread Cert.MergeFirstRefIdeal.nD Cert.MergeFirstRefIdeal.τ).loc Cert.MergeFirstRefIdeal.main_arg6)
      ∧ r.2.mem ((c.tc : Thread Cert.MergeFirstRefIdeal.nD Cert.MergeFirstRefIdeal.τ).loc Cert.MergeFirstRefIdeal.main_arg7) = m ((c.tc : Thread Cert.MergeFirstRefIdeal.nD Cert.MergeFirstRefIdeal.τ).loc Cert.MergeFirstRefIdeal.main_arg7)
      ∧ r.2.mem ((c.tc : Thread Cert.MergeFirstRefIdeal.nD Cert.MergeFirstRefIdeal.τ).loc Cert.MergeFirstRefIdeal.main_arg8) = m ((c.tc : Thread Cert.MergeFirstRefIdeal.nD Cert.MergeFirstRefIdeal.τ).loc Cert.MergeFirstRefIdeal.main_arg8)
      ∧ r.2.mem ((c.tc : Thread Cert.MergeFirstRefIdeal.nD Cert.MergeFirstRefIdeal.τ).loc Cert.MergeFirstRefIdeal.main_arg9) = m ((c.tc : Thread Cert.MergeFirstRefIdeal.nD Cert.MergeFirstRefIdeal.τ).loc Cert.MergeFirstRefIdeal.main_arg9)
      ∧ r.2.mem ((c.tc : Thread Cert.MergeFirstRefIdeal.nD Cert.MergeFirstRefIdeal.τ).loc Cert.MergeFirstRefIdeal.main_arg10) = m ((c.tc : Thread Cert.MergeFirstRefIdeal.nD Cert.MergeFirstRefIdeal.τ).loc Cert.MergeFirstRefIdeal.main_arg10)
      ∧ r.2.mem ((c.tc : Thread Cert.MergeFirstRefIdeal.nD Cert.MergeFirstRefIdeal.τ).loc Cert.MergeFirstRefIdeal.main_arg11) = m ((c.tc : Thread Cert.MergeFirstRefIdeal.nD Cert.MergeFirstRefIdeal.τ).loc Cert.MergeFirstRefIdeal.main_arg11)
      ∧ r.2.mem ((c.tc : Thread Cert.MergeFirstRefIdeal.nD Cert.MergeFirstRefIdeal.τ).loc Cert.MergeFirstRefIdeal.main_arg12) = m ((c.tc : Thread Cert.MergeFirstRefIdeal.nD Cert.MergeFirstRefIdeal.τ).loc Cert.MergeFirstRefIdeal.main_arg12)
      ∧ r.2.mem ((c.tc : Thread Cert.MergeFirstRefIdeal.nD Cert.MergeFirstRefIdeal.τ).loc Cert.MergeFirstRefIdeal.main_arg13) = m ((c.tc : Thread Cert.MergeFirstRefIdeal.nD Cert.MergeFirstRefIdeal.τ).loc Cert.MergeFirstRefIdeal.main_arg13)
      ∧ r.2.mem ((c.tc : Thread Cert.MergeFirstRefIdeal.nD Cert.MergeFirstRefIdeal.τ).loc Cert.MergeFirstRefIdeal.main_arg14) = m ((c.tc : Thread Cert.MergeFirstRefIdeal.nD Cert.MergeFirstRefIdeal.τ).loc Cert.MergeFirstRefIdeal.main_arg14)
      ∧ r.2.mem ((c.tc : Thread Cert.MergeFirstRefIdeal.nD Cert.MergeFirstRefIdeal.τ).loc Cert.MergeFirstRefIdeal.main_arg15) = m ((c.tc : Thread Cert.MergeFirstRefIdeal.nD Cert.MergeFirstRefIdeal.τ).loc Cert.MergeFirstRefIdeal.main_arg15)
      ∧ r.2.mem ((c.tc : Thread Cert.MergeFirstRefIdeal.nD Cert.MergeFirstRefIdeal.τ).loc Cert.MergeFirstRefIdeal.main_arg16) = m ((c.tc : Thread Cert.MergeFirstRefIdeal.nD Cert.MergeFirstRefIdeal.τ).loc Cert.MergeFirstRefIdeal.main_arg16)
      ∧ r.2.mem ((c.tc : Thread Cert.MergeFirstRefIdeal.nD Cert.MergeFirstRefIdeal.τ).loc Cert.MergeFirstRefIdeal.main_arg17) = m ((c.tc : Thread Cert.MergeFirstRefIdeal.nD Cert.MergeFirstRefIdeal.τ).loc Cert.MergeFirstRefIdeal.main_arg17)
      ∧ r.2.mem ((c.tc : Thread Cert.MergeFirstRefIdeal.nD Cert.MergeFirstRefIdeal.τ).loc Cert.MergeFirstRefIdeal.main_arg18) = m ((c.tc : Thread Cert.MergeFirstRefIdeal.nD Cert.MergeFirstRefIdeal.τ).loc Cert.MergeFirstRefIdeal.main_arg18)
      ∧ r.2.mem ((c.tc : Thread Cert.MergeFirstRefIdeal.nD Cert.MergeFirstRefIdeal.τ).loc Cert.MergeFirstRefIdeal.main_arg19) = m ((c.tc : Thread Cert.MergeFirstRefIdeal.nD Cert.MergeFirstRefIdeal.τ).loc Cert.MergeFirstRefIdeal.main_arg19)
      ∧ r.2.mem ((c.tc : Thread Cert.MergeFirstRefIdeal.nD Cert.MergeFirstRefIdeal.τ).loc Cert.MergeFirstRefIdeal.main_arg20) = m ((c.tc : Thread Cert.MergeFirstRefIdeal.nD Cert.MergeFirstRefIdeal.τ).loc Cert.MergeFirstRefIdeal.main_arg20))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v86) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v53) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)
      ∧ m' ((c.tc : Thread Cert.MergeRefIdeal.nD Cert.MergeRefIdeal.τ).loc Cert.MergeRefIdeal.main_arg18) = m ((c.tc : Thread Cert.MergeIdeal.nD Cert.MergeIdeal.τ).loc Cert.MergeIdeal.main_arg18)
      ∧ m' ((c.tc : Thread Cert.MergeRefIdeal.nD Cert.MergeRefIdeal.τ).loc Cert.MergeRefIdeal.main_arg19) = m ((c.tc : Thread Cert.MergeIdeal.nD Cert.MergeIdeal.τ).loc Cert.MergeIdeal.main_arg19)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v344) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17)
          ∧ r.2.mem ((c.tc : Thread Cert.MergeRefIdeal.nD Cert.MergeRefIdeal.τ).loc Cert.MergeRefIdeal.main_arg18) = m' ((c.tc : Thread Cert.MergeRefIdeal.nD Cert.MergeRefIdeal.τ).loc Cert.MergeRefIdeal.main_arg18)
          ∧ r.2.mem ((c.tc : Thread Cert.MergeRefIdeal.nD Cert.MergeRefIdeal.τ).loc Cert.MergeRefIdeal.main_arg19) = m' ((c.tc : Thread Cert.MergeRefIdeal.nD Cert.MergeRefIdeal.τ).loc Cert.MergeRefIdeal.main_arg19))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v97) = v0 c
          ∧ r.2.mem ((c.tc : Thread Cert.ProjRefIdeal.nD Cert.ProjRefIdeal.τ).loc Cert.ProjRefIdeal.main_v98) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_ProjFirst_ProjFirstIdeal : Prop :=
  True

def algebraic_ProjFirstIdeal_ProjFirstRefIdeal [hProjFirstIdeal : Cert.ProjFirstIdeal.Facts] [hProjFirstRefIdeal : Cert.ProjFirstRefIdeal.Facts] : Prop :=
  ∀ (m : (ℓ : Loc Cert.ProjFirstIdeal.nD Cert.ProjFirstIdeal.τ Cert.ProjFirstIdeal.sig) → Buf (Elt Ideal) ℓ) (g : Dev Cert.ProjFirstIdeal.nD → PrngReg)
    (m' : (ℓ : Loc Cert.ProjFirstRefIdeal.nD Cert.ProjFirstRefIdeal.τ Cert.ProjFirstRefIdeal.sig) → Buf (Elt Ideal) ℓ) (g' : Dev Cert.ProjFirstRefIdeal.nD → PrngReg), Pre_ProjFirstIdeal m →
    (∀ c : Dev Cert.ProjFirstIdeal.nD,
      m' ((c.tc : Thread Cert.ProjFirstRefIdeal.nD Cert.ProjFirstRefIdeal.τ).loc Cert.ProjFirstRefIdeal.main_arg0) = m ((c.tc : Thread Cert.ProjFirstIdeal.nD Cert.ProjFirstIdeal.τ).loc Cert.ProjFirstIdeal.main_arg0)
      ∧ m' ((c.tc : Thread Cert.ProjFirstRefIdeal.nD Cert.ProjFirstRefIdeal.τ).loc Cert.ProjFirstRefIdeal.main_arg1) = m ((c.tc : Thread Cert.ProjFirstIdeal.nD Cert.ProjFirstIdeal.τ).loc Cert.ProjFirstIdeal.main_arg1)
      ∧ m' ((c.tc : Thread Cert.ProjFirstRefIdeal.nD Cert.ProjFirstRefIdeal.τ).loc Cert.ProjFirstRefIdeal.main_arg2) = m ((c.tc : Thread Cert.ProjFirstIdeal.nD Cert.ProjFirstIdeal.τ).loc Cert.ProjFirstIdeal.main_arg2)
      ∧ m' ((c.tc : Thread Cert.ProjFirstRefIdeal.nD Cert.ProjFirstRefIdeal.τ).loc Cert.ProjFirstRefIdeal.main_arg3) = m ((c.tc : Thread Cert.ProjFirstIdeal.nD Cert.ProjFirstIdeal.τ).loc Cert.ProjFirstIdeal.main_arg3)
      ∧ m' ((c.tc : Thread Cert.ProjFirstRefIdeal.nD Cert.ProjFirstRefIdeal.τ).loc Cert.ProjFirstRefIdeal.main_arg4) = m ((c.tc : Thread Cert.ProjFirstIdeal.nD Cert.ProjFirstIdeal.τ).loc Cert.ProjFirstIdeal.main_arg4)) →
    ∃ (v0 : (c : Dev Cert.ProjFirstIdeal.nD) → Buf (Elt Ideal) ((c.tc : Thread Cert.ProjFirstIdeal.nD Cert.ProjFirstIdeal.τ).loc Cert.ProjFirstIdeal.main_v3_0)) (v1 : (c : Dev Cert.ProjFirstIdeal.nD) → Buf (Elt Ideal) ((c.tc : Thread Cert.ProjFirstIdeal.nD Cert.ProjFirstIdeal.τ).loc Cert.ProjFirstIdeal.main_v3_1)),
      θ_run (Cert.ProjFirstIdeal.defs (F := Ideal)) (onTc (τ := Cert.ProjFirstIdeal.τ) (Cert.ProjFirstIdeal.main (F := Ideal))) ⟨m, fun _ => 0, g⟩ (fun r => ∀ c : Dev Cert.ProjFirstIdeal.nD,
          r.2.mem ((c.tc : Thread Cert.ProjFirstIdeal.nD Cert.ProjFirstIdeal.τ).loc Cert.ProjFirstIdeal.main_v3_0) = v0 c
          ∧ r.2.mem ((c.tc : Thread Cert.ProjFirstIdeal.nD Cert.ProjFirstIdeal.τ).loc Cert.ProjFirstIdeal.main_v3_1) = v1 c
          ∧ r.2.mem ((c.tc : Thread Cert.ProjFirstIdeal.nD Cert.ProjFirstIdeal.τ).loc Cert.ProjFirstIdeal.main_arg0) = m ((c.tc : Thread Cert.ProjFirstIdeal.nD Cert.ProjFirstIdeal.τ).loc Cert.ProjFirstIdeal.main_arg0)
          ∧ r.2.mem ((c.tc : Thread Cert.ProjFirstIdeal.nD Cert.ProjFirstIdeal.τ).loc Cert.ProjFirstIdeal.main_arg1) = m ((c.tc : Thread Cert.ProjFirstIdeal.nD Cert.ProjFirstIdeal.τ).loc Cert.ProjFirstIdeal.main_arg1)
          ∧ r.2.mem ((c.tc : Thread Cert.ProjFirstIdeal.nD Cert.ProjFirstIdeal.τ).loc Cert.ProjFirstIdeal.main_arg2) = m ((c.tc : Thread Cert.ProjFirstIdeal.nD Cert.ProjFirstIdeal.τ).loc Cert.ProjFirstIdeal.main_arg2)
          ∧ r.2.mem ((c.tc : Thread Cert.ProjFirstIdeal.nD Cert.ProjFirstIdeal.τ).loc Cert.ProjFirstIdeal.main_arg3) = m ((c.tc : Thread Cert.ProjFirstIdeal.nD Cert.ProjFirstIdeal.τ).loc Cert.ProjFirstIdeal.main_arg3)
          ∧ r.2.mem ((c.tc : Thread Cert.ProjFirstIdeal.nD Cert.ProjFirstIdeal.τ).loc Cert.ProjFirstIdeal.main_arg4) = m ((c.tc : Thread Cert.ProjFirstIdeal.nD Cert.ProjFirstIdeal.τ).loc Cert.ProjFirstIdeal.main_arg4))
      ∧ θ_run (Cert.ProjFirstRefIdeal.defs (F := Ideal)) (onTc (τ := Cert.ProjFirstRefIdeal.τ) (Cert.ProjFirstRefIdeal.main (F := Ideal))) ⟨m', fun _ => 0, g'⟩ (fun r => ∀ c : Dev Cert.ProjFirstRefIdeal.nD,
          r.2.mem ((c.tc : Thread Cert.ProjFirstRefIdeal.nD Cert.ProjFirstRefIdeal.τ).loc Cert.ProjFirstRefIdeal.main_v95) = v0 c
          ∧ r.2.mem ((c.tc : Thread Cert.ProjFirstRefIdeal.nD Cert.ProjFirstRefIdeal.τ).loc Cert.ProjFirstRefIdeal.main_v96) = v1 c
          ∧ r.2.mem ((c.tc : Thread Cert.ProjFirstRefIdeal.nD Cert.ProjFirstRefIdeal.τ).loc Cert.ProjFirstRefIdeal.main_arg0) = m' ((c.tc : Thread Cert.ProjFirstRefIdeal.nD Cert.ProjFirstRefIdeal.τ).loc Cert.ProjFirstRefIdeal.main_arg0)
          ∧ r.2.mem ((c.tc : Thread Cert.ProjFirstRefIdeal.nD Cert.ProjFirstRefIdeal.τ).loc Cert.ProjFirstRefIdeal.main_arg1) = m' ((c.tc : Thread Cert.ProjFirstRefIdeal.nD Cert.ProjFirstRefIdeal.τ).loc Cert.ProjFirstRefIdeal.main_arg1)
          ∧ r.2.mem ((c.tc : Thread Cert.ProjFirstRefIdeal.nD Cert.ProjFirstRefIdeal.τ).loc Cert.ProjFirstRefIdeal.main_arg2) = m' ((c.tc : Thread Cert.ProjFirstRefIdeal.nD Cert.ProjFirstRefIdeal.τ).loc Cert.ProjFirstRefIdeal.main_arg2)
          ∧ r.2.mem ((c.tc : Thread Cert.ProjFirstRefIdeal.nD Cert.ProjFirstRefIdeal.τ).loc Cert.ProjFirstRefIdeal.main_arg3) = m' ((c.tc : Thread Cert.ProjFirstRefIdeal.nD Cert.ProjFirstRefIdeal.τ).loc Cert.ProjFirstRefIdeal.main_arg3)
          ∧ r.2.mem ((c.tc : Thread Cert.ProjFirstRefIdeal.nD Cert.ProjFirstRefIdeal.τ).loc Cert.ProjFirstRefIdeal.main_arg4) = m' ((c.tc : Thread Cert.ProjFirstRefIdeal.nD Cert.ProjFirstRefIdeal.τ).loc Cert.ProjFirstRefIdeal.main_arg4))

def preserves_MergeFirst_MergeFirstIdeal : Prop :=
  True

def algebraic_MergeFirstIdeal_MergeFirstRefIdeal [hMergeFirstIdeal : Cert.MergeFirstIdeal.Facts] [hMergeFirstRefIdeal : Cert.MergeFirstRefIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg)
    (m' : (ℓ : Loc Cert.MergeFirstRefIdeal.nD Cert.MergeFirstRefIdeal.τ Cert.MergeFirstRefIdeal.sig) → Buf (Elt Ideal) ℓ) (g' : Dev Cert.MergeFirstRefIdeal.nD → PrngReg), Pre_MergeFirstIdeal m →
    (∀ c : Dev Cert.MergeFirstIdeal.nD,
      m' ((c.tc : Thread Cert.MergeFirstRefIdeal.nD Cert.MergeFirstRefIdeal.τ).loc Cert.MergeFirstRefIdeal.main_arg0) = m ((c.tc : Thread Cert.MergeFirstIdeal.nD Cert.MergeFirstIdeal.τ).loc Cert.MergeFirstIdeal.main_arg0)
      ∧ m' ((c.tc : Thread Cert.MergeFirstRefIdeal.nD Cert.MergeFirstRefIdeal.τ).loc Cert.MergeFirstRefIdeal.main_arg1) = m ((c.tc : Thread Cert.MergeFirstIdeal.nD Cert.MergeFirstIdeal.τ).loc Cert.MergeFirstIdeal.main_arg1)
      ∧ m' ((c.tc : Thread Cert.MergeFirstRefIdeal.nD Cert.MergeFirstRefIdeal.τ).loc Cert.MergeFirstRefIdeal.main_arg2) = m ((c.tc : Thread Cert.MergeFirstIdeal.nD Cert.MergeFirstIdeal.τ).loc Cert.MergeFirstIdeal.main_arg2)
      ∧ m' ((c.tc : Thread Cert.MergeFirstRefIdeal.nD Cert.MergeFirstRefIdeal.τ).loc Cert.MergeFirstRefIdeal.main_arg3) = m ((c.tc : Thread Cert.MergeFirstIdeal.nD Cert.MergeFirstIdeal.τ).loc Cert.MergeFirstIdeal.main_arg3)
      ∧ m' ((c.tc : Thread Cert.MergeFirstRefIdeal.nD Cert.MergeFirstRefIdeal.τ).loc Cert.MergeFirstRefIdeal.main_arg4) = m ((c.tc : Thread Cert.MergeFirstIdeal.nD Cert.MergeFirstIdeal.τ).loc Cert.MergeFirstIdeal.main_arg4)
      ∧ m' ((c.tc : Thread Cert.MergeFirstRefIdeal.nD Cert.MergeFirstRefIdeal.τ).loc Cert.MergeFirstRefIdeal.main_arg5) = m ((c.tc : Thread Cert.MergeFirstIdeal.nD Cert.MergeFirstIdeal.τ).loc Cert.MergeFirstIdeal.main_arg5)
      ∧ m' ((c.tc : Thread Cert.MergeFirstRefIdeal.nD Cert.MergeFirstRefIdeal.τ).loc Cert.MergeFirstRefIdeal.main_arg6) = m ((c.tc : Thread Cert.MergeFirstIdeal.nD Cert.MergeFirstIdeal.τ).loc Cert.MergeFirstIdeal.main_arg6)
      ∧ m' ((c.tc : Thread Cert.MergeFirstRefIdeal.nD Cert.MergeFirstRefIdeal.τ).loc Cert.MergeFirstRefIdeal.main_arg7) = m ((c.tc : Thread Cert.MergeFirstIdeal.nD Cert.MergeFirstIdeal.τ).loc Cert.MergeFirstIdeal.main_arg7)
      ∧ m' ((c.tc : Thread Cert.MergeFirstRefIdeal.nD Cert.MergeFirstRefIdeal.τ).loc Cert.MergeFirstRefIdeal.main_arg8) = m ((c.tc : Thread Cert.MergeFirstIdeal.nD Cert.MergeFirstIdeal.τ).loc Cert.MergeFirstIdeal.main_arg8)
      ∧ m' ((c.tc : Thread Cert.MergeFirstRefIdeal.nD Cert.MergeFirstRefIdeal.τ).loc Cert.MergeFirstRefIdeal.main_arg9) = m ((c.tc : Thread Cert.MergeFirstIdeal.nD Cert.MergeFirstIdeal.τ).loc Cert.MergeFirstIdeal.main_arg9)
      ∧ m' ((c.tc : Thread Cert.MergeFirstRefIdeal.nD Cert.MergeFirstRefIdeal.τ).loc Cert.MergeFirstRefIdeal.main_arg10) = m ((c.tc : Thread Cert.MergeFirstIdeal.nD Cert.MergeFirstIdeal.τ).loc Cert.MergeFirstIdeal.main_arg10)
      ∧ m' ((c.tc : Thread Cert.MergeFirstRefIdeal.nD Cert.MergeFirstRefIdeal.τ).loc Cert.MergeFirstRefIdeal.main_arg11) = m ((c.tc : Thread Cert.MergeFirstIdeal.nD Cert.MergeFirstIdeal.τ).loc Cert.MergeFirstIdeal.main_arg11)
      ∧ m' ((c.tc : Thread Cert.MergeFirstRefIdeal.nD Cert.MergeFirstRefIdeal.τ).loc Cert.MergeFirstRefIdeal.main_arg12) = m ((c.tc : Thread Cert.MergeFirstIdeal.nD Cert.MergeFirstIdeal.τ).loc Cert.MergeFirstIdeal.main_arg12)
      ∧ m' ((c.tc : Thread Cert.MergeFirstRefIdeal.nD Cert.MergeFirstRefIdeal.τ).loc Cert.MergeFirstRefIdeal.main_arg13) = m ((c.tc : Thread Cert.MergeFirstIdeal.nD Cert.MergeFirstIdeal.τ).loc Cert.MergeFirstIdeal.main_arg13)
      ∧ m' ((c.tc : Thread Cert.MergeFirstRefIdeal.nD Cert.MergeFirstRefIdeal.τ).loc Cert.MergeFirstRefIdeal.main_arg14) = m ((c.tc : Thread Cert.MergeFirstIdeal.nD Cert.MergeFirstIdeal.τ).loc Cert.MergeFirstIdeal.main_arg14)
      ∧ m' ((c.tc : Thread Cert.MergeFirstRefIdeal.nD Cert.MergeFirstRefIdeal.τ).loc Cert.MergeFirstRefIdeal.main_arg15) = m ((c.tc : Thread Cert.MergeFirstIdeal.nD Cert.MergeFirstIdeal.τ).loc Cert.MergeFirstIdeal.main_arg15)
      ∧ m' ((c.tc : Thread Cert.MergeFirstRefIdeal.nD Cert.MergeFirstRefIdeal.τ).loc Cert.MergeFirstRefIdeal.main_arg16) = m ((c.tc : Thread Cert.MergeFirstIdeal.nD Cert.MergeFirstIdeal.τ).loc Cert.MergeFirstIdeal.main_arg16)
      ∧ m' ((c.tc : Thread Cert.MergeFirstRefIdeal.nD Cert.MergeFirstRefIdeal.τ).loc Cert.MergeFirstRefIdeal.main_arg17) = m ((c.tc : Thread Cert.MergeFirstIdeal.nD Cert.MergeFirstIdeal.τ).loc Cert.MergeFirstIdeal.main_arg17)
      ∧ m' ((c.tc : Thread Cert.MergeFirstRefIdeal.nD Cert.MergeFirstRefIdeal.τ).loc Cert.MergeFirstRefIdeal.main_arg18) = m ((c.tc : Thread Cert.MergeFirstIdeal.nD Cert.MergeFirstIdeal.τ).loc Cert.MergeFirstIdeal.main_arg18)
      ∧ m' ((c.tc : Thread Cert.MergeFirstRefIdeal.nD Cert.MergeFirstRefIdeal.τ).loc Cert.MergeFirstRefIdeal.main_arg19) = m ((c.tc : Thread Cert.MergeFirstIdeal.nD Cert.MergeFirstIdeal.τ).loc Cert.MergeFirstIdeal.main_arg19)
      ∧ m' ((c.tc : Thread Cert.MergeFirstRefIdeal.nD Cert.MergeFirstRefIdeal.τ).loc Cert.MergeFirstRefIdeal.main_arg20) = m ((c.tc : Thread Cert.MergeFirstIdeal.nD Cert.MergeFirstIdeal.τ).loc Cert.MergeFirstIdeal.main_arg20)) →
    ∃ (v0 : (c : Dev Cert.MergeFirstIdeal.nD) → Buf (Elt Ideal) ((c.tc : Thread Cert.MergeFirstIdeal.nD Cert.MergeFirstIdeal.τ).loc Cert.MergeFirstIdeal.main_v16)),
      θ_run (Cert.MergeFirstIdeal.defs (F := Ideal)) (onTc (τ := Cert.MergeFirstIdeal.τ) (Cert.MergeFirstIdeal.main (F := Ideal))) ⟨m, fun _ => 0, g⟩ (fun r => ∀ c : Dev Cert.MergeFirstIdeal.nD,
          r.2.mem ((c.tc : Thread Cert.MergeFirstIdeal.nD Cert.MergeFirstIdeal.τ).loc Cert.MergeFirstIdeal.main_v16) = v0 c
          ∧ r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
          ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
          ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
          ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
          ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
          ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
          ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
          ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7)
          ∧ r.2.mem ((c.tc : Thread Cert.MergeFirstIdeal.nD Cert.MergeFirstIdeal.τ).loc Cert.MergeFirstIdeal.main_arg8) = m ((c.tc : Thread Cert.MergeFirstIdeal.nD Cert.MergeFirstIdeal.τ).loc Cert.MergeFirstIdeal.main_arg8)
          ∧ r.2.mem ((c.tc : Thread Cert.MergeFirstIdeal.nD Cert.MergeFirstIdeal.τ).loc Cert.MergeFirstIdeal.main_arg9) = m ((c.tc : Thread Cert.MergeFirstIdeal.nD Cert.MergeFirstIdeal.τ).loc Cert.MergeFirstIdeal.main_arg9)
          ∧ r.2.mem ((c.tc : Thread Cert.MergeFirstIdeal.nD Cert.MergeFirstIdeal.τ).loc Cert.MergeFirstIdeal.main_arg10) = m ((c.tc : Thread Cert.MergeFirstIdeal.nD Cert.MergeFirstIdeal.τ).loc Cert.MergeFirstIdeal.main_arg10)
          ∧ r.2.mem ((c.tc : Thread Cert.MergeFirstIdeal.nD Cert.MergeFirstIdeal.τ).loc Cert.MergeFirstIdeal.main_arg11) = m ((c.tc : Thread Cert.MergeFirstIdeal.nD Cert.MergeFirstIdeal.τ).loc Cert.MergeFirstIdeal.main_arg11)
          ∧ r.2.mem ((c.tc : Thread Cert.MergeFirstIdeal.nD Cert.MergeFirstIdeal.τ).loc Cert.MergeFirstIdeal.main_arg12) = m ((c.tc : Thread Cert.MergeFirstIdeal.nD Cert.MergeFirstIdeal.τ).loc Cert.MergeFirstIdeal.main_arg12)
          ∧ r.2.mem ((c.tc : Thread Cert.MergeFirstIdeal.nD Cert.MergeFirstIdeal.τ).loc Cert.MergeFirstIdeal.main_arg13) = m ((c.tc : Thread Cert.MergeFirstIdeal.nD Cert.MergeFirstIdeal.τ).loc Cert.MergeFirstIdeal.main_arg13)
          ∧ r.2.mem ((c.tc : Thread Cert.MergeFirstIdeal.nD Cert.MergeFirstIdeal.τ).loc Cert.MergeFirstIdeal.main_arg14) = m ((c.tc : Thread Cert.MergeFirstIdeal.nD Cert.MergeFirstIdeal.τ).loc Cert.MergeFirstIdeal.main_arg14)
          ∧ r.2.mem ((c.tc : Thread Cert.MergeFirstIdeal.nD Cert.MergeFirstIdeal.τ).loc Cert.MergeFirstIdeal.main_arg15) = m ((c.tc : Thread Cert.MergeFirstIdeal.nD Cert.MergeFirstIdeal.τ).loc Cert.MergeFirstIdeal.main_arg15)
          ∧ r.2.mem ((c.tc : Thread Cert.MergeFirstIdeal.nD Cert.MergeFirstIdeal.τ).loc Cert.MergeFirstIdeal.main_arg16) = m ((c.tc : Thread Cert.MergeFirstIdeal.nD Cert.MergeFirstIdeal.τ).loc Cert.MergeFirstIdeal.main_arg16)
          ∧ r.2.mem ((c.tc : Thread Cert.MergeFirstIdeal.nD Cert.MergeFirstIdeal.τ).loc Cert.MergeFirstIdeal.main_arg17) = m ((c.tc : Thread Cert.MergeFirstIdeal.nD Cert.MergeFirstIdeal.τ).loc Cert.MergeFirstIdeal.main_arg17)
          ∧ r.2.mem ((c.tc : Thread Cert.MergeFirstIdeal.nD Cert.MergeFirstIdeal.τ).loc Cert.MergeFirstIdeal.main_arg18) = m ((c.tc : Thread Cert.MergeFirstIdeal.nD Cert.MergeFirstIdeal.τ).loc Cert.MergeFirstIdeal.main_arg18)
          ∧ r.2.mem ((c.tc : Thread Cert.MergeFirstIdeal.nD Cert.MergeFirstIdeal.τ).loc Cert.MergeFirstIdeal.main_arg19) = m ((c.tc : Thread Cert.MergeFirstIdeal.nD Cert.MergeFirstIdeal.τ).loc Cert.MergeFirstIdeal.main_arg19)
          ∧ r.2.mem ((c.tc : Thread Cert.MergeFirstIdeal.nD Cert.MergeFirstIdeal.τ).loc Cert.MergeFirstIdeal.main_arg20) = m ((c.tc : Thread Cert.MergeFirstIdeal.nD Cert.MergeFirstIdeal.τ).loc Cert.MergeFirstIdeal.main_arg20))
      ∧ θ_run (Cert.MergeFirstRefIdeal.defs (F := Ideal)) (onTc (τ := Cert.MergeFirstRefIdeal.τ) (Cert.MergeFirstRefIdeal.main (F := Ideal))) ⟨m', fun _ => 0, g'⟩ (fun r => ∀ c : Dev Cert.MergeFirstRefIdeal.nD,
          r.2.mem ((c.tc : Thread Cert.MergeFirstRefIdeal.nD Cert.MergeFirstRefIdeal.τ).loc Cert.MergeFirstRefIdeal.main_v342) = v0 c
          ∧ r.2.mem ((c.tc : Thread Cert.MergeFirstRefIdeal.nD Cert.MergeFirstRefIdeal.τ).loc Cert.MergeFirstRefIdeal.main_arg0) = m' ((c.tc : Thread Cert.MergeFirstRefIdeal.nD Cert.MergeFirstRefIdeal.τ).loc Cert.MergeFirstRefIdeal.main_arg0)
          ∧ r.2.mem ((c.tc : Thread Cert.MergeFirstRefIdeal.nD Cert.MergeFirstRefIdeal.τ).loc Cert.MergeFirstRefIdeal.main_arg1) = m' ((c.tc : Thread Cert.MergeFirstRefIdeal.nD Cert.MergeFirstRefIdeal.τ).loc Cert.MergeFirstRefIdeal.main_arg1)
          ∧ r.2.mem ((c.tc : Thread Cert.MergeFirstRefIdeal.nD Cert.MergeFirstRefIdeal.τ).loc Cert.MergeFirstRefIdeal.main_arg2) = m' ((c.tc : Thread Cert.MergeFirstRefIdeal.nD Cert.MergeFirstRefIdeal.τ).loc Cert.MergeFirstRefIdeal.main_arg2)
          ∧ r.2.mem ((c.tc : Thread Cert.MergeFirstRefIdeal.nD Cert.MergeFirstRefIdeal.τ).loc Cert.MergeFirstRefIdeal.main_arg3) = m' ((c.tc : Thread Cert.MergeFirstRefIdeal.nD Cert.MergeFirstRefIdeal.τ).loc Cert.MergeFirstRefIdeal.main_arg3)
          ∧ r.2.mem ((c.tc : Thread Cert.MergeFirstRefIdeal.nD Cert.MergeFirstRefIdeal.τ).loc Cert.MergeFirstRefIdeal.main_arg4) = m' ((c.tc : Thread Cert.MergeFirstRefIdeal.nD Cert.MergeFirstRefIdeal.τ).loc Cert.MergeFirstRefIdeal.main_arg4)
          ∧ r.2.mem ((c.tc : Thread Cert.MergeFirstRefIdeal.nD Cert.MergeFirstRefIdeal.τ).loc Cert.MergeFirstRefIdeal.main_arg5) = m' ((c.tc : Thread Cert.MergeFirstRefIdeal.nD Cert.MergeFirstRefIdeal.τ).loc Cert.MergeFirstRefIdeal.main_arg5)
          ∧ r.2.mem ((c.tc : Thread Cert.MergeFirstRefIdeal.nD Cert.MergeFirstRefIdeal.τ).loc Cert.MergeFirstRefIdeal.main_arg6) = m' ((c.tc : Thread Cert.MergeFirstRefIdeal.nD Cert.MergeFirstRefIdeal.τ).loc Cert.MergeFirstRefIdeal.main_arg6)
          ∧ r.2.mem ((c.tc : Thread Cert.MergeFirstRefIdeal.nD Cert.MergeFirstRefIdeal.τ).loc Cert.MergeFirstRefIdeal.main_arg7) = m' ((c.tc : Thread Cert.MergeFirstRefIdeal.nD Cert.MergeFirstRefIdeal.τ).loc Cert.MergeFirstRefIdeal.main_arg7)
          ∧ r.2.mem ((c.tc : Thread Cert.MergeFirstRefIdeal.nD Cert.MergeFirstRefIdeal.τ).loc Cert.MergeFirstRefIdeal.main_arg8) = m' ((c.tc : Thread Cert.MergeFirstRefIdeal.nD Cert.MergeFirstRefIdeal.τ).loc Cert.MergeFirstRefIdeal.main_arg8)
          ∧ r.2.mem ((c.tc : Thread Cert.MergeFirstRefIdeal.nD Cert.MergeFirstRefIdeal.τ).loc Cert.MergeFirstRefIdeal.main_arg9) = m' ((c.tc : Thread Cert.MergeFirstRefIdeal.nD Cert.MergeFirstRefIdeal.τ).loc Cert.MergeFirstRefIdeal.main_arg9)
          ∧ r.2.mem ((c.tc : Thread Cert.MergeFirstRefIdeal.nD Cert.MergeFirstRefIdeal.τ).loc Cert.MergeFirstRefIdeal.main_arg10) = m' ((c.tc : Thread Cert.MergeFirstRefIdeal.nD Cert.MergeFirstRefIdeal.τ).loc Cert.MergeFirstRefIdeal.main_arg10)
          ∧ r.2.mem ((c.tc : Thread Cert.MergeFirstRefIdeal.nD Cert.MergeFirstRefIdeal.τ).loc Cert.MergeFirstRefIdeal.main_arg11) = m' ((c.tc : Thread Cert.MergeFirstRefIdeal.nD Cert.MergeFirstRefIdeal.τ).loc Cert.MergeFirstRefIdeal.main_arg11)
          ∧ r.2.mem ((c.tc : Thread Cert.MergeFirstRefIdeal.nD Cert.MergeFirstRefIdeal.τ).loc Cert.MergeFirstRefIdeal.main_arg12) = m' ((c.tc : Thread Cert.MergeFirstRefIdeal.nD Cert.MergeFirstRefIdeal.τ).loc Cert.MergeFirstRefIdeal.main_arg12)
          ∧ r.2.mem ((c.tc : Thread Cert.MergeFirstRefIdeal.nD Cert.MergeFirstRefIdeal.τ).loc Cert.MergeFirstRefIdeal.main_arg13) = m' ((c.tc : Thread Cert.MergeFirstRefIdeal.nD Cert.MergeFirstRefIdeal.τ).loc Cert.MergeFirstRefIdeal.main_arg13)
          ∧ r.2.mem ((c.tc : Thread Cert.MergeFirstRefIdeal.nD Cert.MergeFirstRefIdeal.τ).loc Cert.MergeFirstRefIdeal.main_arg14) = m' ((c.tc : Thread Cert.MergeFirstRefIdeal.nD Cert.MergeFirstRefIdeal.τ).loc Cert.MergeFirstRefIdeal.main_arg14)
          ∧ r.2.mem ((c.tc : Thread Cert.MergeFirstRefIdeal.nD Cert.MergeFirstRefIdeal.τ).loc Cert.MergeFirstRefIdeal.main_arg15) = m' ((c.tc : Thread Cert.MergeFirstRefIdeal.nD Cert.MergeFirstRefIdeal.τ).loc Cert.MergeFirstRefIdeal.main_arg15)
          ∧ r.2.mem ((c.tc : Thread Cert.MergeFirstRefIdeal.nD Cert.MergeFirstRefIdeal.τ).loc Cert.MergeFirstRefIdeal.main_arg16) = m' ((c.tc : Thread Cert.MergeFirstRefIdeal.nD Cert.MergeFirstRefIdeal.τ).loc Cert.MergeFirstRefIdeal.main_arg16)
          ∧ r.2.mem ((c.tc : Thread Cert.MergeFirstRefIdeal.nD Cert.MergeFirstRefIdeal.τ).loc Cert.MergeFirstRefIdeal.main_arg17) = m' ((c.tc : Thread Cert.MergeFirstRefIdeal.nD Cert.MergeFirstRefIdeal.τ).loc Cert.MergeFirstRefIdeal.main_arg17)
          ∧ r.2.mem ((c.tc : Thread Cert.MergeFirstRefIdeal.nD Cert.MergeFirstRefIdeal.τ).loc Cert.MergeFirstRefIdeal.main_arg18) = m' ((c.tc : Thread Cert.MergeFirstRefIdeal.nD Cert.MergeFirstRefIdeal.τ).loc Cert.MergeFirstRefIdeal.main_arg18)
          ∧ r.2.mem ((c.tc : Thread Cert.MergeFirstRefIdeal.nD Cert.MergeFirstRefIdeal.τ).loc Cert.MergeFirstRefIdeal.main_arg19) = m' ((c.tc : Thread Cert.MergeFirstRefIdeal.nD Cert.MergeFirstRefIdeal.τ).loc Cert.MergeFirstRefIdeal.main_arg19)
          ∧ r.2.mem ((c.tc : Thread Cert.MergeFirstRefIdeal.nD Cert.MergeFirstRefIdeal.τ).loc Cert.MergeFirstRefIdeal.main_arg20) = m' ((c.tc : Thread Cert.MergeFirstRefIdeal.nD Cert.MergeFirstRefIdeal.τ).loc Cert.MergeFirstRefIdeal.main_arg20))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hProjFirst : Cert.ProjFirst.Facts) (hProjFirstIdeal : Cert.ProjFirstIdeal.Facts) (hProjFirstRefIdeal : Cert.ProjFirstRefIdeal.Facts) (hMergeFirst : Cert.MergeFirst.Facts) (hMergeFirstIdeal : Cert.MergeFirstIdeal.Facts) (hMergeFirstRefIdeal : Cert.MergeFirstRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_ProjFirst (hProjFirst := hProjFirst)
    ∧ quiescent_ProjFirstIdeal (hProjFirstIdeal := hProjFirstIdeal)
    ∧ quiescent_ProjFirstRefIdeal (hProjFirstRefIdeal := hProjFirstRefIdeal)
    ∧ quiescent_MergeFirst (hMergeFirst := hMergeFirst)
    ∧ quiescent_MergeFirstIdeal (hMergeFirstIdeal := hMergeFirstIdeal)
    ∧ quiescent_MergeFirstRefIdeal (hMergeFirstRefIdeal := hMergeFirstRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_ProjFirst_ProjFirstIdeal
    ∧ algebraic_ProjFirstIdeal_ProjFirstRefIdeal (hProjFirstIdeal := hProjFirstIdeal) (hProjFirstRefIdeal := hProjFirstRefIdeal)
    ∧ preserves_MergeFirst_MergeFirstIdeal
    ∧ algebraic_MergeFirstIdeal_MergeFirstRefIdeal (hMergeFirstIdeal := hMergeFirstIdeal) (hMergeFirstRefIdeal := hMergeFirstRefIdeal)
-- ==== Pre_finite.lean ====
abbrev S8x2304x1024 : Shape := ⟨3, ![8, 2304, 1024]⟩
abbrev S4x4x15x31 : Shape := ⟨4, ![4, 4, 15, 31]⟩
abbrev S8x2304x512 : Shape := ⟨3, ![8, 2304, 512]⟩
abbrev S_ : Shape := ⟨0, ![]⟩

class Facts : Prop where
  slices_S8x2304x1024_S8x2304x512_0_0_256 : S8x2304x1024.Slices ![0, 0, 256] S8x2304x512
  bitsLt_bf16_f32 : FTy.bits .bf16 < FTy.bits .f32
  bcast_S_S8x2304x512 : S_.BroadcastsInDim S8x2304x512 (![] : Fin 0 → Fin S8x2304x512.rank)
  bcast_S_S4x4x15x31 : S_.BroadcastsInDim S4x4x15x31 (![] : Fin 0 → Fin S4x4x15x31.rank)

variable [Facts]

def fn {F : FTy → Type} [FloatOps F] (main_arg0 : FVec F S8x2304x1024 .bf16) (main_arg1 : FVec F S4x4x15x31 .f32) : IVec S8x2304x512 1 × IVec S4x4x15x31 1 :=
  let main_v0 : FVec F S8x2304x512 .bf16 := (extractStridedSlice S8x2304x512 ![0, 0, 256] · slices_S8x2304x1024_S8x2304x512_0_0_256) main_arg0
  let main_v1 : FVec F S8x2304x512 .f32 := (extf .f32 · bitsLt_bf16_f32) main_v0
  let main_cst : FVec F S_ .f32 := constant S_ .f32 0xFF800000#32
  let main_v2 : FVec F S8x2304x512 .f32 := broadcastInDim S8x2304x512 ![] bcast_S_S8x2304x512 main_cst
  let main_v3 : IVec S8x2304x512 1 := cmpf .ogt main_v1 main_v2
  let main_cst_0 : FVec F S_ .f32 := constant S_ .f32 0x7F800000#32
  let main_v4 : FVec F S8x2304x512 .f32 := broadcastInDim S8x2304x512 ![] bcast_S_S8x2304x512 main_cst_0
  let main_v5 : IVec S8x2304x512 1 := cmpf .olt main_v1 main_v4
  let main_v6 : IVec S8x2304x512 1 := andi main_v3 main_v5
  let main_cst_1 : FVec F S_ .f32 := constant S_ .f32 0x7F800000#32
  let main_v7 : FVec F S4x4x15x31 .f32 := broadcastInDim S4x4x15x31 ![] bcast_S_S4x4x15x31 main_cst_1
  let main_v8 : IVec S4x4x15x31 1 := cmpf .olt main_arg1 main_v7
  (main_v6, main_v8)
-- ==== Kernel.lean ====
abbrev S8x2304x1024 : Shape := ⟨3, ![8, 2304, 1024]⟩
abbrev S4x4x15x31 : Shape := ⟨4, ![4, 4, 15, 31]⟩
abbrev S7440 : Shape := ⟨1, ![7440]⟩
abbrev S4x3x4x256x768 : Shape := ⟨5, ![4, 3, 4, 256, 768]⟩
abbrev S1x3x1x256x768 : Shape := ⟨5, ![1, 3, 1, 256, 768]⟩
abbrev S64x128 : Shape := ⟨2, ![64, 128]⟩
abbrev S1 : Shape := ⟨1, ![1]⟩
abbrev S1x1x1x64x128 : Shape := ⟨5, ![1, 1, 1, 64, 128]⟩
abbrev S8x2048x256 : Shape := ⟨3, ![8, 2048, 256]⟩
abbrev S1x1024x256 : Shape := ⟨3, ![1, 1024, 256]⟩
abbrev S1x2304x256 : Shape := ⟨3, ![1, 2304, 256]⟩
abbrev S1x3x4x256x768 : Shape := ⟨5, ![1, 3, 4, 256, 768]⟩
abbrev S1x256x256 : Shape := ⟨3, ![1, 256, 256]⟩
abbrev S256x256 : Shape := ⟨2, ![256, 256]⟩
abbrev S1x768x256 : Shape := ⟨3, ![1, 768, 256]⟩
abbrev S768x256 : Shape := ⟨2, ![768, 256]⟩
abbrev S1x256 : Shape := ⟨2, ![1, 256]⟩
abbrev S256x768 : Shape := ⟨2, ![256, 768]⟩
abbrev S1x1x1x256x768 : Shape := ⟨5, ![1, 1, 1, 256, 768]⟩
abbrev S256 : Shape := ⟨1, ![256]⟩
abbrev S256x1 : Shape := ⟨2, ![256, 1]⟩

abbrev nBuf : Space → Nat
  | .hbm => 5
  | .vmem => 11
  | .smem => 1
  | _ => 0

abbrev bufTy : (tb : Table) → Fin (tcTables nBuf tb) → BufTy
  | .hbm, ⟨0, _⟩ => ⟨S8x2304x1024, .bf16⟩
  | .hbm, ⟨1, _⟩ => ⟨S4x4x15x31, .f32⟩
  | .hbm, ⟨2, _⟩ => ⟨S7440, .f32⟩
  | .hbm, ⟨3, _⟩ => ⟨S4x3x4x256x768, .f32⟩
  | .hbm, ⟨4, _⟩ => ⟨S8x2048x256, .bf16⟩
  | .local _ .vmem, ⟨0, _⟩ => ⟨S1x3x1x256x768, .f32⟩
  | .local _ .vmem, ⟨1, _⟩ => ⟨S1x3x1x256x768, .f32⟩
  | .local _ .vmem, ⟨2, _⟩ => ⟨S1x1024x256, .bf16⟩
  | .local _ .vmem, ⟨3, _⟩ => ⟨S1x1024x256, .bf16⟩
  | .local _ .vmem, ⟨4, _⟩ => ⟨S1x2304x256, .bf16⟩
  | .local _ .vmem, ⟨5, _⟩ => ⟨S1x2304x256, .bf16⟩
  | .local _ .vmem, ⟨6, _⟩ => ⟨S1x2304x256, .bf16⟩
  | .local _ .vmem, ⟨7, _⟩ => ⟨S1x2304x256, .bf16⟩
  | .local _ .vmem, ⟨8, _⟩ => ⟨S1x3x4x256x768, .f32⟩
  | .local _ .vmem, ⟨9, _⟩ => ⟨S1x1024x256, .bf16⟩
  | .local _ .vmem, ⟨10, _⟩ => ⟨S1x1024x256, .bf16⟩
  | .local _ .smem, ⟨0, _⟩ => ⟨S7440, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![4, 4], ![false, false]⟩

def k0_off1 (i : grid0.Coords) (c0_i32_3 : BitVec 32) (c0_i32_4 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c465_i32 : BitVec 32 := 465#32
  let v2 : BitVec 32 := Scalar.muli v1 c465_i32
  let v32 : BitVec 32 := Scalar.addi v2 c0_i32_3
  let v33 : BitVec 32 := Scalar.addi v32 c0_i32_4
  let v34 : Index := Scalar.indexCast v33
  ![v34.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .smem S7440 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x3x1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 2], ![false, false]⟩

def k1_mult1 (i : grid1.Coords) : BitVec 32 :=
  let c20_i32 : BitVec 32 := 20#32
  let c0_i32_6 : BitVec 32 := 0#32
  let arg1 : BitVec 32 := BitVec.ofNat 32 (i 1).val
  let c4_i32 : BitVec 32 := 4#32
  let v4 : BitVec 32 := Scalar.muli arg1 c4_i32
  let c0_i32 : BitVec 32 := 0#32
  let v5 : BitVec 32 := Scalar.addi v4 c0_i32
  let c4_i32_4 : BitVec 32 := 4#32
  let v6 : BitVec 32 := Scalar.muli v5 c4_i32_4
  let c4_i32_5 : BitVec 32 := 4#32
  let v7 : BitVec 32 := Scalar.subi v6 c4_i32_5
  let v8 : BitVec 32 := Scalar.maxsi c0_i32_6 v7
  let v9 : BitVec 32 := Scalar.minsi c20_i32 v8
  let c64_i32 : BitVec 32 := 64#32
  let v10 : BitVec 32 := Scalar.muli v9 c64_i32
  v10
def k1_off1 (i : grid1.Coords) (c0_i32 : BitVec 32) : Fin 3 → Nat :=
  let c0_9 : Index := 0#32
  let c20_i32 : BitVec 32 := 20#32
  let c0_i32_6 : BitVec 32 := 0#32
  let arg1 : BitVec 32 := BitVec.ofNat 32 (i 1).val
  let c4_i32 : BitVec 32 := 4#32
  let v4 : BitVec 32 := Scalar.muli arg1 c4_i32
  let v5 : BitVec 32 := Scalar.addi v4 c0_i32
  let c4_i32_4 : BitVec 32 := 4#32
  let v6 : BitVec 32 := Scalar.muli v5 c4_i32_4
  let c4_i32_5 : BitVec 32 := 4#32
  let v7 : BitVec 32 := Scalar.subi v6 c4_i32_5
  let v8 : BitVec 32 := Scalar.maxsi c0_i32_6 v7
  let v9 : BitVec 32 := Scalar.minsi c20_i32 v8
  let c64_i32 : BitVec 32 := 64#32
  let v10 : BitVec 32 := Scalar.muli v9 c64_i32
  let v11 : BitVec 32 := v10
  let v16 : Index := Scalar.indexCast v11
  let c0_10 : Index := 0#32
  ![0, v16.toNat, 0]
def k1_off2 (i : grid1.Coords) (c0_i32 : BitVec 32) : Fin 5 → Nat :=
  let c0_20 : Index := 0#32
  let arg1 : BitVec 32 := BitVec.ofNat 32 (i 1).val
  let c4_i32 : BitVec 32 := 4#32
  let v4 : BitVec 32 := Scalar.muli arg1 c4_i32
  let v5 : BitVec 32 := Scalar.addi v4 c0_i32
  let c0_i32_7 : BitVec 32 := 0#32
  let v12 : BitVec 1 := Scalar.cmpi .eq v5 c0_i32_7
  let c0_i32_8 : BitVec 32 := 0#32
  let c7_i32 : BitVec 32 := 7#32
  let v13 : BitVec 1 := Scalar.cmpi .eq v5 c7_i32
  let c2_i32 : BitVec 32 := 2#32
  let c1_i32 : BitVec 32 := 1#32
  let v14 : BitVec 32 := Scalar.select v13 c2_i32 c1_i32
  let v15 : BitVec 32 := Scalar.select v12 c0_i32_8 v14
  let v37 : Index := Scalar.indexCast v15
  let c0_21 : Index := 0#32
  let c0_22 : Index := 0#32
  let c0_23 : Index := 0#32
  ![0, v37.toNat, 0, 0, 0]
def k1_off3 (i : grid1.Coords) (c0_i32 : BitVec 32) : Fin 5 → Nat :=
  let c0_37 : Index := 0#32
  let arg1 : BitVec 32 := BitVec.ofNat 32 (i 1).val
  let c4_i32 : BitVec 32 := 4#32
  let v4 : BitVec 32 := Scalar.muli arg1 c4_i32
  let v5 : BitVec 32 := Scalar.addi v4 c0_i32
  let c0_i32_7 : BitVec 32 := 0#32
  let v12 : BitVec 1 := Scalar.cmpi .eq v5 c0_i32_7
  let c0_i32_8 : BitVec 32 := 0#32
  let c7_i32 : BitVec 32 := 7#32
  let v13 : BitVec 1 := Scalar.cmpi .eq v5 c7_i32
  let c2_i32 : BitVec 32 := 2#32
  let c1_i32 : BitVec 32 := 1#32
  let v14 : BitVec 32 := Scalar.select v13 c2_i32 c1_i32
  let v15 : BitVec 32 := Scalar.select v12 c0_i32_8 v14
  let v81 : Index := Scalar.indexCast v15
  let c1 : Index := 1#32
  let c0_38 : Index := 0#32
  let c0_39 : Index := 0#32
  ![0, v81.toNat, 1, 0, 0]
def k1_off4 (i : grid1.Coords) (c0_i32 : BitVec 32) : Fin 5 → Nat :=
  let c0_53 : Index := 0#32
  let arg1 : BitVec 32 := BitVec.ofNat 32 (i 1).val
  let c4_i32 : BitVec 32 := 4#32
  let v4 : BitVec 32 := Scalar.muli arg1 c4_i32
  let v5 : BitVec 32 := Scalar.addi v4 c0_i32
  let c0_i32_7 : BitVec 32 := 0#32
  let v12 : BitVec 1 := Scalar.cmpi .eq v5 c0_i32_7
  let c0_i32_8 : BitVec 32 := 0#32
  let c7_i32 : BitVec 32 := 7#32
  let v13 : BitVec 1 := Scalar.cmpi .eq v5 c7_i32
  let c2_i32 : BitVec 32 := 2#32
  let c1_i32 : BitVec 32 := 1#32
  let v14 : BitVec 32 := Scalar.select v13 c2_i32 c1_i32
  let v15 : BitVec 32 := Scalar.select v12 c0_i32_8 v14
  let v125 : Index := Scalar.indexCast v15
  let c2 : Index := 2#32
  let c0_54 : Index := 0#32
  let c0_55 : Index := 0#32
  ![0, v125.toNat, 2, 0, 0]
def k1_off5 (i : grid1.Coords) (c0_i32 : BitVec 32) : Fin 5 → Nat :=
  let c0_68 : Index := 0#32
  let arg1 : BitVec 32 := BitVec.ofNat 32 (i 1).val
  let c4_i32 : BitVec 32 := 4#32
  let v4 : BitVec 32 := Scalar.muli arg1 c4_i32
  let v5 : BitVec 32 := Scalar.addi v4 c0_i32
  let c0_i32_7 : BitVec 32 := 0#32
  let v12 : BitVec 1 := Scalar.cmpi .eq v5 c0_i32_7
  let c0_i32_8 : BitVec 32 := 0#32
  let c7_i32 : BitVec 32 := 7#32
  let v13 : BitVec 1 := Scalar.cmpi .eq v5 c7_i32
  let c2_i32 : BitVec 32 := 2#32
  let c1_i32 : BitVec 32 := 1#32
  let v14 : BitVec 32 := Scalar.select v13 c2_i32 c1_i32
  let v15 : BitVec 32 := Scalar.select v12 c0_i32_8 v14
  let v169 : Index := Scalar.indexCast v15
  let c3 : Index := 3#32
  let c0_69 : Index := 0#32
  let c0_70 : Index := 0#32
  ![0, v169.toNat, 3, 0, 0]
def k1_mult2 (i : grid1.Coords) : BitVec 32 :=
  let c20_i32_89 : BitVec 32 := 20#32
  let c0_i32_88 : BitVec 32 := 0#32
  let arg1 : BitVec 32 := BitVec.ofNat 32 (i 1).val
  let c4_i32_84 : BitVec 32 := 4#32
  let v210 : BitVec 32 := Scalar.muli arg1 c4_i32_84
  let c1_i32_85 : BitVec 32 := 1#32
  let v211 : BitVec 32 := Scalar.addi v210 c1_i32_85
  let c4_i32_86 : BitVec 32 := 4#32
  let v212 : BitVec 32 := Scalar.muli v211 c4_i32_86
  let c4_i32_87 : BitVec 32 := 4#32
  let v213 : BitVec 32 := Scalar.subi v212 c4_i32_87
  let v214 : BitVec 32 := Scalar.maxsi c0_i32_88 v213
  let v215 : BitVec 32 := Scalar.minsi c20_i32_89 v214
  let c64_i32_90 : BitVec 32 := 64#32
  let v216 : BitVec 32 := Scalar.muli v215 c64_i32_90
  v216
def k1_mult3 (i : grid1.Coords) : BitVec 32 :=
  let c20_i32_181 : BitVec 32 := 20#32
  let c0_i32_180 : BitVec 32 := 0#32
  let arg1 : BitVec 32 := BitVec.ofNat 32 (i 1).val
  let c4_i32_176 : BitVec 32 := 4#32
  let v416 : BitVec 32 := Scalar.muli arg1 c4_i32_176
  let c2_i32_177 : BitVec 32 := 2#32
  let v417 : BitVec 32 := Scalar.addi v416 c2_i32_177
  let c4_i32_178 : BitVec 32 := 4#32
  let v418 : BitVec 32 := Scalar.muli v417 c4_i32_178
  let c4_i32_179 : BitVec 32 := 4#32
  let v419 : BitVec 32 := Scalar.subi v418 c4_i32_179
  let v420 : BitVec 32 := Scalar.maxsi c0_i32_180 v419
  let v421 : BitVec 32 := Scalar.minsi c20_i32_181 v420
  let c64_i32_182 : BitVec 32 := 64#32
  let v422 : BitVec 32 := Scalar.muli v421 c64_i32_182
  v422
def k1_mult4 (i : grid1.Coords) : BitVec 32 :=
  let c20_i32_273 : BitVec 32 := 20#32
  let c0_i32_272 : BitVec 32 := 0#32
  let arg1 : BitVec 32 := BitVec.ofNat 32 (i 1).val
  let c4_i32_268 : BitVec 32 := 4#32
  let v622 : BitVec 32 := Scalar.muli arg1 c4_i32_268
  let c3_i32_269 : BitVec 32 := 3#32
  let v623 : BitVec 32 := Scalar.addi v622 c3_i32_269
  let c4_i32_270 : BitVec 32 := 4#32
  let v624 : BitVec 32 := Scalar.muli v623 c4_i32_270
  let c4_i32_271 : BitVec 32 := 4#32
  let v625 : BitVec 32 := Scalar.subi v624 c4_i32_271
  let v626 : BitVec 32 := Scalar.maxsi c0_i32_272 v625
  let v627 : BitVec 32 := Scalar.minsi c20_i32_273 v626
  let c64_i32_274 : BitVec 32 := 64#32
  let v628 : BitVec 32 := Scalar.muli v627 c64_i32_274
  v628
def cc1_transform_0 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc1_transform_3 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2304x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2304x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x3x4x256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S8x2304x1024 : Shape := ⟨3, ![8, 2304, 1024]⟩
abbrev S4x4x15x31 : Shape := ⟨4, ![4, 4, 15, 31]⟩
abbrev S1x4x15x31 : Shape := ⟨4, ![1, 4, 15, 31]⟩
abbrev S4x15x31 : Shape := ⟨3, ![4, 15, 31]⟩
abbrev S8x2048x256 : Shape := ⟨3, ![8, 2048, 256]⟩
abbrev S8x256x256 : Shape := ⟨3, ![8, 256, 256]⟩
abbrev S8x32x64x4x64 : Shape := ⟨5, ![8, 32, 64, 4, 64]⟩
abbrev S_ : Shape := ⟨0, ![]⟩
abbrev S8x256x4x64 : Shape := ⟨4, ![8, 256, 4, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x32x8x64x4x64 : Shape := ⟨6, ![8, 32, 8, 64, 4, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S4x32x64x8x64 : Shape := ⟨5, ![4, 32, 64, 8, 64]⟩
abbrev S8x4x32x64x8x64 : Shape := ⟨6, ![8, 4, 32, 64, 8, 64]⟩
abbrev S1x4x32x64x8x64 : Shape := ⟨6, ![1, 4, 32, 64, 8, 64]⟩
abbrev S64x1x64 : Shape := ⟨3, ![64, 1, 64]⟩
abbrev S8x4x32x64x512 : Shape := ⟨5, ![8, 4, 32, 64, 512]⟩
abbrev S8x4x32x64x256 : Shape := ⟨5, ![8, 4, 32, 64, 256]⟩
abbrev S8x4x32x64x768 : Shape := ⟨5, ![8, 4, 32, 64, 768]⟩
abbrev S8x4x32x64 : Shape := ⟨4, ![8, 4, 32, 64]⟩
abbrev S8x4x32x64x1 : Shape := ⟨5, ![8, 4, 32, 64, 1]⟩
abbrev S8x32x4x64x64 : Shape := ⟨5, ![8, 32, 4, 64, 64]⟩
abbrev S8x4x64x32x64 : Shape := ⟨5, ![8, 4, 64, 32, 64]⟩

abbrev nBuf : Space → Nat
  | .hbm => 167
  | .vmem => 0
  | .smem => 0
  | _ => 0

abbrev hbmTy0_0 (i : Nat) : BufTy := match i % 128 with
  | 0 => ⟨S8x2304x1024, .bf16⟩
  | 1 => ⟨S4x4x15x31, .f32⟩
  | 2 => ⟨S8x2304x1024, .f32⟩
  | 3 => ⟨S1x4x15x31, .f32⟩
  | 4 => ⟨S4x15x31, .f32⟩
  | 5 => ⟨S8x2048x256, .f32⟩
  | 6 => ⟨S8x2048x256, .f32⟩
  | 7 => ⟨S8x2048x256, .f32⟩
  | 8 => ⟨S8x256x256, .f32⟩
  | 9 => ⟨S8x256x256, .f32⟩
  | 10 => ⟨S8x32x64x4x64, .f32⟩
  | 11 => ⟨S_, .f32⟩
  | 12 => ⟨S8x32x64x4x64, .f32⟩
  | 13 => ⟨S8x32x64x4x64, .f32⟩
  | 14 => ⟨S8x32x64x4x64, .f32⟩
  | 15 => ⟨S8x32x64x4x64, .f32⟩
  | 16 => ⟨S8x256x4x64, .f32⟩
  | 17 => ⟨S8x256x4x64, .f32⟩
  | 18 => ⟨S32, .i32⟩
  | 19 => ⟨S_, .i32⟩
  | 20 => ⟨S32, .i32⟩
  | 21 => ⟨S32, .i32⟩
  | 22 => ⟨S_, .i32⟩
  | 23 => ⟨S_, .i32⟩
  | 24 => ⟨S_, .i32⟩
  | 25 => ⟨S32, .i32⟩
  | 26 => ⟨S32, .i32⟩
  | 27 => ⟨S_, .i32⟩
  | 28 => ⟨S32, .i32⟩
  | 29 => ⟨S32, .i32⟩
  | 30 => ⟨S32x1, .i32⟩
  | 31 => ⟨S8, .i32⟩
  | 32 => ⟨S1x8, .i32⟩
  | 33 => ⟨S32x8, .i32⟩
  | 34 => ⟨S32x8, .i32⟩
  | 35 => ⟨S32x8, .i32⟩
  | 36 => ⟨S_, .i32⟩
  | 37 => ⟨S32x8, .i32⟩
  | 38 => ⟨S32x8, .i1⟩
  | 39 => ⟨S_, .i32⟩
  | 40 => ⟨S32x8, .i32⟩
  | 41 => ⟨S32x8, .i32⟩
  | 42 => ⟨S32x8, .i32⟩
  | 43 => ⟨S32x8x1, .i32⟩
  | 44 => ⟨S8x32x8x64x4x64, .f32⟩
  | 45 => ⟨S_, .i32⟩
  | 46 => ⟨S32x8, .i32⟩
  | 47 => ⟨S32x8, .i1⟩
  | 48 => ⟨S_, .i32⟩
  | 49 => ⟨S32x8, .i32⟩
  | 50 => ⟨S32x8, .i32⟩
  | 51 => ⟨S32x8, .i32⟩
  | 52 => ⟨S32x8x1, .i32⟩
  | 53 => ⟨S8x32x8x64x4x64, .f32⟩
  | 54 => ⟨S64, .i32⟩
  | 55 => ⟨S_, .i32⟩
  | 56 => ⟨S64, .i32⟩
  | 57 => ⟨S64, .i32⟩
  | 58 => ⟨S_, .i32⟩
  | 59 => ⟨S_, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S1x64, .i32⟩
  | 67 => ⟨S64x1, .i32⟩
  | 68 => ⟨S64x64, .i32⟩
  | 69 => ⟨S64x64, .i32⟩
  | 70 => ⟨S64x64, .i1⟩
  | 71 => ⟨S1x64, .i32⟩
  | 72 => ⟨S64x1, .i32⟩
  | 73 => ⟨S_, .i32⟩
  | 74 => ⟨S64x1, .i32⟩
  | 75 => ⟨S64x1, .i32⟩
  | 76 => ⟨S64x64, .i32⟩
  | 77 => ⟨S64x64, .i32⟩
  | 78 => ⟨S64x64, .i1⟩
  | 79 => ⟨S64x64, .i1⟩
  | 80 => ⟨S32x1, .i32⟩
  | 81 => ⟨S32x8, .i32⟩
  | 82 => ⟨S32x8, .i32⟩
  | 83 => ⟨S_, .i32⟩
  | 84 => ⟨S32x8, .i32⟩
  | 85 => ⟨S32x8, .i32⟩
  | 86 => ⟨S_, .i32⟩
  | 87 => ⟨S32x8, .i32⟩
  | 88 => ⟨S32x8, .i32⟩
  | 89 => ⟨S1x64, .i32⟩
  | 90 => ⟨S64x1, .i32⟩
  | 91 => ⟨S64x64, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S_, .i32⟩
  | 101 => ⟨S_, .i32⟩
  | 102 => ⟨S_, .i32⟩
  | 103 => ⟨S64x64, .i32⟩
  | 104 => ⟨S64x64, .i32⟩
  | 105 => ⟨S_, .i32⟩
  | 106 => ⟨S64x64, .i32⟩
  | 107 => ⟨S64x64, .i32⟩
  | 108 => ⟨S32x1x8x1, .i32⟩
  | 109 => ⟨S1x64x1x64, .i32⟩
  | 110 => ⟨S_, .i32⟩
  | 111 => ⟨S32x1x8x1, .i32⟩
  | 112 => ⟨S32x1x8x1, .i1⟩
  | 113 => ⟨S_, .i32⟩
  | 114 => ⟨S32x1x8x1, .i32⟩
  | 115 => ⟨S32x1x8x1, .i32⟩
  | 116 => ⟨S32x1x8x1, .i32⟩
  | 117 => ⟨S_, .i32⟩
  | 118 => ⟨S1x64x1x64, .i32⟩
  | 119 => ⟨S1x64x1x64, .i1⟩
  | 120 => ⟨S_, .i32⟩
  | 121 => ⟨S1x64x1x64, .i32⟩
  | 122 => ⟨S1x64x1x64, .i32⟩
  | 123 => ⟨S1x64x1x64, .i32⟩
  | 124 => ⟨S32x64x8x64, .i32⟩
  | 125 => ⟨S32x64x8x64, .i32⟩
  | 126 => ⟨S32x64x8x64x1, .i32⟩
  | 127 => ⟨S32x64x8x64x1, .i32⟩
  | _ => ⟨S8x2304x1024, .bf16⟩

abbrev hbmTy0_1 (i : Nat) : BufTy := match i % 128 with
  | 0 => ⟨S32x64x8x64x2, .i32⟩
  | 1 => ⟨S4x32x64x8x64, .f32⟩
  | 2 => ⟨S8x4x32x64x8x64, .f32⟩
  | 3 => ⟨S1x4x32x64x8x64, .f32⟩
  | 4 => ⟨S8x4x32x64x8x64, .f32⟩
  | 5 => ⟨S8x4x32x64x8x64, .f32⟩
  | 6 => ⟨S64x1x64, .i1⟩
  | 7 => ⟨S_, .f32⟩
  | 8 => ⟨S_, .f32⟩
  | 9 => ⟨S8x4x32x64x8x64, .i1⟩
  | 10 => ⟨S8x4x32x64x8x64, .f32⟩
  | 11 => ⟨S8x4x32x64x8x64, .f32⟩
  | 12 => ⟨S8x4x32x64x512, .f32⟩
  | 13 => ⟨S8x4x32x64x256, .f32⟩
  | 14 => ⟨S8x4x32x64x768, .f32⟩
  | 15 => ⟨S_, .f32⟩
  | 16 => ⟨S8x4x32x64, .f32⟩
  | 17 => ⟨S_, .f32⟩
  | 18 => ⟨S8x4x32x64, .f32⟩
  | 19 => ⟨S8x4x32x64, .f32⟩
  | 20 => ⟨S8x4x32x64x1, .f32⟩
  | 21 => ⟨S8x4x32x64x768, .f32⟩
  | 22 => ⟨S8x4x32x64x768, .f32⟩
  | 23 => ⟨S8x4x32x64x768, .f32⟩
  | 24 => ⟨S_, .f32⟩
  | 25 => ⟨S8x4x32x64, .f32⟩
  | 26 => ⟨S8x4x32x64x1, .f32⟩
  | 27 => ⟨S8x4x32x64x768, .f32⟩
  | 28 => ⟨S8x4x32x64x768, .f32⟩
  | 29 => ⟨S8x4x32x64x512, .f32⟩
  | 30 => ⟨S8x4x32x64x8x64, .f32⟩
  | 31 => ⟨S8x4x32x64x256, .f32⟩
  | 32 => ⟨S8x32x4x64x64, .f32⟩
  | 33 => ⟨S8x32x64x4x64, .f32⟩
  | 34 => ⟨S8x4x64x32x64, .f32⟩
  | 35 => ⟨S8x32x64x4x64, .f32⟩
  | 36 => ⟨S8x32x64x4x64, .f32⟩
  | 37 => ⟨S8x2048x256, .f32⟩
  | 38 => ⟨S8x2048x256, .bf16⟩
  | _ => ⟨S8x2304x1024, .bf16⟩

abbrev hbmTy (i : Nat) : BufTy := match i / 128 with
  | 0 => hbmTy0_0 i
  | 1 => hbmTy0_1 i
  | _ => ⟨S8x2304x1024, .bf16⟩

abbrev bufTy : (tb : Table) → Fin (tcTables nBuf tb) → BufTy
  | .hbm, ⟨i, _⟩ => hbmTy i
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_c_8 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_c_15 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_c_17 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_18 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_cst_22 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_23 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]
-- ==== Ffn.lean ====
abbrev S8x2304x1024 : Shape := ⟨3, ![8, 2304, 1024]⟩
abbrev S4x16x6144 : Shape := ⟨3, ![4, 16, 6144]⟩
abbrev S4x2x1024 : Shape := ⟨3, ![4, 2, 1024]⟩
abbrev S4x1024x4096 : Shape := ⟨3, ![4, 1024, 4096]⟩
abbrev S4x4096x1024 : Shape := ⟨3, ![4, 4096, 1024]⟩
abbrev S64x1x6144 : Shape := ⟨3, ![64, 1, 6144]⟩
abbrev S8x1x1024 : Shape := ⟨3, ![8, 1, 1024]⟩
abbrev S1x768x1024 : Shape := ⟨3, ![1, 768, 1024]⟩
abbrev S1x1x6144 : Shape := ⟨3, ![1, 1, 6144]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x2304x1024, .f32⟩
  | .hbm, ⟨1, _⟩ => ⟨S4x16x6144, .f32⟩
  | .hbm, ⟨2, _⟩ => ⟨S4x2x1024, .f32⟩
  | .hbm, ⟨3, _⟩ => ⟨S4x1024x4096, .f32⟩
  | .hbm, ⟨4, _⟩ => ⟨S4x4096x1024, .f32⟩
  | .hbm, ⟨5, _⟩ => ⟨S64x1x6144, .f32⟩
  | .hbm, ⟨6, _⟩ => ⟨S8x1x1024, .f32⟩
  | .hbm, ⟨7, _⟩ => ⟨S4x1024x4096, .bf16⟩
  | .hbm, ⟨8, _⟩ => ⟨S4x4096x1024, .bf16⟩
  | .hbm, ⟨9, _⟩ => ⟨S8x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x6144, .f32⟩
  | .local _ .vmem, ⟨5, _⟩ => ⟨S1x1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x768x1024, .f32⟩
  | .local _ .vmem, ⟨9, _⟩ => ⟨S1x768x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S8x2304x1024 : Shape := ⟨3, ![8, 2304, 1024]⟩
abbrev S4x16x6144 : Shape := ⟨3, ![4, 16, 6144]⟩
abbrev S4x2x1024 : Shape := ⟨3, ![4, 2, 1024]⟩
abbrev S4x1024x4096 : Shape := ⟨3, ![4, 1024, 4096]⟩
abbrev S4x4096x1024 : Shape := ⟨3, ![4, 4096, 1024]⟩
abbrev S8x2048x1024 : Shape := ⟨3, ![8, 2048, 1024]⟩
abbrev S8x256x1024 : Shape := ⟨3, ![8, 256, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1x6144 : Shape := ⟨3, ![1, 1, 6144]⟩
abbrev S6144 : Shape := ⟨1, ![6144]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩
abbrev S8x256 : Shape := ⟨2, ![8, 256]⟩
abbrev S8x256x1 : Shape := ⟨3, ![8, 256, 1]⟩
abbrev S8x256x4096 : Shape := ⟨3, ![8, 256, 4096]⟩

abbrev nBuf : Space → Nat
  | .hbm => 104
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S4x16x6144, .f32⟩
  | .hbm, ⟨2, _⟩ => ⟨S4x2x1024, .f32⟩
  | .hbm, ⟨3, _⟩ => ⟨S4x1024x4096, .f32⟩
  | .hbm, ⟨4, _⟩ => ⟨S4x4096x1024, .f32⟩
  | .hbm, ⟨5, _⟩ => ⟨S8x2048x1024, .f32⟩
  | .hbm, ⟨6, _⟩ => ⟨S8x256x1024, .f32⟩
  | .hbm, ⟨7, _⟩ => ⟨S1x8x6144, .f32⟩
  | .hbm, ⟨8, _⟩ => ⟨S8x6144, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S1x1x6144, .f32⟩
  | .hbm, ⟨17, _⟩ => ⟨S6144, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1x1x1024, .f32⟩
  | .hbm, ⟨25, _⟩ => ⟨S1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S1x1024x4096, .f32⟩
  | .hbm, ⟨50, _⟩ => ⟨S1024x4096, .f32⟩
  | .hbm, ⟨51, _⟩ => ⟨S1x4096x1024, .f32⟩
  | .hbm, ⟨52, _⟩ => ⟨S4096x1024, .f32⟩
  | .hbm, ⟨53, _⟩ => ⟨S8x2048x4096, .f32⟩
  | .hbm, ⟨54, _⟩ => ⟨S_, .f32⟩
  | .hbm, ⟨55, _⟩ => ⟨S8x2048x4096, .f32⟩
  | .hbm, ⟨56, _⟩ => ⟨S8x2048x4096, .f32⟩
  | .hbm, ⟨57, _⟩ => ⟨S8x2048x4096, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S1024, .f32⟩
  | .hbm, ⟨64, _⟩ => ⟨S8x256x1024, .f32⟩
  | .hbm, ⟨65, _⟩ => ⟨S_, .f32⟩
  | .hbm, ⟨66, _⟩ => ⟨S8x256, .f32⟩
  | .hbm, ⟨67, _⟩ => ⟨S8x256x1, .f32⟩
  | .hbm, ⟨68, _⟩ => ⟨S_, .f32⟩
  | .hbm, ⟨69, _⟩ => ⟨S8x256x1, .f32⟩
  | .hbm, ⟨70, _⟩ => ⟨S8x256x1, .f32⟩
  | .hbm, ⟨71, _⟩ => ⟨S_, .f32⟩
  | .hbm, ⟨72, _⟩ => ⟨S8x256x1, .f32⟩
  | .hbm, ⟨73, _⟩ => ⟨S8x256x1, .f32⟩
  | .hbm, ⟨74, _⟩ => ⟨S8x256x1, .f32⟩
  | .hbm, ⟨75, _⟩ => ⟨S8x256x1024, .f32⟩
  | .hbm, ⟨76, _⟩ => ⟨S8x256x1024, .f32⟩
  | .hbm, ⟨77, _⟩ => ⟨S1x1x1024, .f32⟩
  | .hbm, ⟨78, _⟩ => ⟨S8x256x1024, .f32⟩
  | .hbm, ⟨79, _⟩ => ⟨S8x256x1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1x1x1024, .f32⟩
  | .hbm, ⟨84, _⟩ => ⟨S8x256x1024, .f32⟩
  | .hbm, ⟨85, _⟩ => ⟨S8x256x1024, .f32⟩
  | .hbm, ⟨86, _⟩ => ⟨S1x1x1024, .f32⟩
  | .hbm, ⟨87, _⟩ => ⟨S8x256x1024, .f32⟩
  | .hbm, ⟨88, _⟩ => ⟨S8x256x1024, .f32⟩
  | .hbm, ⟨89, _⟩ => ⟨S1x1024x4096, .f32⟩
  | .hbm, ⟨90, _⟩ => ⟨S1024x4096, .f32⟩
  | .hbm, ⟨91, _⟩ => ⟨S1x4096x1024, .f32⟩
  | .hbm, ⟨92, _⟩ => ⟨S4096x1024, .f32⟩
  | .hbm, ⟨93, _⟩ => ⟨S8x256x4096, .f32⟩
  | .hbm, ⟨94, _⟩ => ⟨S_, .f32⟩
  | .hbm, ⟨95, _⟩ => ⟨S8x256x4096, .f32⟩
  | .hbm, ⟨96, _⟩ => ⟨S8x256x4096, .f32⟩
  | .hbm, ⟨97, _⟩ => ⟨S8x256x4096, .f32⟩
  | .hbm, ⟨98, _⟩ => ⟨S8x256x1024, .f32⟩
  | .hbm, ⟨99, _⟩ => ⟨S1x1x1024, .f32⟩
  | .hbm, ⟨100, _⟩ => ⟨S8x256x1024, .f32⟩
  | .hbm, ⟨101, _⟩ => ⟨S8x256x1024, .f32⟩
  | .hbm, ⟨102, _⟩ => ⟨S8x256x1024, .f32⟩
  | .hbm, ⟨103, _⟩ => ⟨S8x2304x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_call0_cst : Ref sig .tc := ⟨.hbm, 54, rfl⟩
abbrev main_call0_v0 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_3 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_6 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_call1_cst : Ref sig .tc := ⟨.hbm, 94, rfl⟩
abbrev main_call1_v0 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩

abbrev nD : Nat := 1
abbrev τ : Topo := Topo.v7x

variable {F : FTy → Type} [FloatOps F]
-- ==== FfnFinal.lean ====
abbrev S8x2048x1024 : Shape := ⟨3, ![8, 2048, 1024]⟩
abbrev S4x16x6144 : Shape := ⟨3, ![4, 16, 6144]⟩
abbrev S4x2x1024 : Shape := ⟨3, ![4, 2, 1024]⟩
abbrev S1024 : Shape := ⟨1, ![1024]⟩
abbrev S4x1024x4096 : Shape := ⟨3, ![4, 1024, 4096]⟩
abbrev S4x4096x1024 : Shape := ⟨3, ![4, 4096, 1024]⟩
abbrev S64x1x6144 : Shape := ⟨3, ![64, 1, 6144]⟩
abbrev S8x1x1024 : Shape := ⟨3, ![8, 1, 1024]⟩
abbrev S1x1024 : Shape := ⟨2, ![1, 1024]⟩
abbrev S1x1024x1024 : Shape := ⟨3, ![1, 1024, 1024]⟩
abbrev S1x1x6144 : Shape := ⟨3, ![1, 1, 6144]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S4x16x6144, .f32⟩
  | .hbm, ⟨2, _⟩ => ⟨S4x2x1024, .f32⟩
  | .hbm, ⟨3, _⟩ => ⟨S1024, .f32⟩
  | .hbm, ⟨4, _⟩ => ⟨S4x1024x4096, .f32⟩
  | .hbm, ⟨5, _⟩ => ⟨S4x4096x1024, .f32⟩
  | .hbm, ⟨6, _⟩ => ⟨S64x1x6144, .f32⟩
  | .hbm, ⟨7, _⟩ => ⟨S8x1x1024, .f32⟩
  | .hbm, ⟨8, _⟩ => ⟨S4x1024x4096, .bf16⟩
  | .hbm, ⟨9, _⟩ => ⟨S4x4096x1024, .bf16⟩
  | .hbm, ⟨10, _⟩ => ⟨S1x1024, .f32⟩
  | .hbm, ⟨11, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x1024, .f32⟩
  | .local _ .vmem, ⟨5, _⟩ => ⟨S1x1024x4096, .bf16⟩
  | .local _ .vmem, ⟨6, _⟩ => ⟨S1x4096x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFinalRefIdeal.lean ====
abbrev S8x2048x1024 : Shape := ⟨3, ![8, 2048, 1024]⟩
abbrev S4x16x6144 : Shape := ⟨3, ![4, 16, 6144]⟩
abbrev S4x2x1024 : Shape := ⟨3, ![4, 2, 1024]⟩
abbrev S1024 : Shape := ⟨1, ![1024]⟩
abbrev S4x1024x4096 : Shape := ⟨3, ![4, 1024, 4096]⟩
abbrev S4x4096x1024 : Shape := ⟨3, ![4, 4096, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x16x6144, .f32⟩
  | .hbm, ⟨2, _⟩ => ⟨S4x2x1024, .f32⟩
  | .hbm, ⟨3, _⟩ => ⟨S1024, .f32⟩
  | .hbm, ⟨4, _⟩ => ⟨S4x1024x4096, .f32⟩
  | .hbm, ⟨5, _⟩ => ⟨S4x4096x1024, .f32⟩
  | .hbm, ⟨6, _⟩ => ⟨S1x8x6144, .f32⟩
  | .hbm, ⟨7, _⟩ => ⟨S8x6144, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S1x1x1024, .f32⟩
  | .hbm, ⟨16, _⟩ => ⟨S1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S1x1024x4096, .f32⟩
  | .hbm, ⟨41, _⟩ => ⟨S1024x4096, .f32⟩
  | .hbm, ⟨42, _⟩ => ⟨S1x4096x1024, .f32⟩
  | .hbm, ⟨43, _⟩ => ⟨S4096x1024, .f32⟩
  | .hbm, ⟨44, _⟩ => ⟨S8x2048x4096, .f32⟩
  | .hbm, ⟨45, _⟩ => ⟨S_, .f32⟩
  | .hbm, ⟨46, _⟩ => ⟨S8x2048x4096, .f32⟩
  | .hbm, ⟨47, _⟩ => ⟨S8x2048x4096, .f32⟩
  | .hbm, ⟨48, _⟩ => ⟨S8x2048x4096, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1, .f32⟩
  | .hbm, ⟨64, _⟩ => ⟨S8x2048x1024, .f32⟩
  | .hbm, ⟨65, _⟩ => ⟨S8x2048x1024, .f32⟩
  | .hbm, ⟨66, _⟩ => ⟨S1x1x1024, .f32⟩
  | .hbm, ⟨67, _⟩ => ⟨S8x2048x1024, .f32⟩
  | .hbm, ⟨68, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Merge.lean ====
abbrev S8x2304x1024 : Shape := ⟨3, ![8, 2304, 1024]⟩
abbrev S4x16x6144 : Shape := ⟨3, ![4, 16, 6144]⟩
abbrev S4x2x1024 : Shape := ⟨3, ![4, 2, 1024]⟩
abbrev S8x2304x256 : Shape := ⟨3, ![8, 2304, 256]⟩
abbrev S4x256 : Shape := ⟨2, ![4, 256]⟩
abbrev S4x256x256 : Shape := ⟨3, ![4, 256, 256]⟩
abbrev S8x2048x256 : Shape := ⟨3, ![8, 2048, 256]⟩
abbrev S8x256x256 : Shape := ⟨3, ![8, 256, 256]⟩
abbrev S4x3x256 : Shape := ⟨3, ![4, 3, 256]⟩
abbrev S4x4x128x128 : Shape := ⟨4, ![4, 4, 128, 128]⟩
abbrev S4x4x128 : Shape := ⟨3, ![4, 4, 128]⟩
abbrev S4x1024x6400 : Shape := ⟨3, ![4, 1024, 6400]⟩
abbrev S4x4x256x1024 : Shape := ⟨4, ![4, 4, 256, 1024]⟩
abbrev S4x1024x1024 : Shape := ⟨3, ![4, 1024, 1024]⟩
abbrev S64x1x6144 : Shape := ⟨3, ![64, 1, 6144]⟩
abbrev S4x128x4 : Shape := ⟨3, ![4, 128, 4]⟩
abbrev S4x128x4x64 : Shape := ⟨4, ![4, 128, 4, 64]⟩
abbrev S4x128x256 : Shape := ⟨3, ![4, 128, 256]⟩
abbrev S4x128x4x128 : Shape := ⟨4, ![4, 128, 4, 128]⟩
abbrev S4x128x512 : Shape := ⟨3, ![4, 128, 512]⟩
abbrev S8x1x1024 : Shape := ⟨3, ![8, 1, 1024]⟩
abbrev S4x1x256 : Shape := ⟨3, ![4, 1, 256]⟩
abbrev S1x768x1024 : Shape := ⟨3, ![1, 768, 1024]⟩
abbrev S1x1x6144 : Shape := ⟨3, ![1, 1, 6144]⟩
abbrev S1x1x1024 : Shape := ⟨3, ![1, 1, 1024]⟩
abbrev S1x768x256 : Shape := ⟨3, ![1, 768, 256]⟩
abbrev S1x1x256 : Shape := ⟨3, ![1, 1, 256]⟩
abbrev S1x256x256 : Shape := ⟨3, ![1, 256, 256]⟩
abbrev S1x512x256 : Shape := ⟨3, ![1, 512, 256]⟩
abbrev S1x8x256 : Shape := ⟨3, ![1, 8, 256]⟩
abbrev S1x3x256 : Shape := ⟨3, ![1, 3, 256]⟩
abbrev S1x128x512 : Shape := ⟨3, ![1, 128, 512]⟩
abbrev S1x128x256 : Shape := ⟨3, ![1, 128, 256]⟩
abbrev S1x1024x6400 : Shape := ⟨3, ![1, 1024, 6400]⟩
abbrev S1x4x256x1024 : Shape := ⟨4, ![1, 4, 256, 1024]⟩
abbrev S1x1024x1024 : Shape := ⟨3, ![1, 1024, 1024]⟩
abbrev S768x1 : Shape := ⟨2, ![768, 1]⟩
abbrev S768x256 : Shape := ⟨2, ![768, 256]⟩
abbrev S1x256 : Shape := ⟨2, ![1, 256]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S512x256 : Shape := ⟨2, ![512, 256]⟩
abbrev S128x512 : Shape := ⟨2, ![128, 512]⟩
abbrev S1024x1024 : Shape := ⟨2, ![1024, 1024]⟩
abbrev S1x1x256x1024 : Shape := ⟨4, ![1, 1, 256, 1024]⟩

abbrev nBuf : Space → Nat
  | .hbm => 37
  | .vmem => 43
  | .smem => 0
  | _ => 0

abbrev bufTy : (tb : Table) → Fin (tcTables nBuf tb) → BufTy
  | .hbm, ⟨0, _⟩ => ⟨S8x2304x1024, .f32⟩
  | .hbm, ⟨1, _⟩ => ⟨S4x16x6144, .f32⟩
  | .hbm, ⟨2, _⟩ => ⟨S4x2x1024, .f32⟩
  | .hbm, ⟨3, _⟩ => ⟨S8x2304x256, .f32⟩
  | .hbm, ⟨4, _⟩ => ⟨S8x2304x256, .f32⟩
  | .hbm, ⟨5, _⟩ => ⟨S8x2304x1024, .bf16⟩
  | .hbm, ⟨6, _⟩ => ⟨S4x256, .f32⟩
  | .hbm, ⟨7, _⟩ => ⟨S4x256x256, .f32⟩
  | .hbm, ⟨8, _⟩ => ⟨S4x256, .f32⟩
  | .hbm, ⟨9, _⟩ => ⟨S8x2048x256, .bf16⟩
  | .hbm, ⟨10, _⟩ => ⟨S8x256x256, .bf16⟩
  | .hbm, ⟨11, _⟩ => ⟨S8x2304x1024, .f32⟩
  | .hbm, ⟨12, _⟩ => ⟨S4x3x256, .f32⟩
  | .hbm, ⟨13, _⟩ => ⟨S4x256, .f32⟩
  | .hbm, ⟨14, _⟩ => ⟨S4x256, .f32⟩
  | .hbm, ⟨15, _⟩ => ⟨S4x4x128x128, .f32⟩
  | .hbm, ⟨16, _⟩ => ⟨S4x4x128, .f32⟩
  | .hbm, ⟨17, _⟩ => ⟨S4x1024x6400, .f32⟩
  | .hbm, ⟨18, _⟩ => ⟨S4x4x256x1024, .f32⟩
  | .hbm, ⟨19, _⟩ => ⟨S4x1024x1024, .f32⟩
  | .hbm, ⟨20, _⟩ => ⟨S64x1x6144, .f32⟩
  | .hbm, ⟨21, _⟩ => ⟨S4x128x4, .f32⟩
  | .hbm, ⟨22, _⟩ => ⟨S4x128x4x64, .f32⟩
  | .hbm, ⟨23, _⟩ => ⟨S4x128x256, .f32⟩
  | .hbm, ⟨24, _⟩ => ⟨S4x1024x6400, .bf16⟩
  | .hbm, ⟨25, _⟩ => ⟨S4x4x256x1024, .bf16⟩
  | .hbm, ⟨26, _⟩ => ⟨S4x1024x1024, .bf16⟩
  | .hbm, ⟨27, _⟩ => ⟨S4x256x256, .bf16⟩
  | .hbm, ⟨28, _⟩ => ⟨S4x128x4x128, .f32⟩
  | .hbm, ⟨29, _⟩ => ⟨S4x128x512, .f32⟩
  | .hbm, ⟨30, _⟩ => ⟨S4x128x512, .bf16⟩
  | .hbm, ⟨31, _⟩ => ⟨S8x1x1024, .f32⟩
  | .hbm, ⟨32, _⟩ => ⟨S4x1x256, .f32⟩
  | .hbm, ⟨33, _⟩ => ⟨S4x1x256, .f32⟩
  | .hbm, ⟨34, _⟩ => ⟨S4x1x256, .f32⟩
  | .hbm, ⟨35, _⟩ => ⟨S4x1x256, .f32⟩
  | .hbm, ⟨36, _⟩ => ⟨S8x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x6144, .f32⟩
  | .local _ .vmem, ⟨5, _⟩ => ⟨S1x1x1024, .f32⟩
  | .local _ .vmem, ⟨6, _⟩ => ⟨S1x768x256, .f32⟩
  | .local _ .vmem, ⟨7, _⟩ => ⟨S1x768x256, .f32⟩
  | .local _ .vmem, ⟨8, _⟩ => ⟨S1x768x256, .f32⟩
  | .local _ .vmem, ⟨9, _⟩ => ⟨S1x768x256, .f32⟩
  | .local _ .vmem, ⟨10, _⟩ => ⟨S1x768x256, .bf16⟩
  | .local _ .vmem, ⟨11, _⟩ => ⟨S1x768x256, .bf16⟩
  | .local _ .vmem, ⟨12, _⟩ => ⟨S1x1x256, .f32⟩
  | .local _ .vmem, ⟨13, _⟩ => ⟨S1x256x256, .bf16⟩
  | .local _ .vmem, ⟨14, _⟩ => ⟨S1x1x256, .f32⟩
  | .local _ .vmem, ⟨15, _⟩ => ⟨S1x768x256, .bf16⟩
  | .local _ .vmem, ⟨16, _⟩ => ⟨S1x768x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x768x256, .f32⟩
  | .local _ .vmem, ⟨22, _⟩ => ⟨S1x768x256, .f32⟩
  | .local _ .vmem, ⟨23, _⟩ => ⟨S1x768x256, .f32⟩
  | .local _ .vmem, ⟨24, _⟩ => ⟨S1x768x256, .f32⟩
  | .local _ .vmem, ⟨25, _⟩ => ⟨S1x8x256, .f32⟩
  | .local _ .vmem, ⟨26, _⟩ => ⟨S1x8x256, .f32⟩
  | .local _ .vmem, ⟨27, _⟩ => ⟨S1x8x256, .f32⟩
  | .local _ .vmem, ⟨28, _⟩ => ⟨S1x8x256, .f32⟩
  | .local _ .vmem, ⟨29, _⟩ => ⟨S1x768x256, .f32⟩
  | .local _ .vmem, ⟨30, _⟩ => ⟨S1x768x256, .f32⟩
  | .local _ .vmem, ⟨31, _⟩ => ⟨S1x768x256, .f32⟩
  | .local _ .vmem, ⟨32, _⟩ => ⟨S1x768x256, .f32⟩
  | .local _ .vmem, ⟨33, _⟩ => ⟨S1x3x256, .f32⟩
  | .local _ .vmem, ⟨34, _⟩ => ⟨S1x1x256, .f32⟩
  | .local _ .vmem, ⟨35, _⟩ => ⟨S1x1x256, .f32⟩
  | .local _ .vmem, ⟨36, _⟩ => ⟨S1x128x512, .bf16⟩
  | .local _ .vmem, ⟨37, _⟩ => ⟨S1x128x256, .f32⟩
  | .local _ .vmem, ⟨38, _⟩ => ⟨S1x1024x6400, .bf16⟩
  | .local _ .vmem, ⟨39, _⟩ => ⟨S1x4x256x1024, .bf16⟩
  | .local _ .vmem, ⟨40, _⟩ => ⟨S1x1024x1024, .bf16⟩
  | .local _ .vmem, ⟨41, _⟩ => ⟨S1x768x1024, .f32⟩
  | .local _ .vmem, ⟨42, _⟩ => ⟨S1x768x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_stg27_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41
abbrev cc0_sem27_1 : DmaSem sig := 42

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  let c0_i32_0 : BitVec 32 := 0#32
  let c0_i32_1 : BitVec 32 := 0#32
  ![c24_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_15 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.muli arg1 c96_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c96_i32 : BitVec 32 := 96#32
  let v1 : BitVec 32 := Scalar.muli v0 c96_i32
  let c287_i32 : BitVec 32 := 287#32
  let v2 : BitVec 32 := Scalar.minsi v1 c287_i32
  let c1_i32_0 : BitVec 32 := 1#32
  let c0_i32 : BitVec 32 := 0#32
  ![arg0.toNat, v2.toNat, c1_i32_0.toNat]

def cc0_transform_17 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_18 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_19 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_25 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_26 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x768x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x768x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x768x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x768x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S1x3x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x128x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x128x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x1024x6400 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x4x256x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x1024x1024 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 2 → Memref sig .tc .vmem S1x768x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== MergeRefIdeal.lean ====
abbrev S8x2304x1024 : Shape := ⟨3, ![8, 2304, 1024]⟩
abbrev S4x16x6144 : Shape := ⟨3, ![4, 16, 6144]⟩
abbrev S4x2x1024 : Shape := ⟨3, ![4, 2, 1024]⟩
abbrev S8x2304x256 : Shape := ⟨3, ![8, 2304, 256]⟩
abbrev S4x256 : Shape := ⟨2, ![4, 256]⟩
abbrev S4x256x256 : Shape := ⟨3, ![4, 256, 256]⟩
abbrev S8x2048x256 : Shape := ⟨3, ![8, 2048, 256]⟩
abbrev S8x256x256 : Shape := ⟨3, ![8, 256, 256]⟩
abbrev S4x3x256 : Shape := ⟨3, ![4, 3, 256]⟩
abbrev S4x4x128x128 : Shape := ⟨4, ![4, 4, 128, 128]⟩
abbrev S4x4x128 : Shape := ⟨3, ![4, 4, 128]⟩
abbrev S4x1024x6400 : Shape := ⟨3, ![4, 1024, 6400]⟩
abbrev S4x4x256x1024 : Shape := ⟨4, ![4, 4, 256, 1024]⟩
abbrev S4x1024x1024 : Shape := ⟨3, ![4, 1024, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1x6144 : Shape := ⟨3, ![1, 1, 6144]⟩
abbrev S6144 : Shape := ⟨1, ![6144]⟩
abbrev S1024 : Shape := ⟨1, ![1024]⟩
abbrev S8x2048x1024 : Shape := ⟨3, ![8, 2048, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x6400 : Shape := ⟨3, ![1, 1024, 6400]⟩
abbrev S1024x6400 : Shape := ⟨2, ![1024, 6400]⟩
abbrev S1024x4096 : Shape := ⟨2, ![1024, 4096]⟩
abbrev S8x2048x4096 : Shape := ⟨3, ![8, 2048, 4096]⟩
abbrev S1x256 : Shape := ⟨2, ![1, 256]⟩
abbrev S256 : Shape := ⟨1, ![256]⟩
abbrev S1x1x256 : Shape := ⟨3, ![1, 1, 256]⟩
abbrev S1x256x256 : Shape := ⟨3, ![1, 256, 256]⟩
abbrev S256x256 : Shape := ⟨2, ![256, 256]⟩
abbrev S1x3x256 : Shape := ⟨3, ![1, 3, 256]⟩
abbrev S3x256 : Shape := ⟨2, ![3, 256]⟩
abbrev S8x2050x256 : Shape := ⟨3, ![8, 2050, 256]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S8x16x128x4x64 : Shape := ⟨5, ![8, 16, 128, 4, 64]⟩
abbrev S4x8x16x64x128 : Shape := ⟨5, ![4, 8, 16, 64, 128]⟩
abbrev S128x4 : Shape := ⟨2, ![128, 4]⟩
abbrev S1x1x128x4x1 : Shape := ⟨5, ![1, 1, 128, 4, 1]⟩
abbrev S1x4x256x1024 : Shape := ⟨4, ![1, 4, 256, 1024]⟩
abbrev S4x256x1024 : Shape := ⟨3, ![4, 256, 1024]⟩
abbrev S1x1024x1024 : Shape := ⟨3, ![1, 1024, 1024]⟩
abbrev S1024x1024 : Shape := ⟨2, ![1024, 1024]⟩
abbrev S8x2048x1x256 : Shape := ⟨4, ![8, 2048, 1, 256]⟩
abbrev S8x2048x4x256 : Shape := ⟨4, ![8, 2048, 4, 256]⟩
abbrev S4x1024x8x2048 : Shape := ⟨4, ![4, 1024, 8, 2048]⟩
abbrev S8x2048x4x1024 : Shape := ⟨4, ![8, 2048, 4, 1024]⟩
abbrev S8x256x1024 : Shape := ⟨3, ![8, 256, 1024]⟩
abbrev S8x256 : Shape := ⟨2, ![8, 256]⟩
abbrev S8x256x1 : Shape := ⟨3, ![8, 256, 1]⟩
abbrev S8x256x4096 : Shape := ⟨3, ![8, 256, 4096]⟩
abbrev S8x258x256 : Shape := ⟨3, ![8, 258, 256]⟩
abbrev S8x2x128x4x64 : Shape := ⟨5, ![8, 2, 128, 4, 64]⟩
abbrev S4x8x2x64x128 : Shape := ⟨5, ![4, 8, 2, 64, 128]⟩
abbrev S8x256x1x256 : Shape := ⟨4, ![8, 256, 1, 256]⟩
abbrev S8x256x4x256 : Shape := ⟨4, ![8, 256, 4, 256]⟩
abbrev S4x1024x8x256 : Shape := ⟨4, ![4, 1024, 8, 256]⟩
abbrev S8x256x4x1024 : Shape := ⟨4, ![8, 256, 4, 1024]⟩

abbrev nBuf : Space → Nat
  | .hbm => 407
  | .vmem => 0
  | .smem => 0
  | _ => 0

abbrev hbmTy0_0 (i : Nat) : BufTy := match i % 128 with
  | 0 => ⟨S8x2304x1024, .f32⟩
  | 1 => ⟨S4x16x6144, .f32⟩
  | 2 => ⟨S4x2x1024, .f32⟩
  | 3 => ⟨S8x2304x256, .f32⟩
  | 4 => ⟨S8x2304x256, .f32⟩
  | 5 => ⟨S8x2304x1024, .bf16⟩
  | 6 => ⟨S4x256, .f32⟩
  | 7 => ⟨S4x256x256, .f32⟩
  | 8 => ⟨S4x256, .f32⟩
  | 9 => ⟨S8x2048x256, .bf16⟩
  | 10 => ⟨S8x256x256, .bf16⟩
  | 11 => ⟨S8x2304x1024, .f32⟩
  | 12 => ⟨S4x3x256, .f32⟩
  | 13 => ⟨S4x256, .f32⟩
  | 14 => ⟨S4x256, .f32⟩
  | 15 => ⟨S4x4x128x128, .f32⟩
  | 16 => ⟨S4x4x128, .f32⟩
  | 17 => ⟨S4x1024x6400, .f32⟩
  | 18 => ⟨S4x4x256x1024, .f32⟩
  | 19 => ⟨S4x1024x1024, .f32⟩
  | 20 => ⟨S1x8x6144, .f32⟩
  | 21 => ⟨S8x6144, .f32⟩
  | 22 => ⟨S8x1x6144, .f32⟩
  | 23 => ⟨S8x1x1024, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S1x1x6144, .f32⟩
  | 30 => ⟨S6144, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S8x2048x1024, .f32⟩
  | 38 => ⟨S1x1x1024, .f32⟩
  | 39 => ⟨S1024, .f32⟩
  | 40 => ⟨S8x2048x1024, .f32⟩
  | 41 => ⟨S_, .f32⟩
  | 42 => ⟨S8x2048, .f32⟩
  | 43 => ⟨S8x2048x1, .f32⟩
  | 44 => ⟨S_, .f32⟩
  | 45 => ⟨S8x2048x1, .f32⟩
  | 46 => ⟨S8x2048x1, .f32⟩
  | 47 => ⟨S_, .f32⟩
  | 48 => ⟨S8x2048x1, .f32⟩
  | 49 => ⟨S8x2048x1, .f32⟩
  | 50 => ⟨S8x2048x1, .f32⟩
  | 51 => ⟨S8x2048x1024, .f32⟩
  | 52 => ⟨S8x2048x1024, .f32⟩
  | 53 => ⟨S1x1x1024, .f32⟩
  | 54 => ⟨S8x2048x1024, .f32⟩
  | 55 => ⟨S8x2048x1024, .f32⟩
  | 56 => ⟨S_, .f32⟩
  | 57 => ⟨S8x1x1024, .f32⟩
  | 58 => ⟨S8x1x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S1x1024x6400, .f32⟩
  | 64 => ⟨S1024x6400, .f32⟩
  | 65 => ⟨S1024x4096, .f32⟩
  | 66 => ⟨S8x2048x4096, .f32⟩
  | 67 => ⟨S8x2048x256, .bf16⟩
  | 68 => ⟨S8x2048x256, .f32⟩
  | 69 => ⟨S8x2048x1024, .f32⟩
  | 70 => ⟨S8x2048x256, .f32⟩
  | 71 => ⟨S8x2048x256, .f32⟩
  | 72 => ⟨S8x2048x256, .f32⟩
  | 73 => ⟨S8x2048x256, .f32⟩
  | 74 => ⟨S1x256, .f32⟩
  | 75 => ⟨S256, .f32⟩
  | 76 => ⟨S1x1x256, .f32⟩
  | 77 => ⟨S8x2048x256, .f32⟩
  | 78 => ⟨S8x2048x256, .f32⟩
  | 79 => ⟨S8x2048x256, .f32⟩
  | 80 => ⟨S8x2048x256, .f32⟩
  | 81 => ⟨S8x2048x256, .f32⟩
  | 82 => ⟨S8x2048x256, .f32⟩
  | 83 => ⟨S1x256x256, .f32⟩
  | 84 => ⟨S256x256, .f32⟩
  | 85 => ⟨S1x256, .f32⟩
  | 86 => ⟨S256, .f32⟩
  | 87 => ⟨S8x2048x256, .f32⟩
  | 88 => ⟨S8x2048x256, .f32⟩
  | 89 => ⟨S_, .f32⟩
  | 90 => ⟨S8x2048x256, .f32⟩
  | 91 => ⟨S8x2048x256, .f32⟩
  | 92 => ⟨S8x2048x256, .f32⟩
  | 93 => ⟨S_, .f32⟩
  | 94 => ⟨S8x2048x256, .f32⟩
  | 95 => ⟨S8x2048x256, .f32⟩
  | 96 => ⟨S8x2048x256, .f32⟩
  | 97 => ⟨S_, .f32⟩
  | 98 => ⟨S8x2048x256, .f32⟩
  | 99 => ⟨S8x2048x256, .f32⟩
  | 100 => ⟨S_, .f32⟩
  | 101 => ⟨S8x2048x256, .f32⟩
  | 102 => ⟨S8x2048x256, .f32⟩
  | 103 => ⟨S8x2048x256, .f32⟩
  | 104 => ⟨S8x2048x256, .f32⟩
  | 105 => ⟨S1x1x256, .f32⟩
  | 106 => ⟨S8x2048x256, .f32⟩
  | 107 => ⟨S8x2048x256, .f32⟩
  | 108 => ⟨S8x2048x256, .f32⟩
  | 109 => ⟨S8x2048x256, .f32⟩
  | 110 => ⟨S_, .f32⟩
  | 111 => ⟨S8x2048x256, .f32⟩
  | 112 => ⟨S8x2048x256, .f32⟩
  | 113 => ⟨S_, .f32⟩
  | 114 => ⟨S8x2048x256, .f32⟩
  | 115 => ⟨S8x2048x256, .f32⟩
  | 116 => ⟨S8x2048x256, .f32⟩
  | 117 => ⟨S1x3x256, .f32⟩
  | 118 => ⟨S3x256, .f32⟩
  | 119 => ⟨S_, .i32⟩
  | 120 => ⟨S_, .f32⟩
  | 121 => ⟨S8x2050x256, .f32⟩
  | 122 => ⟨S8x2048x256, .f32⟩
  | 123 => ⟨S1x256, .f32⟩
  | 124 => ⟨S256, .f32⟩
  | 125 => ⟨S1x1x256, .f32⟩
  | 126 => ⟨S8x2048x256, .f32⟩
  | 127 => ⟨S8x2048x256, .f32⟩
  | _ => ⟨S8x2304x1024, .f32⟩

abbrev hbmTy0_1 (i : Nat) : BufTy := match i % 128 with
  | 0 => ⟨S_, .f32⟩
  | 1 => ⟨S8x2048x256, .f32⟩
  | 2 => ⟨S8x2048x256, .f32⟩
  | 3 => ⟨S8x2048x256, .f32⟩
  | 4 => ⟨S1x256, .f32⟩
  | 5 => ⟨S256, .f32⟩
  | 6 => ⟨S1x1x256, .f32⟩
  | 7 => ⟨S8x2048x256, .f32⟩
  | 8 => ⟨S8x2048x256, .f32⟩
  | 9 => ⟨S8x2048x256, .f32⟩
  | 10 => ⟨S8x2048x256, .f32⟩
  | 11 => ⟨S1x256, .f32⟩
  | 12 => ⟨S256, .f32⟩
  | 13 => ⟨S1x1x256, .f32⟩
  | 14 => ⟨S8x2048x256, .f32⟩
  | 15 => ⟨S8x2048x256, .f32⟩
  | 16 => ⟨S8x2048x256, .f32⟩
  | 17 => ⟨S8x2048x256, .f32⟩
  | 18 => ⟨S1x256, .f32⟩
  | 19 => ⟨S256, .f32⟩
  | 20 => ⟨S1x256, .f32⟩
  | 21 => ⟨S256, .f32⟩
  | 22 => ⟨S1x4x128x128, .f32⟩
  | 23 => ⟨S4x128x128, .f32⟩
  | 24 => ⟨S1x4x128, .f32⟩
  | 25 => ⟨S4x128, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S8x2048x256, .f32⟩
  | 33 => ⟨S8x2048x256, .f32⟩
  | 34 => ⟨S8x2048x256, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S8x2048x256, .f32⟩
  | 42 => ⟨S8x2048x256, .f32⟩
  | 43 => ⟨S_, .f32⟩
  | 44 => ⟨S8x2048x1, .f32⟩
  | 45 => ⟨S8x2048x1, .f32⟩
  | 46 => ⟨S8x2048x1, .f32⟩
  | 47 => ⟨S8x2048x256, .f32⟩
  | 48 => ⟨S8x2048x256, .f32⟩
  | 49 => ⟨S1x1x256, .f32⟩
  | 50 => ⟨S8x2048x256, .f32⟩
  | 51 => ⟨S8x2048x256, .f32⟩
  | 52 => ⟨S1x1x256, .f32⟩
  | 53 => ⟨S8x2048x256, .f32⟩
  | 54 => ⟨S8x2048x256, .f32⟩
  | 55 => ⟨S8x16x128x4x64, .f32⟩
  | 56 => ⟨S4x8x16x64x128, .f32⟩
  | 57 => ⟨S8x16x128x4x64, .f32⟩
  | 58 => ⟨S128x4, .f32⟩
  | 59 => ⟨S1x1x128x4x1, .f32⟩
  | 60 => ⟨S8x16x128x4x64, .f32⟩
  | 61 => ⟨S8x16x128x4x64, .f32⟩
  | 62 => ⟨S8x2048x256, .f32⟩
  | 63 => ⟨S8x2048x256, .f32⟩
  | 64 => ⟨S8x2048x256, .f32⟩
  | 65 => ⟨S1x4x256x1024, .f32⟩
  | 66 => ⟨S4x256x1024, .f32⟩
  | 67 => ⟨S1x1024x1024, .f32⟩
  | 68 => ⟨S1024x1024, .f32⟩
  | 69 => ⟨S8x2048x1x256, .f32⟩
  | 70 => ⟨S8x2048x1x256, .f32⟩
  | 71 => ⟨S8x2048x1x256, .f32⟩
  | 72 => ⟨S8x2048x1x256, .f32⟩
  | 73 => ⟨S8x2048x4x256, .f32⟩
  | 74 => ⟨S4x1024x8x2048, .f32⟩
  | 75 => ⟨S8x2048x4x1024, .f32⟩
  | 76 => ⟨S8x2048x4x1024, .f32⟩
  | 77 => ⟨S8x2048x4x1024, .f32⟩
  | 78 => ⟨S8x2048x4x1024, .f32⟩
  | 79 => ⟨S_, .f32⟩
  | 80 => ⟨S8x2048x4x1024, .f32⟩
  | 81 => ⟨S8x2048x4x1024, .f32⟩
  | 82 => ⟨S_, .f32⟩
  | 83 => ⟨S8x2048x4x1024, .f32⟩
  | 84 => ⟨S8x2048x4x1024, .f32⟩
  | 85 => ⟨S8x2048x4x1024, .f32⟩
  | 86 => ⟨S_, .f32⟩
  | 87 => ⟨S8x2048x1024, .f32⟩
  | 88 => ⟨S8x2048x1024, .f32⟩
  | 89 => ⟨S8x2048x1024, .f32⟩
  | 90 => ⟨S8x2048x1024, .f32⟩
  | 91 => ⟨S8x2048x1024, .f32⟩
  | 92 => ⟨S8x256x1024, .f32⟩
  | 93 => ⟨S1x1x1024, .f32⟩
  | 94 => ⟨S1024, .f32⟩
  | 95 => ⟨S8x256x1024, .f32⟩
  | 96 => ⟨S_, .f32⟩
  | 97 => ⟨S8x256, .f32⟩
  | 98 => ⟨S8x256x1, .f32⟩
  | 99 => ⟨S_, .f32⟩
  | 100 => ⟨S8x256x1, .f32⟩
  | 101 => ⟨S8x256x1, .f32⟩
  | 102 => ⟨S_, .f32⟩
  | 103 => ⟨S8x256x1, .f32⟩
  | 104 => ⟨S8x256x1, .f32⟩
  | 105 => ⟨S8x256x1, .f32⟩
  | 106 => ⟨S8x256x1024, .f32⟩
  | 107 => ⟨S8x256x1024, .f32⟩
  | 108 => ⟨S1x1x1024, .f32⟩
  | 109 => ⟨S8x256x1024, .f32⟩
  | 110 => ⟨S8x256x1024, .f32⟩
  | 111 => ⟨S_, .f32⟩
  | 112 => ⟨S1024, .f32⟩
  | 113 => ⟨S1024, .f32⟩
  | 114 => ⟨S1x1x1024, .f32⟩
  | 115 => ⟨S8x256x1024, .f32⟩
  | 116 => ⟨S8x256x1024, .f32⟩
  | 117 => ⟨S1x1x1024, .f32⟩
  | 118 => ⟨S8x256x1024, .f32⟩
  | 119 => ⟨S8x256x1024, .f32⟩
  | 120 => ⟨S1x1024x6400, .f32⟩
  | 121 => ⟨S1024x6400, .f32⟩
  | 122 => ⟨S1024x4096, .f32⟩
  | 123 => ⟨S8x256x4096, .f32⟩
  | 124 => ⟨S8x256x256, .bf16⟩
  | 125 => ⟨S8x256x256, .f32⟩
  | 126 => ⟨S8x256x1024, .f32⟩
  | 127 => ⟨S8x256x256, .f32⟩
  | _ => ⟨S8x2304x1024, .f32⟩

abbrev hbmTy0_2 (i : Nat) : BufTy := match i % 128 with
  | 0 => ⟨S8x256x256, .f32⟩
  | 1 => ⟨S8x256x256, .f32⟩
  | 2 => ⟨S8x256x256, .f32⟩
  | 3 => ⟨S1x256, .f32⟩
  | 4 => ⟨S256, .f32⟩
  | 5 => ⟨S1x1x256, .f32⟩
  | 6 => ⟨S8x256x256, .f32⟩
  | 7 => ⟨S8x256x256, .f32⟩
  | 8 => ⟨S8x256x256, .f32⟩
  | 9 => ⟨S8x256x256, .f32⟩
  | 10 => ⟨S8x256x256, .f32⟩
  | 11 => ⟨S8x256x256, .f32⟩
  | 12 => ⟨S1x256x256, .f32⟩
  | 13 => ⟨S256x256, .f32⟩
  | 14 => ⟨S1x256, .f32⟩
  | 15 => ⟨S256, .f32⟩
  | 16 => ⟨S8x256x256, .f32⟩
  | 17 => ⟨S8x256x256, .f32⟩
  | 18 => ⟨S_, .f32⟩
  | 19 => ⟨S8x256x256, .f32⟩
  | 20 => ⟨S8x256x256, .f32⟩
  | 21 => ⟨S8x256x256, .f32⟩
  | 22 => ⟨S_, .f32⟩
  | 23 => ⟨S8x256x256, .f32⟩
  | 24 => ⟨S8x256x256, .f32⟩
  | 25 => ⟨S8x256x256, .f32⟩
  | 26 => ⟨S_, .f32⟩
  | 27 => ⟨S8x256x256, .f32⟩
  | 28 => ⟨S8x256x256, .f32⟩
  | 29 => ⟨S_, .f32⟩
  | 30 => ⟨S8x256x256, .f32⟩
  | 31 => ⟨S8x256x256, .f32⟩
  | 32 => ⟨S8x256x256, .f32⟩
  | 33 => ⟨S8x256x256, .f32⟩
  | 34 => ⟨S1x1x256, .f32⟩
  | 35 => ⟨S8x256x256, .f32⟩
  | 36 => ⟨S8x256x256, .f32⟩
  | 37 => ⟨S8x256x256, .f32⟩
  | 38 => ⟨S8x256x256, .f32⟩
  | 39 => ⟨S_, .f32⟩
  | 40 => ⟨S8x256x256, .f32⟩
  | 41 => ⟨S8x256x256, .f32⟩
  | 42 => ⟨S_, .f32⟩
  | 43 => ⟨S8x256x256, .f32⟩
  | 44 => ⟨S8x256x256, .f32⟩
  | 45 => ⟨S8x256x256, .f32⟩
  | 46 => ⟨S1x3x256, .f32⟩
  | 47 => ⟨S3x256, .f32⟩
  | 48 => ⟨S_, .i32⟩
  | 49 => ⟨S_, .f32⟩
  | 50 => ⟨S8x258x256, .f32⟩
  | 51 => ⟨S8x256x256, .f32⟩
  | 52 => ⟨S1x256, .f32⟩
  | 53 => ⟨S256, .f32⟩
  | 54 => ⟨S1x1x256, .f32⟩
  | 55 => ⟨S8x256x256, .f32⟩
  | 56 => ⟨S8x256x256, .f32⟩
  | 57 => ⟨S_, .f32⟩
  | 58 => ⟨S8x256x256, .f32⟩
  | 59 => ⟨S8x256x256, .f32⟩
  | 60 => ⟨S8x256x256, .f32⟩
  | 61 => ⟨S1x256, .f32⟩
  | 62 => ⟨S256, .f32⟩
  | 63 => ⟨S1x1x256, .f32⟩
  | 64 => ⟨S8x256x256, .f32⟩
  | 65 => ⟨S8x256x256, .f32⟩
  | 66 => ⟨S8x256x256, .f32⟩
  | 67 => ⟨S8x256x256, .f32⟩
  | 68 => ⟨S1x256, .f32⟩
  | 69 => ⟨S256, .f32⟩
  | 70 => ⟨S1x1x256, .f32⟩
  | 71 => ⟨S8x256x256, .f32⟩
  | 72 => ⟨S8x256x256, .f32⟩
  | 73 => ⟨S8x256x256, .f32⟩
  | 74 => ⟨S8x256x256, .f32⟩
  | 75 => ⟨S1x256, .f32⟩
  | 76 => ⟨S256, .f32⟩
  | 77 => ⟨S1x256, .f32⟩
  | 78 => ⟨S256, .f32⟩
  | 79 => ⟨S1x4x128x128, .f32⟩
  | 80 => ⟨S4x128x128, .f32⟩
  | 81 => ⟨S1x4x128, .f32⟩
  | 82 => ⟨S4x128, .f32⟩
  | 83 => ⟨S_, .f32⟩
  | 84 => ⟨S8x256, .f32⟩
  | 85 => ⟨S8x256x1, .f32⟩
  | 86 => ⟨S_, .f32⟩
  | 87 => ⟨S8x256x1, .f32⟩
  | 88 => ⟨S8x256x1, .f32⟩
  | 89 => ⟨S8x256x256, .f32⟩
  | 90 => ⟨S8x256x256, .f32⟩
  | 91 => ⟨S8x256x256, .f32⟩
  | 92 => ⟨S_, .f32⟩
  | 93 => ⟨S8x256, .f32⟩
  | 94 => ⟨S8x256x1, .f32⟩
  | 95 => ⟨S_, .f32⟩
  | 96 => ⟨S8x256x1, .f32⟩
  | 97 => ⟨S8x256x1, .f32⟩
  | 98 => ⟨S8x256x256, .f32⟩
  | 99 => ⟨S8x256x256, .f32⟩
  | 100 => ⟨S_, .f32⟩
  | 101 => ⟨S8x256x1, .f32⟩
  | 102 => ⟨S8x256x1, .f32⟩
  | 103 => ⟨S8x256x1, .f32⟩
  | 104 => ⟨S8x256x256, .f32⟩
  | 105 => ⟨S8x256x256, .f32⟩
  | 106 => ⟨S1x1x256, .f32⟩
  | 107 => ⟨S8x256x256, .f32⟩
  | 108 => ⟨S8x256x256, .f32⟩
  | 109 => ⟨S1x1x256, .f32⟩
  | 110 => ⟨S8x256x256, .f32⟩
  | 111 => ⟨S8x256x256, .f32⟩
  | 112 => ⟨S8x2x128x4x64, .f32⟩
  | 113 => ⟨S4x8x2x64x128, .f32⟩
  | 114 => ⟨S8x2x128x4x64, .f32⟩
  | 115 => ⟨S128x4, .f32⟩
  | 116 => ⟨S1x1x128x4x1, .f32⟩
  | 117 => ⟨S8x2x128x4x64, .f32⟩
  | 118 => ⟨S8x2x128x4x64, .f32⟩
  | 119 => ⟨S8x256x256, .f32⟩
  | 120 => ⟨S8x256x256, .f32⟩
  | 121 => ⟨S8x256x256, .f32⟩
  | 122 => ⟨S1x4x256x1024, .f32⟩
  | 123 => ⟨S4x256x1024, .f32⟩
  | 124 => ⟨S1x1024x1024, .f32⟩
  | 125 => ⟨S1024x1024, .f32⟩
  | 126 => ⟨S8x256x1x256, .f32⟩
  | 127 => ⟨S8x256x1x256, .f32⟩
  | _ => ⟨S8x2304x1024, .f32⟩

abbrev hbmTy0_3 (i : Nat) : BufTy := match i % 128 with
  | 0 => ⟨S8x256x1x256, .f32⟩
  | 1 => ⟨S8x256x1x256, .f32⟩
  | 2 => ⟨S8x256x4x256, .f32⟩
  | 3 => ⟨S4x1024x8x256, .f32⟩
  | 4 => ⟨S8x256x4x1024, .f32⟩
  | 5 => ⟨S8x256x4x1024, .f32⟩
  | 6 => ⟨S8x256x4x1024, .f32⟩
  | 7 => ⟨S8x256x4x1024, .f32⟩
  | 8 => ⟨S_, .f32⟩
  | 9 => ⟨S8x256x4x1024, .f32⟩
  | 10 => ⟨S8x256x4x1024, .f32⟩
  | 11 => ⟨S_, .f32⟩
  | 12 => ⟨S8x256x4x1024, .f32⟩
  | 13 => ⟨S8x256x4x1024, .f32⟩
  | 14 => ⟨S8x256x4x1024, .f32⟩
  | 15 => ⟨S_, .f32⟩
  | 16 => ⟨S8x256x1024, .f32⟩
  | 17 => ⟨S8x256x1024, .f32⟩
  | 18 => ⟨S1x1x1024, .f32⟩
  | 19 => ⟨S8x256x1024, .f32⟩
  | 20 => ⟨S8x256x1024, .f32⟩
  | 21 => ⟨S8x256x1024, .f32⟩
  | 22 => ⟨S8x2304x1024, .f32⟩
  | _ => ⟨S8x2304x1024, .f32⟩

abbrev hbmTy (i : Nat) : BufTy := match i / 128 with
  | 0 => hbmTy0_0 i
  | 1 => hbmTy0_1 i
  | 2 => hbmTy0_2 i
  | 3 => hbmTy0_3 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_3 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_4 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_5 : Ref sig .tc := ⟨.hbm, 97, rfl⟩
abbrev main_v71 : Ref sig .tc := ⟨.hbm, 98, rfl⟩
abbrev main_v72 : Ref sig .tc := ⟨.hbm, 99, rfl⟩
abbrev main_cst_6 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_7 : Ref sig .tc := ⟨.hbm, 110, rfl⟩
abbrev main_v82 : Ref sig .tc := ⟨.hbm, 111, rfl⟩
abbrev main_v83 : Ref sig .tc := ⟨.hbm, 112, rfl⟩
abbrev main_cst_8 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c : Ref sig .tc := ⟨.hbm, 119, rfl⟩
abbrev main_call0_v0 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_9 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_10 : Ref sig .tc := ⟨.hbm, 154, rfl⟩
abbrev main_v121 : Ref sig .tc := ⟨.hbm, 155, rfl⟩
abbrev main_v122 : Ref sig .tc := ⟨.hbm, 156, rfl⟩
abbrev main_cst_11 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_12 : Ref sig .tc := ⟨.hbm, 163, rfl⟩
abbrev main_v128 : Ref sig .tc := ⟨.hbm, 164, rfl⟩
abbrev main_v129 : Ref sig .tc := ⟨.hbm, 165, rfl⟩
abbrev main_cst_13 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_14 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_15 : Ref sig .tc := ⟨.hbm, 207, rfl⟩
abbrev main_v169 : Ref sig .tc := ⟨.hbm, 208, rfl⟩
abbrev main_v170 : Ref sig .tc := ⟨.hbm, 209, rfl⟩
abbrev main_cst_16 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_cst_17 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_cst_18 : Ref sig .tc := ⟨.hbm, 224, rfl⟩
abbrev main_v183 : Ref sig .tc := ⟨.hbm, 225, rfl⟩
abbrev main_v184 : Ref sig .tc := ⟨.hbm, 226, rfl⟩
abbrev main_cst_19 : Ref sig .tc := ⟨.hbm, 227, rfl⟩
abbrev main_v185 : Ref sig .tc := ⟨.hbm, 228, rfl⟩
abbrev main_v186 : Ref sig .tc := ⟨.hbm, 229, rfl⟩
abbrev main_cst_20 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_cst_21 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_cst_22 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_cst_23 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_cst_24 : Ref sig .tc := ⟨.hbm, 282, rfl⟩
abbrev main_v235 : Ref sig .tc := ⟨.hbm, 283, rfl⟩
abbrev main_v236 : Ref sig .tc := ⟨.hbm, 284, rfl⟩
abbrev main_cst_25 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_cst_26 : Ref sig .tc := ⟨.hbm, 295, rfl⟩
abbrev main_v246 : Ref sig .tc := ⟨.hbm, 296, rfl⟩
abbrev main_v247 : Ref sig .tc := ⟨.hbm, 297, rfl⟩
abbrev main_cst_27 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_c_28 : Ref sig .tc := ⟨.hbm, 304, rfl⟩
abbrev main_call1_v0 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_cst_29 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_cst_30 : Ref sig .tc := ⟨.hbm, 339, rfl⟩
abbrev main_v285 : Ref sig .tc := ⟨.hbm, 340, rfl⟩
abbrev main_v286 : Ref sig .tc := ⟨.hbm, 341, rfl⟩
abbrev main_cst_31 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_cst_32 : Ref sig .tc := ⟨.hbm, 348, rfl⟩
abbrev main_v292 : Ref sig .tc := ⟨.hbm, 349, rfl⟩
abbrev main_v293 : Ref sig .tc := ⟨.hbm, 350, rfl⟩
abbrev main_cst_33 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_cst_34 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_v326 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_cst_35 : Ref sig .tc := ⟨.hbm, 392, rfl⟩
abbrev main_v333 : Ref sig .tc := ⟨.hbm, 393, rfl⟩
abbrev main_v334 : Ref sig .tc := ⟨.hbm, 394, rfl⟩
abbrev main_cst_36 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_cst_37 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩

abbrev nD : Nat := 1
abbrev τ : Topo := Topo.v7x

variable {F : FTy → Type} [FloatOps F]
-- ==== Proj.lean ====
abbrev S8x2304x1024 : Shape := ⟨3, ![8, 2304, 1024]⟩
abbrev S4x16x6144 : Shape := ⟨3, ![4, 16, 6144]⟩
abbrev S4x2x1024 : Shape := ⟨3, ![4, 2, 1024]⟩
abbrev S4x1024x6400 : Shape := ⟨3, ![4, 1024, 6400]⟩
abbrev S64x1x6144 : Shape := ⟨3, ![64, 1, 6144]⟩
abbrev S8x1x1024 : Shape := ⟨3, ![8, 1, 1024]⟩
abbrev S1x768x1024 : Shape := ⟨3, ![1, 768, 1024]⟩
abbrev S1x1x6144 : Shape := ⟨3, ![1, 1, 6144]⟩
abbrev S1x1x1024 : Shape := ⟨3, ![1, 1, 1024]⟩
abbrev S1x1024x2304 : Shape := ⟨3, ![1, 1024, 2304]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x1024x1280 : Shape := ⟨3, ![1, 1024, 1280]⟩
abbrev S1024x1280 : Shape := ⟨2, ![1024, 1280]⟩
abbrev S256x1280 : Shape := ⟨2, ![256, 1280]⟩
abbrev S256x256 : Shape := ⟨2, ![256, 256]⟩
abbrev S1x256x256 : Shape := ⟨3, ![1, 256, 256]⟩
abbrev S256x512 : Shape := ⟨2, ![256, 512]⟩
abbrev S1x256x512 : Shape := ⟨3, ![1, 256, 512]⟩

abbrev nBuf : Space → Nat
  | .hbm => 9
  | .vmem => 11
  | .smem => 0
  | _ => 0

abbrev bufTy : (tb : Table) → Fin (tcTables nBuf tb) → BufTy
  | .hbm, ⟨0, _⟩ => ⟨S8x2304x1024, .f32⟩
  | .hbm, ⟨1, _⟩ => ⟨S4x16x6144, .f32⟩
  | .hbm, ⟨2, _⟩ => ⟨S4x2x1024, .f32⟩
  | .hbm, ⟨3, _⟩ => ⟨S4x1024x6400, .f32⟩
  | .hbm, ⟨4, _⟩ => ⟨S64x1x6144, .f32⟩
  | .hbm, ⟨5, _⟩ => ⟨S4x1024x6400, .bf16⟩
  | .hbm, ⟨6, _⟩ => ⟨S8x1x1024, .f32⟩
  | .hbm, ⟨7, _⟩ => ⟨S8x2304x1024, .bf16⟩
  | .hbm, ⟨8, _⟩ => ⟨S8x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x6144, .f32⟩
  | .local _ .vmem, ⟨5, _⟩ => ⟨S1x1x1024, .f32⟩
  | .local _ .vmem, ⟨6, _⟩ => ⟨S1x1024x2304, .bf16⟩
  | .local _ .vmem, ⟨7, _⟩ => ⟨S1x768x1024, .bf16⟩
  | .local _ .vmem, ⟨8, _⟩ => ⟨S1x768x1024, .bf16⟩
  | .local _ .vmem, ⟨9, _⟩ => ⟨S1x768x1024, .f32⟩
  | .local _ .vmem, ⟨10, _⟩ => ⟨S1x768x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  let c0_i32_0 : BitVec 32 := 0#32
  let c0_i32_1 : BitVec 32 := 0#32
  ![c24_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S8x2304x1024 : Shape := ⟨3, ![8, 2304, 1024]⟩
abbrev S4x16x6144 : Shape := ⟨3, ![4, 16, 6144]⟩
abbrev S4x2x1024 : Shape := ⟨3, ![4, 2, 1024]⟩
abbrev S4x1024x6400 : Shape := ⟨3, ![4, 1024, 6400]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1x6144 : Shape := ⟨3, ![1, 1, 6144]⟩
abbrev S6144 : Shape := ⟨1, ![6144]⟩
abbrev S1024 : Shape := ⟨1, ![1024]⟩
abbrev S8x2048x1024 : Shape := ⟨3, ![8, 2048, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x6400 : Shape := ⟨3, ![1, 1024, 6400]⟩
abbrev S1024x6400 : Shape := ⟨2, ![1024, 6400]⟩
abbrev S8x2048x6400 : Shape := ⟨3, ![8, 2048, 6400]⟩
abbrev S8x2048x256 : Shape := ⟨3, ![8, 2048, 256]⟩
abbrev S8x2048x4096 : Shape := ⟨3, ![8, 2048, 4096]⟩
abbrev S8x256x1024 : Shape := ⟨3, ![8, 256, 1024]⟩
abbrev S8x256 : Shape := ⟨2, ![8, 256]⟩
abbrev S8x256x1 : Shape := ⟨3, ![8, 256, 1]⟩
abbrev S8x256x6400 : Shape := ⟨3, ![8, 256, 6400]⟩
abbrev S8x256x256 : Shape := ⟨3, ![8, 256, 256]⟩
abbrev S8x256x4096 : Shape := ⟨3, ![8, 256, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S4x16x6144, .f32⟩
  | .hbm, ⟨2, _⟩ => ⟨S4x2x1024, .f32⟩
  | .hbm, ⟨3, _⟩ => ⟨S4x1024x6400, .f32⟩
  | .hbm, ⟨4, _⟩ => ⟨S1x8x6144, .f32⟩
  | .hbm, ⟨5, _⟩ => ⟨S8x6144, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1x1x6144, .f32⟩
  | .hbm, ⟨14, _⟩ => ⟨S6144, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S8x2048x1024, .f32⟩
  | .hbm, ⟨22, _⟩ => ⟨S1x1x1024, .f32⟩
  | .hbm, ⟨23, _⟩ => ⟨S1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S1x1024x6400, .f32⟩
  | .hbm, ⟨48, _⟩ => ⟨S1024x6400, .f32⟩
  | .hbm, ⟨49, _⟩ => ⟨S8x2048x6400, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S8x2048x256, .f32⟩
  | .hbm, ⟨54, _⟩ => ⟨S8x2048x256, .f32⟩
  | .hbm, ⟨55, _⟩ => ⟨S8x2048x256, .f32⟩
  | .hbm, ⟨56, _⟩ => ⟨S8x2048x256, .f32⟩
  | .hbm, ⟨57, _⟩ => ⟨S8x2048x256, .f32⟩
  | .hbm, ⟨58, _⟩ => ⟨S8x2048x256, .f32⟩
  | .hbm, ⟨59, _⟩ => ⟨S8x2048x4096, .f32⟩
  | .hbm, ⟨60, _⟩ => ⟨S8x2048x1024, .f32⟩
  | .hbm, ⟨61, _⟩ => ⟨S8x2048x1024, .bf16⟩
  | .hbm, ⟨62, _⟩ => ⟨S8x2048x256, .f32⟩
  | .hbm, ⟨63, _⟩ => ⟨S8x2048x1024, .f32⟩
  | .hbm, ⟨64, _⟩ => ⟨S8x256x1024, .f32⟩
  | .hbm, ⟨65, _⟩ => ⟨S1x1x1024, .f32⟩
  | .hbm, ⟨66, _⟩ => ⟨S1024, .f32⟩
  | .hbm, ⟨67, _⟩ => ⟨S8x256x1024, .f32⟩
  | .hbm, ⟨68, _⟩ => ⟨S_, .f32⟩
  | .hbm, ⟨69, _⟩ => ⟨S8x256, .f32⟩
  | .hbm, ⟨70, _⟩ => ⟨S8x256x1, .f32⟩
  | .hbm, ⟨71, _⟩ => ⟨S_, .f32⟩
  | .hbm, ⟨72, _⟩ => ⟨S8x256x1, .f32⟩
  | .hbm, ⟨73, _⟩ => ⟨S8x256x1, .f32⟩
  | .hbm, ⟨74, _⟩ => ⟨S_, .f32⟩
  | .hbm, ⟨75, _⟩ => ⟨S8x256x1, .f32⟩
  | .hbm, ⟨76, _⟩ => ⟨S8x256x1, .f32⟩
  | .hbm, ⟨77, _⟩ => ⟨S8x256x1, .f32⟩
  | .hbm, ⟨78, _⟩ => ⟨S8x256x1024, .f32⟩
  | .hbm, ⟨79, _⟩ => ⟨S8x256x1024, .f32⟩
  | .hbm, ⟨80, _⟩ => ⟨S1x1x1024, .f32⟩
  | .hbm, ⟨81, _⟩ => ⟨S8x256x1024, .f32⟩
  | .hbm, ⟨82, _⟩ => ⟨S8x256x1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1x1x1024, .f32⟩
  | .hbm, ⟨87, _⟩ => ⟨S8x256x1024, .f32⟩
  | .hbm, ⟨88, _⟩ => ⟨S8x256x1024, .f32⟩
  | .hbm, ⟨89, _⟩ => ⟨S1x1x1024, .f32⟩
  | .hbm, ⟨90, _⟩ => ⟨S8x256x1024, .f32⟩
  | .hbm, ⟨91, _⟩ => ⟨S8x256x1024, .f32⟩
  | .hbm, ⟨92, _⟩ => ⟨S1x1024x6400, .f32⟩
  | .hbm, ⟨93, _⟩ => ⟨S1024x6400, .f32⟩
  | .hbm, ⟨94, _⟩ => ⟨S8x256x6400, .f32⟩
  | .hbm, ⟨95, _⟩ => ⟨S8x256x256, .f32⟩
  | .hbm, ⟨96, _⟩ => ⟨S8x256x256, .f32⟩
  | .hbm, ⟨97, _⟩ => ⟨S8x256x256, .f32⟩
  | .hbm, ⟨98, _⟩ => ⟨S8x256x256, .f32⟩
  | .hbm, ⟨99, _⟩ => ⟨S8x256x256, .f32⟩
  | .hbm, ⟨100, _⟩ => ⟨S8x256x256, .f32⟩
  | .hbm, ⟨101, _⟩ => ⟨S8x256x256, .f32⟩
  | .hbm, ⟨102, _⟩ => ⟨S8x256x256, .f32⟩
  | .hbm, ⟨103, _⟩ => ⟨S8x256x256, .f32⟩
  | .hbm, ⟨104, _⟩ => ⟨S8x256x4096, .f32⟩
  | .hbm, ⟨105, _⟩ => ⟨S8x256x1024, .f32⟩
  | .hbm, ⟨106, _⟩ => ⟨S8x256x1024, .bf16⟩
  | .hbm, ⟨107, _⟩ => ⟨S8x256x256, .f32⟩
  | .hbm, ⟨108, _⟩ => ⟨S8x256x1024, .f32⟩
  | .hbm, ⟨109, _⟩ => ⟨S8x2304x1024, .bf16⟩
  | .hbm, ⟨110, _⟩ => ⟨S8x2304x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_3 : Ref sig .tc := ⟨.hbm, 68, rfl⟩
abbrev main_v60 : Ref sig .tc := ⟨.hbm, 69, rfl⟩
abbrev main_v61 : Ref sig .tc := ⟨.hbm, 70, rfl⟩
abbrev main_cst_4 : Ref sig .tc := ⟨.hbm, 71, rfl⟩
abbrev main_v62 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_6 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩

abbrev nD : Nat := 1
abbrev τ : Topo := Topo.v7x

variable {F : FTy → Type} [FloatOps F]
-- ==== ProjFirst.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x2x1024 : Shape := ⟨3, ![4, 2, 1024]⟩
abbrev S4x1024x6400 : Shape := ⟨3, ![4, 1024, 6400]⟩
abbrev S64x1x6144 : Shape := ⟨3, ![64, 1, 6144]⟩
abbrev S8x1x1024 : Shape := ⟨3, ![8, 1, 1024]⟩
abbrev S8x2304x1024 : Shape := ⟨3, ![8, 2304, 1024]⟩
abbrev S1x768x1024 : Shape := ⟨3, ![1, 768, 1024]⟩
abbrev S1x512x1024 : Shape := ⟨3, ![1, 512, 1024]⟩
abbrev S1x256x1024 : Shape := ⟨3, ![1, 256, 1024]⟩
abbrev S1x1x6144 : Shape := ⟨3, ![1, 1, 6144]⟩
abbrev S1x1x1024 : Shape := ⟨3, ![1, 1, 1024]⟩
abbrev S1x1024x2304 : Shape := ⟨3, ![1, 1024, 2304]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x1024x1280 : Shape := ⟨3, ![1, 1024, 1280]⟩
abbrev S1024x1280 : Shape := ⟨2, ![1024, 1280]⟩
abbrev S256x1280 : Shape := ⟨2, ![256, 1280]⟩
abbrev S256x256 : Shape := ⟨2, ![256, 256]⟩
abbrev S1x256x256 : Shape := ⟨3, ![1, 256, 256]⟩
abbrev S256x512 : Shape := ⟨2, ![256, 512]⟩
abbrev S1x256x512 : Shape := ⟨3, ![1, 256, 512]⟩

abbrev nBuf : Space → Nat
  | .hbm => 10
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S4x16x6144, .f32⟩
  | .hbm, ⟨3, _⟩ => ⟨S4x2x1024, .f32⟩
  | .hbm, ⟨4, _⟩ => ⟨S4x1024x6400, .f32⟩
  | .hbm, ⟨5, _⟩ => ⟨S64x1x6144, .f32⟩
  | .hbm, ⟨6, _⟩ => ⟨S4x1024x6400, .bf16⟩
  | .hbm, ⟨7, _⟩ => ⟨S8x1x1024, .f32⟩
  | .hbm, ⟨8, _⟩ => ⟨S8x2304x1024, .bf16⟩
  | .hbm, ⟨9, _⟩ => ⟨S8x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1x6144, .f32⟩
  | .local _ .vmem, ⟨9, _⟩ => ⟨S1x1x1024, .f32⟩
  | .local _ .vmem, ⟨10, _⟩ => ⟨S1x1024x2304, .bf16⟩
  | .local _ .vmem, ⟨11, _⟩ => ⟨S1x768x1024, .bf16⟩
  | .local _ .vmem, ⟨12, _⟩ => ⟨S1x768x1024, .bf16⟩
  | .local _ .vmem, ⟨13, _⟩ => ⟨S1x768x1024, .f32⟩
  | .local _ .vmem, ⟨14, _⟩ => ⟨S1x768x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjFirstRefIdeal.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x2x1024 : Shape := ⟨3, ![4, 2, 1024]⟩
abbrev S4x1024x6400 : Shape := ⟨3, ![4, 1024, 6400]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1x6144 : Shape := ⟨3, ![1, 1, 6144]⟩
abbrev S6144 : Shape := ⟨1, ![6144]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x6400 : Shape := ⟨3, ![1, 1024, 6400]⟩
abbrev S1024x6400 : Shape := ⟨2, ![1024, 6400]⟩
abbrev S8x2048x6400 : Shape := ⟨3, ![8, 2048, 6400]⟩
abbrev S8x2048x256 : Shape := ⟨3, ![8, 2048, 256]⟩
abbrev S8x2048x4096 : Shape := ⟨3, ![8, 2048, 4096]⟩
abbrev S8x256 : Shape := ⟨2, ![8, 256]⟩
abbrev S8x256x1 : Shape := ⟨3, ![8, 256, 1]⟩
abbrev S8x256x6400 : Shape := ⟨3, ![8, 256, 6400]⟩
abbrev S8x256x256 : Shape := ⟨3, ![8, 256, 256]⟩
abbrev S8x256x4096 : Shape := ⟨3, ![8, 256, 4096]⟩
abbrev S8x2304x1024 : Shape := ⟨3, ![8, 2304, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S4x16x6144, .f32⟩
  | .hbm, ⟨3, _⟩ => ⟨S4x2x1024, .f32⟩
  | .hbm, ⟨4, _⟩ => ⟨S4x1024x6400, .f32⟩
  | .hbm, ⟨5, _⟩ => ⟨S1x8x6144, .f32⟩
  | .hbm, ⟨6, _⟩ => ⟨S8x6144, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1x1x6144, .f32⟩
  | .hbm, ⟨15, _⟩ => ⟨S6144, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1x1024, .f32⟩
  | .hbm, ⟨23, _⟩ => ⟨S1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S1x1024x6400, .f32⟩
  | .hbm, ⟨48, _⟩ => ⟨S1024x6400, .f32⟩
  | .hbm, ⟨49, _⟩ => ⟨S8x2048x6400, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S8x2048x256, .f32⟩
  | .hbm, ⟨54, _⟩ => ⟨S8x2048x256, .f32⟩
  | .hbm, ⟨55, _⟩ => ⟨S8x2048x256, .f32⟩
  | .hbm, ⟨56, _⟩ => ⟨S8x2048x256, .f32⟩
  | .hbm, ⟨57, _⟩ => ⟨S8x2048x256, .f32⟩
  | .hbm, ⟨58, _⟩ => ⟨S8x2048x256, .f32⟩
  | .hbm, ⟨59, _⟩ => ⟨S8x2048x4096, .f32⟩
  | .hbm, ⟨60, _⟩ => ⟨S8x2048x1024, .f32⟩
  | .hbm, ⟨61, _⟩ => ⟨S8x2048x1024, .bf16⟩
  | .hbm, ⟨62, _⟩ => ⟨S8x2048x256, .f32⟩
  | .hbm, ⟨63, _⟩ => ⟨S8x2048x1024, .f32⟩
  | .hbm, ⟨64, _⟩ => ⟨S1x1x1024, .f32⟩
  | .hbm, ⟨65, _⟩ => ⟨S1024, .f32⟩
  | .hbm, ⟨66, _⟩ => ⟨S8x256x1024, .f32⟩
  | .hbm, ⟨67, _⟩ => ⟨S_, .f32⟩
  | .hbm, ⟨68, _⟩ => ⟨S8x256, .f32⟩
  | .hbm, ⟨69, _⟩ => ⟨S8x256x1, .f32⟩
  | .hbm, ⟨70, _⟩ => ⟨S_, .f32⟩
  | .hbm, ⟨71, _⟩ => ⟨S8x256x1, .f32⟩
  | .hbm, ⟨72, _⟩ => ⟨S8x256x1, .f32⟩
  | .hbm, ⟨73, _⟩ => ⟨S_, .f32⟩
  | .hbm, ⟨74, _⟩ => ⟨S8x256x1, .f32⟩
  | .hbm, ⟨75, _⟩ => ⟨S8x256x1, .f32⟩
  | .hbm, ⟨76, _⟩ => ⟨S8x256x1, .f32⟩
  | .hbm, ⟨77, _⟩ => ⟨S8x256x1024, .f32⟩
  | .hbm, ⟨78, _⟩ => ⟨S8x256x1024, .f32⟩
  | .hbm, ⟨79, _⟩ => ⟨S1x1x1024, .f32⟩
  | .hbm, ⟨80, _⟩ => ⟨S8x256x1024, .f32⟩
  | .hbm, ⟨81, _⟩ => ⟨S8x256x1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S1x1x1024, .f32⟩
  | .hbm, ⟨86, _⟩ => ⟨S8x256x1024, .f32⟩
  | .hbm, ⟨87, _⟩ => ⟨S8x256x1024, .f32⟩
  | .hbm, ⟨88, _⟩ => ⟨S1x1x1024, .f32⟩
  | .hbm, ⟨89, _⟩ => ⟨S8x256x1024, .f32⟩
  | .hbm, ⟨90, _⟩ => ⟨S8x256x1024, .f32⟩
  | .hbm, ⟨91, _⟩ => ⟨S1x1024x6400, .f32⟩
  | .hbm, ⟨92, _⟩ => ⟨S1024x6400, .f32⟩
  | .hbm, ⟨93, _⟩ => ⟨S8x256x6400, .f32⟩
  | .hbm, ⟨94, _⟩ => ⟨S8x256x256, .f32⟩
  | .hbm, ⟨95, _⟩ => ⟨S8x256x256, .f32⟩
  | .hbm, ⟨96, _⟩ => ⟨S8x256x256, .f32⟩
  | .hbm, ⟨97, _⟩ => ⟨S8x256x256, .f32⟩
  | .hbm, ⟨98, _⟩ => ⟨S8x256x256, .f32⟩
  | .hbm, ⟨99, _⟩ => ⟨S8x256x256, .f32⟩
  | .hbm, ⟨100, _⟩ => ⟨S8x256x256, .f32⟩
  | .hbm, ⟨101, _⟩ => ⟨S8x256x256, .f32⟩
  | .hbm, ⟨102, _⟩ => ⟨S8x256x256, .f32⟩
  | .hbm, ⟨103, _⟩ => ⟨S8x256x4096, .f32⟩
  | .hbm, ⟨104, _⟩ => ⟨S8x256x1024, .f32⟩
  | .hbm, ⟨105, _⟩ => ⟨S8x256x1024, .bf16⟩
  | .hbm, ⟨106, _⟩ => ⟨S8x256x256, .f32⟩
  | .hbm, ⟨107, _⟩ => ⟨S8x256x1024, .f32⟩
  | .hbm, ⟨108, _⟩ => ⟨S8x2304x1024, .bf16⟩
  | .hbm, ⟨109, _⟩ => ⟨S8x2304x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_3 : Ref sig .tc := ⟨.hbm, 67, rfl⟩
abbrev main_v58 : Ref sig .tc := ⟨.hbm, 68, rfl⟩
abbrev main_v59 : Ref sig .tc := ⟨.hbm, 69, rfl⟩
abbrev main_cst_4 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩

abbrev nD : Nat := 1
abbrev τ : Topo := Topo.v7x

variable {F : FTy → Type} [FloatOps F]
-- ==== MergeFirst.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x2x1024 : Shape := ⟨3, ![4, 2, 1024]⟩
abbrev S8x2304x256 : Shape := ⟨3, ![8, 2304, 256]⟩
abbrev S8x2304x1024 : Shape := ⟨3, ![8, 2304, 1024]⟩
abbrev S4x256 : Shape := ⟨2, ![4, 256]⟩
abbrev S4x256x256 : Shape := ⟨3, ![4, 256, 256]⟩
abbrev S8x2048x256 : Shape := ⟨3, ![8, 2048, 256]⟩
abbrev S8x256x256 : Shape := ⟨3, ![8, 256, 256]⟩
abbrev S4x3x256 : Shape := ⟨3, ![4, 3, 256]⟩
abbrev S4x4x128x128 : Shape := ⟨4, ![4, 4, 128, 128]⟩
abbrev S4x4x128 : Shape := ⟨3, ![4, 4, 128]⟩
abbrev S4x1024x6400 : Shape := ⟨3, ![4, 1024, 6400]⟩
abbrev S4x4x256x1024 : Shape := ⟨4, ![4, 4, 256, 1024]⟩
abbrev S4x1024x1024 : Shape := ⟨3, ![4, 1024, 1024]⟩
abbrev S64x1x6144 : Shape := ⟨3, ![64, 1, 6144]⟩
abbrev S4x128x4 : Shape := ⟨3, ![4, 128, 4]⟩
abbrev S4x128x4x64 : Shape := ⟨4, ![4, 128, 4, 64]⟩
abbrev S4x128x256 : Shape := ⟨3, ![4, 128, 256]⟩
abbrev S4x128x4x128 : Shape := ⟨4, ![4, 128, 4, 128]⟩
abbrev S4x128x512 : Shape := ⟨3, ![4, 128, 512]⟩
abbrev S8x1x1024 : Shape := ⟨3, ![8, 1, 1024]⟩
abbrev S4x1x256 : Shape := ⟨3, ![4, 1, 256]⟩
abbrev S1x768x1024 : Shape := ⟨3, ![1, 768, 1024]⟩
abbrev S1x512x1024 : Shape := ⟨3, ![1, 512, 1024]⟩
abbrev S1x256x1024 : Shape := ⟨3, ![1, 256, 1024]⟩
abbrev S1x1x6144 : Shape := ⟨3, ![1, 1, 6144]⟩
abbrev S1x1x1024 : Shape := ⟨3, ![1, 1, 1024]⟩
abbrev S1x768x256 : Shape := ⟨3, ![1, 768, 256]⟩
abbrev S1x1x256 : Shape := ⟨3, ![1, 1, 256]⟩
abbrev S1x256x256 : Shape := ⟨3, ![1, 256, 256]⟩
abbrev S1x512x256 : Shape := ⟨3, ![1, 512, 256]⟩
abbrev S1x8x256 : Shape := ⟨3, ![1, 8, 256]⟩
abbrev S1x3x256 : Shape := ⟨3, ![1, 3, 256]⟩
abbrev S1x128x512 : Shape := ⟨3, ![1, 128, 512]⟩
abbrev S1x128x256 : Shape := ⟨3, ![1, 128, 256]⟩
abbrev S1x1024x6400 : Shape := ⟨3, ![1, 1024, 6400]⟩
abbrev S1x4x256x1024 : Shape := ⟨4, ![1, 4, 256, 1024]⟩
abbrev S1x1024x1024 : Shape := ⟨3, ![1, 1024, 1024]⟩
abbrev S768x1 : Shape := ⟨2, ![768, 1]⟩
abbrev S768x256 : Shape := ⟨2, ![768, 256]⟩
abbrev S1x256 : Shape := ⟨2, ![1, 256]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S512x256 : Shape := ⟨2, ![512, 256]⟩
abbrev S128x512 : Shape := ⟨2, ![128, 512]⟩
abbrev S1024x1024 : Shape := ⟨2, ![1024, 1024]⟩
abbrev S1x1x256x1024 : Shape := ⟨4, ![1, 1, 256, 1024]⟩

abbrev nBuf : Space → Nat
  | .hbm => 38
  | .vmem => 47
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S4x16x6144, .f32⟩
  | .hbm, ⟨3, _⟩ => ⟨S4x2x1024, .f32⟩
  | .hbm, ⟨4, _⟩ => ⟨S8x2304x256, .f32⟩
  | .hbm, ⟨5, _⟩ => ⟨S8x2304x256, .f32⟩
  | .hbm, ⟨6, _⟩ => ⟨S8x2304x1024, .bf16⟩
  | .hbm, ⟨7, _⟩ => ⟨S4x256, .f32⟩
  | .hbm, ⟨8, _⟩ => ⟨S4x256x256, .f32⟩
  | .hbm, ⟨9, _⟩ => ⟨S4x256, .f32⟩
  | .hbm, ⟨10, _⟩ => ⟨S8x2048x256, .bf16⟩
  | .hbm, ⟨11, _⟩ => ⟨S8x256x256, .bf16⟩
  | .hbm, ⟨12, _⟩ => ⟨S8x2304x1024, .f32⟩
  | .hbm, ⟨13, _⟩ => ⟨S4x3x256, .f32⟩
  | .hbm, ⟨14, _⟩ => ⟨S4x256, .f32⟩
  | .hbm, ⟨15, _⟩ => ⟨S4x256, .f32⟩
  | .hbm, ⟨16, _⟩ => ⟨S4x4x128x128, .f32⟩
  | .hbm, ⟨17, _⟩ => ⟨S4x4x128, .f32⟩
  | .hbm, ⟨18, _⟩ => ⟨S4x1024x6400, .f32⟩
  | .hbm, ⟨19, _⟩ => ⟨S4x4x256x1024, .f32⟩
  | .hbm, ⟨20, _⟩ => ⟨S4x1024x1024, .f32⟩
  | .hbm, ⟨21, _⟩ => ⟨S64x1x6144, .f32⟩
  | .hbm, ⟨22, _⟩ => ⟨S4x128x4, .f32⟩
  | .hbm, ⟨23, _⟩ => ⟨S4x128x4x64, .f32⟩
  | .hbm, ⟨24, _⟩ => ⟨S4x128x256, .f32⟩
  | .hbm, ⟨25, _⟩ => ⟨S4x1024x6400, .bf16⟩
  | .hbm, ⟨26, _⟩ => ⟨S4x4x256x1024, .bf16⟩
  | .hbm, ⟨27, _⟩ => ⟨S4x1024x1024, .bf16⟩
  | .hbm, ⟨28, _⟩ => ⟨S4x256x256, .bf16⟩
  | .hbm, ⟨29, _⟩ => ⟨S4x128x4x128, .f32⟩
  | .hbm, ⟨30, _⟩ => ⟨S4x128x512, .f32⟩
  | .hbm, ⟨31, _⟩ => ⟨S4x128x512, .bf16⟩
  | .hbm, ⟨32, _⟩ => ⟨S8x1x1024, .f32⟩
  | .hbm, ⟨33, _⟩ => ⟨S4x1x256, .f32⟩
  | .hbm, ⟨34, _⟩ => ⟨S4x1x256, .f32⟩
  | .hbm, ⟨35, _⟩ => ⟨S4x1x256, .f32⟩
  | .hbm, ⟨36, _⟩ => ⟨S4x1x256, .f32⟩
  | .hbm, ⟨37, _⟩ => ⟨S8x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1x6144, .f32⟩
  | .local _ .vmem, ⟨9, _⟩ => ⟨S1x1x1024, .f32⟩
  | .local _ .vmem, ⟨10, _⟩ => ⟨S1x768x256, .f32⟩
  | .local _ .vmem, ⟨11, _⟩ => ⟨S1x768x256, .f32⟩
  | .local _ .vmem, ⟨12, _⟩ => ⟨S1x768x256, .f32⟩
  | .local _ .vmem, ⟨13, _⟩ => ⟨S1x768x256, .f32⟩
  | .local _ .vmem, ⟨14, _⟩ => ⟨S1x768x256, .bf16⟩
  | .local _ .vmem, ⟨15, _⟩ => ⟨S1x768x256, .bf16⟩
  | .local _ .vmem, ⟨16, _⟩ => ⟨S1x1x256, .f32⟩
  | .local _ .vmem, ⟨17, _⟩ => ⟨S1x256x256, .bf16⟩
  | .local _ .vmem, ⟨18, _⟩ => ⟨S1x1x256, .f32⟩
  | .local _ .vmem, ⟨19, _⟩ => ⟨S1x768x256, .bf16⟩
  | .local _ .vmem, ⟨20, _⟩ => ⟨S1x768x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x256x256, .bf16⟩
  | .local _ .vmem, ⟨24, _⟩ => ⟨S1x256x256, .bf16⟩
  | .local _ .vmem, ⟨25, _⟩ => ⟨S1x768x256, .f32⟩
  | .local _ .vmem, ⟨26, _⟩ => ⟨S1x768x256, .f32⟩
  | .local _ .vmem, ⟨27, _⟩ => ⟨S1x768x256, .f32⟩
  | .local _ .vmem, ⟨28, _⟩ => ⟨S1x768x256, .f32⟩
  | .local _ .vmem, ⟨29, _⟩ => ⟨S1x8x256, .f32⟩
  | .local _ .vmem, ⟨30, _⟩ => ⟨S1x8x256, .f32⟩
  | .local _ .vmem, ⟨31, _⟩ => ⟨S1x8x256, .f32⟩
  | .local _ .vmem, ⟨32, _⟩ => ⟨S1x8x256, .f32⟩
  | .local _ .vmem, ⟨33, _⟩ => ⟨S1x768x256, .f32⟩
  | .local _ .vmem, ⟨34, _⟩ => ⟨S1x768x256, .f32⟩
  | .local _ .vmem, ⟨35, _⟩ => ⟨S1x768x256, .f32⟩
  | .local _ .vmem, ⟨36, _⟩ => ⟨S1x768x256, .f32⟩
  | .local _ .vmem, ⟨37, _⟩ => ⟨S1x3x256, .f32⟩
  | .local _ .vmem, ⟨38, _⟩ => ⟨S1x1x256, .f32⟩
  | .local _ .vmem, ⟨39, _⟩ => ⟨S1x1x256, .f32⟩
  | .local _ .vmem, ⟨40, _⟩ => ⟨S1x128x512, .bf16⟩
  | .local _ .vmem, ⟨41, _⟩ => ⟨S1x128x256, .f32⟩
  | .local _ .vmem, ⟨42, _⟩ => ⟨S1x1024x6400, .bf16⟩
  | .local _ .vmem, ⟨43, _⟩ => ⟨S1x4x256x1024, .bf16⟩
  | .local _ .vmem, ⟨44, _⟩ => ⟨S1x1024x1024, .bf16⟩
  | .local _ .vmem, ⟨45, _⟩ => ⟨S1x768x1024, .f32⟩
  | .local _ .vmem, ⟨46, _⟩ => ⟨S1x768x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_stg25_0 : Ref sig .tc := ⟨.vmem, 41, rfl⟩
abbrev cc0_stg26_0 : Ref sig .tc := ⟨.vmem, 42, rfl⟩
abbrev cc0_stg27_0 : Ref sig .tc := ⟨.vmem, 43, rfl⟩
abbrev cc0_stg28_0 : Ref sig .tc := ⟨.vmem, 44, rfl⟩
abbrev cc0_stg29_0 : Ref sig .tc := ⟨.vmem, 45, rfl⟩
abbrev cc0_stg29_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem22_0 : DmaSem sig := 38
abbrev cc0_sem23_0 : DmaSem sig := 39
abbrev cc0_sem24_0 : DmaSem sig := 40
abbrev cc0_sem25_0 : DmaSem sig := 41
abbrev cc0_sem26_0 : DmaSem sig := 42
abbrev cc0_sem27_0 : DmaSem sig := 43
abbrev cc0_sem28_0 : DmaSem sig := 44
abbrev cc0_sem29_0 : DmaSem sig := 45
abbrev cc0_sem29_1 : DmaSem sig := 46

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_17 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.muli arg1 c96_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c96_i32 : BitVec 32 := 96#32
  let v1 : BitVec 32 := Scalar.muli v0 c96_i32
  let c287_i32 : BitVec 32 := 287#32
  let v2 : BitVec 32 := Scalar.minsi v1 c287_i32
  let c1_i32_0 : BitVec 32 := 1#32
  let c0_i32 : BitVec 32 := 0#32
  ![arg0.toNat, v2.toNat, c1_i32_0.toNat]

def cc0_transform_19 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_20 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x768x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x768x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x768x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x768x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x768x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .vmem S1x3x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x128x512 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x128x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x1024x6400 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x4x256x1024 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x1024x1024 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 2 → Memref sig .tc .vmem S1x768x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]
-- ==== MergeFirstRefIdeal.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x2x1024 : Shape := ⟨3, ![4, 2, 1024]⟩
abbrev S8x2304x256 : Shape := ⟨3, ![8, 2304, 256]⟩
abbrev S8x2304x1024 : Shape := ⟨3, ![8, 2304, 1024]⟩
abbrev S4x256 : Shape := ⟨2, ![4, 256]⟩
abbrev S4x256x256 : Shape := ⟨3, ![4, 256, 256]⟩
abbrev S8x2048x256 : Shape := ⟨3, ![8, 2048, 256]⟩
abbrev S8x256x256 : Shape := ⟨3, ![8, 256, 256]⟩
abbrev S4x3x256 : Shape := ⟨3, ![4, 3, 256]⟩
abbrev S4x4x128x128 : Shape := ⟨4, ![4, 4, 128, 128]⟩
abbrev S4x4x128 : Shape := ⟨3, ![4, 4, 128]⟩
abbrev S4x1024x6400 : Shape := ⟨3, ![4, 1024, 6400]⟩
abbrev S4x4x256x1024 : Shape := ⟨4, ![4, 4, 256, 1024]⟩
abbrev S4x1024x1024 : Shape := ⟨3, ![4, 1024, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1x6144 : Shape := ⟨3, ![1, 1, 6144]⟩
abbrev S6144 : Shape := ⟨1, ![6144]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x6400 : Shape := ⟨3, ![1, 1024, 6400]⟩
abbrev S1024x6400 : Shape := ⟨2, ![1024, 6400]⟩
abbrev S1024x4096 : Shape := ⟨2, ![1024, 4096]⟩
abbrev S8x2048x4096 : Shape := ⟨3, ![8, 2048, 4096]⟩
abbrev S1x256 : Shape := ⟨2, ![1, 256]⟩
abbrev S256 : Shape := ⟨1, ![256]⟩
abbrev S1x1x256 : Shape := ⟨3, ![1, 1, 256]⟩
abbrev S1x256x256 : Shape := ⟨3, ![1, 256, 256]⟩
abbrev S256x256 : Shape := ⟨2, ![256, 256]⟩
abbrev S1x3x256 : Shape := ⟨3, ![1, 3, 256]⟩
abbrev S3x256 : Shape := ⟨2, ![3, 256]⟩
abbrev S8x2050x256 : Shape := ⟨3, ![8, 2050, 256]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S8x16x128x4x64 : Shape := ⟨5, ![8, 16, 128, 4, 64]⟩
abbrev S4x8x16x64x128 : Shape := ⟨5, ![4, 8, 16, 64, 128]⟩
abbrev S128x4 : Shape := ⟨2, ![128, 4]⟩
abbrev S1x1x128x4x1 : Shape := ⟨5, ![1, 1, 128, 4, 1]⟩
abbrev S1x4x256x1024 : Shape := ⟨4, ![1, 4, 256, 1024]⟩
abbrev S4x256x1024 : Shape := ⟨3, ![4, 256, 1024]⟩
abbrev S1x1024x1024 : Shape := ⟨3, ![1, 1024, 1024]⟩
abbrev S1024x1024 : Shape := ⟨2, ![1024, 1024]⟩
abbrev S8x2048x1x256 : Shape := ⟨4, ![8, 2048, 1, 256]⟩
abbrev S8x2048x4x256 : Shape := ⟨4, ![8, 2048, 4, 256]⟩
abbrev S4x1024x8x2048 : Shape := ⟨4, ![4, 1024, 8, 2048]⟩
abbrev S8x2048x4x1024 : Shape := ⟨4, ![8, 2048, 4, 1024]⟩
abbrev S8x256 : Shape := ⟨2, ![8, 256]⟩
abbrev S8x256x1 : Shape := ⟨3, ![8, 256, 1]⟩
abbrev S8x256x4096 : Shape := ⟨3, ![8, 256, 4096]⟩
abbrev S8x258x256 : Shape := ⟨3, ![8, 258, 256]⟩
abbrev S8x2x128x4x64 : Shape := ⟨5, ![8, 2, 128, 4, 64]⟩
abbrev S4x8x2x64x128 : Shape := ⟨5, ![4, 8, 2, 64, 128]⟩
abbrev S8x256x1x256 : Shape := ⟨4, ![8, 256, 1, 256]⟩
abbrev S8x256x4x256 : Shape := ⟨4, ![8, 256, 4, 256]⟩
abbrev S4x1024x8x256 : Shape := ⟨4, ![4, 1024, 8, 256]⟩
abbrev S8x256x4x1024 : Shape := ⟨4, ![8, 256, 4, 1024]⟩

abbrev nBuf : Space → Nat
  | .hbm => 406
  | .vmem => 0
  | .smem => 0
  | _ => 0

abbrev hbmTy0_0 (i : Nat) : BufTy := match i % 128 with
  | 0 => ⟨S8x2048x1024, .f32⟩
  | 1 => ⟨S8x256x1024, .f32⟩
  | 2 => ⟨S4x16x6144, .f32⟩
  | 3 => ⟨S4x2x1024, .f32⟩
  | 4 => ⟨S8x2304x256, .f32⟩
  | 5 => ⟨S8x2304x256, .f32⟩
  | 6 => ⟨S8x2304x1024, .bf16⟩
  | 7 => ⟨S4x256, .f32⟩
  | 8 => ⟨S4x256x256, .f32⟩
  | 9 => ⟨S4x256, .f32⟩
  | 10 => ⟨S8x2048x256, .bf16⟩
  | 11 => ⟨S8x256x256, .bf16⟩
  | 12 => ⟨S8x2304x1024, .f32⟩
  | 13 => ⟨S4x3x256, .f32⟩
  | 14 => ⟨S4x256, .f32⟩
  | 15 => ⟨S4x256, .f32⟩
  | 16 => ⟨S4x4x128x128, .f32⟩
  | 17 => ⟨S4x4x128, .f32⟩
  | 18 => ⟨S4x1024x6400, .f32⟩
  | 19 => ⟨S4x4x256x1024, .f32⟩
  | 20 => ⟨S4x1024x1024, .f32⟩
  | 21 => ⟨S1x8x6144, .f32⟩
  | 22 => ⟨S8x6144, .f32⟩
  | 23 => ⟨S8x1x6144, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S8x1x1024, .f32⟩
  | 30 => ⟨S1x1x6144, .f32⟩
  | 31 => ⟨S6144, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1x1x1024, .f32⟩
  | 39 => ⟨S1024, .f32⟩
  | 40 => ⟨S8x2048x1024, .f32⟩
  | 41 => ⟨S_, .f32⟩
  | 42 => ⟨S8x2048, .f32⟩
  | 43 => ⟨S8x2048x1, .f32⟩
  | 44 => ⟨S_, .f32⟩
  | 45 => ⟨S8x2048x1, .f32⟩
  | 46 => ⟨S8x2048x1, .f32⟩
  | 47 => ⟨S_, .f32⟩
  | 48 => ⟨S8x2048x1, .f32⟩
  | 49 => ⟨S8x2048x1, .f32⟩
  | 50 => ⟨S8x2048x1, .f32⟩
  | 51 => ⟨S8x2048x1024, .f32⟩
  | 52 => ⟨S8x2048x1024, .f32⟩
  | 53 => ⟨S1x1x1024, .f32⟩
  | 54 => ⟨S8x2048x1024, .f32⟩
  | 55 => ⟨S8x2048x1024, .f32⟩
  | 56 => ⟨S_, .f32⟩
  | 57 => ⟨S8x1x1024, .f32⟩
  | 58 => ⟨S8x1x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S1x1024x6400, .f32⟩
  | 64 => ⟨S1024x6400, .f32⟩
  | 65 => ⟨S1024x4096, .f32⟩
  | 66 => ⟨S8x2048x4096, .f32⟩
  | 67 => ⟨S8x2048x256, .bf16⟩
  | 68 => ⟨S8x2048x256, .f32⟩
  | 69 => ⟨S8x2048x1024, .f32⟩
  | 70 => ⟨S8x2048x256, .f32⟩
  | 71 => ⟨S8x2048x256, .f32⟩
  | 72 => ⟨S8x2048x256, .f32⟩
  | 73 => ⟨S8x2048x256, .f32⟩
  | 74 => ⟨S1x256, .f32⟩
  | 75 => ⟨S256, .f32⟩
  | 76 => ⟨S1x1x256, .f32⟩
  | 77 => ⟨S8x2048x256, .f32⟩
  | 78 => ⟨S8x2048x256, .f32⟩
  | 79 => ⟨S8x2048x256, .f32⟩
  | 80 => ⟨S8x2048x256, .f32⟩
  | 81 => ⟨S8x2048x256, .f32⟩
  | 82 => ⟨S8x2048x256, .f32⟩
  | 83 => ⟨S1x256x256, .f32⟩
  | 84 => ⟨S256x256, .f32⟩
  | 85 => ⟨S1x256, .f32⟩
  | 86 => ⟨S256, .f32⟩
  | 87 => ⟨S8x2048x256, .f32⟩
  | 88 => ⟨S8x2048x256, .f32⟩
  | 89 => ⟨S_, .f32⟩
  | 90 => ⟨S8x2048x256, .f32⟩
  | 91 => ⟨S8x2048x256, .f32⟩
  | 92 => ⟨S8x2048x256, .f32⟩
  | 93 => ⟨S_, .f32⟩
  | 94 => ⟨S8x2048x256, .f32⟩
  | 95 => ⟨S8x2048x256, .f32⟩
  | 96 => ⟨S8x2048x256, .f32⟩
  | 97 => ⟨S_, .f32⟩
  | 98 => ⟨S8x2048x256, .f32⟩
  | 99 => ⟨S8x2048x256, .f32⟩
  | 100 => ⟨S_, .f32⟩
  | 101 => ⟨S8x2048x256, .f32⟩
  | 102 => ⟨S8x2048x256, .f32⟩
  | 103 => ⟨S8x2048x256, .f32⟩
  | 104 => ⟨S8x2048x256, .f32⟩
  | 105 => ⟨S1x1x256, .f32⟩
  | 106 => ⟨S8x2048x256, .f32⟩
  | 107 => ⟨S8x2048x256, .f32⟩
  | 108 => ⟨S8x2048x256, .f32⟩
  | 109 => ⟨S8x2048x256, .f32⟩
  | 110 => ⟨S_, .f32⟩
  | 111 => ⟨S8x2048x256, .f32⟩
  | 112 => ⟨S8x2048x256, .f32⟩
  | 113 => ⟨S_, .f32⟩
  | 114 => ⟨S8x2048x256, .f32⟩
  | 115 => ⟨S8x2048x256, .f32⟩
  | 116 => ⟨S8x2048x256, .f32⟩
  | 117 => ⟨S1x3x256, .f32⟩
  | 118 => ⟨S3x256, .f32⟩
  | 119 => ⟨S_, .i32⟩
  | 120 => ⟨S_, .f32⟩
  | 121 => ⟨S8x2050x256, .f32⟩
  | 122 => ⟨S8x2048x256, .f32⟩
  | 123 => ⟨S1x256, .f32⟩
  | 124 => ⟨S256, .f32⟩
  | 125 => ⟨S1x1x256, .f32⟩
  | 126 => ⟨S8x2048x256, .f32⟩
  | 127 => ⟨S8x2048x256, .f32⟩
  | _ => ⟨S8x2048x1024, .f32⟩

abbrev hbmTy0_1 (i : Nat) : BufTy := match i % 128 with
  | 0 => ⟨S_, .f32⟩
  | 1 => ⟨S8x2048x256, .f32⟩
  | 2 => ⟨S8x2048x256, .f32⟩
  | 3 => ⟨S8x2048x256, .f32⟩
  | 4 => ⟨S1x256, .f32⟩
  | 5 => ⟨S256, .f32⟩
  | 6 => ⟨S1x1x256, .f32⟩
  | 7 => ⟨S8x2048x256, .f32⟩
  | 8 => ⟨S8x2048x256, .f32⟩
  | 9 => ⟨S8x2048x256, .f32⟩
  | 10 => ⟨S8x2048x256, .f32⟩
  | 11 => ⟨S1x256, .f32⟩
  | 12 => ⟨S256, .f32⟩
  | 13 => ⟨S1x1x256, .f32⟩
  | 14 => ⟨S8x2048x256, .f32⟩
  | 15 => ⟨S8x2048x256, .f32⟩
  | 16 => ⟨S8x2048x256, .f32⟩
  | 17 => ⟨S8x2048x256, .f32⟩
  | 18 => ⟨S1x256, .f32⟩
  | 19 => ⟨S256, .f32⟩
  | 20 => ⟨S1x256, .f32⟩
  | 21 => ⟨S256, .f32⟩
  | 22 => ⟨S1x4x128x128, .f32⟩
  | 23 => ⟨S4x128x128, .f32⟩
  | 24 => ⟨S1x4x128, .f32⟩
  | 25 => ⟨S4x128, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S8x2048x256, .f32⟩
  | 33 => ⟨S8x2048x256, .f32⟩
  | 34 => ⟨S8x2048x256, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S8x2048x256, .f32⟩
  | 42 => ⟨S8x2048x256, .f32⟩
  | 43 => ⟨S_, .f32⟩
  | 44 => ⟨S8x2048x1, .f32⟩
  | 45 => ⟨S8x2048x1, .f32⟩
  | 46 => ⟨S8x2048x1, .f32⟩
  | 47 => ⟨S8x2048x256, .f32⟩
  | 48 => ⟨S8x2048x256, .f32⟩
  | 49 => ⟨S1x1x256, .f32⟩
  | 50 => ⟨S8x2048x256, .f32⟩
  | 51 => ⟨S8x2048x256, .f32⟩
  | 52 => ⟨S1x1x256, .f32⟩
  | 53 => ⟨S8x2048x256, .f32⟩
  | 54 => ⟨S8x2048x256, .f32⟩
  | 55 => ⟨S8x16x128x4x64, .f32⟩
  | 56 => ⟨S4x8x16x64x128, .f32⟩
  | 57 => ⟨S8x16x128x4x64, .f32⟩
  | 58 => ⟨S128x4, .f32⟩
  | 59 => ⟨S1x1x128x4x1, .f32⟩
  | 60 => ⟨S8x16x128x4x64, .f32⟩
  | 61 => ⟨S8x16x128x4x64, .f32⟩
  | 62 => ⟨S8x2048x256, .f32⟩
  | 63 => ⟨S8x2048x256, .f32⟩
  | 64 => ⟨S8x2048x256, .f32⟩
  | 65 => ⟨S1x4x256x1024, .f32⟩
  | 66 => ⟨S4x256x1024, .f32⟩
  | 67 => ⟨S1x1024x1024, .f32⟩
  | 68 => ⟨S1024x1024, .f32⟩
  | 69 => ⟨S8x2048x1x256, .f32⟩
  | 70 => ⟨S8x2048x1x256, .f32⟩
  | 71 => ⟨S8x2048x1x256, .f32⟩
  | 72 => ⟨S8x2048x1x256, .f32⟩
  | 73 => ⟨S8x2048x4x256, .f32⟩
  | 74 => ⟨S4x1024x8x2048, .f32⟩
  | 75 => ⟨S8x2048x4x1024, .f32⟩
  | 76 => ⟨S8x2048x4x1024, .f32⟩
  | 77 => ⟨S8x2048x4x1024, .f32⟩
  | 78 => ⟨S8x2048x4x1024, .f32⟩
  | 79 => ⟨S_, .f32⟩
  | 80 => ⟨S8x2048x4x1024, .f32⟩
  | 81 => ⟨S8x2048x4x1024, .f32⟩
  | 82 => ⟨S_, .f32⟩
  | 83 => ⟨S8x2048x4x1024, .f32⟩
  | 84 => ⟨S8x2048x4x1024, .f32⟩
  | 85 => ⟨S8x2048x4x1024, .f32⟩
  | 86 => ⟨S_, .f32⟩
  | 87 => ⟨S8x2048x1024, .f32⟩
  | 88 => ⟨S8x2048x1024, .f32⟩
  | 89 => ⟨S8x2048x1024, .f32⟩
  | 90 => ⟨S8x2048x1024, .f32⟩
  | 91 => ⟨S8x2048x1024, .f32⟩
  | 92 => ⟨S1x1x1024, .f32⟩
  | 93 => ⟨S1024, .f32⟩
  | 94 => ⟨S8x256x1024, .f32⟩
  | 95 => ⟨S_, .f32⟩
  | 96 => ⟨S8x256, .f32⟩
  | 97 => ⟨S8x256x1, .f32⟩
  | 98 => ⟨S_, .f32⟩
  | 99 => ⟨S8x256x1, .f32⟩
  | 100 => ⟨S8x256x1, .f32⟩
  | 101 => ⟨S_, .f32⟩
  | 102 => ⟨S8x256x1, .f32⟩
  | 103 => ⟨S8x256x1, .f32⟩
  | 104 => ⟨S8x256x1, .f32⟩
  | 105 => ⟨S8x256x1024, .f32⟩
  | 106 => ⟨S8x256x1024, .f32⟩
  | 107 => ⟨S1x1x1024, .f32⟩
  | 108 => ⟨S8x256x1024, .f32⟩
  | 109 => ⟨S8x256x1024, .f32⟩
  | 110 => ⟨S_, .f32⟩
  | 111 => ⟨S1024, .f32⟩
  | 112 => ⟨S1024, .f32⟩
  | 113 => ⟨S1x1x1024, .f32⟩
  | 114 => ⟨S8x256x1024, .f32⟩
  | 115 => ⟨S8x256x1024, .f32⟩
  | 116 => ⟨S1x1x1024, .f32⟩
  | 117 => ⟨S8x256x1024, .f32⟩
  | 118 => ⟨S8x256x1024, .f32⟩
  | 119 => ⟨S1x1024x6400, .f32⟩
  | 120 => ⟨S1024x6400, .f32⟩
  | 121 => ⟨S1024x4096, .f32⟩
  | 122 => ⟨S8x256x4096, .f32⟩
  | 123 => ⟨S8x256x256, .bf16⟩
  | 124 => ⟨S8x256x256, .f32⟩
  | 125 => ⟨S8x256x1024, .f32⟩
  | 126 => ⟨S8x256x256, .f32⟩
  | 127 => ⟨S8x256x256, .f32⟩
  | _ => ⟨S8x2048x1024, .f32⟩

abbrev hbmTy0_2 (i : Nat) : BufTy := match i % 128 with
  | 0 => ⟨S8x256x256, .f32⟩
  | 1 => ⟨S8x256x256, .f32⟩
  | 2 => ⟨S1x256, .f32⟩
  | 3 => ⟨S256, .f32⟩
  | 4 => ⟨S1x1x256, .f32⟩
  | 5 => ⟨S8x256x256, .f32⟩
  | 6 => ⟨S8x256x256, .f32⟩
  | 7 => ⟨S8x256x256, .f32⟩
  | 8 => ⟨S8x256x256, .f32⟩
  | 9 => ⟨S8x256x256, .f32⟩
  | 10 => ⟨S8x256x256, .f32⟩
  | 11 => ⟨S1x256x256, .f32⟩
  | 12 => ⟨S256x256, .f32⟩
  | 13 => ⟨S1x256, .f32⟩
  | 14 => ⟨S256, .f32⟩
  | 15 => ⟨S8x256x256, .f32⟩
  | 16 => ⟨S8x256x256, .f32⟩
  | 17 => ⟨S_, .f32⟩
  | 18 => ⟨S8x256x256, .f32⟩
  | 19 => ⟨S8x256x256, .f32⟩
  | 20 => ⟨S8x256x256, .f32⟩
  | 21 => ⟨S_, .f32⟩
  | 22 => ⟨S8x256x256, .f32⟩
  | 23 => ⟨S8x256x256, .f32⟩
  | 24 => ⟨S8x256x256, .f32⟩
  | 25 => ⟨S_, .f32⟩
  | 26 => ⟨S8x256x256, .f32⟩
  | 27 => ⟨S8x256x256, .f32⟩
  | 28 => ⟨S_, .f32⟩
  | 29 => ⟨S8x256x256, .f32⟩
  | 30 => ⟨S8x256x256, .f32⟩
  | 31 => ⟨S8x256x256, .f32⟩
  | 32 => ⟨S8x256x256, .f32⟩
  | 33 => ⟨S1x1x256, .f32⟩
  | 34 => ⟨S8x256x256, .f32⟩
  | 35 => ⟨S8x256x256, .f32⟩
  | 36 => ⟨S8x256x256, .f32⟩
  | 37 => ⟨S8x256x256, .f32⟩
  | 38 => ⟨S_, .f32⟩
  | 39 => ⟨S8x256x256, .f32⟩
  | 40 => ⟨S8x256x256, .f32⟩
  | 41 => ⟨S_, .f32⟩
  | 42 => ⟨S8x256x256, .f32⟩
  | 43 => ⟨S8x256x256, .f32⟩
  | 44 => ⟨S8x256x256, .f32⟩
  | 45 => ⟨S1x3x256, .f32⟩
  | 46 => ⟨S3x256, .f32⟩
  | 47 => ⟨S_, .i32⟩
  | 48 => ⟨S_, .f32⟩
  | 49 => ⟨S8x258x256, .f32⟩
  | 50 => ⟨S8x256x256, .f32⟩
  | 51 => ⟨S1x256, .f32⟩
  | 52 => ⟨S256, .f32⟩
  | 53 => ⟨S1x1x256, .f32⟩
  | 54 => ⟨S8x256x256, .f32⟩
  | 55 => ⟨S8x256x256, .f32⟩
  | 56 => ⟨S_, .f32⟩
  | 57 => ⟨S8x256x256, .f32⟩
  | 58 => ⟨S8x256x256, .f32⟩
  | 59 => ⟨S8x256x256, .f32⟩
  | 60 => ⟨S1x256, .f32⟩
  | 61 => ⟨S256, .f32⟩
  | 62 => ⟨S1x1x256, .f32⟩
  | 63 => ⟨S8x256x256, .f32⟩
  | 64 => ⟨S8x256x256, .f32⟩
  | 65 => ⟨S8x256x256, .f32⟩
  | 66 => ⟨S8x256x256, .f32⟩
  | 67 => ⟨S1x256, .f32⟩
  | 68 => ⟨S256, .f32⟩
  | 69 => ⟨S1x1x256, .f32⟩
  | 70 => ⟨S8x256x256, .f32⟩
  | 71 => ⟨S8x256x256, .f32⟩
  | 72 => ⟨S8x256x256, .f32⟩
  | 73 => ⟨S8x256x256, .f32⟩
  | 74 => ⟨S1x256, .f32⟩
  | 75 => ⟨S256, .f32⟩
  | 76 => ⟨S1x256, .f32⟩
  | 77 => ⟨S256, .f32⟩
  | 78 => ⟨S1x4x128x128, .f32⟩
  | 79 => ⟨S4x128x128, .f32⟩
  | 80 => ⟨S1x4x128, .f32⟩
  | 81 => ⟨S4x128, .f32⟩
  | 82 => ⟨S_, .f32⟩
  | 83 => ⟨S8x256, .f32⟩
  | 84 => ⟨S8x256x1, .f32⟩
  | 85 => ⟨S_, .f32⟩
  | 86 => ⟨S8x256x1, .f32⟩
  | 87 => ⟨S8x256x1, .f32⟩
  | 88 => ⟨S8x256x256, .f32⟩
  | 89 => ⟨S8x256x256, .f32⟩
  | 90 => ⟨S8x256x256, .f32⟩
  | 91 => ⟨S_, .f32⟩
  | 92 => ⟨S8x256, .f32⟩
  | 93 => ⟨S8x256x1, .f32⟩
  | 94 => ⟨S_, .f32⟩
  | 95 => ⟨S8x256x1, .f32⟩
  | 96 => ⟨S8x256x1, .f32⟩
  | 97 => ⟨S8x256x256, .f32⟩
  | 98 => ⟨S8x256x256, .f32⟩
  | 99 => ⟨S_, .f32⟩
  | 100 => ⟨S8x256x1, .f32⟩
  | 101 => ⟨S8x256x1, .f32⟩
  | 102 => ⟨S8x256x1, .f32⟩
  | 103 => ⟨S8x256x256, .f32⟩
  | 104 => ⟨S8x256x256, .f32⟩
  | 105 => ⟨S1x1x256, .f32⟩
  | 106 => ⟨S8x256x256, .f32⟩
  | 107 => ⟨S8x256x256, .f32⟩
  | 108 => ⟨S1x1x256, .f32⟩
  | 109 => ⟨S8x256x256, .f32⟩
  | 110 => ⟨S8x256x256, .f32⟩
  | 111 => ⟨S8x2x128x4x64, .f32⟩
  | 112 => ⟨S4x8x2x64x128, .f32⟩
  | 113 => ⟨S8x2x128x4x64, .f32⟩
  | 114 => ⟨S128x4, .f32⟩
  | 115 => ⟨S1x1x128x4x1, .f32⟩
  | 116 => ⟨S8x2x128x4x64, .f32⟩
  | 117 => ⟨S8x2x128x4x64, .f32⟩
  | 118 => ⟨S8x256x256, .f32⟩
  | 119 => ⟨S8x256x256, .f32⟩
  | 120 => ⟨S8x256x256, .f32⟩
  | 121 => ⟨S1x4x256x1024, .f32⟩
  | 122 => ⟨S4x256x1024, .f32⟩
  | 123 => ⟨S1x1024x1024, .f32⟩
  | 124 => ⟨S1024x1024, .f32⟩
  | 125 => ⟨S8x256x1x256, .f32⟩
  | 126 => ⟨S8x256x1x256, .f32⟩
  | 127 => ⟨S8x256x1x256, .f32⟩
  | _ => ⟨S8x2048x1024, .f32⟩

abbrev hbmTy0_3 (i : Nat) : BufTy := match i % 128 with
  | 0 => ⟨S8x256x1x256, .f32⟩
  | 1 => ⟨S8x256x4x256, .f32⟩
  | 2 => ⟨S4x1024x8x256, .f32⟩
  | 3 => ⟨S8x256x4x1024, .f32⟩
  | 4 => ⟨S8x256x4x1024, .f32⟩
  | 5 => ⟨S8x256x4x1024, .f32⟩
  | 6 => ⟨S8x256x4x1024, .f32⟩
  | 7 => ⟨S_, .f32⟩
  | 8 => ⟨S8x256x4x1024, .f32⟩
  | 9 => ⟨S8x256x4x1024, .f32⟩
  | 10 => ⟨S_, .f32⟩
  | 11 => ⟨S8x256x4x1024, .f32⟩
  | 12 => ⟨S8x256x4x1024, .f32⟩
  | 13 => ⟨S8x256x4x1024, .f32⟩
  | 14 => ⟨S_, .f32⟩
  | 15 => ⟨S8x256x1024, .f32⟩
  | 16 => ⟨S8x256x1024, .f32⟩
  | 17 => ⟨S1x1x1024, .f32⟩
  | 18 => ⟨S8x256x1024, .f32⟩
  | 19 => ⟨S8x256x1024, .f32⟩
  | 20 => ⟨S8x256x1024, .f32⟩
  | 21 => ⟨S8x2304x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_3 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_4 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_5 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_7 : Ref sig .tc := ⟨.hbm, 110, rfl⟩
abbrev main_v81 : Ref sig .tc := ⟨.hbm, 111, rfl⟩
abbrev main_v82 : Ref sig .tc := ⟨.hbm, 112, rfl⟩
abbrev main_cst_8 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c : Ref sig .tc := ⟨.hbm, 119, rfl⟩
abbrev main_call0_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_9 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_10 : Ref sig .tc := ⟨.hbm, 154, rfl⟩
abbrev main_v120 : Ref sig .tc := ⟨.hbm, 155, rfl⟩
abbrev main_v121 : Ref sig .tc := ⟨.hbm, 156, rfl⟩
abbrev main_cst_11 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_12 : Ref sig .tc := ⟨.hbm, 163, rfl⟩
abbrev main_v127 : Ref sig .tc := ⟨.hbm, 164, rfl⟩
abbrev main_v128 : Ref sig .tc := ⟨.hbm, 165, rfl⟩
abbrev main_cst_13 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_14 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_15 : Ref sig .tc := ⟨.hbm, 207, rfl⟩
abbrev main_v168 : Ref sig .tc := ⟨.hbm, 208, rfl⟩
abbrev main_v169 : Ref sig .tc := ⟨.hbm, 209, rfl⟩
abbrev main_cst_16 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_cst_17 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_cst_18 : Ref sig .tc := ⟨.hbm, 223, rfl⟩
abbrev main_v181 : Ref sig .tc := ⟨.hbm, 224, rfl⟩
abbrev main_v182 : Ref sig .tc := ⟨.hbm, 225, rfl⟩
abbrev main_cst_19 : Ref sig .tc := ⟨.hbm, 226, rfl⟩
abbrev main_v183 : Ref sig .tc := ⟨.hbm, 227, rfl⟩
abbrev main_v184 : Ref sig .tc := ⟨.hbm, 228, rfl⟩
abbrev main_cst_20 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_cst_21 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_cst_22 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_cst_23 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_cst_24 : Ref sig .tc := ⟨.hbm, 281, rfl⟩
abbrev main_v233 : Ref sig .tc := ⟨.hbm, 282, rfl⟩
abbrev main_v234 : Ref sig .tc := ⟨.hbm, 283, rfl⟩
abbrev main_cst_25 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_cst_26 : Ref sig .tc := ⟨.hbm, 294, rfl⟩
abbrev main_v244 : Ref sig .tc := ⟨.hbm, 295, rfl⟩
abbrev main_v245 : Ref sig .tc := ⟨.hbm, 296, rfl⟩
abbrev main_cst_27 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_c_28 : Ref sig .tc := ⟨.hbm, 303, rfl⟩
abbrev main_call1_v0 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_cst_29 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_cst_30 : Ref sig .tc := ⟨.hbm, 338, rfl⟩
abbrev main_v283 : Ref sig .tc := ⟨.hbm, 339, rfl⟩
abbrev main_v284 : Ref sig .tc := ⟨.hbm, 340, rfl⟩
abbrev main_cst_31 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_cst_32 : Ref sig .tc := ⟨.hbm, 347, rfl⟩
abbrev main_v290 : Ref sig .tc := ⟨.hbm, 348, rfl⟩
abbrev main_v291 : Ref sig .tc := ⟨.hbm, 349, rfl⟩
abbrev main_cst_33 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_cst_34 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_cst_35 : Ref sig .tc := ⟨.hbm, 391, rfl⟩
abbrev main_v331 : Ref sig .tc := ⟨.hbm, 392, rfl⟩
abbrev main_v332 : Ref sig .tc := ⟨.hbm, 393, rfl⟩
abbrev main_cst_36 : Ref sig .tc := ⟨.hbm, 394, rfl⟩
abbrev main_v333 : Ref sig .tc := ⟨.hbm, 395, rfl⟩
abbrev main_v334 : Ref sig .tc := ⟨.hbm, 396, rfl⟩
abbrev main_v335 : Ref sig .tc := ⟨.hbm, 397, rfl⟩
abbrev main_cst_37 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_v342 : Ref sig .tc := ⟨.hbm, 405, rfl⟩

abbrev nD : Nat := 1
abbrev τ : Topo := Topo.v7x

variable {F : FTy → Type} [FloatOps F]
-- ==== Proof.Mlp.lean ====
/-
  The feed-forward half of a layer as a function of ONE row of 1024 numbers, over the extended reals: the plain form
  both the kernels' tiles and the references are read as.
-/
module

public import Idealize.ShloMosaic.Lib.Pointwise

@[expose] public section

noncomputable section

namespace Cert.Mlp

open Idealize.ShloMosaic

/-- The reciprocal root of a row's mean square (plus the small constant). -/
def rstd (h : Fin 1024 → EReal) : EReal :=
  Ideal.rsqrt (Ideal.div (∑ k, h k * h k) (Ideal.ofBits .f32 0x44800000#32) + Ideal.ofBits .f32 0x358637BD#32)

/-- The normed row, scaled and shifted: the input of the first product. -/
def act (h g sc sh : Fin 1024 → EReal) (k : Fin 1024) : EReal :=
  h k * rstd h * (g k * (1 + sc k)) + sh k

/-- The squared positive part of hidden unit `f`. -/
def hid (a : Fin 1024 → EReal) (w1 : Fin 1024 → Fin 4096 → EReal) (f : Fin 4096) : EReal :=
  max (∑ k, a k * w1 k f) 0 * max (∑ k, a k * w1 k f) 0

/-- A row after the feed-forward half: the row plus the gated second product. -/
def row (h g sc sh gate : Fin 1024 → EReal) (w1 : Fin 1024 → Fin 4096 → EReal) (w2 : Fin 4096 → Fin 1024 → EReal)
    (n : Fin 1024) : EReal :=
  h n + gate n * ∑ f, hid (act h g sc sh) w1 f * w2 f n

/-- A row normed and scaled by a gain. -/
def normed (o g : Fin 1024 → EReal) (n : Fin 1024) : EReal := o n * rstd o * g n

/-- Hidden unit `f` of chunk `c` of the four. -/
def unit (c : Fin 4) (f : Fin 1024) : Fin 4096 := ⟨c.val * 1024 + f.val, by omega⟩

/-- A sum over the hidden units is the sum of the four chunks' sums, added in the kernel's order. -/
theorem sum_chunks (F : Fin 4096 → EReal) :
    ∑ f, F f = ∑ f, F (unit 0 f) + ∑ f, F (unit 1 f) + ∑ f, F (unit 2 f) + ∑ f, F (unit 3 f) := by
  rw [Fin.sum_univ_tiles 4 1024 rfl F, Fin.sum_univ_four]
  rfl

/-- The modulation in the reference's bracketing. -/
theorem act_eq (h g sc sh : Fin 1024 → EReal) (k : Fin 1024) :
    h k * rstd h * g k * (1 + sc k) + sh k = act h g sc sh k := by
  unfold act; rw [mul_assoc (h k * rstd h)]

/-- Columns of the third, fourth and fifth sixth of a row of modulations (shift, scale and gate). -/
def at3 (k : Fin 1024) : Fin 6144 := ⟨3072 + k.val, by omega⟩
def at4 (k : Fin 1024) : Fin 6144 := ⟨4096 + k.val, by omega⟩
def at5 (k : Fin 1024) : Fin 6144 := ⟨5120 + k.val, by omega⟩

end Cert.Mlp

end
-- ==== Proof.FfnTile.lean ====
/-
  One tile of a layer's feed-forward kernel, read row by row: each of the body's three sub-tiles of 256 rows holds
  `Mlp.row` of its rows, the context rows (the last sub-tile of a batch's last tile) under their own modulations.
-/
module

public import proofs.«01_k».proof.Proof.Gen.FfnIdeal.Frame
public import proofs.«01_k».proof.Proof.Mlp
public import Idealize.ShloMosaic.Lib.Pipeline.ValueKit

@[expose] public section

set_option maxRecDepth 16384

noncomputable section

namespace Cert.FfnTile

open Cert.FfnIdeal Cert.FfnIdeal.Gen Idealize.ShloMosaic Idealize.ShloMosaic.TcCoe Idealize.SL.Sem
open Cert.Mlp

/-- The modulated rows of a sub-tile. -/
theorem act_apply (v0 v2 : Vec Ideal S1x1x1024 .f32) (v6 : Vec Ideal S1x256x1024 .f32) (v8 : Vec Ideal S1x1x1024 .f32)
    (r : Fin 256) (k : Fin 1024) :
    k0_pay4 v0 v2 v6 v8 (ix2 r k)
      = act (fun k => v6 (ix3 0 r k)) (fun k => v8 (ix3 0 0 k)) (fun k => v2 (ix3 0 0 k)) (fun k => v0 (ix3 0 0 k)) k := by
  pointwise [k0_pay4, k0_pay3]
  rfl

theorem first_apply (v0 v2 : Vec Ideal S1x1x1024 .f32) (v6 : Vec Ideal S1x256x1024 .f32) (v8 : Vec Ideal S1x1x1024 .f32)
    (w : Vec Ideal S1x1024x1024 .bf16) (r : Fin 256) (f : Fin 1024) :
    k0_pay6 v0 v2 v6 v8 w (ix2 r f) = ∑ k, k0_pay4 v0 v2 v6 v8 (ix2 r k) * w (ix3 0 k f) := by
  pointwise [k0_pay6]

/-- A first product of a sub-tile with one chunk of hidden units. -/
theorem last_apply (v27 : FVec Ideal S256x1024 .bf16) (w : Vec Ideal S1x1024x1024 .bf16) (r : Fin 256) (k : Fin 1024) :
    k0_pay9 v27 w (ix2 r k) = ∑ x : Fin 1024, v27 (ix2 r x) * w (ix3 0 x k) := by
  pointwise [k0_pay9]

/-- The first three chunks' share of the second product. -/
theorem body_apply (v27 : FVec Ideal S256x1024 .bf16) (v31 : FVec Ideal S256x1024 .f32) (w a b c d: Vec Ideal S1x1024x1024 .bf16)
    (r : Fin 256) (k : Fin 1024) :
    k0_pay8 v27 k0_pay5 v31 k0_pay7 w a b c d (ix2 r k)
      = ∑ x : Fin 1024, max (v31 (ix2 r x)) 0 * max (v31 (ix2 r x)) 0 * w (ix3 0 x k)
        + ∑ x : Fin 1024, max (∑ y : Fin 1024, v27 (ix2 r y) * a (ix3 0 y x)) 0 * max (∑ y : Fin 1024, v27 (ix2 r y) * a (ix3 0 y x)) 0 * b (ix3 0 x k)
        + ∑ x : Fin 1024, max (∑ y : Fin 1024, v27 (ix2 r y) * c (ix3 0 y x)) 0 * max (∑ y : Fin 1024, v27 (ix2 r y) * c (ix3 0 y x)) 0 * d (ix3 0 x k) := by
  pointwise [k0_pay8, k0_pay5, k0_pay7]

/-- The rows written: the gated sum. -/
theorem out_apply (v5 : FVec Ideal S1x1024 .f32) (v7 : FVec Ideal S256x1024 .f32) (v61 : FVec Ideal S256x1024 .f32)
    (v64 : FVec Ideal S256x1024 .f32) (v69 : Vec Ideal S1x1024x1024 .bf16) (r : Fin 256) (n : Fin 1024) :
    k0_pay11 v5 v7 v61 v64 k0_pay10 v69 (ix3 0 r n)
      = v7 (ix2 r n) + v5 (ix2 0 n) * (v61 (ix2 r n)
          + ∑ x : Fin 1024, max (v64 (ix2 r x)) 0 * max (v64 (ix2 r x)) 0 * v69 (ix3 0 x n)) := by
  pointwise [k0_pay11, k0_pay10]

/-- A sub-tile of 256 rows: what the body stores, of the modulation rows, the gain, the rows and the weights' chunks. -/
def tile (sh sc gate gain : Vec Ideal S1x1x1024 .f32) (h : Vec Ideal S1x256x1024 .f32)
    (a b : Fin 4 → Vec Ideal S1x1024x1024 .bf16) : FVec Ideal S1x256x1024 .f32 :=
  k0_pay11 (k0_pay2 gate) (k0_pay3 h)
    (k0_pay8 (k0_pay4 sh sc h gain) k0_pay5 (k0_pay6 sh sc h gain (a 0)) k0_pay7 (b 0) (a 1) (b 1) (a 2) (b 2))
    (k0_pay9 (k0_pay4 sh sc h gain) (a 3)) k0_pay10 (b 3)

/-- The sub-tile is the feed-forward half of each of its rows. -/
theorem tile_apply (sh sc gate gain : Vec Ideal S1x1x1024 .f32) (h : Vec Ideal S1x256x1024 .f32)
    (a b : Fin 4 → Vec Ideal S1x1024x1024 .bf16)
    (w1 : Fin 1024 → Fin 4096 → EReal) (w2 : Fin 4096 → Fin 1024 → EReal)
    (ha : ∀ c k f, a c (ix3 0 k f) = w1 k (unit c f)) (hb : ∀ c f n, b c (ix3 0 f n) = w2 (unit c f) n)
    (r : Fin 256) (n : Fin 1024) :
    tile sh sc gate gain h a b (ix3 0 r n)
      = row (fun k => h (ix3 0 r k)) (fun k => gain (ix3 0 0 k)) (fun k => sc (ix3 0 0 k)) (fun k => sh (ix3 0 0 k))
          (fun k => gate (ix3 0 0 k)) w1 w2 n := by
  unfold tile
  rw [out_apply]
  have h2 : k0_pay2 gate (ix2 0 n) = gate (ix3 0 0 n) := by pointwise [k0_pay2]
  have h3 : k0_pay3 h (ix2 r n) = h (ix3 0 r n) := by pointwise [k0_pay3]
  rw [h2, h3, body_apply]
  unfold row
  rw [sum_chunks]
  simp only [first_apply, last_apply, act_apply, ha, hb]
  rfl

variable (x0 : Vec Ideal S1x768x1024 .f32) (x1 x2 : Vec Ideal S1x1x6144 .f32) (x3 : Vec Ideal S1x1x1024 .f32)
  (x4 : Vec Ideal S1x1024x4096 .bf16) (x5 : Vec Ideal S1x4096x1024 .bf16)

/-- The four chunks of the first weight matrix, as loaded. -/
def chunksA (c : Fin 4) : Vec Ideal S1x1024x1024 .bf16 :=
  match c with
  | 0 => View.ld x4 r0_5
  | 1 => View.ld x4 r0_7
  | 2 => View.ld x4 r0_9
  | 3 => View.ld x4 r0_11

/-- The four chunks of the second weight matrix, as loaded. -/
def chunksB (c : Fin 4) : Vec Ideal S1x1024x1024 .bf16 :=
  match c with
  | 0 => View.ld x5 r0_6
  | 1 => View.ld x5 r0_8
  | 2 => View.ld x5 r0_10
  | 3 => View.ld x5 r0_12

theorem chunksA_apply (c : Fin 4) (k f : Fin 1024) : chunksA x4 c (ix3 0 k f) = x4 (ix3 0 k (unit c f)) := by
  fin_cases c <;> (pointwise [chunksA]; refine congrArg (fun z => x4 (ix3 0 k z)) (Fin.ext ?_); simp [unit])

theorem chunksB_apply (c : Fin 4) (f n : Fin 1024) : chunksB x5 c (ix3 0 f n) = x5 (ix3 0 (unit c f) n) := by
  fin_cases c <;> (pointwise [chunksB]; refine congrArg (fun z => x5 (ix3 0 z n)) (Fin.ext ?_); simp [unit])

/-- The tile of a sub-block of rows under the modulations `md`, from the staged blocks. -/
def sub (md : Vec Ideal S1x1x6144 .f32) (h : Vec Ideal S1x256x1024 .f32) : FVec Ideal S1x256x1024 .f32 :=
  tile (View.ld md r0_0) (View.ld md r0_1) (View.ld md r0_2) (View.ld x3 r0_4) h (chunksA x4) (chunksB x5)

/-- The third store, whose modulations are chosen by the tile's number. -/
def third (j : BitVec 32) : FVec Ideal S1x256x1024 .f32 :=
  k0_pay1 (k0_pay23 (Scalar.cmpi .eq j 2#32) (View.ld x2 r0_2) (View.ld x1 r0_2)) (k0_pay24 (View.ld x0 r0_14))
    (k0_pay28 (k0_pay25 (Scalar.cmpi .eq j 2#32) (k0_pay21 j (View.ld x2 r0_0) (View.ld x1 r0_0)) (k0_pay22 (View.ld x2 r0_1)) (View.ld x1 r0_1) (View.ld x0 r0_14) (View.ld x3 r0_4))
      (k0_pay26 (F := Ideal))
      (k0_pay27 (Scalar.cmpi .eq j 2#32) (k0_pay21 j (View.ld x2 r0_0) (View.ld x1 r0_0)) (k0_pay22 (View.ld x2 r0_1)) (View.ld x1 r0_1) (View.ld x0 r0_14) (View.ld x3 r0_4) (View.ld x4 r0_5))
      (View.ld x5 r0_6) (View.ld x4 r0_7) (View.ld x5 r0_8) (View.ld x4 r0_9) (View.ld x5 r0_10))
    (k0_pay29 (k0_pay25 (Scalar.cmpi .eq j 2#32) (k0_pay21 j (View.ld x2 r0_0) (View.ld x1 r0_0)) (k0_pay22 (View.ld x2 r0_1)) (View.ld x1 r0_1) (View.ld x0 r0_14) (View.ld x3 r0_4)) (View.ld x4 r0_11))
    (View.ld x5 r0_12)

/-- In a batch's last tile the third sub-tile has the context's modulations. -/
theorem third_ctx : third x0 x1 x2 x3 x4 x5 2#32 = sub x3 x4 x5 x2 (View.ld x0 r0_14) := rfl

/-- In the other tiles it has the latent rows' modulations. -/
theorem third_lat (j : BitVec 32) (hj : j ≠ 2#32) : third x0 x1 x2 x3 x4 x5 j = sub x3 x4 x5 x1 (View.ld x0 r0_14) := by
  have e : Scalar.cmpi .eq j 2#32 = 0#1 := by
    simp only [Scalar.cmpi, IntOp.cmpi]
    rw [beq_eq_false_iff_ne.mpr hj]
    rfl
  unfold third k0_pay21
  simp only [e]
  rfl

/-- The body's three stores are one function of the three sub-blocks of rows. -/
theorem out_eq (i : grid0.Coords) : out0_6 i x0 x1 x2 x3 x4 x5 = View.canon [⟨r0_14, third x0 x1 x2 x3 x4 x5 (BitVec.ofNat 32 (i 1).val)⟩,
    ⟨r0_13, sub x3 x4 x5 x1 (View.ld x0 r0_13)⟩, ⟨r0_3, sub x3 x4 x5 x1 (View.ld x0 r0_3)⟩] := rfl

/-- A row of the tile under the modulations `md`, from the staged blocks. -/
def blockRow (md : Vec Ideal S1x1x6144 .f32) (r : Fin 768) (n : Fin 1024) : EReal :=
  row (fun k => x0 (ix3 0 r k)) (fun k => x3 (ix3 0 0 k)) (fun k => md (ix3 0 0 (at4 k))) (fun k => md (ix3 0 0 (at3 k)))
    (fun k => md (ix3 0 0 (at5 k))) (fun k f => x4 (ix3 0 k f)) (fun f n => x5 (ix3 0 f n)) n

theorem sub_apply (md : Vec Ideal S1x1x6144 .f32) (h : Vec Ideal S1x256x1024 .f32) (r : Fin 768) (r' : Fin 256) (n : Fin 1024)
    (hh : ∀ k, h (ix3 0 r' k) = x0 (ix3 0 r k)) :
    sub x3 x4 x5 md h (ix3 0 r' n) = blockRow x0 x3 x4 x5 md r n := by
  unfold sub
  rw [tile_apply _ _ _ _ _ _ _ (fun k f => x4 (ix3 0 k f)) (fun f n => x5 (ix3 0 f n))
    (fun c k f => chunksA_apply x4 c k f) (fun c k f => chunksB_apply x5 c k f)]
  unfold blockRow
  simp only [hh]
  pointwise []
  rfl

/-- What the body leaves in the output's staging buffer, read at a row: a context row (the last 256 of a batch's last
    tile) has the context's modulations, any other row the latent rows'. -/
theorem out_at (i : grid0.Coords) (r : Fin 768) (n : Fin 1024) : out0_6 i x0 x1 x2 x3 x4 x5 (ix3 0 r n)
    = blockRow x0 x3 x4 x5 (if (i 1).val = 2 ∧ 512 ≤ r.val then x2 else x1) r n := by
  rw [out_eq]
  canon_tiles y h
  all_goals
    idx_vars y
    obtain rfl : y0 = 0 := Fin.ext h0.symm
    obtain rfl : n = y2 := Fin.ext h2
  · have hr : 512 ≤ r.val := by omega
    have key : ∀ md, sub x3 x4 x5 md (View.ld x0 r0_14) (ix3 0 y1 n) = blockRow x0 x3 x4 x5 md r n := fun md => by
      refine sub_apply x0 x3 x4 x5 md _ r y1 n fun k => ?_
      pointwise []
      refine congrArg (fun z => x0 (ix3 0 z k)) (Fin.ext ?_)
      simp [h1]
    by_cases hi : (i 1).val = 2
    · rw [if_pos ⟨hi, hr⟩, hi, third_ctx, key]
    · rw [if_neg (fun h => hi h.1), third_lat, key]
      intro h
      have h' := congrArg BitVec.toNat h
      have hb : (i 1).val < 3 := (i 1).isLt
      simp at h'
      omega
  all_goals
    rw [if_neg (by omega)]
    refine sub_apply x0 x3 x4 x5 x1 _ r y1 n fun k => ?_
    pointwise []
    refine congrArg (fun z => x0 (ix3 0 z k)) (Fin.ext ?_)
    simp [h1]

end Cert.FfnTile
end
-- ==== Proof.FfnRows.lean ====
/-
  A layer's feed-forward reference, read at an index.
-/
module

public import proofs.«01_k».proof.Proof.Gen.FfnRefIdeal.Read
public import proofs.«01_k».proof.Proof.Mlp

@[expose] public section

set_option maxRecDepth 16384

noncomputable section

namespace Cert.FfnRows

open Cert.FfnRefIdeal Cert.FfnRefIdeal.Gen Cert.FfnRefIdeal.Read Idealize.ShloMosaic Idealize.ShloMosaic.TcCoe Idealize.SL.Sem
open Cert.Mlp

variable (x0 : FVec Ideal S8x2304x1024 .f32) (x1 : FVec Ideal S4x16x6144 .f32) (x2 : FVec Ideal S4x2x1024 .f32)
  (x3 : FVec Ideal S4x1024x4096 .f32) (x4 : FVec Ideal S4x4096x1024 .f32)

/-- The token of a latent row. -/
def lat (r : Fin 2048) : Fin 2304 := ⟨r.val, by omega⟩

/-- The token of a context row. -/
def ctx (r : Fin 256) : Fin 2304 := ⟨2048 + r.val, by omega⟩

/-- The modulated latent rows. -/
theorem lat_act (b : Fin 8) (r : Fin 2048) (k : Fin 1024) : val_main_v39 (F := Ideal) x0 x1 x2 (ix3 b r k)
    = act (fun k => x0 (ix3 b (lat r) k)) (fun k => x2 (ix3 0 1 k)) (fun k => x1 (ix3 0 (b.castLE (by decide)) (at4 k))) (fun k => x1 (ix3 0 (b.castLE (by decide)) (at3 k))) k := by
  rw [← act_eq]
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v9, val_main_v8, val_main_v4, val_main_v3, val_main_v2, val_main_v0, val_main_cst, val_main_cst_0, val_main_cst_1, val_main_cst_2]
  simp only [lat, ctx]
  rfl

/-- The hidden units of the latent rows. -/
theorem lat_hid (b : Fin 8) (r : Fin 2048) (f : Fin 4096) : val_main_v46 (F := Ideal) x0 x1 x2 x3 (ix3 b r f)
    = hid (fun k => val_main_v39 (F := Ideal) x0 x1 x2 (ix3 b r k)) (fun k f => x3 (ix3 0 k f)) f := by
  pointwise [val_main_v46, val_main_v45, val_main_v44, val_main_v41, val_main_v40, val_main_call0_v0, val_main_call0_cst]
  rfl

/-- The latent rows after the feed-forward half. -/
theorem lat_row (b : Fin 8) (r : Fin 2048) (n : Fin 1024) : val_main_v50 (F := Ideal) x0 x1 x2 x3 x4 (ix3 b r n)
    = row (fun k => x0 (ix3 b (lat r) k)) (fun k => x2 (ix3 0 1 k)) (fun k => x1 (ix3 0 (b.castLE (by decide)) (at4 k))) (fun k => x1 (ix3 0 (b.castLE (by decide)) (at3 k)))
      (fun k => x1 (ix3 0 (b.castLE (by decide)) (at5 k))) (fun k f => x3 (ix3 0 k f)) (fun f n => x4 (ix3 0 f n)) n := by
  pointwise [val_main_v50, val_main_v49, val_main_v48, val_main_v47, val_main_v43, val_main_v42, val_main_v10, val_main_v4, val_main_v3, val_main_v2, val_main_v0]
  simp only [lat_hid, lat_act, lat, ctx]
  rfl

/-- The modulated context rows. -/
theorem ctx_act (b : Fin 8) (r : Fin 256) (k : Fin 1024) : val_main_v73 (F := Ideal) x0 x1 x2 (ix3 b r k)
    = act (fun k => x0 (ix3 b (ctx r) k)) (fun k => x2 (ix3 0 1 k)) (fun k => x1 (ix3 0 8 (at4 k))) (fun k => x1 (ix3 0 8 (at3 k))) k := by
  rw [← act_eq]
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v17, val_main_v16, val_main_v12, val_main_v11, val_main_v1, val_main_cst_3, val_main_cst_4, val_main_cst_5, val_main_cst_6]
  simp only [lat, ctx]
  rfl

/-- The hidden units of the context rows. -/
theorem ctx_hid (b : Fin 8) (r : Fin 256) (f : Fin 4096) : val_main_v80 (F := Ideal) x0 x1 x2 x3 (ix3 b r f)
    = hid (fun k => val_main_v73 (F := Ideal) x0 x1 x2 (ix3 b r k)) (fun k f => x3 (ix3 0 k f)) f := by
  pointwise [val_main_v80, val_main_v79, val_main_v78, val_main_v75, val_main_v74, val_main_call1_v0, val_main_call1_cst]
  rfl

/-- The context rows after the feed-forward half. -/
theorem ctx_row (b : Fin 8) (r : Fin 256) (n : Fin 1024) : val_main_v85 (F := Ideal) x0 x1 x2 x3 x4 (ix3 b r n)
    = row (fun k => x0 (ix3 b (ctx r) k)) (fun k => x2 (ix3 0 1 k)) (fun k => x1 (ix3 0 8 (at4 k))) (fun k => x1 (ix3 0 8 (at3 k)))
      (fun k => x1 (ix3 0 8 (at5 k))) (fun k f => x3 (ix3 0 k f)) (fun f n => x4 (ix3 0 f n)) n := by
  pointwise [val_main_v85, val_main_v84, val_main_v83, val_main_v82, val_main_v81, val_main_v77, val_main_v76, val_main_v18, val_main_v12, val_main_v11, val_main_v1]
  simp only [ctx_hid, ctx_act, lat, ctx]
  rfl

/-- The result, of the arguments: context rows under the context's modulations, latent rows under their batch's. -/
theorem res_at (b : Fin 8) (R : Fin 2304) (n : Fin 1024) : val_main_v86 (F := Ideal) x0 x1 x2 x3 x4 (ix3 b R n)
    = row (fun k => x0 (ix3 b R k)) (fun k => x2 (ix3 0 1 k)) (fun k => x1 (ix3 0 (if R.val < 2048 then b.castLE (by decide) else 8) (at4 k)))
      (fun k => x1 (ix3 0 (if R.val < 2048 then b.castLE (by decide) else 8) (at3 k)))
      (fun k => x1 (ix3 0 (if R.val < 2048 then b.castLE (by decide) else 8) (at5 k))) (fun k f => x3 (ix3 0 k f)) (fun f n => x4 (ix3 0 f n)) n := by
  pointwise [val_main_v86]
  by_cases h : R.val < 2048
  · simp only [dif_pos h, if_pos h]
    exact lat_row x0 x1 x2 x3 x4 b ⟨R.val, h⟩ n
  · simp only [dif_neg h, if_neg h]
    refine (ctx_row x0 x1 x2 x3 x4 b ⟨R.val - 2048, by omega⟩ n).trans ?_
    have e : ctx ⟨R.val - 2048, by omega⟩ = R := Fin.ext (by simp only [ctx]; omega)
    rw [e]

end Cert.FfnRows
end
-- ==== Proof.FfnKernel.lean ====
/-
  A layer's feed-forward kernel: its result array is the reference's, of the same arguments.
-/
module

public import proofs.«01_k».proof.Proof.Gen.FfnIdeal.Value
public import proofs.«01_k».proof.Proof.FfnTile
public import proofs.«01_k».proof.Proof.FfnRows

@[expose] public section

set_option maxRecDepth 16384

noncomputable section

namespace Cert.FfnKernel

open Cert.FfnIdeal Cert.FfnIdeal.Gen Idealize.ShloMosaic Idealize.ShloMosaic.TcCoe Idealize.SL.Sem
open Cert.Mlp

variable (m : (ℓ : Loc nD τ sig) → Buf (Elt Ideal) ℓ)

/-- The windows' index maps at a grid point. -/
theorem idx : ∀ t : Fin cfg0.N, win0_0.index t = ![t.val / 3, t.val % 3, 0] ∧ win0_1.index t = ![t.val / 3, 0, 0]
    ∧ win0_2.index t = ![8, 0, 0] ∧ win0_3.index t = ![1, 0, 0] ∧ win0_4.index t = ![0, 0, 0] ∧ win0_5.index t = ![0, 0, 0]
    ∧ win0_6.index t = ![t.val / 3, t.val % 3, 0] ∧ t.val / 3 < 8 ∧ (grid0.coords t 1).val = t.val % 3 :=
  (by decide +kernel : ∀ t : Fin grid0.N, win0_0.index t = ![t.val / 3, t.val % 3, 0] ∧ win0_1.index t = ![t.val / 3, 0, 0]
    ∧ win0_2.index t = ![8, 0, 0] ∧ win0_3.index t = ![1, 0, 0] ∧ win0_4.index t = ![0, 0, 0] ∧ win0_5.index t = ![0, 0, 0]
    ∧ win0_6.index t = ![t.val / 3, t.val % 3, 0] ∧ t.val / 3 < 8 ∧ (grid0.coords t 1).val = t.val % 3)

theorem iblk0_at (c : Dev nD) (t : Fin cfg0.N) (b : Fin 8) (R : Fin 2304) (r : Fin 768) (k : Fin 1024) (hb : b.val = t.val / 3)
    (hR : R.val = t.val % 3 * 768 + r.val) :
    iblk m c 0 t (ix3 0 r k) = m ((c : Thread nD τ).loc main_arg0) (ix3 b R k) := by
  blk_ext [iblk, V, idx t]

theorem iblk1_at (c : Dev nD) (t : Fin cfg0.N) (b : Fin 16) (k : Fin 6144) (hb : b.val = t.val / 3) :
    iblk m c 1 t (ix3 0 0 k) = m ((c : Thread nD τ).loc main_arg1) (ix3 0 b k) := by
  have h8 := (idx t).2.2.2.2.2.2.2.1
  blk_simp [iblk, idx t]
  entry_read
  pointwise []
  blk_ext [idx t]

theorem iblk2_at (c : Dev nD) (t : Fin cfg0.N) (k : Fin 6144) :
    iblk m c 2 t (ix3 0 0 k) = m ((c : Thread nD τ).loc main_arg1) (ix3 0 8 k) := by
  blk_simp [iblk, idx t]
  entry_read
  pointwise []
  blk_ext [idx t]

theorem iblk3_at (c : Dev nD) (t : Fin cfg0.N) (k : Fin 1024) :
    iblk m c 3 t (ix3 0 0 k) = m ((c : Thread nD τ).loc main_arg2) (ix3 0 1 k) := by
  blk_simp [iblk, idx t]
  entry_read
  pointwise []
  blk_ext [idx t]

theorem iblk4_at (c : Dev nD) (t : Fin cfg0.N) (k : Fin 1024) (f : Fin 4096) :
    iblk m c 4 t (ix3 0 k f) = m ((c : Thread nD τ).loc main_arg3) (ix3 0 k f) := by
  blk_simp [iblk, idx t]
  entry_read
  pointwise []
  blk_ext [idx t]

theorem iblk5_at (c : Dev nD) (t : Fin cfg0.N) (f : Fin 4096) (n : Fin 1024) :
    iblk m c 5 t (ix3 0 f n) = m ((c : Thread nD τ).loc main_arg4) (ix3 0 f n) := by
  blk_simp [iblk, idx t]
  entry_read
  pointwise []
  blk_ext [idx t]

/-- The reference's result, of the kernel's arguments. -/
def want (c : Dev nD) : FVec Ideal S8x2304x1024 .f32 :=
  Cert.FfnRefIdeal.Read.val_main_v86 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A row of a tile is the reference's row it sits at. -/
theorem point (c : Dev nD) (t : Fin cfg0.N) (b : Fin 8) (R : Fin 2304) (r : Fin 768) (n : Fin 1024) (hb : b.val = t.val / 3)
    (hR : R.val = t.val % 3 * 768 + r.val) :
    out0_6 (grid0.coords t) (iblk m c 0 t) (iblk m c 1 t) (iblk m c 2 t) (iblk m c 3 t) (iblk m c 4 t) (iblk m c 5 t) (ix3 0 r n) = want m c (ix3 b R n) := by
  refine (FfnTile.out_at _ _ _ _ _ _ _ r n).trans ?_
  refine Eq.trans ?_ (FfnRows.res_at _ _ _ _ _ b R n).symm
  have hc := (idx t).2.2.2.2.2.2.2.2
  have hr := r.isLt
  unfold FfnTile.blockRow
  by_cases h : (grid0.coords t 1).val = 2 ∧ 512 ≤ r.val
  · have h' : ¬ R.val < 2048 := by omega
    simp only [if_pos h, if_neg h', fun k => iblk0_at m c t b R r k hb hR, iblk2_at m c t, iblk3_at m c t, iblk4_at m c t, iblk5_at m c t]
  · have h' : R.val < 2048 := by omega
    simp only [if_neg h, if_pos h', fun k => iblk0_at m c t b R r k hb hR, fun k => iblk1_at m c t (b.castLE (by decide)) k hb, iblk3_at m c t, iblk4_at m c t, iblk5_at m c t]

/-- The result array after the run. -/
theorem final (c : Dev nD) : (dats m 0 c).arrAt 6 (cfgs 0).N = want m c := by
  refine (dats m 0 c).arrAt_eq_of_covers 6 _ (by decide +kernel) fun t _ y => ?_
  blk_simp
  rw [after0_6]
  idx_vars y
  obtain rfl : y0 = 0 := Fin.ext (by omega)
  have hi := (idx t).2.2.2.2.2.2
  refine (point m c t ⟨t.val / 3, hi.2.1⟩ ⟨t.val % 3 * 768 + y1.val, by omega⟩ y1 y2 rfl rfl).trans ?_
  blk_ext [idx t]

end Cert.FfnKernel
end
-- ==== Proof.FinalTile.lean ====
/-
  One tile of the last layer's feed-forward kernel, read row by row: each of the body's four sub-tiles of 256 rows holds
  `Mlp.normed (Mlp.row …)` of its rows.
-/
module

public import proofs.«01_k».proof.Proof.Gen.FfnFinalIdeal.Frame
public import proofs.«01_k».proof.Proof.Mlp
public import Idealize.ShloMosaic.Lib.Pipeline.ValueKit

@[expose] public section

set_option maxRecDepth 16384

noncomputable section

namespace Cert.FinalTile

open Cert.FfnFinalIdeal Cert.FfnFinalIdeal.Gen Idealize.ShloMosaic Idealize.ShloMosaic.TcCoe Idealize.SL.Sem
open Cert.Mlp

/-- The modulated rows of a sub-tile. -/
theorem act_apply (v0 v2 : Vec Ideal S1x1x1024 .f32) (v6 : Vec Ideal S1x256x1024 .f32) (v8 : Vec Ideal S1x1x1024 .f32)
    (r : Fin 256) (k : Fin 1024) :
    k0_pay4 v0 v2 v6 v8 (ix2 r k)
      = act (fun k => v6 (ix3 0 r k)) (fun k => v8 (ix3 0 0 k)) (fun k => v2 (ix3 0 0 k)) (fun k => v0 (ix3 0 0 k)) k := by
  pointwise [k0_pay4, k0_pay3]
  rfl

theorem first_apply (v0 v2 : Vec Ideal S1x1x1024 .f32) (v6 : Vec Ideal S1x256x1024 .f32) (v8 : Vec Ideal S1x1x1024 .f32)
    (w : Vec Ideal S1x1024x1024 .bf16) (r : Fin 256) (f : Fin 1024) :
    k0_pay6 v0 v2 v6 v8 w (ix2 r f) = ∑ k, k0_pay4 v0 v2 v6 v8 (ix2 r k) * w (ix3 0 k f) := by
  pointwise [k0_pay6]

/-- A first product of a sub-tile with one chunk of hidden units. -/
theorem last_apply (v27 : FVec Ideal S256x1024 .bf16) (w : Vec Ideal S1x1024x1024 .bf16) (r : Fin 256) (k : Fin 1024) :
    k0_pay9 v27 w (ix2 r k) = ∑ x : Fin 1024, v27 (ix2 r x) * w (ix3 0 x k) := by
  pointwise [k0_pay9]

/-- The first three chunks' share of the second product. -/
theorem body_apply (v27 : FVec Ideal S256x1024 .bf16) (v31 : FVec Ideal S256x1024 .f32) (w a b c d: Vec Ideal S1x1024x1024 .bf16)
    (r : Fin 256) (k : Fin 1024) :
    k0_pay8 v27 k0_pay5 v31 k0_pay7 w a b c d (ix2 r k)
      = ∑ x : Fin 1024, max (v31 (ix2 r x)) 0 * max (v31 (ix2 r x)) 0 * w (ix3 0 x k)
        + ∑ x : Fin 1024, max (∑ y : Fin 1024, v27 (ix2 r y) * a (ix3 0 y x)) 0 * max (∑ y : Fin 1024, v27 (ix2 r y) * a (ix3 0 y x)) 0 * b (ix3 0 x k)
        + ∑ x : Fin 1024, max (∑ y : Fin 1024, v27 (ix2 r y) * c (ix3 0 y x)) 0 * max (∑ y : Fin 1024, v27 (ix2 r y) * c (ix3 0 y x)) 0 * d (ix3 0 x k) := by
  pointwise [k0_pay8, k0_pay5, k0_pay7]

/-- The rows written, of the gated sum. -/
theorem out_apply (v5 : FVec Ideal S1x1024 .f32) (v7 : FVec Ideal S256x1024 .f32) (v61 : FVec Ideal S256x1024 .f32)
    (v64 : FVec Ideal S256x1024 .f32) (v69 : Vec Ideal S1x1024x1024 .bf16) (v86 : Vec Ideal S1x1024 .f32) (r : Fin 256) (k : Fin 1024) :
    k0_pay11 v5 v7 v61 v64 k0_pay10 v69 v86 (ix3 0 r k)
      = normed (fun n => v7 (ix2 r n) + v5 (ix2 0 n) * (v61 (ix2 r n)
          + ∑ x : Fin 1024, max (v64 (ix2 r x)) 0 * max (v64 (ix2 r x)) 0 * v69 (ix3 0 x n))) (fun n => v86 (ix2 0 n)) k := by
  pointwise [k0_pay11, k0_pay10]
  rfl

/-- A sub-tile of 256 rows: what the body stores, of the modulation rows, the gain, the rows and the weights' chunks. -/
def tile (sh sc gate gain : Vec Ideal S1x1x1024 .f32) (h : Vec Ideal S1x256x1024 .f32)
    (a b : Fin 4 → Vec Ideal S1x1024x1024 .bf16) (fg : Vec Ideal S1x1024 .f32) : FVec Ideal S1x256x1024 .f32 :=
  k0_pay11 (k0_pay2 gate) (k0_pay3 h)
    (k0_pay8 (k0_pay4 sh sc h gain) k0_pay5 (k0_pay6 sh sc h gain (a 0)) k0_pay7 (b 0) (a 1) (b 1) (a 2) (b 2))
    (k0_pay9 (k0_pay4 sh sc h gain) (a 3)) k0_pay10 (b 3) fg

/-- The sub-tile is the feed-forward half of each of its rows, normed. -/
theorem tile_apply (sh sc gate gain : Vec Ideal S1x1x1024 .f32) (h : Vec Ideal S1x256x1024 .f32)
    (a b : Fin 4 → Vec Ideal S1x1024x1024 .bf16) (fg : Vec Ideal S1x1024 .f32)
    (w1 : Fin 1024 → Fin 4096 → EReal) (w2 : Fin 4096 → Fin 1024 → EReal)
    (ha : ∀ c k f, a c (ix3 0 k f) = w1 k (unit c f)) (hb : ∀ c f n, b c (ix3 0 f n) = w2 (unit c f) n)
    (r : Fin 256) (n : Fin 1024) :
    tile sh sc gate gain h a b fg (ix3 0 r n)
      = normed (row (fun k => h (ix3 0 r k)) (fun k => gain (ix3 0 0 k)) (fun k => sc (ix3 0 0 k)) (fun k => sh (ix3 0 0 k))
          (fun k => gate (ix3 0 0 k)) w1 w2) (fun k => fg (ix2 0 k)) n := by
  unfold tile
  rw [out_apply]
  refine congrArg (fun o => normed o _ n) (funext fun n => ?_)
  have h2 : k0_pay2 gate (ix2 0 n) = gate (ix3 0 0 n) := by pointwise [k0_pay2]
  have h3 : k0_pay3 h (ix2 r n) = h (ix3 0 r n) := by pointwise [k0_pay3]
  rw [h2, h3, body_apply]
  unfold row
  rw [sum_chunks]
  simp only [first_apply, last_apply, act_apply, ha, hb]
  rfl

variable (x0 : Vec Ideal S1x1024x1024 .f32) (x1 : Vec Ideal S1x1x6144 .f32) (x2 : Vec Ideal S1x1x1024 .f32)
  (x3 : Vec Ideal S1x1024x4096 .bf16) (x4 : Vec Ideal S1x4096x1024 .bf16) (x5 : Vec Ideal S1x1024 .f32)

/-- The four chunks of the first weight matrix, as loaded. -/
def chunksA (c : Fin 4) : Vec Ideal S1x1024x1024 .bf16 :=
  match c with
  | 0 => View.ld x3 r0_5
  | 1 => View.ld x3 r0_7
  | 2 => View.ld x3 r0_9
  | 3 => View.ld x3 r0_11

/-- The four chunks of the second weight matrix, as loaded. -/
def chunksB (c : Fin 4) : Vec Ideal S1x1024x1024 .bf16 :=
  match c with
  | 0 => View.ld x4 r0_6
  | 1 => View.ld x4 r0_8
  | 2 => View.ld x4 r0_10
  | 3 => View.ld x4 r0_12

theorem chunksA_apply (c : Fin 4) (k f : Fin 1024) : chunksA x3 c (ix3 0 k f) = x3 (ix3 0 k (unit c f)) := by
  fin_cases c <;> (pointwise [chunksA]; refine congrArg (fun z => x3 (ix3 0 k z)) (Fin.ext ?_); simp [unit])

theorem chunksB_apply (c : Fin 4) (f n : Fin 1024) : chunksB x4 c (ix3 0 f n) = x4 (ix3 0 (unit c f) n) := by
  fin_cases c <;> (pointwise [chunksB]; refine congrArg (fun z => x4 (ix3 0 z n)) (Fin.ext ?_); simp [unit])

/-- The tile of a sub-block of rows, from the staged blocks. -/
def sub (h : Vec Ideal S1x256x1024 .f32) : FVec Ideal S1x256x1024 .f32 :=
  tile (View.ld x1 r0_0) (View.ld x1 r0_1) (View.ld x1 r0_2) (View.ld x2 r0_4) h (chunksA x3) (chunksB x4) (View.ld x5 r0_13)

/-- The body's four stores are one function of the four sub-blocks of rows. -/
theorem out_eq : out0_6 x0 x1 x2 x3 x4 x5 = View.canon [⟨r0_16, sub x1 x2 x3 x4 x5 (View.ld x0 r0_16)⟩,
    ⟨r0_15, sub x1 x2 x3 x4 x5 (View.ld x0 r0_15)⟩, ⟨r0_14, sub x1 x2 x3 x4 x5 (View.ld x0 r0_14)⟩,
    ⟨r0_3, sub x1 x2 x3 x4 x5 (View.ld x0 r0_3)⟩] := rfl

/-- A row of the tile, from the staged blocks. -/
def blockRow (r n : Fin 1024) : EReal :=
  normed (row (fun k => x0 (ix3 0 r k)) (fun k => x2 (ix3 0 0 k)) (fun k => x1 (ix3 0 0 (at4 k))) (fun k => x1 (ix3 0 0 (at3 k)))
    (fun k => x1 (ix3 0 0 (at5 k))) (fun k f => x3 (ix3 0 k f)) (fun f n => x4 (ix3 0 f n))) (fun k => x5 (ix2 0 k)) n

theorem sub_apply (h : Vec Ideal S1x256x1024 .f32) (r : Fin 1024) (r' : Fin 256) (n : Fin 1024)
    (hh : ∀ k, h (ix3 0 r' k) = x0 (ix3 0 r k)) :
    sub x1 x2 x3 x4 x5 h (ix3 0 r' n) = blockRow x0 x1 x2 x3 x4 x5 r n := by
  unfold sub
  rw [tile_apply _ _ _ _ _ _ _ _ (fun k f => x3 (ix3 0 k f)) (fun f n => x4 (ix3 0 f n))
    (fun c k f => chunksA_apply x3 c k f) (fun c k f => chunksB_apply x4 c k f)]
  unfold blockRow
  simp only [hh]
  pointwise []
  rfl

/-- What the body leaves in the output's staging buffer, read at a row. -/
theorem out_at (r n : Fin 1024) : out0_6 x0 x1 x2 x3 x4 x5 (ix3 0 r n) = blockRow x0 x1 x2 x3 x4 x5 r n := by
  rw [out_eq]
  canon_tiles y h
  all_goals
    idx_vars y
    obtain rfl : y0 = 0 := Fin.ext h0.symm
    obtain rfl : n = y2 := Fin.ext h2
    refine sub_apply x0 x1 x2 x3 x4 x5 _ r y1 n fun k => ?_
    pointwise []
    refine congrArg (fun z => x0 (ix3 0 z k)) (Fin.ext ?_)
    simp [h1]

end Cert.FinalTile
end
-- ==== Proof.FinalRef.lean ====
/-
  The last layer's feed-forward reference, read at an index.
-/
module

public import proofs.«01_k».proof.Proof.Gen.FfnFinalRefIdeal.Read
public import proofs.«01_k».proof.Proof.Mlp

@[expose] public section

set_option maxRecDepth 16384

noncomputable section

namespace Cert.FinalRef

open Cert.FfnFinalRefIdeal Cert.FfnFinalRefIdeal.Gen Cert.FfnFinalRefIdeal.Read Idealize.ShloMosaic Idealize.ShloMosaic.TcCoe Idealize.SL.Sem
open Cert.Mlp

variable (x0 : FVec Ideal S8x2048x1024 .f32) (x1 : FVec Ideal S4x16x6144 .f32) (x2 : FVec Ideal S4x2x1024 .f32) (x3 : FVec Ideal S1024 .f32)
  (x4 : FVec Ideal S4x1024x4096 .f32) (x5 : FVec Ideal S4x4096x1024 .f32)

/-- The modulated rows. -/
theorem act_apply (b : Fin 8) (r : Fin 2048) (k : Fin 1024) : val_main_v29 (F := Ideal) x0 x1 x2 (ix3 b r k)
    = act (fun k => x0 (ix3 b r k)) (fun k => x2 (ix3 3 1 k)) (fun k => x1 (ix3 3 (b.castLE (by decide)) (at4 k))) (fun k => x1 (ix3 3 (b.castLE (by decide)) (at3 k))) k := by
  rw [← act_eq]
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v7, val_main_v6, val_main_v2, val_main_v1, val_main_v0, val_main_cst, val_main_cst_0, val_main_cst_1, val_main_cst_2]
  rfl

/-- The hidden units. -/
theorem hid_apply (b : Fin 8) (r : Fin 2048) (f : Fin 4096) : val_main_v36 (F := Ideal) x0 x1 x2 x4 (ix3 b r f)
    = hid (fun k => val_main_v29 (F := Ideal) x0 x1 x2 (ix3 b r k)) (fun k f => x4 (ix3 3 k f)) f := by
  pointwise [val_main_v36, val_main_v35, val_main_v34, val_main_v31, val_main_v30, val_main_call0_v0, val_main_call0_cst]
  rfl

/-- The rows after the feed-forward half. -/
theorem row_apply (b : Fin 8) (r : Fin 2048) (n : Fin 1024) : val_main_v40 (F := Ideal) x0 x1 x2 x4 x5 (ix3 b r n)
    = row (fun k => x0 (ix3 b r k)) (fun k => x2 (ix3 3 1 k)) (fun k => x1 (ix3 3 (b.castLE (by decide)) (at4 k))) (fun k => x1 (ix3 3 (b.castLE (by decide)) (at3 k)))
      (fun k => x1 (ix3 3 (b.castLE (by decide)) (at5 k))) (fun k f => x4 (ix3 3 k f)) (fun f n => x5 (ix3 3 f n)) n := by
  pointwise [val_main_v40, val_main_v39, val_main_v38, val_main_v37, val_main_v33, val_main_v32, val_main_v8, val_main_v2, val_main_v1, val_main_v0]
  simp only [hid_apply, act_apply]
  rfl

/-- The result. -/
theorem out_apply (b : Fin 8) (r : Fin 2048) (n : Fin 1024) : val_main_v53 (F := Ideal) x0 x1 x2 x3 x4 x5 (ix3 b r n)
    = normed (fun n => val_main_v40 (F := Ideal) x0 x1 x2 x4 x5 (ix3 b r n)) (fun n => x3 (ix1 n)) n := by
  pointwise [val_main_v53, val_main_v52, val_main_v51, val_main_v50, val_main_v49, val_main_v48, val_main_v47, val_main_v46, val_main_v45, val_main_v44, val_main_v43, val_main_v42, val_main_v41, val_main_cst_3, val_main_cst_4, val_main_cst_5]
  rfl

/-- The result, of the arguments. -/
theorem res_at (b : Fin 8) (r : Fin 2048) (n : Fin 1024) : val_main_v53 (F := Ideal) x0 x1 x2 x3 x4 x5 (ix3 b r n)
    = normed (row (fun k => x0 (ix3 b r k)) (fun k => x2 (ix3 3 1 k)) (fun k => x1 (ix3 3 (b.castLE (by decide)) (at4 k))) (fun k => x1 (ix3 3 (b.castLE (by decide)) (at3 k)))
      (fun k => x1 (ix3 3 (b.castLE (by decide)) (at5 k))) (fun k f => x4 (ix3 3 k f)) (fun f n => x5 (ix3 3 f n))) (fun n => x3 (ix1 n)) n := by
  rw [out_apply]
  simp only [row_apply]

end Cert.FinalRef
end
-- ==== Proof.FinalKernel.lean ====
/-
  The last layer's feed-forward kernel: its result array is the reference's, of the same arguments.
-/
module

public import proofs.«01_k».proof.Proof.Gen.FfnFinalIdeal.Value
public import proofs.«01_k».proof.Proof.FinalTile
public import proofs.«01_k».proof.Proof.FinalRef

@[expose] public section

set_option maxRecDepth 16384

noncomputable section

namespace Cert.FinalKernel

open Cert.FfnFinalIdeal Cert.FfnFinalIdeal.Gen Idealize.ShloMosaic Idealize.ShloMosaic.TcCoe Idealize.SL.Sem
open Cert.Mlp

variable (m : (ℓ : Loc nD τ sig) → Buf (Elt Ideal) ℓ)

/-- The windows' index maps at a grid point. -/
theorem idx : ∀ t : Fin cfg0.N, win0_0.index t = ![t.val / 2, t.val % 2, 0] ∧ win0_1.index t = ![48 + t.val / 2, 0, 0]
    ∧ win0_2.index t = ![7, 0, 0] ∧ win0_3.index t = ![3, 0, 0] ∧ win0_4.index t = ![3, 0, 0] ∧ win0_5.index t = ![0, 0]
    ∧ win0_6.index t = ![t.val / 2, t.val % 2, 0] ∧ t.val / 2 < 8 :=
  (by decide +kernel : ∀ t : Fin grid0.N, win0_0.index t = ![t.val / 2, t.val % 2, 0] ∧ win0_1.index t = ![48 + t.val / 2, 0, 0]
    ∧ win0_2.index t = ![7, 0, 0] ∧ win0_3.index t = ![3, 0, 0] ∧ win0_4.index t = ![3, 0, 0] ∧ win0_5.index t = ![0, 0]
    ∧ win0_6.index t = ![t.val / 2, t.val % 2, 0] ∧ t.val / 2 < 8)

theorem iblk0_at (c : Dev nD) (t : Fin cfg0.N) (b : Fin 8) (R : Fin 2048) (r k : Fin 1024) (hb : b.val = t.val / 2) (hR : R.val = t.val % 2 * 1024 + r.val) :
    iblk m c 0 t (ix3 0 r k) = m ((c : Thread nD τ).loc main_arg0) (ix3 b R k) := by
  blk_ext [iblk, V, idx t]

theorem iblk1_at (c : Dev nD) (t : Fin cfg0.N) (b : Fin 16) (k : Fin 6144) (hb : b.val = t.val / 2) :
    iblk m c 1 t (ix3 0 0 k) = m ((c : Thread nD τ).loc main_arg1) (ix3 3 b k) := by
  blk_simp [iblk, idx t]
  entry_read
  pointwise []
  blk_ext [idx t]

theorem iblk2_at (c : Dev nD) (t : Fin cfg0.N) (k : Fin 1024) :
    iblk m c 2 t (ix3 0 0 k) = m ((c : Thread nD τ).loc main_arg2) (ix3 3 1 k) := by
  blk_simp [iblk, idx t]
  entry_read
  pointwise []
  blk_ext [idx t]

theorem iblk3_at (c : Dev nD) (t : Fin cfg0.N) (k : Fin 1024) (f : Fin 4096) :
    iblk m c 3 t (ix3 0 k f) = m ((c : Thread nD τ).loc main_arg4) (ix3 3 k f) := by
  blk_simp [iblk, idx t]
  entry_read
  pointwise []
  blk_ext [idx t]

theorem iblk4_at (c : Dev nD) (t : Fin cfg0.N) (f : Fin 4096) (n : Fin 1024) :
    iblk m c 4 t (ix3 0 f n) = m ((c : Thread nD τ).loc main_arg5) (ix3 3 f n) := by
  blk_simp [iblk, idx t]
  entry_read
  pointwise []
  blk_ext [idx t]

theorem iblk5_at (c : Dev nD) (t : Fin cfg0.N) (k : Fin 1024) :
    iblk m c 5 t (ix2 0 k) = m ((c : Thread nD τ).loc main_arg3) (ix1 k) := by
  blk_simp [iblk, idx t]
  entry_read
  pointwise []
  blk_ext [idx t]

/-- The reference's result, of the kernel's arguments. -/
def want (c : Dev nD) : FVec Ideal S8x2048x1024 .f32 :=
  Cert.FfnFinalRefIdeal.Read.val_main_v53 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- A row of a tile is the reference's row it sits at. -/
theorem point (c : Dev nD) (t : Fin cfg0.N) (b : Fin 8) (R : Fin 2048) (r n : Fin 1024) (hb : b.val = t.val / 2)
    (hR : R.val = t.val % 2 * 1024 + r.val) :
    out0_6 (iblk m c 0 t) (iblk m c 1 t) (iblk m c 2 t) (iblk m c 3 t) (iblk m c 4 t) (iblk m c 5 t) (ix3 0 r n) = want m c (ix3 b R n) := by
  refine (FinalTile.out_at _ _ _ _ _ _ r n).trans ?_
  refine Eq.trans ?_ (FinalRef.res_at _ _ _ _ _ _ b R n).symm
  unfold FinalTile.blockRow
  simp only [fun k => iblk0_at m c t b R r k hb hR, fun k => iblk1_at m c t (b.castLE (by decide)) k hb, iblk2_at m c t, iblk3_at m c t, iblk4_at m c t, iblk5_at m c t]

/-- The result array after the run. -/
theorem final (c : Dev nD) : (dats m 0 c).arrAt 6 (cfgs 0).N = want m c := by
  refine (dats m 0 c).arrAt_eq_of_covers 6 _ (by decide +kernel) fun t _ y => ?_
  blk_simp
  rw [after0_6]
  idx_vars y
  obtain rfl : y0 = 0 := Fin.ext (by omega)
  have hi := (idx t).2.2.2.2.2.2
  refine (point m c t ⟨t.val / 2, hi.2⟩ ⟨t.val % 2 * 1024 + y1.val, by omega⟩ y1 y2 rfl rfl).trans ?_
  blk_ext [idx t]

end Cert.FinalKernel
end
-- ==== Proof.NaMath.lean ====
/-
  The mathematics of one query's attention over extended reals: a query attends a set of window keys and a set of context
  keys with one softmax. Masked window keys (score `⊥`) may be left out, and the division by the normaliser may be done
  before or after the sum over the keys.
-/
module

public import Idealize.ShloMosaic.Lib.Pipeline.ValueKit
public import Idealize.ShloMosaic.Lib.Pointwise

@[expose] public section

noncomputable section

namespace Cert.NaMath

open Idealize.ShloMosaic

/-- The largest score of a query over its window keys and its context keys. -/
def top {W C : Type} [Fintype W] [Fintype C] (s : W → EReal) (t : C → EReal) : EReal :=
  max (Finset.univ.fold max ⊥ s) (Finset.univ.fold max ⊥ t)

/-- The softmax's normaliser. -/
def norm {W C : Type} [Fintype W] [Fintype C] (s : W → EReal) (t : C → EReal) : EReal :=
  ∑ x, Ideal.exp (s x - top s t) + ∑ x, Ideal.exp (t x - top s t)

/-- One output lane of one query: scores `s`, `t` of its window and context keys, that lane `v`, `w` of their values. -/
def attend {W C : Type} [Fintype W] [Fintype C] (s : W → EReal) (t : C → EReal) (v : W → EReal) (w : C → EReal) : EReal :=
  (∑ x, Ideal.exp (s x - top s t) * v x + ∑ x, Ideal.exp (t x - top s t) * w x) * Ideal.div 1 (norm s t)

/-- A maximum over all keys is the supremum. -/
theorem fold_eq_sup {W : Type} [Fintype W] (s : W → EReal) : Finset.univ.fold max ⊥ s = Finset.univ.sup s := rfl

/-- Masked keys weigh nothing, whatever the largest score is. -/
theorem exp_bot_sub (m : EReal) : Ideal.exp (⊥ - m) = 0 := by
  rw [sub_eq_add_neg, EReal.bot_add]
  rfl

/-- Masked window keys leave the largest score alone. -/
theorem top_narrow {W W' C : Type} [Fintype W] [Fintype W'] [Fintype C] (f : W' → W) (s : W → EReal) (t : C → EReal)
    (hs : ∀ x, x ∉ Set.range f → s x = ⊥) : top s t = top (fun x => s (f x)) t := by
  unfold top
  congr 1
  rw [fold_eq_sup, fold_eq_sup]
  refine le_antisymm (Finset.sup_le fun x _ => ?_) (Finset.sup_le fun x _ => Finset.le_sup (f := s) (Finset.mem_univ (f x)))
  by_cases hx : x ∈ Set.range f
  · obtain ⟨y, rfl⟩ := hx
    exact Finset.le_sup (f := fun x => s (f x)) (Finset.mem_univ y)
  · rw [hs x hx]; exact bot_le

/-- A sum over the keys whose terms vanish off the range of an injection is the sum over the injection's domain. -/
theorem sum_narrow {W W' : Type} [Fintype W] [Fintype W'] (f : W' → W) (hf : Function.Injective f) (g : W → EReal)
    (hg : ∀ x, x ∉ Set.range f → g x = 0) : ∑ x, g x = ∑ x, g (f x) := by
  refine (Finset.sum_of_injOn f hf.injOn (fun _ _ => Finset.mem_coe.2 (Finset.mem_univ _)) (fun x _ hx => hg x ?_) (fun _ _ => rfl)).symm
  intro h
  obtain ⟨y, rfl⟩ := h
  exact hx ⟨y, Finset.mem_coe.2 (Finset.mem_univ _), rfl⟩

/-- Masked window keys may be left out of the attention. -/
theorem attend_narrow {W W' C : Type} [Fintype W] [Fintype W'] [Fintype C] (f : W' → W) (hf : Function.Injective f)
    (s : W → EReal) (t : C → EReal) (v : W → EReal) (w : C → EReal) (hs : ∀ x, x ∉ Set.range f → s x = ⊥) :
    attend s t v w = attend (fun x => s (f x)) t (fun x => v (f x)) w := by
  unfold attend norm
  rw [top_narrow f s t hs,
    sum_narrow f hf (fun x => Ideal.exp (s x - top (fun x => s (f x)) t) * v x) (fun x hx => by rw [hs x hx, exp_bot_sub, zero_mul]),
    sum_narrow f hf (fun x => Ideal.exp (s x - top (fun x => s (f x)) t)) (fun x hx => by rw [hs x hx, exp_bot_sub])]

/-- An exponential is not negative. -/
theorem exp_nonneg (x : EReal) : 0 ≤ Ideal.exp x := by
  induction x with
  | bot => exact le_refl _
  | top => exact le_top
  | coe r => exact EReal.coe_nonneg.2 (Real.exp_pos r).le

/-- The normaliser is not negative. -/
theorem norm_nonneg {W C : Type} [Fintype W] [Fintype C] (s : W → EReal) (t : C → EReal) : 0 ≤ norm s t :=
  add_nonneg (Finset.sum_nonneg fun _ _ => exp_nonneg _) (Finset.sum_nonneg fun _ _ => exp_nonneg _)

/-- The inverse of a number that is not negative is not negative. -/
theorem inv_nonneg' {x : EReal} (h : 0 ≤ x) : 0 ≤ x⁻¹ := EReal.inv_nonneg_of_nonneg h

/-- An inverse is never `⊤`. -/
theorem inv_ne_top (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-- A factor that is neither negative nor infinite comes out of a sum. -/
theorem sum_mul_of_nonneg {W : Type} (S : Finset W) (g : W → EReal) {c : EReal} (h0 : 0 ≤ c) (ht : c ≠ ⊤) :
    ∑ x ∈ S, g x * c = (∑ x ∈ S, g x) * c := by
  classical
  induction S using Finset.induction_on with
  | empty => simp
  | insert a S ha ih => rw [Finset.sum_insert ha, Finset.sum_insert ha, ih, EReal.right_distrib_of_nonneg_of_ne_top h0 ht]

/-- Each weight divided by the normaliser before the sums: the same attention, where the normaliser is not zero. -/
theorem attend_divided {W C : Type} [Fintype W] [Fintype C] (s : W → EReal) (t : C → EReal) (v : W → EReal) (w : C → EReal)
    (hn : norm s t ≠ 0) :
    ∑ x, v x * Ideal.div (Ideal.exp (s x - top s t)) (norm s t) + ∑ x, w x * Ideal.div (Ideal.exp (t x - top s t)) (norm s t)
      = attend s t v w := by
  have h0 : 0 ≤ (norm s t)⁻¹ := inv_nonneg' (norm_nonneg s t)
  have ht := inv_ne_top (norm s t)
  have e : ∀ a b : EReal, b * Ideal.div a (norm s t) = a * b * (norm s t)⁻¹ := fun a b => by
    unfold Ideal.div
    rw [if_neg hn, ← mul_assoc, mul_comm b a]
  unfold attend
  simp only [e]
  rw [sum_mul_of_nonneg _ _ h0 ht, sum_mul_of_nonneg _ _ h0 ht, ← EReal.right_distrib_of_nonneg_of_ne_top h0 ht]
  rw [one_mul]

/-- Where a context score is a real number and no score is `⊤`, the normaliser is not zero. -/
theorem norm_ne_zero {W C : Type} [Fintype W] [Fintype C] (s : W → EReal) (t : C → EReal) (x₀ : C)
    (h0 : t x₀ ≠ ⊥) (hs : ∀ x, s x ≠ ⊤) (ht : ∀ x, t x ≠ ⊤) : norm s t ≠ 0 := by
  have hle : t x₀ ≤ top s t := le_max_of_le_right (Finset.le_sup (f := t) (Finset.mem_univ x₀))
  have hb : top s t ≠ ⊥ := fun e => h0 (le_bot_iff.1 (e ▸ hle))
  have htop : top s t ≠ ⊤ := by
    unfold top
    rw [fold_eq_sup, fold_eq_sup]
    refine ne_of_lt (max_lt ?_ ?_)
    · exact (Finset.sup_lt_iff (bot_lt_top)).2 fun x _ => lt_of_le_of_ne le_top (hs x)
    · exact (Finset.sup_lt_iff (bot_lt_top)).2 fun x _ => lt_of_le_of_ne le_top (ht x)
  have hpos : 0 < Ideal.exp (t x₀ - top s t) := by
    lift t x₀ to ℝ using ⟨ht x₀, h0⟩ with a
    lift top s t to ℝ using ⟨htop, hb⟩ with b
    rw [← EReal.coe_sub]
    exact EReal.coe_pos.2 (Real.exp_pos _)
  refine ne_of_gt (lt_of_lt_of_le hpos ?_)
  refine le_trans ?_ (le_add_of_nonneg_left (Finset.sum_nonneg fun _ _ => exp_nonneg _))
  exact Finset.single_le_sum (f := fun x => Ideal.exp (t x - top s t)) (fun _ _ => exp_nonneg _) (Finset.mem_univ x₀)

/-- Neither infinity. -/
def IsFin (x : EReal) : Prop := x ≠ ⊥ ∧ x ≠ ⊤

theorem fin_mul {x y : EReal} (hx : IsFin x) (hy : IsFin y) : IsFin (x * y) := by
  obtain ⟨hx1, hx2⟩ := hx
  obtain ⟨hy1, hy2⟩ := hy
  lift x to ℝ using ⟨hx2, hx1⟩
  lift y to ℝ using ⟨hy2, hy1⟩
  rw [← EReal.coe_mul]
  exact ⟨EReal.coe_ne_bot _, EReal.coe_ne_top _⟩

theorem fin_sum {W : Type} (S : Finset W) (g : W → EReal) (h : ∀ x, IsFin (g x)) : IsFin (∑ x ∈ S, g x) := by
  classical
  induction S using Finset.induction_on with
  | empty => rw [Finset.sum_empty]; exact ⟨EReal.zero_ne_bot, EReal.zero_ne_top⟩
  | insert a S ha ih =>
    rw [Finset.sum_insert ha]
    obtain ⟨h1, h2⟩ := h a
    obtain ⟨i1, i2⟩ := ih
    generalize g a = x at h1 h2
    generalize (∑ x ∈ S, g x) = y at i1 i2
    lift x to ℝ using ⟨h2, h1⟩
    lift y to ℝ using ⟨i2, i1⟩
    rw [← EReal.coe_add]
    exact ⟨EReal.coe_ne_bot _, EReal.coe_ne_top _⟩

/-- The scores of both sets of keys in one list: its largest is the largest of both. -/
theorem fold_split (m n N : Nat) (hN : m + n = N) (g : Fin m → EReal) (h : Fin n → EReal) :
    Finset.univ.fold max ⊥ (fun x : Fin N => if hx : x.val < m then g ⟨x.val, hx⟩ else h ⟨x.val - m, by omega⟩)
      = max (Finset.univ.fold max ⊥ g) (Finset.univ.fold max ⊥ h) := by
  rw [fold_eq_sup, fold_eq_sup, fold_eq_sup]
  refine le_antisymm (Finset.sup_le fun x _ => ?_) (max_le (Finset.sup_le fun x _ => ?_) (Finset.sup_le fun x _ => ?_))
  · by_cases hx : x.val < m
    · rw [dif_pos hx]; exact le_max_of_le_left (Finset.le_sup (f := g) (Finset.mem_univ _))
    · rw [dif_neg hx]; exact le_max_of_le_right (Finset.le_sup (f := h) (Finset.mem_univ _))
  · have := Finset.le_sup (f := fun x : Fin N => if hx : x.val < m then g ⟨x.val, hx⟩ else h ⟨x.val - m, by omega⟩)
      (Finset.mem_univ (⟨x.val, by omega⟩ : Fin N))
    rwa [dif_pos x.isLt] at this
  · have := Finset.le_sup (f := fun x : Fin N => if hx : x.val < m then g ⟨x.val, hx⟩ else h ⟨x.val - m, by omega⟩)
      (Finset.mem_univ (⟨m + x.val, by omega⟩ : Fin N))
    rw [dif_neg (by simp)] at this
    simpa using this

/-- A sum over one list of both sets of keys is the sum of both sums. -/
theorem sum_split (m n N : Nat) (hN : m + n = N) (g : Fin m → EReal) (h : Fin n → EReal) :
    ∑ x : Fin N, (if hx : x.val < m then g ⟨x.val, hx⟩ else h ⟨x.val - m, by omega⟩) = ∑ x, g x + ∑ x, h x := by
  subst hN
  rw [Fin.sum_univ_add]
  congr 1
  · exact Finset.sum_congr rfl fun x _ => dif_pos x.isLt
  · refine Finset.sum_congr rfl fun x _ => ?_
    rw [dif_neg (by simp)]
    exact congrArg h (Fin.ext (by simp))

end Cert.NaMath

end
-- ==== Proof.NaSpec.lean ====
/-
  Neighbourhood attention as a formula: the value of one output lane of one query from the projected activations and the
  bias table, both over extended reals.
-/
module

public import proofs.«01_k».proof.Proof.NaMath

@[expose] public section

noncomputable section

namespace Cert.NaSpec

open Idealize.ShloMosaic Cert.NaMath

/-- The first grid row of a query row's window. -/
def rs (r : Fin 32) : Nat := min (r.val - 4) 24

/-- The grid row of key row `s` of the window of query row `r`. -/
def krow (r : Fin 32) (s : Fin 8) : Fin 32 := ⟨rs r + s.val, by unfold rs; omega⟩

/-- The first grid column of a query column's window. -/
def cs (q : Fin 64) : Nat := min (q.val - 8) 48

/-- Key column `k` lies in the window of query column `q`. -/
def colOk (q k : Fin 64) : Prop := cs q ≤ k.val ∧ k.val < cs q + 16

instance (q k : Fin 64) : Decidable (colOk q k) := by unfold colOk; infer_instance

/-- The bias table's row for query row `r` and window row `s`. -/
def drow (r : Fin 32) (s : Fin 8) : Fin 15 := ⟨rs r + s.val + 7 - r.val, by unfold rs; omega⟩

/-- The bias table's column for query column `q` and key column `k`. -/
def dcol (q k : Fin 64) : Fin 31 := ⟨min (k.val + 15 - q.val) 30, by omega⟩

/-- The token at a grid row and column. -/
def tok (r : Fin 32) (q : Fin 64) : Fin 2304 := ⟨r.val * 64 + q.val, by omega⟩

/-- A context token. -/
def ctx (j : Fin 256) : Fin 2304 := ⟨2048 + j.val, by omega⟩

/-- Lane `d` of head `h` in the part of the projection that starts at lane `n`. -/
def lane (n : Nat) (hn : n + 256 ≤ 1024) (h : Fin 4) (d : Fin 64) : Fin 1024 := ⟨n + (h.val * 64 + d.val), by omega⟩

variable (A : FVec Ideal ⟨3, ![8, 2304, 1024]⟩ .bf16) (B : FVec Ideal ⟨4, ![4, 4, 15, 31]⟩ .f32)

/-- The product of a query (scaled) and the key of a token, within one head. -/
def score (b : Fin 8) (r : Fin 32) (q : Fin 64) (h : Fin 4) (j : Fin 2304) : EReal :=
  ∑ x : Fin 64, A (ix3 b (tok r q) (lane 256 (by decide) h x)) * Ideal.ofBits .f32 0x3E000000#32 * A (ix3 b j (lane 512 (by decide) h x))

/-- The score of a window key: the product and the bias, masked outside the window's columns. -/
def scoreW (b : Fin 8) (r : Fin 32) (q : Fin 64) (h : Fin 4) (y : Fin 8 × Fin 64) : EReal :=
  if colOk q y.2 then score A b r q h (tok (krow r y.1) y.2) + B (ix4 0 h (drow r y.1) (dcol q y.2)) else ⊥

/-- The score of a context key. -/
def scoreC (b : Fin 8) (r : Fin 32) (q : Fin 64) (h : Fin 4) (j : Fin 256) : EReal := score A b r q h (ctx j)

/-- One output lane: the softmax over window and context keys, applied to their values. -/
def out (b : Fin 8) (r : Fin 32) (q : Fin 64) (h : Fin 4) (d : Fin 64) : EReal :=
  attend (scoreW A B b r q h) (scoreC A b r q h)
    (fun y => A (ix3 b (tok (krow r y.1) y.2) (lane 768 (by decide) h d)))
    (fun j => A (ix3 b (ctx j) (lane 768 (by decide) h d)))

end Cert.NaSpec

end
-- ==== Proof.NaHead.lean ====
module

public import proofs.«01_k».proof.Proof.NaSpec
public import proofs.«01_k».proof.Proof.Gen.KernelIdeal.Skeleton
public import Idealize.ShloMosaic.Lib.Pipeline.ValueKit
public import Idealize.ShloMosaic.Lib.Pointwise

@[expose] public section

set_option maxRecDepth 16384

noncomputable section
namespace Cert.NaHead
open Cert.KernelIdeal Cert.KernelIdeal.Gen Cert.NaMath
open Idealize.ShloMosaic Idealize.ShloMosaic.TcCoe

/-- A mask over the lanes, spread over the rows. -/
def spreadV (μ : IVec S1x256 1) : IVec S256x256 1 :=
  broadcastTo S256x256 (shapeCast S1x256 μ shapeCasts_S1x256_S1x256) broadcasts_S1x256_S256x256

/-- The query lanes of one head, the others zero. -/
def queryV (μ : IVec S1x256 1) (q : FVec Ideal S256x256 .bf16) : FVec Ideal S256x256 .bf16 :=
  select (spreadV μ) q (broadcast S256x256 (Scalar.ofBits .bf16 0x0000#16))

/-- The scores of the window keys. -/
def winV (k : FVec Ideal S768x256 .bf16) (q : FVec Ideal S256x256 .bf16) (b : Vec Ideal S1x1x1x256x768 .f32) : FVec Ideal S256x768 .f32 :=
  addf (matmul dot_S256x256_S768x256_S256x768_1_1_0_0_n_n none q k (constant S256x768 .f32 0x00000000#32))
    (shapeCast S256x768 b shapeCasts_S1x1x1x256x768_S256x768)

/-- The scores of the context keys. -/
def ctxV (kc : FVec Ideal S256x256 .bf16) (q : FVec Ideal S256x256 .bf16) : FVec Ideal S256x256 .f32 :=
  matmul dot_S256x256_S256x256_S256x256_1_1_0_0_n_n none q kc (constant S256x256 .f32 0x00000000#32)

/-- Every row's largest score. -/
def topV (s : FVec Ideal S256x768 .f32) (t : FVec Ideal S256x256 .f32) : FVec Ideal S256x1 .f32 :=
  maximumf (shapeCast S256x1 (multiReduction .maximumf [1] S256 s 0xFF800000#32 reduces_S256x768_S256 (.inl rfl) rfl) shapeCasts_S256_S256x1)
    (shapeCast S256x1 (multiReduction .maximumf [1] S256 t 0xFF800000#32 reduces_S256x256_S256 (.inl rfl) rfl) shapeCasts_S256_S256x1)

/-- The window keys' exponentials. -/
def expW (s : FVec Ideal S256x768 .f32) (m : FVec Ideal S256x1 .f32) : FVec Ideal S256x768 .f32 :=
  exp (subf s (broadcastTo S256x768 m broadcasts_S256x1_S256x768))

/-- The context keys' exponentials. -/
def expC (t : FVec Ideal S256x256 .f32) (m : FVec Ideal S256x1 .f32) : FVec Ideal S256x256 .f32 :=
  exp (subf t (broadcastTo S256x256 m broadcasts_S256x1_S256x256))

/-- Every row's normaliser. -/
def normV (p : FVec Ideal S256x768 .f32) (pc : FVec Ideal S256x256 .f32) : FVec Ideal S256x1 .f32 :=
  addf (addf (broadcast S256x1 (Scalar.ofBits .f32 0x00000000#32))
      (shapeCast S256x1 (multiReduction .add [1] S256 p 0x00000000#32 reduces_S256x768_S256 (.inl rfl) rfl) shapeCasts_S256_S256x1))
    (shapeCast S256x1 (multiReduction .add [1] S256 pc 0x00000000#32 reduces_S256x256_S256 (.inl rfl) rfl) shapeCasts_S256_S256x1)

/-- The weighted values, divided by the normaliser. -/
def mixV (p : FVec Ideal S256x768 .f32) (pc : FVec Ideal S256x256 .f32) (v : FVec Ideal S768x256 .bf16) (vc : FVec Ideal S256x256 .bf16) :
    FVec Ideal S256x256 .f32 :=
  mulf (addf (addf (broadcast S256x256 (Scalar.ofBits .f32 0x00000000#32))
        (matmul dot_S256x768_S768x256_S256x256_1_0_0_1_n_n none (truncf .bf16 p bitsLt_bf16_f32) v (constant S256x256 .f32 0x00000000#32)))
      (matmul dot_S256x256_S256x256_S256x256_1_0_0_1_n_n none (truncf .bf16 pc bitsLt_bf16_f32) vc (constant S256x256 .f32 0x00000000#32)))
    (broadcastTo S256x256 (divf (broadcast S256x1 (Scalar.ofBits .f32 0x3F800000#32)) (normV p pc)) broadcasts_S256x1_S256x256)

/-- A softmax over scores `s`, `t` applied to the values. -/
def softV (s : FVec Ideal S256x768 .f32) (t : FVec Ideal S256x256 .f32) (v : FVec Ideal S768x256 .bf16) (vc : FVec Ideal S256x256 .bf16) :
    FVec Ideal S256x256 .f32 :=
  mixV (expW s (topV s t)) (expC t (topV s t)) v vc

/-- One head's attention over every lane of the values. -/
def headV (μ : IVec S1x256 1) (kc vc : FVec Ideal S256x256 .bf16) (k v : FVec Ideal S768x256 .bf16) (q : FVec Ideal S256x256 .bf16)
    (b : Vec Ideal S1x1x1x256x768 .f32) : FVec Ideal S256x256 .f32 :=
  softV (winV k (queryV μ q) b) (ctxV kc (queryV μ q)) v vc

theorem pay10_eq (kc vc : FVec Ideal S256x256 .bf16) (k v : FVec Ideal S768x256 .bf16) (q : FVec Ideal S256x256 .bf16) (w : IVec S1x256 32)
    (b : Vec Ideal S1x1x1x256x768 .f32) : k1_pay10 kc vc k v q w b = headV (k1_pay9 w) kc vc k v q b := rfl

theorem winV_at (k : FVec Ideal S768x256 .bf16) (q : FVec Ideal S256x256 .bf16) (b : Vec Ideal S1x1x1x256x768 .f32) (r : Fin 256) (j : Fin 768) :
    winV k q b (ix2 r j) = ∑ x : Fin 256, q (ix2 r x) * k (ix2 j x) + b (ix5 0 0 0 r j) := by
  pointwise [winV]

theorem ctxV_at (kc : FVec Ideal S256x256 .bf16) (q : FVec Ideal S256x256 .bf16) (r : Fin 256) (j : Fin 256) :
    ctxV kc q (ix2 r j) = ∑ x : Fin 256, q (ix2 r x) * kc (ix2 j x) := by
  pointwise [ctxV]

theorem queryV_at (μ : IVec S1x256 1) (q : FVec Ideal S256x256 .bf16) (r x : Fin 256) :
    queryV μ q (ix2 r x) = Scalar.select (μ (ix2 0 x)) (q (ix2 r x)) 0 := by
  pointwise [queryV, spreadV]

theorem topV_at (s : FVec Ideal S256x768 .f32) (t : FVec Ideal S256x256 .f32) (r : Fin 256) :
    topV s t (ix2 r 0) = top (fun j : Fin 768 => s (ix2 r j)) (fun j : Fin 256 => t (ix2 r j)) := by
  pointwise [topV]
  rw [show Ideal.ofBits .f32 4286578688#32 = (⊥ : EReal) from (by simp [Ideal.ofBits, Ideal.ieee])]
  rfl

theorem expW_at (s : FVec Ideal S256x768 .f32) (m : FVec Ideal S256x1 .f32) (r : Fin 256) (j : Fin 768) :
    expW s m (ix2 r j) = Ideal.exp (s (ix2 r j) - m (ix2 r 0)) := by
  pointwise [expW]

theorem expC_at (t : FVec Ideal S256x256 .f32) (m : FVec Ideal S256x1 .f32) (r : Fin 256) (j : Fin 256) :
    expC t m (ix2 r j) = Ideal.exp (t (ix2 r j) - m (ix2 r 0)) := by
  pointwise [expC]

theorem normV_at (p : FVec Ideal S256x768 .f32) (pc : FVec Ideal S256x256 .f32) (r : Fin 256) :
    normV p pc (ix2 r 0) = ∑ j : Fin 768, p (ix2 r j) + ∑ j : Fin 256, pc (ix2 r j) := by
  pointwise [normV]

theorem mixV_at (p : FVec Ideal S256x768 .f32) (pc : FVec Ideal S256x256 .f32) (v : FVec Ideal S768x256 .bf16) (vc : FVec Ideal S256x256 .bf16)
    (r l : Fin 256) : mixV p pc v vc (ix2 r l) =
      (∑ j : Fin 768, p (ix2 r j) * v (ix2 j l) + ∑ j : Fin 256, pc (ix2 r j) * vc (ix2 j l)) * Ideal.div 1 (normV p pc (ix2 r 0)) := by
  pointwise [mixV]

theorem softV_at (s : FVec Ideal S256x768 .f32) (t : FVec Ideal S256x256 .f32) (v : FVec Ideal S768x256 .bf16) (vc : FVec Ideal S256x256 .bf16)
    (r l : Fin 256) : softV s t v vc (ix2 r l) =
      attend (fun j : Fin 768 => s (ix2 r j)) (fun j : Fin 256 => t (ix2 r j)) (fun j => v (ix2 j l)) (fun j => vc (ix2 j l)) := by
  unfold softV
  rw [mixV_at, normV_at]
  simp only [expW_at, expC_at, topV_at]
  rfl

end Cert.NaHead
end
-- ==== Proof.NaIdealRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.NaIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of output window 1, through which its contents are stated (`View.read_writes_of_cover`: the
    choice does not matter). -/
abbrev VO0_1 : View sig .tc .vmem S1x3x1x256x768 .f32 := (Memref.whole cc0_stg1_0 : Memref sig .tc .vmem S1x3x1x256x768 .f32).view
/-- Each window's current staging memref at point `t`, spelled as the pipeline passes it (`bodyAt0`), and its wholeness. -/
abbrev ms0_0 (t : Fin cfg0.N) : Memref sig .tc .smem S7440 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1x256x768 .f32 := win0_1.stage (cfg0.slots t 1)
abbrev hs0_1 (t : Fin cfg0.N) : (ms0_1 t).IsWhole := hstage0_1 ((cfg0.slots t 1).cast nbuf0_1)

set_option maxHeartbeats 9128000 in
/-- The first kernel on any whole staging buffers: it runs to its end with the inputs as they were and the pieces it writes in the output. -/
noncomputable def kernelRun0_A (c : Dev nD) (i : grid0.Coords) (arg2 : Memref sig .tc .smem S7440 .f32) (harg2 : arg2.IsWhole) (arg3 : Memref sig .tc .vmem S1x3x1x256x768 .f32) (harg3 : arg3.IsWhole)
    (x0 : Vec F S7440 .f32) :
    { L1 : List (View.Piece (Elt F) S1x3x1x256x768 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_na_bias i arg2 harg2 arg3 harg3) K } := by
  refine ⟨?_, fun E K => ?run⟩
  case run =>
    simp only [cc0_na_bias_eq_skeleton]; unfold cc0_na_bias_skel
    simp only [k0_part99_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part100_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    unfold owns
    iintro ⟨⟨%f0, %hf0, H0⟩, ⟨%d1, %f1, -, H1⟩, Hk⟩
    obtain rfl := harg2.eq_unread hf0
    sl_exec
    sl_step
    iapply Hk
    isplitl [H0]
    · iexists _; isplitr; · ipureintro; exact harg2.read_unread _
      iexact H0
    iexists _; iexact H1

/-- The pieces the kernel writes cover its output block. -/
theorem cover0_A_1 (c : Dev nD) (i : grid0.Coords) (arg2 : Memref sig .tc .smem S7440 .f32) (harg2 : arg2.IsWhole) (arg3 : Memref sig .tc .vmem S1x3x1x256x768 .f32) (harg3 : arg3.IsWhole)
    (x0 : Vec F S7440 .f32) (y : S1x3x1x256x768.Idx) :
    ∃ pc ∈ (kernelRun0_A c i arg2 harg2 arg3 harg3 x0).1, y ∈ pc.1.set :=
  View.cover_of_tiledL (kernelRun0_A c i arg2 harg2 arg3 harg3 x0).1 S1x1x1x64x128.size (by sl_kernel_rfl) y

/-- What the run leaves in output 1's staging buffer: its pieces read back over junk. -/
def out0_A_1 (c : Dev nD) (i : grid0.Coords) (arg2 : Memref sig .tc .smem S7440 .f32) (harg2 : arg2.IsWhole) (arg3 : Memref sig .tc .vmem S1x3x1x256x768 .f32) (harg3 : arg3.IsWhole)
    (x0 : Vec F S7440 .f32) : Vec F S1x3x1x256x768 .f32 :=
  VO0_1.read (Elt F) (VO0_1.writes (Elt F) VO0_1.junk (kernelRun0_A c i arg2 harg2 arg3 harg3 x0).1)

/-- What the outputs' staging buffers hold after the body at point `t`: the run's contents at
    the point's memrefs and input blocks. -/
def outsAt0 (c : Dev nD) (t : Fin cfg0.N) : Vec F S1x3x1x256x768 .f32 :=
  out0_A_1 c (grid0.coords t) (ms0_0 t) (hs0_0 t) (ms0_1 t) (hs0_1 t) (iblk0 V c 0 t)

/-- The proof data of the first region. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-- What the body is called with at a point. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold outsAt0
  unfold out0_A_1
  iintro ⟨HΦ, Ho, ⟨%d0, H0⟩, ⟨%d1, H1⟩⟩
  iapply ((kernelRun0_A c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_A_1 c _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body meets its obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A default for a staging buffer's words that no fetch fills; every fetch fills the whole block, so nothing reads it. -/
def dflt1_0 : (cfg1.win 0).block.Idx → Elt F (cfg1.win 0).elt := fun _ => Classical.choice inferInstance
/-- What window 0's staging buffer holds when the body runs at `t`: its block read off the array. -/
def X1_0 (c : Dev nD) (t : Fin cfg1.N) : (cfg1.win 0).block.Idx → Elt F (cfg1.win 0).elt :=
  (cfg1.win 0).fill (cfg1.grid.coords t) dflt1_0 (iblk1 V c 0 t)
/-- No block of window 0 that the grid reaches is cut. -/
theorem xsize1_0 : ∀ t : Fin cfg1.N, ∀ a, (cfg1.win 0).xsize (cfg1.grid.coords t) a = (cfg1.win 0).size a := by decide +kernel
/-- Every index of window 0's block is moved at every point. -/
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
/-- A fill of window 0's block covers the whole buffer, whatever it held. -/
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]
/-- Window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = X1_0 V c t) (t : Fin cfg1.N) (d) : dat.before 0 t d = X1_0 V c t :=
  (dat.before_in_eq_fetched 0 rfl (fun _ => rfl)
      (fun t t' h => funext fun a => congrArg (fun n => Pipeline.Clip.of n ((cfg1.win 0).size a) (S8x2304x1024.size a)) (congrFun h a))
      (fun t => by rw [hafter]; unfold X1_0; rw [Pipeline.Window.cut_fill]; unfold Dat.blockOf iblk1; rw [hA]; try rfl) t d).trans
    (by unfold Dat.fetched X1_0; rw [fill1_0 t d dflt1_0]; unfold Dat.blockOf iblk1; rw [hA]; try rfl)
/-- An input window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of output window 4, through which its contents are stated (`View.read_writes_of_cover`: the
    choice does not matter). -/
abbrev VO1_4 : View sig .tc .vmem S1x1024x256 .bf16 := (Memref.whole cc1_stg4_0 : Memref sig .tc .vmem S1x1024x256 .bf16).view
/-- Each window's current staging memref at point `t`, spelled as the pipeline passes it (`bodyAt1`), and its wholeness. -/
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2304x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2304x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3x4x256x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x256 .bf16 := win1_4.stage (cfg1.slots t 4)
abbrev hs1_4 (t : Fin cfg1.N) : (ms1_4 t).IsWhole := hstage1_4 ((cfg1.slots t 4).cast nbuf1_4)

set_option maxHeartbeats 1000000 in
/-- The second kernel on any whole staging buffers: it runs to its end with the inputs as they were and the pieces it writes in the output. -/
noncomputable def kernelRun1_A (c : Dev nD) (i : grid1.Coords) (arg2 : Memref sig .tc .vmem S1x1024x256 .bf16) (harg2 : arg2.IsWhole) (arg3 : Memref sig .tc .vmem S1x2304x256 .bf16) (harg3 : arg3.IsWhole) (arg4 : Memref sig .tc .vmem S1x2304x256 .bf16) (harg4 : arg4.IsWhole) (arg5 : Memref sig .tc .vmem S1x3x4x256x768 .f32) (harg5 : arg5.IsWhole) (arg6 : Memref sig .tc .vmem S1x1024x256 .bf16) (harg6 : arg6.IsWhole)
    (x0 : Vec F S1x1024x256 .bf16) (x1 : Vec F S1x2304x256 .bf16) (x2 : Vec F S1x2304x256 .bf16) (x3 : Vec F S1x3x4x256x768 .f32) :
    { L4 : List (View.Piece (Elt F) S1x1024x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1_na i arg2 harg2 arg3 harg3 arg4 harg4 arg5 harg5 arg6 harg6) K } := by
  refine ⟨?_, fun E K => ?run⟩
  case run =>
    simp only [cc1_na_eq_skeleton]; unfold cc1_na_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The pieces the kernel writes cover its output block. -/
theorem cover1_A_4 (c : Dev nD) (i : grid1.Coords) (arg2 : Memref sig .tc .vmem S1x1024x256 .bf16) (harg2 : arg2.IsWhole) (arg3 : Memref sig .tc .vmem S1x2304x256 .bf16) (harg3 : arg3.IsWhole) (arg4 : Memref sig .tc .vmem S1x2304x256 .bf16) (harg4 : arg4.IsWhole) (arg5 : Memref sig .tc .vmem S1x3x4x256x768 .f32) (harg5 : arg5.IsWhole) (arg6 : Memref sig .tc .vmem S1x1024x256 .bf16) (harg6 : arg6.IsWhole)
    (x0 : Vec F S1x1024x256 .bf16) (x1 : Vec F S1x2304x256 .bf16) (x2 : Vec F S1x2304x256 .bf16) (x3 : Vec F S1x3x4x256x768 .f32) (y : S1x1024x256.Idx) :
    ∃ pc ∈ (kernelRun1_A c i arg2 harg2 arg3 harg3 arg4 harg4 arg5 harg5 arg6 harg6 x0 x1 x2 x3).1, y ∈ pc.1.set :=
  View.cover_of_tiledL (kernelRun1_A c i arg2 harg2 arg3 harg3 arg4 harg4 arg5 harg5 arg6 harg6 x0 x1 x2 x3).1 S1x256x256.size (by sl_kernel_rfl) y

/-- What the run leaves in output 4's staging buffer: its pieces read back over junk. -/
def out1_A_4 (c : Dev nD) (i : grid1.Coords) (arg2 : Memref sig .tc .vmem S1x1024x256 .bf16) (harg2 : arg2.IsWhole) (arg3 : Memref sig .tc .vmem S1x2304x256 .bf16) (harg3 : arg3.IsWhole) (arg4 : Memref sig .tc .vmem S1x2304x256 .bf16) (harg4 : arg4.IsWhole) (arg5 : Memref sig .tc .vmem S1x3x4x256x768 .f32) (harg5 : arg5.IsWhole) (arg6 : Memref sig .tc .vmem S1x1024x256 .bf16) (harg6 : arg6.IsWhole)
    (x0 : Vec F S1x1024x256 .bf16) (x1 : Vec F S1x2304x256 .bf16) (x2 : Vec F S1x2304x256 .bf16) (x3 : Vec F S1x3x4x256x768 .f32) : Vec F S1x1024x256 .bf16 :=
  VO1_4.read (Elt F) (VO1_4.writes (Elt F) VO1_4.junk (kernelRun1_A c i arg2 harg2 arg3 harg3 arg4 harg4 arg5 harg5 arg6 harg6 x0 x1 x2 x3).1)

/-- What the outputs' staging buffers hold after the body at point `t`: the run's contents at
    the point's memrefs and input blocks. -/
def outsAt1 (c : Dev nD) (t : Fin cfg1.N) : Vec F S1x1024x256 .bf16 :=
  out1_A_4 c (grid1.coords t) (ms1_0 t) (hs1_0 t) (ms1_1 t) (hs1_1 t) (ms1_2 t) (hs1_2 t) (ms1_3 t) (hs1_3 t) (ms1_4 t) (hs1_4 t) (X1_0 V c t) (iblk1 V c 1 t) (iblk1 V c 2 t) (iblk1 V c 3 t)

/-- The proof data of the second region. -/
def dat1 (c : Dev nD) : Dat τ (Elt F) Unit ℕ (UR sig nD τ) ℕ cfg1 c where
  A w := V c (Pipeline.arrRef spec1 w)
  after w t := match w with
    | ⟨0, _⟩ => X1_0 V c t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = X1_0 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = X1_0 V c t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at a point. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_4
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (X1_0 V c t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body meets its obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-- @main's argument arrays, as TensorCore references: what the frame claim reads back. -/
abbrev argRefs : List (Ref sig .tc) := [main_arg0, main_arg1]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- The unscoped buffers after the first region. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- After the region each of its arrays holds what its run leaves. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The unscoped buffers after the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- After the region each of its arrays holds what its run leaves. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)

/-- The prefetched tables' admissible contents: no pipeline has a table. -/
abbrev adm : (p : Fin 2) → (pcfgs (F := F) p).Adm := fun p => (cfgs p).toPCfg_adm
/-- The proof data of the two regions. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides along between items: the generator register, and nothing owed. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last valuation. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state, its three windows on one array each dealt a share of it. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run of @main: from any memory with zero counters it terminates, every buffer ends at the last valuation, and
    every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1 c _ (mem_uc main_arg0 (by decide))).trans (W3_main_arg0 m ρ c),
       (h.1 c _ (mem_uc main_arg1 (by decide))).trans (W3_main_arg1 m ρ c)⟩, h.2⟩) (run m ρ)

/-- The result array ends at what the second region leaves, and the arguments as launched. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h.1 c _ (mem_uc main_v2 (by decide))).trans (W3_arr m ρ c 4),
       (h.1 c _ (mem_uc main_arg0 (by decide))).trans (W3_main_arg0 m ρ c),
       (h.1 c _ (mem_uc main_arg1 (by decide))).trans (W3_main_arg1 m ρ c)⟩) (run m ρ)

end Cert.NaIdealRun

end
-- ==== Proof.NaRead.lean ====
/-
  Neighbourhood attention: what the attention kernel's windows hold at a grid point, and the offsets its loads start at.
-/
module

public import proofs.«01_k».proof.Proof.NaIdealRun
public import Idealize.ShloMosaic.Lib.Pipeline.ValueKit
public import Idealize.ShloMosaic.Lib.Pointwise

@[expose] public section

set_option maxRecDepth 16384

noncomputable section
namespace Cert.NaRead
open Cert.KernelIdeal Cert.KernelIdeal.Gen Cert.NaIdealRun
open Idealize.ShloMosaic Idealize.ShloMosaic.TcCoe

variable (V : (c : Dev nD) → (b : Ref sig .tc) → Buf (Elt Ideal) ((c : Thread nD τ).loc b))

/-- The windows' index maps at a grid point. -/
theorem idx : ∀ t : Fin cfg1.N, win1_0.index t = ![t.val / 2, t.val % 2, 1] ∧ win1_1.index t = ![t.val / 2, 0, 2]
    ∧ win1_2.index t = ![t.val / 2, 0, 3] ∧ win1_3.index t = ![0, 0, 0, 0, 0] ∧ win1_4.index t = ![t.val / 2, t.val % 2, 0]
    ∧ t.val / 2 < 8 :=
  (by decide +kernel : ∀ t : Fin grid1.N, win1_0.index t = ![t.val / 2, t.val % 2, 1] ∧ win1_1.index t = ![t.val / 2, 0, 2]
    ∧ win1_2.index t = ![t.val / 2, 0, 3] ∧ win1_3.index t = ![0, 0, 0, 0, 0] ∧ win1_4.index t = ![t.val / 2, t.val % 2, 0]
    ∧ t.val / 2 < 8)

/-- The block of query rows the window's grid has at a point, counted over the whole grid. -/
def blkOf (t : Fin cfg1.N) (i : Fin 4) : Nat := t.val % 2 * 4 + i.val

/-- The first grid row of the keys loaded for a block of query rows. -/
def startOf (g : Nat) : Nat := min (g * 4 - 4) 20

/-- The bias table's case for a block of query rows. -/
def caseOf (g : Nat) : Nat := if g = 0 then 0 else if g = 7 then 2 else 1

/-- The offsets of the loads. -/
theorem offs : ∀ (t : Fin cfg1.N) (i : Fin 4), k1_off1 (grid1.coords t) (BitVec.ofNat 32 i.val) = ![0, startOf (blkOf t i) * 64, 0]
    ∧ k1_off2 (grid1.coords t) (BitVec.ofNat 32 i.val) = ![0, caseOf (blkOf t i), 0, 0, 0]
    ∧ k1_off3 (grid1.coords t) (BitVec.ofNat 32 i.val) = ![0, caseOf (blkOf t i), 1, 0, 0]
    ∧ k1_off4 (grid1.coords t) (BitVec.ofNat 32 i.val) = ![0, caseOf (blkOf t i), 2, 0, 0]
    ∧ k1_off5 (grid1.coords t) (BitVec.ofNat 32 i.val) = ![0, caseOf (blkOf t i), 3, 0, 0] :=
  (by decide +kernel : ∀ (t : Fin grid1.N) (i : Fin 4), k1_off1 (grid1.coords t) (BitVec.ofNat 32 i.val) = ![0, startOf (blkOf t i) * 64, 0]
    ∧ k1_off2 (grid1.coords t) (BitVec.ofNat 32 i.val) = ![0, caseOf (blkOf t i), 0, 0, 0]
    ∧ k1_off3 (grid1.coords t) (BitVec.ofNat 32 i.val) = ![0, caseOf (blkOf t i), 1, 0, 0]
    ∧ k1_off4 (grid1.coords t) (BitVec.ofNat 32 i.val) = ![0, caseOf (blkOf t i), 2, 0, 0]
    ∧ k1_off5 (grid1.coords t) (BitVec.ofNat 32 i.val) = ![0, caseOf (blkOf t i), 3, 0, 0])

/-- The query window. -/
theorem q_at (c : Dev nD) (t : Fin cfg1.N) (b : Fin 8) (R : Fin 2304) (r : Fin 1024) (l : Fin 256) (L : Fin 1024) (hb : b.val = t.val / 2)
    (hR : R.val = t.val % 2 * 1024 + r.val) (hL : L.val = 256 + l.val) :
    X1_0 V c t (ix3 0 r l) = V c main_arg0 (ix3 b R L) := by
  unfold X1_0 Pipeline.Window.fill
  rw [dif_pos (moved1_0 t _)]
  blk_ext [iblk1, idx t]

/-- The key window. -/
theorem k_at (c : Dev nD) (t : Fin cfg1.N) (b : Fin 8) (r : Fin 2304) (l : Fin 256) (L : Fin 1024) (hb : b.val = t.val / 2)
    (hL : L.val = 512 + l.val) : iblk1 V c 1 t (ix3 0 r l) = V c main_arg0 (ix3 b r L) := by
  blk_ext [iblk1, idx t]

/-- The value window. -/
theorem v_at (c : Dev nD) (t : Fin cfg1.N) (b : Fin 8) (r : Fin 2304) (l : Fin 256) (L : Fin 1024) (hb : b.val = t.val / 2)
    (hL : L.val = 768 + l.val) : iblk1 V c 2 t (ix3 0 r l) = V c main_arg0 (ix3 b r L) := by
  blk_ext [iblk1, idx t]

/-- The bias window. -/
theorem b_at (c : Dev nD) (t : Fin cfg1.N) (s : Fin 3) (h : Fin 4) (r : Fin 256) (k : Fin 768) :
    iblk1 V c 3 t (ix5 0 s h r k) = V c main_v1 (ix5 0 s h r k) := by
  blk_ext [iblk1, idx t]

end Cert.NaRead
end
-- ==== Proof.NaTile.lean ====
/-
  Neighbourhood attention: the attention kernel's tile at a grid point, head by head.
-/
module

public import proofs.«01_k».proof.Proof.NaHead
public import proofs.«01_k».proof.Proof.NaRead

@[expose] public section

set_option maxRecDepth 16384

noncomputable section
namespace Cert.NaTile
open Cert.KernelIdeal Cert.KernelIdeal.Gen Cert.NaIdealRun Cert.NaHead Cert.NaRead Cert.NaMath
open Idealize.ShloMosaic Idealize.ShloMosaic.TcCoe

/-- The lanes of one head. -/
def maskV (w : BitVec 32) : IVec S1x256 1 := cmpi .eq k1_pay7 (broadcast S1x256 w)

/-- The tile of one block of query rows: every head's lanes picked from its attention. -/
def blockV (kc vc : FVec Ideal S256x256 .bf16) (k v : FVec Ideal S768x256 .bf16) (q : FVec Ideal S256x256 .bf16)
    (bs : Fin 4 → Vec Ideal S1x1x1x256x768 .f32) : FVec Ideal S1x256x256 .bf16 :=
  shapeCast S1x256x256 (truncf .bf16
    (select (spreadV (maskV 3#32)) (headV (maskV 3#32) kc vc k v q (bs 3))
      (select (spreadV (maskV 2#32)) (headV (maskV 2#32) kc vc k v q (bs 2))
        (select (spreadV (maskV 1#32)) (headV (maskV 1#32) kc vc k v q (bs 1))
          (select (spreadV (maskV 0#32)) (headV (maskV 0#32) kc vc k v q (bs 0)) k1_pay8)))) bitsLt_bf16_f32)
    shapeCasts_S256x256_S1x256x256

variable (V : (c : Dev nD) → (b : Ref sig .tc) → Buf (Elt Ideal) ((c : Thread nD τ).loc b))

/-- The bias rows of one head for a block of query rows. -/
def biasV (c : Dev nD) (t : Fin cfg1.N) (i : Fin 4) : Fin 4 → Vec Ideal S1x1x1x256x768 .f32
  | 0 => View.ld (iblk1 V c 3 t) (Rect.unit (k1_off2 (grid1.coords t) (BitVec.ofNat 32 i.val)) S1x1x1x256x768.size (Gen.facts.k1_off2_inb (grid1.coords t) i))
  | 1 => View.ld (iblk1 V c 3 t) (Rect.unit (k1_off3 (grid1.coords t) (BitVec.ofNat 32 i.val)) S1x1x1x256x768.size (Gen.facts.k1_off3_inb (grid1.coords t) i))
  | 2 => View.ld (iblk1 V c 3 t) (Rect.unit (k1_off4 (grid1.coords t) (BitVec.ofNat 32 i.val)) S1x1x1x256x768.size (Gen.facts.k1_off4_inb (grid1.coords t) i))
  | 3 => View.ld (iblk1 V c 3 t) (Rect.unit (k1_off5 (grid1.coords t) (BitVec.ofNat 32 i.val)) S1x1x1x256x768.size (Gen.facts.k1_off5_inb (grid1.coords t) i))

/-- The tile of block `i`, its queries given. -/
def tileV (c : Dev nD) (t : Fin cfg1.N) (i : Fin 4) (q : Vec Ideal S1x256x256 .bf16) : FVec Ideal S1x256x256 .bf16 :=
  blockV (k1_pay2 (View.ld (iblk1 V c 1 t) (Rect.unit ![0, 2048, 0] S1x256x256.size inb_S1x2304x256_S1x256x256_0_2048_0)))
    (k1_pay3 (View.ld (iblk1 V c 2 t) (Rect.unit ![0, 2048, 0] S1x256x256.size inb_S1x2304x256_S1x256x256_0_2048_0)))
    (k1_pay4 (View.ld (iblk1 V c 1 t) (Rect.unit (k1_off1 (grid1.coords t) (BitVec.ofNat 32 i.val)) S1x768x256.size (Gen.facts.k1_off1_inb (grid1.coords t) i))))
    (k1_pay5 (View.ld (iblk1 V c 2 t) (Rect.unit (k1_off1 (grid1.coords t) (BitVec.ofNat 32 i.val)) S1x768x256.size (Gen.facts.k1_off1_inb (grid1.coords t) i))))
    (k1_pay6 q) (biasV V c t i)

/-- The whole output block at a point. -/
def wantV (c : Dev nD) (t : Fin cfg1.N) : Vec Ideal S1x1024x256 .bf16 := fun y =>
  if (y 1).val < 256 then tileV V c t 0 (View.ld (X1_0 V c t) (Rect.unit ![0, 0, 0] S1x256x256.size inb_S1x1024x256_S1x256x256_0_0_0)) (ix3 0 ⟨(y 1).val % 256, by omega⟩ (y 2))
  else if (y 1).val < 512 then tileV V c t 1 (View.ld (X1_0 V c t) (Rect.unit ![0, 256, 0] S1x256x256.size inb_S1x1024x256_S1x256x256_0_256_0)) (ix3 0 ⟨(y 1).val % 256, by omega⟩ (y 2))
  else if (y 1).val < 768 then tileV V c t 2 (View.ld (X1_0 V c t) (Rect.unit ![0, 512, 0] S1x256x256.size inb_S1x1024x256_S1x256x256_0_512_0)) (ix3 0 ⟨(y 1).val % 256, by omega⟩ (y 2))
  else tileV V c t 3 (View.ld (X1_0 V c t) (Rect.unit ![0, 768, 0] S1x256x256.size inb_S1x1024x256_S1x256x256_0_768_0)) (ix3 0 ⟨(y 1).val % 256, by omega⟩ (y 2))

/-- The output block is, block of query rows by block, its tile. -/
theorem out_eq (c : Dev nD) (t : Fin cfg1.N) (z : S1x1024x256.Idx) : outsAt1 V c t z = wantV V c t z := by
  unfold outsAt1
  frame_out
  canon_tiles y h
  case piece0 =>
    refine (show _ = tileV V c t 3 (View.ld (X1_0 V c t) (Rect.unit ![0, 768, 0] S1x256x256.size inb_S1x1024x256_S1x256x256_0_768_0)) y from rfl).trans ?_
    unfold wantV
    rw [if_neg (by omega), if_neg (by omega), if_neg (by omega)]
    exact congrArg (tileV V c t 3 _) (funext fun a => Fin.ext (by match a with
      | 0 => show (y 0).val = 0; omega
      | 1 => show (y 1).val = (z 1).val % 256; omega
      | 2 => show (y 2).val = (z 2).val; omega))
  case piece1 =>
    refine (show _ = tileV V c t 2 (View.ld (X1_0 V c t) (Rect.unit ![0, 512, 0] S1x256x256.size inb_S1x1024x256_S1x256x256_0_512_0)) y from rfl).trans ?_
    unfold wantV
    rw [if_neg (by omega), if_neg (by omega), if_pos (by omega)]
    exact congrArg (tileV V c t 2 _) (funext fun a => Fin.ext (by match a with
      | 0 => show (y 0).val = 0; omega
      | 1 => show (y 1).val = (z 1).val % 256; omega
      | 2 => show (y 2).val = (z 2).val; omega))
  case piece2 =>
    refine (show _ = tileV V c t 1 (View.ld (X1_0 V c t) (Rect.unit ![0, 256, 0] S1x256x256.size inb_S1x1024x256_S1x256x256_0_256_0)) y from rfl).trans ?_
    unfold wantV
    rw [if_neg (by omega), if_pos (by omega)]
    exact congrArg (tileV V c t 1 _) (funext fun a => Fin.ext (by match a with
      | 0 => show (y 0).val = 0; omega
      | 1 => show (y 1).val = (z 1).val % 256; omega
      | 2 => show (y 2).val = (z 2).val; omega))
  case piece3 =>
    refine (show _ = tileV V c t 0 (View.ld (X1_0 V c t) (Rect.unit ![0, 0, 0] S1x256x256.size inb_S1x1024x256_S1x256x256_0_0_0)) y from rfl).trans ?_
    unfold wantV
    rw [if_pos (by omega)]
    exact congrArg (tileV V c t 0 _) (funext fun a => Fin.ext (by match a with
      | 0 => show (y 0).val = 0; omega
      | 1 => show (y 1).val = (z 1).val % 256; omega
      | 2 => show (y 2).val = (z 2).val; omega))

theorem maskV_at : ∀ (hd : Fin 4) (x : Fin 256), maskV (BitVec.ofNat 32 hd.val) (ix2 0 x) = BitVec.ofBool (decide (x.val / 64 = hd.val)) := by
  intro hd x
  pointwise [maskV, k1_pay7]
  revert hd x
  decide +kernel

theorem mask_select {α : Type} (p : Prop) [Decidable p] (x y : α) : Scalar.select (BitVec.ofBool (decide p)) x y = if p then x else y := by
  by_cases h : p <;> simp [Scalar.select, h]

theorem spreadV_at (μ : IVec S1x256 1) (r l : Fin 256) : spreadV μ (ix2 r l) = μ (ix2 0 l) := by
  pointwise [spreadV]

theorem blockV_at (kc vc : FVec Ideal S256x256 .bf16) (k v : FVec Ideal S768x256 .bf16) (q : FVec Ideal S256x256 .bf16)
    (bs : Fin 4 → Vec Ideal S1x1x1x256x768 .f32) (hd : Fin 4) (r l : Fin 256) (hl : l.val / 64 = hd.val) :
    blockV kc vc k v q bs (ix3 0 r l) = headV (maskV (BitVec.ofNat 32 hd.val)) kc vc k v q (bs hd) (ix2 r l) := by
  have m0 := maskV_at 0 l
  have m1 := maskV_at 1 l
  have m2 := maskV_at 2 l
  have m3 := maskV_at 3 l
  pointwise [blockV]
  simp only [spreadV_at]
  rw [show maskV 0#32 (ix2 0 l) = _ from m0, show maskV 1#32 (ix2 0 l) = _ from m1, show maskV 2#32 (ix2 0 l) = _ from m2, show maskV 3#32 (ix2 0 l) = _ from m3]
  simp only [mask_select, hl]
  match hd with
  | 0 => rfl
  | 1 => rfl
  | 2 => rfl
  | 3 => rfl

end Cert.NaTile
end
-- ==== Proof.NaPoint.lean ====
/-
  Neighbourhood attention: one output lane of the attention kernel, as a softmax over the keys it loads.
-/
module

public import proofs.«01_k».proof.Proof.NaTile

@[expose] public section

set_option maxRecDepth 16384

noncomputable section
namespace Cert.NaPoint
open Cert.KernelIdeal Cert.KernelIdeal.Gen Cert.NaIdealRun Cert.NaHead Cert.NaRead Cert.NaTile Cert.NaMath Cert.NaSpec
open Idealize.ShloMosaic Idealize.ShloMosaic.TcCoe

/-- Lane `x` of head `hd` among all the heads' lanes. -/
def hl (hd : Fin 4) (x : Fin 64) : Fin 256 := ⟨hd.val * 64 + x.val, by omega⟩

/-- A product over all lanes of one head's queries is a product over that head's lanes. -/
theorem sum_head (hd : Fin 4) (a g : Fin 256 → EReal) :
    ∑ x : Fin 256, (if x.val / 64 = hd.val then a x else 0) * g x = ∑ x : Fin 64, a (hl hd x) * g (hl hd x) := by
  rw [sum_narrow (hl hd) (fun x y h => Fin.ext (by have := congrArg Fin.val h; simp only [hl] at this; omega))
    (fun x => (if x.val / 64 = hd.val then a x else 0) * g x)]
  · refine Finset.sum_congr rfl fun x _ => ?_
    rw [if_pos (by simp only [hl]; omega)]
  · intro x hx
    rw [if_neg (fun h => hx ⟨⟨x.val % 64, by omega⟩, Fin.ext (by simp only [hl]; omega)⟩), zero_mul]

/-- One head's attention on its own lanes. -/
theorem headV_at (hd : Fin 4) (kc vc : FVec Ideal S256x256 .bf16) (k v : FVec Ideal S768x256 .bf16) (q : FVec Ideal S256x256 .bf16)
    (b : Vec Ideal S1x1x1x256x768 .f32) (r l : Fin 256) :
    headV (maskV (BitVec.ofNat 32 hd.val)) kc vc k v q b (ix2 r l) =
      attend (fun j : Fin 768 => ∑ x : Fin 64, q (ix2 r (hl hd x)) * k (ix2 j (hl hd x)) + b (ix5 0 0 0 r j))
        (fun j : Fin 256 => ∑ x : Fin 64, q (ix2 r (hl hd x)) * kc (ix2 j (hl hd x))) (fun j => v (ix2 j l)) (fun j => vc (ix2 j l)) := by
  unfold headV
  rw [softV_at]
  simp only [winV_at, ctxV_at, queryV_at, maskV_at, mask_select]
  simp only [sum_head hd (fun x => q (ix2 r x))]

theorem ld_at {S : Shape} {e : EltTy} (X : S.Idx → Elt Ideal e) (off size : Fin S.rank → Nat) (inb : ∀ a, off a + size a ≤ S.size a)
    (y : (Shape.mk S.rank size).Idx) (z : S.Idx) (h : ∀ a, (z a).val = off a + (y a).val) : View.ld X (Rect.unit off size inb) y = X z :=
  congrArg X (funext fun a => Fin.ext ((congrArg (off a + ·) (Nat.one_mul (y a).val)).trans (h a).symm))

/-- A load of rows. -/
theorem ld_rows {n m k o : Nat} {e : EltTy} (X : Shape.Idx ⟨3, ![1, n, k]⟩ → Elt Ideal e) (off : Fin 3 → Nat) (inb) (h : off = ![0, o, 0]) (j : Fin m) (l : Fin k) (R : Fin n)
    (hR : R.val = o + j.val) : View.ld X (Rect.unit (s := ⟨3, ![1, n, k]⟩) off ![1, m, k] inb) (ix3 0 j l) = X (ix3 0 R l) := by
  subst h
  refine ld_at (S := ⟨3, ![1, n, k]⟩) X _ _ _ _ (ix3 0 R l) fun a => ?_
  match a with
  | 0 => rfl
  | 1 => exact hR
  | 2 => exact (Nat.zero_add _).symm

/-- A load of a head's table. -/
theorem ld_bias (X : Vec Ideal S1x3x4x256x768 .f32) (s : Fin 3) (hd : Fin 4) (off : Fin 5 → Nat) (inb) (h : off = ![0, s.val, hd.val, 0, 0]) (r : Fin 256)
    (j : Fin 768) : View.ld X (Rect.unit (s := S1x3x4x256x768) off S1x1x1x256x768.size inb) (ix5 0 0 0 r j) = X (ix5 0 s hd r j) := by
  subst h
  refine ld_at (S := S1x3x4x256x768) (e := .f32) X _ _ _ _ (ix5 0 s hd r j) fun a => ?_
  match a with
  | 0 => rfl
  | 1 => rfl
  | 2 => rfl
  | 3 => exact (Nat.zero_add _).symm
  | 4 => exact (Nat.zero_add _).symm

variable (V : (c : Dev nD) → (b : Ref sig .tc) → Buf (Elt Ideal) ((c : Thread nD τ).loc b))

theorem pay2_at (x : Vec Ideal S1x256x256 .bf16) (r l : Fin 256) : k1_pay2 x (ix2 r l) = x (ix3 0 r l) := by
  pointwise [k1_pay2]

theorem pay3_at (x : Vec Ideal S1x256x256 .bf16) (r l : Fin 256) : k1_pay3 x (ix2 r l) = x (ix3 0 r l) := by
  pointwise [k1_pay3]

theorem pay4_at (x : Vec Ideal S1x768x256 .bf16) (r : Fin 768) (l : Fin 256) : k1_pay4 x (ix2 r l) = x (ix3 0 r l) := by
  pointwise [k1_pay4]

theorem pay5_at (x : Vec Ideal S1x768x256 .bf16) (r : Fin 768) (l : Fin 256) : k1_pay5 x (ix2 r l) = x (ix3 0 r l) := by
  pointwise [k1_pay5]

/-- The query's scale, spelt in either format. -/
theorem scale_eq : Ideal.ofBits .bf16 0x3E00#16 = Ideal.ofBits .f32 0x3E000000#32 := by
  simp [Ideal.ofBits, Ideal.ieee]
  norm_num
  rw [← EReal.coe_mul, ← EReal.coe_mul]
  norm_num

theorem pay6_at (x : Vec Ideal S1x256x256 .bf16) (r l : Fin 256) : k1_pay6 x (ix2 r l) = x (ix3 0 r l) * Ideal.ofBits .f32 0x3E000000#32 := by
  rw [← scale_eq]
  pointwise [k1_pay6]

theorem key_at (c : Dev nD) (t : Fin cfg1.N) (i : Fin 4) (b : Fin 8) (j : Fin 768) (l : Fin 256) (R : Fin 2304) (L : Fin 1024) (hb : b.val = t.val / 2)
    (hR : R.val = startOf (blkOf t i) * 64 + j.val) (hL : L.val = 512 + l.val) :
    View.ld (iblk1 V c 1 t) (Rect.unit (k1_off1 (grid1.coords t) (BitVec.ofNat 32 i.val)) S1x768x256.size (Gen.facts.k1_off1_inb (grid1.coords t) i)) (ix3 0 j l)
      = V c main_arg0 (ix3 b R L) := by
  exact (ld_rows _ _ _ (offs t i).1 j l R hR).trans (k_at V c t b R l L hb hL)

theorem value_at (c : Dev nD) (t : Fin cfg1.N) (i : Fin 4) (b : Fin 8) (j : Fin 768) (l : Fin 256) (R : Fin 2304) (L : Fin 1024) (hb : b.val = t.val / 2)
    (hR : R.val = startOf (blkOf t i) * 64 + j.val) (hL : L.val = 768 + l.val) :
    View.ld (iblk1 V c 2 t) (Rect.unit (k1_off1 (grid1.coords t) (BitVec.ofNat 32 i.val)) S1x768x256.size (Gen.facts.k1_off1_inb (grid1.coords t) i)) (ix3 0 j l)
      = V c main_arg0 (ix3 b R L) := by
  exact (ld_rows _ _ _ (offs t i).1 j l R hR).trans (v_at V c t b R l L hb hL)

theorem ckey_at (c : Dev nD) (t : Fin cfg1.N) (b : Fin 8) (j : Fin 256) (l : Fin 256) (L : Fin 1024) (hb : b.val = t.val / 2) (hL : L.val = 512 + l.val) :
    View.ld (iblk1 V c 1 t) (Rect.unit ![0, 2048, 0] S1x256x256.size inb_S1x2304x256_S1x256x256_0_2048_0) (ix3 0 j l) = V c main_arg0 (ix3 b (ctx j) L) := by
  exact (ld_rows _ _ _ rfl j l (ctx j) rfl).trans (k_at V c t b (ctx j) l L hb hL)

theorem cvalue_at (c : Dev nD) (t : Fin cfg1.N) (b : Fin 8) (j : Fin 256) (l : Fin 256) (L : Fin 1024) (hb : b.val = t.val / 2) (hL : L.val = 768 + l.val) :
    View.ld (iblk1 V c 2 t) (Rect.unit ![0, 2048, 0] S1x256x256.size inb_S1x2304x256_S1x256x256_0_2048_0) (ix3 0 j l) = V c main_arg0 (ix3 b (ctx j) L) := by
  exact (ld_rows _ _ _ rfl j l (ctx j) rfl).trans (v_at V c t b (ctx j) l L hb hL)

theorem case_lt (g : Nat) : caseOf g < 3 := by unfold caseOf; split <;> [skip; split] <;> decide

/-- A bias row, read off the table. -/
theorem bias_at (c : Dev nD) (t : Fin cfg1.N) (i hd : Fin 4) (r : Fin 256) (j : Fin 768) :
    biasV V c t i hd (ix5 0 0 0 r j) = V c main_v1 (ix5 0 ⟨caseOf (blkOf t i), case_lt _⟩ hd r j) := by
  match hd with
  | 0 => exact (ld_bias (iblk1 V c 3 t) ⟨caseOf (blkOf t i), case_lt _⟩ 0 _ _ (offs t i).2.1 r j).trans (b_at V c t _ _ r j)
  | 1 => exact (ld_bias (iblk1 V c 3 t) ⟨caseOf (blkOf t i), case_lt _⟩ 1 _ _ (offs t i).2.2.1 r j).trans (b_at V c t _ _ r j)
  | 2 => exact (ld_bias (iblk1 V c 3 t) ⟨caseOf (blkOf t i), case_lt _⟩ 2 _ _ (offs t i).2.2.2.1 r j).trans (b_at V c t _ _ r j)
  | 3 => exact (ld_bias (iblk1 V c 3 t) ⟨caseOf (blkOf t i), case_lt _⟩ 3 _ _ (offs t i).2.2.2.2 r j).trans (b_at V c t _ _ r j)

theorem start_le : ∀ (t : Fin cfg1.N) (i : Fin 4), startOf (blkOf t i) ≤ 20 := fun t i => by unfold startOf; omega

/-- A key row the kernel loads for a block of query rows. -/
def keyTok (t : Fin cfg1.N) (i : Fin 4) (j : Fin 768) : Fin 2304 := ⟨startOf (blkOf t i) * 64 + j.val, by have := start_le t i; omega⟩

/-- The grid row of a tile's row. -/
def qrow (t : Fin cfg1.N) (i : Fin 4) (r : Fin 256) : Fin 32 := ⟨blkOf t i * 4 + r.val / 64, by unfold blkOf; omega⟩

/-- The grid column of a tile's row. -/
def qcol (r : Fin 256) : Fin 64 := ⟨r.val % 64, by omega⟩

/-- The tile's output lane `d` of head `hd` in row `r`, its queries read from the block's row `i * 256`. -/
theorem tile_at (c : Dev nD) (t : Fin cfg1.N) (i hd : Fin 4) (b : Fin 8) (hb : b.val = t.val / 2) (Q : Vec Ideal S1x256x256 .bf16)
    (hQ : ∀ (r l : Fin 256), Q (ix3 0 r l) = X1_0 V c t (ix3 0 ⟨i.val * 256 + r.val, by omega⟩ l)) (r : Fin 256) (d : Fin 64) :
    tileV V c t i Q (ix3 0 r (hl hd d)) =
      attend (fun j : Fin 768 => score (V c main_arg0) b (qrow t i r) (qcol r) hd (keyTok t i j) + V c main_v1 (ix5 0 ⟨caseOf (blkOf t i), case_lt _⟩ hd r j))
        (scoreC (V c main_arg0) b (qrow t i r) (qcol r) hd)
        (fun j => V c main_arg0 (ix3 b (keyTok t i j) (lane 768 (by decide) hd d)))
        (fun j => V c main_arg0 (ix3 b (ctx j) (lane 768 (by decide) hd d))) := by
  unfold tileV
  rw [blockV_at _ _ _ _ _ _ hd r (hl hd d) (by simp only [hl]; omega), headV_at]
  have hq : ∀ x : Fin 64, Q (ix3 0 r (hl hd x)) = V c main_arg0 (ix3 b (tok (qrow t i r) (qcol r)) (lane 256 (by decide) hd x)) := fun x =>
    (hQ r (hl hd x)).trans (q_at V c t b (tok (qrow t i r) (qcol r)) _ _ (lane 256 (by decide) hd x) hb
      (by simp only [tok, qrow, qcol, blkOf]; omega) (by simp only [lane, hl]))
  simp only [pay2_at, pay3_at, pay4_at, pay5_at, pay6_at, hq, bias_at]
  simp only [fun (j : Fin 768) (x : Fin 64) => key_at V c t i b j (hl hd x) (keyTok t i j) (lane 512 (by decide) hd x) hb rfl rfl,
    fun (j : Fin 768) => value_at V c t i b j (hl hd d) (keyTok t i j) (lane 768 (by decide) hd d) hb rfl rfl,
    fun (j : Fin 256) (x : Fin 64) => ckey_at V c t b j (hl hd x) (lane 512 (by decide) hd x) hb rfl,
    fun (j : Fin 256) => cvalue_at V c t b j (hl hd d) (lane 768 (by decide) hd d) hb rfl]
  rfl

/-- The output block's lane `d` of head `hd` in row `i * 256 + r`. -/
theorem block_at (c : Dev nD) (t : Fin cfg1.N) (i hd : Fin 4) (b : Fin 8) (hb : b.val = t.val / 2) (r : Fin 256) (d : Fin 64) :
    outsAt1 V c t (ix3 0 ⟨i.val * 256 + r.val, by omega⟩ (hl hd d)) =
      attend (fun j : Fin 768 => score (V c main_arg0) b (qrow t i r) (qcol r) hd (keyTok t i j) + V c main_v1 (ix5 0 ⟨caseOf (blkOf t i), case_lt _⟩ hd r j))
        (scoreC (V c main_arg0) b (qrow t i r) (qcol r) hd)
        (fun j => V c main_arg0 (ix3 b (keyTok t i j) (lane 768 (by decide) hd d)))
        (fun j => V c main_arg0 (ix3 b (ctx j) (lane 768 (by decide) hd d))) := by
  rw [out_eq]
  unfold wantV
  match i with
  | 0 =>
    refine (if_pos (show 0 * 256 + r.val < 256 by omega)).trans ?_
    have hr : (⟨(0 * 256 + r.val) % 256, by omega⟩ : Fin 256) = r := Fin.ext (by show (0 * 256 + r.val) % 256 = r.val; omega)
    refine Eq.trans (congrArg (fun s => tileV V c t 0 _ (ix3 0 s (hl hd d))) hr) (tile_at V c t 0 hd b hb _ (fun r l => ?_) r d)
    exact ld_rows _ _ _ rfl r l _ rfl
  | 1 =>
    refine (if_neg (show ¬ 1 * 256 + r.val < 256 by omega)).trans ((if_pos (show 1 * 256 + r.val < 512 by omega)).trans ?_)
    have hr : (⟨(1 * 256 + r.val) % 256, by omega⟩ : Fin 256) = r := Fin.ext (by show (1 * 256 + r.val) % 256 = r.val; omega)
    refine Eq.trans (congrArg (fun s => tileV V c t 1 _ (ix3 0 s (hl hd d))) hr) (tile_at V c t 1 hd b hb _ (fun r l => ?_) r d)
    exact ld_rows _ _ _ rfl r l _ rfl
  | 2 =>
    refine (if_neg (show ¬ 2 * 256 + r.val < 256 by omega)).trans ((if_neg (show ¬ 2 * 256 + r.val < 512 by omega)).trans ((if_pos (show 2 * 256 + r.val < 768 by omega)).trans ?_))
    have hr : (⟨(2 * 256 + r.val) % 256, by omega⟩ : Fin 256) = r := Fin.ext (by show (2 * 256 + r.val) % 256 = r.val; omega)
    refine Eq.trans (congrArg (fun s => tileV V c t 2 _ (ix3 0 s (hl hd d))) hr) (tile_at V c t 2 hd b hb _ (fun r l => ?_) r d)
    exact ld_rows _ _ _ rfl r l _ rfl
  | 3 =>
    refine (if_neg (show ¬ 3 * 256 + r.val < 256 by omega)).trans ((if_neg (show ¬ 3 * 256 + r.val < 512 by omega)).trans ((if_neg (show ¬ 3 * 256 + r.val < 768 by omega)).trans ?_))
    have hr : (⟨(3 * 256 + r.val) % 256, by omega⟩ : Fin 256) = r := Fin.ext (by show (3 * 256 + r.val) % 256 = r.val; omega)
    refine Eq.trans (congrArg (fun s => tileV V c t 3 _ (ix3 0 s (hl hd d))) hr) (tile_at V c t 3 hd b hb _ (fun r l => ?_) r d)
    exact ld_rows _ _ _ rfl r l _ rfl

end Cert.NaPoint
end
-- ==== Proof.NaTable.lean ====
module

public import proofs.«01_k».proof.Proof.NaIdealRun
public import Idealize.ShloMosaic.Lib.Pipeline.ValueKit
public import Idealize.ShloMosaic.Lib.Pointwise

@[expose] public section

set_option maxRecDepth 16384

noncomputable section
namespace Cert.NaTable
open Cert.KernelIdeal Cert.KernelIdeal.Gen Cert.NaIdealRun
open Idealize.ShloMosaic Idealize.ShloMosaic.TcCoe

/-- The first `n` column offsets' entries, each picked where the query column and the key column are that far apart. -/
def pickV (g : Fin 31 → Elt Ideal .f32) : (n : Nat) → n ≤ 31 → FVec Ideal S64x128 .f32
  | 0, _ => k0_pay8
  | n + 1, h => select (cmpi .eq k0_pay6 (broadcast S64x128 (BitVec.ofNat 32 n))) (broadcast S64x128 (g ⟨n, h⟩)) (pickV g n (Nat.le_of_lt h))

/-- One row of the table: masked outside the window's columns. -/
def lineV (g : Fin 31 → Elt Ideal .f32) : FVec Ideal S64x128 .f32 :=
  select k0_pay7 (pickV g 31 (Nat.le_refl 31)) (broadcast S64x128 (Named.named κ "mask" 0xF149F2CA#32))

/-- The bias table's row for row `jj` of the keys loaded in case `cs` and row `i` of the block of query rows, if that row is in the window. -/
def rowOf (cs i jj : Nat) : Option (Fin 15) :=
  let r := (if cs = 0 then 0 else if cs = 1 then 4 else 28) + i
  let k := (if cs = 2 then 20 else 0) + jj
  let s := min (r - 4) 24
  if s ≤ k ∧ k < s + 8 then some ⟨(k + 7 - r) % 15, Nat.mod_lt _ (by decide)⟩ else none

variable (V : (c : Dev nD) → (b : Ref sig .tc) → Buf (Elt Ideal) ((c : Thread nD τ).loc b))

/-- The scalar of row offset `dr` and column offset `dc` the body reads at point `t`. -/
def scal (c : Dev nD) (t : Fin cfg0.N) (dr : Fin 15) (dc : Fin 31) : Elt Ideal .f32 :=
  View.ld (iblk0 V c 0 t) (Rect.unit (k0_off1 (grid0.coords t) (BitVec.ofNat 32 (31 * dr.val)) (BitVec.ofNat 32 dc.val)) S1.size
    (Gen.facts.k0_off1_inb (grid0.coords t) dr dc)) (Shape.Idx.first (Nat.one_pos))

/-- One row of the table, or the mask. -/
def rowV (c : Dev nD) (t : Fin cfg0.N) : Option (Fin 15) → FVec Ideal S64x128 .f32
  | none => k0_pay8
  | some dr => lineV (scal V c t dr)

/-- Two rows side by side. -/
def pairV (a b : FVec Ideal S64x128 .f32) : FVec Ideal S1x1x1x64x128 .f32 :=
  shapeCast S1x1x1x64x128 (select k0_pay5 b a) shapeCasts_S64x128_S1x1x1x64x128

/-- The table's block at a point: its tiles are pairs of rows. -/
def wantV (c : Dev nD) (t : Fin cfg0.N) (z : S1x3x1x256x768.Idx) : EReal :=
  pairV (rowV V c t (rowOf (z 1).val ((z 3).val / 64) (2 * ((z 4).val / 128)))) (rowV V c t (rowOf (z 1).val ((z 3).val / 64) (2 * ((z 4).val / 128) + 1)))
    (ix5 0 0 0 ⟨(z 3).val % 64, by omega⟩ ⟨(z 4).val % 128, by omega⟩)

theorem wantV_eq (c : Dev nD) (t : Fin cfg0.N) (z : S1x3x1x256x768.Idx) (y : S1x1x1x64x128.Idx) (cs i m : Nat) (a b : Option (Fin 15))
    (h1 : (z 1).val = cs + (y 1).val) (h3 : (z 3).val = 64 * i + (y 3).val) (h4 : (z 4).val = 128 * m + (y 4).val) (ha : rowOf cs i (2 * m) = a)
    (hb : rowOf cs i (2 * m + 1) = b) : pairV (rowV V c t a) (rowV V c t b) y = wantV V c t z := by
  have b0 : (y 0).val < 1 := (y 0).isLt
  have b1 : (y 1).val < 1 := (y 1).isLt
  have b2 : (y 2).val < 1 := (y 2).isLt
  have b3 : (y 3).val < 64 := (y 3).isLt
  have b4 : (y 4).val < 128 := (y 4).isLt
  unfold wantV
  rw [show (z 1).val = cs by omega, show (z 3).val / 64 = i by omega, show (z 4).val / 128 = m by omega, ha, hb]
  exact congrArg (pairV _ _) (funext fun a => Fin.ext (by match a with
    | 0 => show (y 0).val = 0; omega
    | 1 => show (y 1).val = 0; omega
    | 2 => show (y 2).val = 0; omega
    | 3 => show (y 3).val = (z 3).val % 64; omega
    | 4 => show (y 4).val = (z 4).val % 128; omega))

set_option maxHeartbeats 40000000 in
/-- The table's block, tile by tile. -/
theorem out_eq (c : Dev nD) (t : Fin cfg0.N) (z : S1x3x1x256x768.Idx) : outsAt0 V c t z = wantV V c t z := by
  unfold outsAt0
  frame_out
  canon_tiles y h
  case piece0 =>
    exact (show _ = pairV (rowV V c t (some 6)) (rowV V c t (some 7)) y from rfl).trans
      (wantV_eq V c t z y 2 3 5 (some 6) (some 7) (by omega) (by omega) (by omega) (by decide) (by decide))
  case piece1 =>
    exact (show _ = pairV (rowV V c t (some 4)) (rowV V c t (some 5)) y from rfl).trans
      (wantV_eq V c t z y 2 3 4 (some 4) (some 5) (by omega) (by omega) (by omega) (by decide) (by decide))
  case piece2 =>
    exact (show _ = pairV (rowV V c t (some 2)) (rowV V c t (some 3)) y from rfl).trans
      (wantV_eq V c t z y 2 3 3 (some 2) (some 3) (by omega) (by omega) (by omega) (by decide) (by decide))
  case piece3 =>
    exact (show _ = pairV (rowV V c t (some 0)) (rowV V c t (some 1)) y from rfl).trans
      (wantV_eq V c t z y 2 3 2 (some 0) (some 1) (by omega) (by omega) (by omega) (by decide) (by decide))
  case piece4 =>
    exact (show _ = pairV (rowV V c t none) (rowV V c t none) y from rfl).trans
      (wantV_eq V c t z y 2 3 1 none none (by omega) (by omega) (by omega) (by decide) (by decide))
  case piece5 =>
    exact (show _ = pairV (rowV V c t none) (rowV V c t none) y from rfl).trans
      (wantV_eq V c t z y 2 3 0 none none (by omega) (by omega) (by omega) (by decide) (by decide))
  case piece6 =>
    exact (show _ = pairV (rowV V c t (some 7)) (rowV V c t (some 8)) y from rfl).trans
      (wantV_eq V c t z y 2 2 5 (some 7) (some 8) (by omega) (by omega) (by omega) (by decide) (by decide))
  case piece7 =>
    exact (show _ = pairV (rowV V c t (some 5)) (rowV V c t (some 6)) y from rfl).trans
      (wantV_eq V c t z y 2 2 4 (some 5) (some 6) (by omega) (by omega) (by omega) (by decide) (by decide))
  case piece8 =>
    exact (show _ = pairV (rowV V c t (some 3)) (rowV V c t (some 4)) y from rfl).trans
      (wantV_eq V c t z y 2 2 3 (some 3) (some 4) (by omega) (by omega) (by omega) (by decide) (by decide))
  case piece9 =>
    exact (show _ = pairV (rowV V c t (some 1)) (rowV V c t (some 2)) y from rfl).trans
      (wantV_eq V c t z y 2 2 2 (some 1) (some 2) (by omega) (by omega) (by omega) (by decide) (by decide))
  case piece10 =>
    exact (show _ = pairV (rowV V c t none) (rowV V c t none) y from rfl).trans
      (wantV_eq V c t z y 2 2 1 none none (by omega) (by omega) (by omega) (by decide) (by decide))
  case piece11 =>
    exact (show _ = pairV (rowV V c t none) (rowV V c t none) y from rfl).trans
      (wantV_eq V c t z y 2 2 0 none none (by omega) (by omega) (by omega) (by decide) (by decide))
  case piece12 =>
    exact (show _ = pairV (rowV V c t (some 8)) (rowV V c t (some 9)) y from rfl).trans
      (wantV_eq V c t z y 2 1 5 (some 8) (some 9) (by omega) (by omega) (by omega) (by decide) (by decide))
  case piece13 =>
    exact (show _ = pairV (rowV V c t (some 6)) (rowV V c t (some 7)) y from rfl).trans
      (wantV_eq V c t z y 2 1 4 (some 6) (some 7) (by omega) (by omega) (by omega) (by decide) (by decide))
  case piece14 =>
    exact (show _ = pairV (rowV V c t (some 4)) (rowV V c t (some 5)) y from rfl).trans
      (wantV_eq V c t z y 2 1 3 (some 4) (some 5) (by omega) (by omega) (by omega) (by decide) (by decide))
  case piece15 =>
    exact (show _ = pairV (rowV V c t (some 2)) (rowV V c t (some 3)) y from rfl).trans
      (wantV_eq V c t z y 2 1 2 (some 2) (some 3) (by omega) (by omega) (by omega) (by decide) (by decide))
  case piece16 =>
    exact (show _ = pairV (rowV V c t none) (rowV V c t none) y from rfl).trans
      (wantV_eq V c t z y 2 1 1 none none (by omega) (by omega) (by omega) (by decide) (by decide))
  case piece17 =>
    exact (show _ = pairV (rowV V c t none) (rowV V c t none) y from rfl).trans
      (wantV_eq V c t z y 2 1 0 none none (by omega) (by omega) (by omega) (by decide) (by decide))
  case piece18 =>
    exact (show _ = pairV (rowV V c t (some 9)) (rowV V c t (some 10)) y from rfl).trans
      (wantV_eq V c t z y 2 0 5 (some 9) (some 10) (by omega) (by omega) (by omega) (by decide) (by decide))
  case piece19 =>
    exact (show _ = pairV (rowV V c t (some 7)) (rowV V c t (some 8)) y from rfl).trans
      (wantV_eq V c t z y 2 0 4 (some 7) (some 8) (by omega) (by omega) (by omega) (by decide) (by decide))
  case piece20 =>
    exact (show _ = pairV (rowV V c t (some 5)) (rowV V c t (some 6)) y from rfl).trans
      (wantV_eq V c t z y 2 0 3 (some 5) (some 6) (by omega) (by omega) (by omega) (by decide) (by decide))
  case piece21 =>
    exact (show _ = pairV (rowV V c t (some 3)) (rowV V c t (some 4)) y from rfl).trans
      (wantV_eq V c t z y 2 0 2 (some 3) (some 4) (by omega) (by omega) (by omega) (by decide) (by decide))
  case piece22 =>
    exact (show _ = pairV (rowV V c t none) (rowV V c t none) y from rfl).trans
      (wantV_eq V c t z y 2 0 1 none none (by omega) (by omega) (by omega) (by decide) (by decide))
  case piece23 =>
    exact (show _ = pairV (rowV V c t none) (rowV V c t none) y from rfl).trans
      (wantV_eq V c t z y 2 0 0 none none (by omega) (by omega) (by omega) (by decide) (by decide))
  case piece24 =>
    exact (show _ = pairV (rowV V c t (some 10)) (rowV V c t none) y from rfl).trans
      (wantV_eq V c t z y 1 3 5 (some 10) none (by omega) (by omega) (by omega) (by decide) (by decide))
  case piece25 =>
    exact (show _ = pairV (rowV V c t (some 8)) (rowV V c t (some 9)) y from rfl).trans
      (wantV_eq V c t z y 1 3 4 (some 8) (some 9) (by omega) (by omega) (by omega) (by decide) (by decide))
  case piece26 =>
    exact (show _ = pairV (rowV V c t (some 6)) (rowV V c t (some 7)) y from rfl).trans
      (wantV_eq V c t z y 1 3 3 (some 6) (some 7) (by omega) (by omega) (by omega) (by decide) (by decide))
  case piece27 =>
    exact (show _ = pairV (rowV V c t (some 4)) (rowV V c t (some 5)) y from rfl).trans
      (wantV_eq V c t z y 1 3 2 (some 4) (some 5) (by omega) (by omega) (by omega) (by decide) (by decide))
  case piece28 =>
    exact (show _ = pairV (rowV V c t none) (rowV V c t (some 3)) y from rfl).trans
      (wantV_eq V c t z y 1 3 1 none (some 3) (by omega) (by omega) (by omega) (by decide) (by decide))
  case piece29 =>
    exact (show _ = pairV (rowV V c t none) (rowV V c t none) y from rfl).trans
      (wantV_eq V c t z y 1 3 0 none none (by omega) (by omega) (by omega) (by decide) (by decide))
  case piece30 =>
    exact (show _ = pairV (rowV V c t none) (rowV V c t none) y from rfl).trans
      (wantV_eq V c t z y 1 2 5 none none (by omega) (by omega) (by omega) (by decide) (by decide))
  case piece31 =>
    exact (show _ = pairV (rowV V c t (some 9)) (rowV V c t (some 10)) y from rfl).trans
      (wantV_eq V c t z y 1 2 4 (some 9) (some 10) (by omega) (by omega) (by omega) (by decide) (by decide))
  case piece32 =>
    exact (show _ = pairV (rowV V c t (some 7)) (rowV V c t (some 8)) y from rfl).trans
      (wantV_eq V c t z y 1 2 3 (some 7) (some 8) (by omega) (by omega) (by omega) (by decide) (by decide))
  case piece33 =>
    exact (show _ = pairV (rowV V c t (some 5)) (rowV V c t (some 6)) y from rfl).trans
      (wantV_eq V c t z y 1 2 2 (some 5) (some 6) (by omega) (by omega) (by omega) (by decide) (by decide))
  case piece34 =>
    exact (show _ = pairV (rowV V c t (some 3)) (rowV V c t (some 4)) y from rfl).trans
      (wantV_eq V c t z y 1 2 1 (some 3) (some 4) (by omega) (by omega) (by omega) (by decide) (by decide))
  case piece35 =>
    exact (show _ = pairV (rowV V c t none) (rowV V c t none) y from rfl).trans
      (wantV_eq V c t z y 1 2 0 none none (by omega) (by omega) (by omega) (by decide) (by decide))
  case piece36 =>
    exact (show _ = pairV (rowV V c t none) (rowV V c t none) y from rfl).trans
      (wantV_eq V c t z y 1 1 5 none none (by omega) (by omega) (by omega) (by decide) (by decide))
  case piece37 =>
    exact (show _ = pairV (rowV V c t (some 10)) (rowV V c t none) y from rfl).trans
      (wantV_eq V c t z y 1 1 4 (some 10) none (by omega) (by omega) (by omega) (by decide) (by decide))
  case piece38 =>
    exact (show _ = pairV (rowV V c t (some 8)) (rowV V c t (some 9)) y from rfl).trans
      (wantV_eq V c t z y 1 1 3 (some 8) (some 9) (by omega) (by omega) (by omega) (by decide) (by decide))
  case piece39 =>
    exact (show _ = pairV (rowV V c t (some 6)) (rowV V c t (some 7)) y from rfl).trans
      (wantV_eq V c t z y 1 1 2 (some 6) (some 7) (by omega) (by omega) (by omega) (by decide) (by decide))
  case piece40 =>
    exact (show _ = pairV (rowV V c t (some 4)) (rowV V c t (some 5)) y from rfl).trans
      (wantV_eq V c t z y 1 1 1 (some 4) (some 5) (by omega) (by omega) (by omega) (by decide) (by decide))
  case piece41 =>
    exact (show _ = pairV (rowV V c t none) (rowV V c t (some 3)) y from rfl).trans
      (wantV_eq V c t z y 1 1 0 none (some 3) (by omega) (by omega) (by omega) (by decide) (by decide))
  case piece42 =>
    exact (show _ = pairV (rowV V c t none) (rowV V c t none) y from rfl).trans
      (wantV_eq V c t z y 1 0 5 none none (by omega) (by omega) (by omega) (by decide) (by decide))
  case piece43 =>
    exact (show _ = pairV (rowV V c t none) (rowV V c t none) y from rfl).trans
      (wantV_eq V c t z y 1 0 4 none none (by omega) (by omega) (by omega) (by decide) (by decide))
  case piece44 =>
    exact (show _ = pairV (rowV V c t (some 9)) (rowV V c t (some 10)) y from rfl).trans
      (wantV_eq V c t z y 1 0 3 (some 9) (some 10) (by omega) (by omega) (by omega) (by decide) (by decide))
  case piece45 =>
    exact (show _ = pairV (rowV V c t (some 7)) (rowV V c t (some 8)) y from rfl).trans
      (wantV_eq V c t z y 1 0 2 (some 7) (some 8) (by omega) (by omega) (by omega) (by decide) (by decide))
  case piece46 =>
    exact (show _ = pairV (rowV V c t (some 5)) (rowV V c t (some 6)) y from rfl).trans
      (wantV_eq V c t z y 1 0 1 (some 5) (some 6) (by omega) (by omega) (by omega) (by decide) (by decide))
  case piece47 =>
    exact (show _ = pairV (rowV V c t (some 3)) (rowV V c t (some 4)) y from rfl).trans
      (wantV_eq V c t z y 1 0 0 (some 3) (some 4) (by omega) (by omega) (by omega) (by decide) (by decide))
  case piece48 =>
    exact (show _ = pairV (rowV V c t none) (rowV V c t none) y from rfl).trans
      (wantV_eq V c t z y 0 3 5 none none (by omega) (by omega) (by omega) (by decide) (by decide))
  case piece49 =>
    exact (show _ = pairV (rowV V c t none) (rowV V c t none) y from rfl).trans
      (wantV_eq V c t z y 0 3 4 none none (by omega) (by omega) (by omega) (by decide) (by decide))
  case piece50 =>
    exact (show _ = pairV (rowV V c t (some 10)) (rowV V c t (some 11)) y from rfl).trans
      (wantV_eq V c t z y 0 3 3 (some 10) (some 11) (by omega) (by omega) (by omega) (by decide) (by decide))
  case piece51 =>
    exact (show _ = pairV (rowV V c t (some 8)) (rowV V c t (some 9)) y from rfl).trans
      (wantV_eq V c t z y 0 3 2 (some 8) (some 9) (by omega) (by omega) (by omega) (by decide) (by decide))
  case piece52 =>
    exact (show _ = pairV (rowV V c t (some 6)) (rowV V c t (some 7)) y from rfl).trans
      (wantV_eq V c t z y 0 3 1 (some 6) (some 7) (by omega) (by omega) (by omega) (by decide) (by decide))
  case piece53 =>
    exact (show _ = pairV (rowV V c t (some 4)) (rowV V c t (some 5)) y from rfl).trans
      (wantV_eq V c t z y 0 3 0 (some 4) (some 5) (by omega) (by omega) (by omega) (by decide) (by decide))
  case piece54 =>
    exact (show _ = pairV (rowV V c t none) (rowV V c t none) y from rfl).trans
      (wantV_eq V c t z y 0 2 5 none none (by omega) (by omega) (by omega) (by decide) (by decide))
  case piece55 =>
    exact (show _ = pairV (rowV V c t none) (rowV V c t none) y from rfl).trans
      (wantV_eq V c t z y 0 2 4 none none (by omega) (by omega) (by omega) (by decide) (by decide))
  case piece56 =>
    exact (show _ = pairV (rowV V c t (some 11)) (rowV V c t (some 12)) y from rfl).trans
      (wantV_eq V c t z y 0 2 3 (some 11) (some 12) (by omega) (by omega) (by omega) (by decide) (by decide))
  case piece57 =>
    exact (show _ = pairV (rowV V c t (some 9)) (rowV V c t (some 10)) y from rfl).trans
      (wantV_eq V c t z y 0 2 2 (some 9) (some 10) (by omega) (by omega) (by omega) (by decide) (by decide))
  case piece58 =>
    exact (show _ = pairV (rowV V c t (some 7)) (rowV V c t (some 8)) y from rfl).trans
      (wantV_eq V c t z y 0 2 1 (some 7) (some 8) (by omega) (by omega) (by omega) (by decide) (by decide))
  case piece59 =>
    exact (show _ = pairV (rowV V c t (some 5)) (rowV V c t (some 6)) y from rfl).trans
      (wantV_eq V c t z y 0 2 0 (some 5) (some 6) (by omega) (by omega) (by omega) (by decide) (by decide))
  case piece60 =>
    exact (show _ = pairV (rowV V c t none) (rowV V c t none) y from rfl).trans
      (wantV_eq V c t z y 0 1 5 none none (by omega) (by omega) (by omega) (by decide) (by decide))
  case piece61 =>
    exact (show _ = pairV (rowV V c t none) (rowV V c t none) y from rfl).trans
      (wantV_eq V c t z y 0 1 4 none none (by omega) (by omega) (by omega) (by decide) (by decide))
  case piece62 =>
    exact (show _ = pairV (rowV V c t (some 12)) (rowV V c t (some 13)) y from rfl).trans
      (wantV_eq V c t z y 0 1 3 (some 12) (some 13) (by omega) (by omega) (by omega) (by decide) (by decide))
  case piece63 =>
    exact (show _ = pairV (rowV V c t (some 10)) (rowV V c t (some 11)) y from rfl).trans
      (wantV_eq V c t z y 0 1 2 (some 10) (some 11) (by omega) (by omega) (by omega) (by decide) (by decide))
  case piece64 =>
    exact (show _ = pairV (rowV V c t (some 8)) (rowV V c t (some 9)) y from rfl).trans
      (wantV_eq V c t z y 0 1 1 (some 8) (some 9) (by omega) (by omega) (by omega) (by decide) (by decide))
  case piece65 =>
    exact (show _ = pairV (rowV V c t (some 6)) (rowV V c t (some 7)) y from rfl).trans
      (wantV_eq V c t z y 0 1 0 (some 6) (some 7) (by omega) (by omega) (by omega) (by decide) (by decide))
  case piece66 =>
    exact (show _ = pairV (rowV V c t none) (rowV V c t none) y from rfl).trans
      (wantV_eq V c t z y 0 0 5 none none (by omega) (by omega) (by omega) (by decide) (by decide))
  case piece67 =>
    exact (show _ = pairV (rowV V c t none) (rowV V c t none) y from rfl).trans
      (wantV_eq V c t z y 0 0 4 none none (by omega) (by omega) (by omega) (by decide) (by decide))
  case piece68 =>
    exact (show _ = pairV (rowV V c t (some 13)) (rowV V c t (some 14)) y from rfl).trans
      (wantV_eq V c t z y 0 0 3 (some 13) (some 14) (by omega) (by omega) (by omega) (by decide) (by decide))
  case piece69 =>
    exact (show _ = pairV (rowV V c t (some 11)) (rowV V c t (some 12)) y from rfl).trans
      (wantV_eq V c t z y 0 0 2 (some 11) (some 12) (by omega) (by omega) (by omega) (by decide) (by decide))
  case piece70 =>
    exact (show _ = pairV (rowV V c t (some 9)) (rowV V c t (some 10)) y from rfl).trans
      (wantV_eq V c t z y 0 0 1 (some 9) (some 10) (by omega) (by omega) (by omega) (by decide) (by decide))
  case piece71 =>
    exact (show _ = pairV (rowV V c t (some 7)) (rowV V c t (some 8)) y from rfl).trans
      (wantV_eq V c t z y 0 0 0 (some 7) (some 8) (by omega) (by omega) (by omega) (by decide) (by decide))

end Cert.NaTable
end
-- ==== Proof.NaEntry.lean ====
/-
  Neighbourhood attention: the entries of the table of bias and mask the first kernel writes.
-/
module

public import proofs.«01_k».proof.Proof.NaTable
public import proofs.«01_k».proof.Proof.NaSpec

@[expose] public section

set_option maxRecDepth 16384

noncomputable section
namespace Cert.NaEntry
open Cert.KernelIdeal Cert.KernelIdeal.Gen Cert.NaIdealRun Cert.NaTable Cert.NaSpec
open Idealize.ShloMosaic Idealize.ShloMosaic.TcCoe

/-- Key column of a lane. -/
def kcol (k : Fin 128) : Fin 64 := ⟨k.val % 64, by omega⟩

theorem mask_select {α : Type} (p : Prop) [Decidable p] (x y : α) : Scalar.select (BitVec.ofBool (decide p)) x y = if p then x else y := by
  by_cases h : p <;> simp [Scalar.select, h]

theorem second_at : ∀ (q : Fin 64) (k : Fin 128), k0_pay5 (ix2 q k) = BitVec.ofBool (decide (64 ≤ k.val)) := by
  intro q k
  pointwise [k0_pay5]
  revert q k
  decide +kernel

theorem col_at : ∀ (q : Fin 64) (k : Fin 128), k0_pay6 (ix2 q k) = BitVec.ofNat 32 (dcol q (kcol k)).val := by
  intro q k
  pointwise [k0_pay6, k0_pay4]
  revert q k
  decide +kernel

theorem ok_at : ∀ (q : Fin 64) (k : Fin 128), k0_pay7 (ix2 q k) = BitVec.ofBool (decide (colOk q (kcol k))) := by
  intro q k
  pointwise [k0_pay7, k0_pay4]
  revert q k
  decide +kernel

/-- The mask's value. -/
theorem mask_bot : Named.named (F := Ideal) κ "mask" (φ := .f32) 0xF149F2CA#32 = (⊥ : EReal) := by
  simp [Named.named, κ]

theorem pay8_at (q : Fin 64) (k : Fin 128) : (k0_pay8 : FVec Ideal S64x128 .f32) (ix2 q k) = (⊥ : EReal) := by
  refine Eq.trans ?_ mask_bot
  rfl

theorem word_eq : ∀ a b : Fin 31, Scalar.cmpi .eq (BitVec.ofNat 32 a.val) (BitVec.ofNat 32 b.val) = BitVec.ofBool (decide (a.val = b.val)) := by
  decide +kernel

theorem pickV_at (g : Fin 31 → Elt Ideal .f32) (q : Fin 64) (k : Fin 128) : ∀ (n : Nat) (h : n ≤ 31),
    pickV g n h (ix2 q k) = if (dcol q (kcol k)).val < n then g (dcol q (kcol k)) else (⊥ : EReal)
  | 0, _ => (pay8_at q k).trans (if_neg (Nat.not_lt_zero _)).symm
  | n + 1, h => by
    have hd : (dcol q (kcol k)).val < 31 := (dcol q (kcol k)).isLt
    show Scalar.select (Scalar.cmpi .eq (k0_pay6 (ix2 q k)) (BitVec.ofNat 32 n)) (g ⟨n, h⟩) (pickV g n (Nat.le_of_lt h) (ix2 q k)) = _
    rw [pickV_at g q k n, col_at, word_eq (dcol q (kcol k)) ⟨n, h⟩, mask_select]
    by_cases e : (dcol q (kcol k)).val = n
    · rw [if_pos e, if_pos (by omega)]
      exact congrArg g (Fin.ext e.symm)
    · rw [if_neg e]
      by_cases l : (dcol q (kcol k)).val < n
      · rw [if_pos l, if_pos (by omega)]
      · rw [if_neg l, if_neg (by omega)]

theorem lineV_at (g : Fin 31 → Elt Ideal .f32) (q : Fin 64) (k : Fin 128) :
    lineV g (ix2 q k) = if colOk q (kcol k) then g (dcol q (kcol k)) else (⊥ : EReal) := by
  show Scalar.select (k0_pay7 (ix2 q k)) (pickV g 31 (Nat.le_refl 31) (ix2 q k)) (Named.named κ "mask" 0xF149F2CA#32) = _
  rw [ok_at, mask_select, pickV_at, if_pos (dcol q (kcol k)).isLt, mask_bot]

variable (V : (c : Dev nD) → (b : Ref sig .tc) → Buf (Elt Ideal) ((c : Thread nD τ).loc b))

theorem pairV_at (a b : FVec Ideal S64x128 .f32) (q : Fin 64) (k : Fin 128) :
    pairV a b (ix5 0 0 0 q k) = if 64 ≤ k.val then b (ix2 q k) else a (ix2 q k) := by
  pointwise [pairV]
  rw [second_at, mask_select]

/-- The windows' index maps and the grid point's coordinates. -/
theorem idx : ∀ t : Fin cfg0.N, win0_0.index t = ![0] ∧ win0_1.index t = ![t.val / 4, 0, t.val % 4, 0, 0]
    ∧ (grid0.coords t 0).val = t.val / 4 ∧ (grid0.coords t 1).val = t.val % 4 :=
  (by decide +kernel : ∀ t : Fin grid0.N, win0_0.index t = ![0] ∧ win0_1.index t = ![t.val / 4, 0, t.val % 4, 0, 0]
    ∧ (grid0.coords t 0).val = t.val / 4 ∧ (grid0.coords t 1).val = t.val % 4)

theorem off_at : ∀ (t : Fin cfg0.N) (dr : Fin 15) (dc : Fin 31),
    k0_off1 (grid0.coords t) (BitVec.ofNat 32 (31 * dr.val)) (BitVec.ofNat 32 dc.val) = ![t.val * 465 + 31 * dr.val + dc.val] :=
  (by decide +kernel : ∀ (t : Fin grid0.N) (dr : Fin 15) (dc : Fin 31),
    k0_off1 (grid0.coords t) (BitVec.ofNat 32 (31 * dr.val)) (BitVec.ofNat 32 dc.val) = ![t.val * 465 + 31 * dr.val + dc.val])

theorem blk_at (c : Dev nD) (t : Fin cfg0.N) (n : Fin 7440) : iblk0 V c 0 t (ix1 n) = V c main_v0 (ix1 n) := by
  blk_ext [iblk0, idx t]

theorem ld_scal (X : Vec Ideal S7440 .f32) (off : Fin 1 → Nat) (inb) (n : Fin 7440) (h : off = ![n.val]) :
    View.ld X (Rect.unit (s := S7440) off S1.size inb) (Shape.Idx.first (Nat.one_pos)) = X (ix1 n) := by
  subst h
  refine congrArg X (funext fun a => Fin.ext ?_)
  match a with
  | 0 => rfl

theorem scal_at (c : Dev nD) (t : Fin cfg0.N) (dr : Fin 15) (dc : Fin 31) (n : Fin 7440) (hn : n.val = t.val * 465 + 31 * dr.val + dc.val) :
    scal V c t dr dc = V c main_v0 (ix1 n) :=
  (ld_scal (iblk0 V c 0 t) _ _ n ((off_at t dr dc).trans (by rw [hn]))).trans (blk_at V c t n)

/-- Where the bias of a layer and head sits in the flat table. -/
def pos (L h : Fin 4) (dr : Fin 15) (dc : Fin 31) : Fin 7440 := ⟨(L.val * 4 + h.val) * 465 + 31 * dr.val + dc.val, by omega⟩

/-- An entry of the table. -/
def entry (X : Vec Ideal S7440 .f32) (L h : Fin 4) (q k : Fin 64) : Option (Fin 15) → EReal
  | none => ⊥
  | some dr => if colOk q k then X (ix1 (pos L h dr (dcol q k))) else ⊥

theorem rowV_at (c : Dev nD) (t : Fin cfg0.N) (L h : Fin 4) (hL : L.val = t.val / 4) (hh : h.val = t.val % 4) (o : Option (Fin 15)) (q : Fin 64) (k : Fin 128) :
    rowV V c t o (ix2 q k) = entry (V c main_v0) L h q (kcol k) o := by
  match o with
  | none => exact pay8_at q k
  | some dr =>
    refine (lineV_at _ q k).trans ?_
    unfold entry
    rw [scal_at V c t dr _ (pos L h dr (dcol q (kcol k))) (by simp only [pos]; omega)]

/-- An entry of the table's block at a point. -/
theorem block_at (c : Dev nD) (t : Fin cfg0.N) (L h : Fin 4) (hL : L.val = t.val / 4) (hh : h.val = t.val % 4) (s : Fin 3) (r : Fin 256) (j : Fin 768) :
    outsAt0 V c t (ix5 0 s 0 r j) =
      entry (V c main_v0) L h ⟨r.val % 64, by omega⟩ ⟨j.val % 64, by omega⟩ (rowOf s.val (r.val / 64) (j.val / 64)) := by
  rw [out_eq]
  unfold wantV
  show pairV (rowV V c t (rowOf s.val (r.val / 64) (2 * (j.val / 128)))) (rowV V c t (rowOf s.val (r.val / 64) (2 * (j.val / 128) + 1)))
    (ix5 0 0 0 ⟨r.val % 64, by omega⟩ ⟨j.val % 128, by omega⟩) = _
  have hk : kcol ⟨j.val % 128, by omega⟩ = ⟨j.val % 64, by omega⟩ := Fin.ext (by show j.val % 128 % 64 = j.val % 64; omega)
  rw [pairV_at, rowV_at V c t L h hL hh, rowV_at V c t L h hL hh, hk]
  by_cases e : 64 ≤ j.val % 128
  · rw [if_pos (show 64 ≤ (⟨j.val % 128, _⟩ : Fin 128).val from e), show 2 * (j.val / 128) + 1 = j.val / 64 by omega]
  · rw [if_neg (show ¬ 64 ≤ (⟨j.val % 128, _⟩ : Fin 128).val from e), show 2 * (j.val / 128) = j.val / 64 by omega]

/-- The table. -/
def table (X : Vec Ideal S7440 .f32) : Vec Ideal S4x3x4x256x768 .f32 := fun z =>
  entry X (z 0) (z 2) ⟨(z 3).val % 64, by omega⟩ ⟨(z 4).val % 64, by omega⟩ (rowOf (z 1).val ((z 3).val / 64) ((z 4).val / 64))

/-- The table's array after the first kernel. -/
theorem final (c : Dev nD) : (dat0 V c).arrAt 1 cfg0.N = table (V c main_v0) := by
  refine (dat0 V c).arrAt_eq_of_covers 1 _ (by decide +kernel) fun t _ y => ?_
  blk_simp
  rw [after0_1]
  idx_vars y
  have h : t.val < 16 := t.isLt
  obtain rfl : y0 = 0 := Fin.ext (by omega)
  obtain rfl : y2 = 0 := Fin.ext (by omega)
  refine (block_at V c t ⟨t.val / 4, by omega⟩ ⟨t.val % 4, by omega⟩ rfl rfl y1 y3 y4).trans ?_
  show table (V c main_v0) (ix5 ⟨t.val / 4, by omega⟩ y1 ⟨t.val % 4, by omega⟩ y3 y4) = _
  blk_ext [idx t]

variable (m : (ℓ : Loc nD τ sig) → Buf (Elt Ideal) ℓ) (ρ : Dev nD → PrngReg)

theorem flat_at (c : Dev nD) (L h : Fin 4) (dr : Fin 15) (dc : Fin 31) :
    V1 m ρ c main_v0 (ix1 (pos L h dr dc)) = m ((c : Thread nD τ).loc main_arg1) (ix4 L h dr dc) := by
  show StableHlo.after hostOps0 (W0 m ρ c) (Proc.devRef .tc main_v0) (ix1 (pos L h dr dc)) = _
  entry_read
  pointwise []
  show m ((c : Thread nD τ).loc main_arg1) _ = _
  refine congrArg _ (funext fun a => Fin.ext ?_)
  match a with
  | 0 => show ((L.val * 4 + h.val) * 465 + 31 * dr.val + dc.val) / 1860 = L.val; omega
  | 1 => show ((L.val * 4 + h.val) * 465 + 31 * dr.val + dc.val) / 465 % 4 = h.val; omega
  | 2 => show ((L.val * 4 + h.val) * 465 + 31 * dr.val + dc.val) / 31 % 15 = dr.val; omega
  | 3 => show ((L.val * 4 + h.val) * 465 + 31 * dr.val + dc.val) % 31 = dc.val; omega

end Cert.NaEntry
end
-- ==== Proof.NaRef.lean ====
module

public import proofs.«01_k».proof.Proof.NaSpec
public import proofs.«01_k».proof.Proof.Gen.ReferenceIdeal.Read

@[expose] public section

set_option maxRecDepth 16384

noncomputable section

namespace Cert.NaRef

open Cert.ReferenceIdeal Cert.ReferenceIdeal.Gen Cert.ReferenceIdeal.Read Cert.NaMath Cert.NaSpec
open Idealize.ShloMosaic Idealize.ShloMosaic.TcCoe

/-- The word of a window row. -/
theorem v24_at (r : Fin 32) (s : Fin 8) : val_main_v24 (F := Ideal) (ix2 r s) = BitVec.ofNat 32 (krow r s).val := by
  pointwise [val_main_v24, val_main_v23, val_main_v22, val_main_v21, val_main_v20, val_main_v19, val_main_v18, val_main_v17, val_main_v16, val_main_v15,
    val_main_c, val_main_c_0, val_main_c_1, val_main_call0_v0, val_main_call0_v1, val_main_call0_v2, val_main_call0_v3, val_main_call0_v4]
  revert r s
  decide +kernel

theorem v30_at (r : Fin 32) (s : Fin 8) : val_main_v30 (F := Ideal) (ix3 r s 0) = BitVec.ofNat 32 (krow r s).val := by
  pointwise [val_main_v30, val_main_v29, val_main_v28, val_main_v27, val_main_v26, val_main_v25, val_main_c_2, val_main_c_3]
  rw [v24_at]
  revert r s
  decide +kernel

theorem v37_at (r : Fin 32) (s : Fin 8) : val_main_v37 (F := Ideal) (ix3 r s 0) = BitVec.ofNat 32 (krow r s).val := by
  pointwise [val_main_v37, val_main_v36, val_main_v35, val_main_v34, val_main_v33, val_main_v32, val_main_c_4, val_main_c_5]
  rw [v24_at]
  revert r s
  decide +kernel

theorem v55_at (q k : Fin 64) : val_main_v55 (F := Ideal) (ix2 q k) = BitVec.ofBool (decide (colOk q k)) := by
  pointwise [val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_c_6, val_main_c_7, val_main_c_8, val_main_c_9,
    val_main_call1_v0, val_main_call1_v1, val_main_call1_v2, val_main_call1_v3, val_main_call1_v4]
  revert q k
  decide +kernel

theorem v62_at (r : Fin 32) (s : Fin 8) : val_main_v62 (F := Ideal) (ix2 r s) = BitVec.ofNat 32 (drow r s).val := by
  pointwise [val_main_v62, val_main_v61, val_main_v60, val_main_v59, val_main_v58, val_main_v57, val_main_v56, val_main_v15, val_main_c_10, val_main_c_11]
  rw [v24_at]
  revert r s
  decide +kernel

theorem v72_at (q k : Fin 64) : val_main_v72 (F := Ideal) (ix2 q k) = BitVec.ofNat 32 (dcol q k).val := by
  pointwise [val_main_v72, val_main_v71, val_main_v70, val_main_v69, val_main_v68, val_main_v67, val_main_v66, val_main_v65, val_main_v64, val_main_v63,
    val_main_v39, val_main_c_12, val_main_c_13, val_main_c_14, val_main_c_15,
    val_main_call2_v0, val_main_call2_v1, val_main_call2_v2, val_main_call2_v3, val_main_call2_v4]
  revert q k
  decide +kernel

theorem v85_at (r : Fin 32) (q : Fin 64) (s : Fin 8) (k : Fin 64) :
    val_main_v85 (F := Ideal) (ix4 r q s k) = BitVec.ofNat 32 (drow r s).val := by
  pointwise [val_main_v85, val_main_v79, val_main_v78, val_main_v77, val_main_v76, val_main_v75, val_main_v73, val_main_c_16, val_main_c_17]
  rw [v62_at]
  revert r s
  decide +kernel

theorem v86_at (r : Fin 32) (q : Fin 64) (s : Fin 8) (k : Fin 64) :
    val_main_v86 (F := Ideal) (ix4 r q s k) = BitVec.ofNat 32 (dcol q k).val := by
  pointwise [val_main_v86, val_main_v84, val_main_v83, val_main_v82, val_main_v81, val_main_v80, val_main_v74, val_main_c_18, val_main_c_19]
  rw [v72_at]
  revert q k
  decide +kernel

theorem v89_0 (r : Fin 32) (q : Fin 64) (s : Fin 8) (k : Fin 64) :
    val_main_v89 (F := Ideal) (ix5 r q s k 0) = BitVec.ofNat 32 (drow r s).val := by
  pointwise [val_main_v89, val_main_v87, val_main_v88]
  rw [v85_at]

theorem v89_1 (r : Fin 32) (q : Fin 64) (s : Fin 8) (k : Fin 64) :
    val_main_v89 (F := Ideal) (ix5 r q s k 1) = BitVec.ofNat 32 (dcol q k).val := by
  pointwise [val_main_v89, val_main_v87, val_main_v88]
  rw [v86_at]

end Cert.NaRef

end
-- ==== Proof.NaRefOut.lean ====
module

public import proofs.«01_k».proof.Proof.NaRef

@[expose] public section

set_option maxRecDepth 16384

noncomputable section

namespace Cert.NaRef

open Cert.ReferenceIdeal Cert.ReferenceIdeal.Gen Cert.ReferenceIdeal.Read Cert.NaMath Cert.NaSpec
open Idealize.ShloMosaic Idealize.ShloMosaic.TcCoe

/-- The gather of grid rows reads the row its index word names. -/
theorem gather_rows (x : FVec Ideal S8x32x64x4x64 .f32) (idx : IVec S32x8x1 32) (b : Fin 8) (r : Fin 32) (s : Fin 8) (k : Fin 64) (h : Fin 4) (d : Fin 64)
    (R : Fin 32) (hR : idx (ix3 r s 0) = BitVec.ofNat 32 R.val) :
    Host.gather gather_S8x32x64x4x64_S32x8x1_S8x32x8x64x4x64_0345_1_n_n_1_2_8164464 x idx (ix6 b r s k h d) = x (ix5 b R k h d) := by
  unfold Host.gather
  congr 1
  funext a
  refine Fin.ext ?_
  generalize hg : gather_S8x32x64x4x64_S32x8x1_S8x32x8x64x4x64_0345_1_n_n_1_2_8164464 = g
  show g.start (ix6 b r s k h d) idx a + g.batchCoord (ix6 b r s k h d) a + g.offCoord (ix6 b r s k h d) a = _
  subst hg
  rw [GatherDims.batchCoord_eq_zero _ _ _ List.not_mem_nil]
  match a with
  | ⟨1, _⟩ =>
    show gather_S8x32x64x4x64_S32x8x1_S8x32x8x64x4x64_0345_1_n_n_1_2_8164464.start (ix6 b r s k h d) idx (1 : Fin 5) + 0 + gather_S8x32x64x4x64_S32x8x1_S8x32x8x64x4x64_0345_1_n_n_1_2_8164464.offCoord (ix6 b r s k h d) (1 : Fin 5) = _
    rw [GatherDims.offCoord_eq_zero _ _ _ (fun h => ((GatherDims.mem_sKept _ _).mp h).1 (by decide))]
    unfold GatherDims.start
    rw [dif_pos (by decide)]
    rw [show (GatherDims.siIdx gather_S8x32x64x4x64_S32x8x1_S8x32x8x64x4x64_0345_1_n_n_1_2_8164464 (ix6 b r s k h d) ⟨List.idxOf (1 : Fin 5) gather_S8x32x64x4x64_S32x8x1_S8x32x8x64x4x64_0345_1_n_n_1_2_8164464.startIndexMap, List.idxOf_lt_length_iff.2 (show (1 : Fin 5) ∈ gather_S8x32x64x4x64_S32x8x1_S8x32x8x64x4x64_0345_1_n_n_1_2_8164464.startIndexMap by decide)⟩) = ix3 r s 0 from by
      funext b; refine Fin.ext ?_
      match b with
      | ⟨0, _⟩ => rfl
      | ⟨1, _⟩ => rfl
      | ⟨2, _⟩ => rfl]
    rw [hR]
    clear hR
    show min (BitVec.ofNat 32 R.val).toInt.toNat (32 - 1) + 0 + 0 = R.val
    revert R
    decide +kernel
  | ⟨0, _⟩ =>
    show gather_S8x32x64x4x64_S32x8x1_S8x32x8x64x4x64_0345_1_n_n_1_2_8164464.start (ix6 b r s k h d) idx (0 : Fin 5) + 0 + gather_S8x32x64x4x64_S32x8x1_S8x32x8x64x4x64_0345_1_n_n_1_2_8164464.offCoord (ix6 b r s k h d) (0 : Fin 5) = _
    unfold GatherDims.start GatherDims.offCoord
    rw [dif_neg (by decide), dif_pos (by decide), Nat.zero_add]
    rfl
  | ⟨2, _⟩ =>
    show gather_S8x32x64x4x64_S32x8x1_S8x32x8x64x4x64_0345_1_n_n_1_2_8164464.start (ix6 b r s k h d) idx (2 : Fin 5) + 0 + gather_S8x32x64x4x64_S32x8x1_S8x32x8x64x4x64_0345_1_n_n_1_2_8164464.offCoord (ix6 b r s k h d) (2 : Fin 5) = _
    unfold GatherDims.start GatherDims.offCoord
    rw [dif_neg (by decide), dif_pos (by decide), Nat.zero_add]
    rfl
  | ⟨3, _⟩ =>
    show gather_S8x32x64x4x64_S32x8x1_S8x32x8x64x4x64_0345_1_n_n_1_2_8164464.start (ix6 b r s k h d) idx (3 : Fin 5) + 0 + gather_S8x32x64x4x64_S32x8x1_S8x32x8x64x4x64_0345_1_n_n_1_2_8164464.offCoord (ix6 b r s k h d) (3 : Fin 5) = _
    unfold GatherDims.start GatherDims.offCoord
    rw [dif_neg (by decide), dif_pos (by decide), Nat.zero_add]
    rfl
  | ⟨4, _⟩ =>
    show gather_S8x32x64x4x64_S32x8x1_S8x32x8x64x4x64_0345_1_n_n_1_2_8164464.start (ix6 b r s k h d) idx (4 : Fin 5) + 0 + gather_S8x32x64x4x64_S32x8x1_S8x32x8x64x4x64_0345_1_n_n_1_2_8164464.offCoord (ix6 b r s k h d) (4 : Fin 5) = _
    unfold GatherDims.start GatherDims.offCoord
    rw [dif_neg (by decide), dif_pos (by decide), Nat.zero_add]
    rfl

/-- The gather of the bias table reads the row and the column its two index words name. -/
theorem gather_table (x : FVec Ideal S4x15x31 .f32) (idx : IVec S32x64x8x64x2 32) (h : Fin 4) (r : Fin 32) (q : Fin 64) (s : Fin 8) (k : Fin 64)
    (R : Fin 15) (C : Fin 31) (hR : idx (ix5 r q s k 0) = BitVec.ofNat 32 R.val) (hC : idx (ix5 r q s k 1) = BitVec.ofNat 32 C.val) :
    Host.gather gather_S4x15x31_S32x64x8x64x2_S4x32x64x8x64_0_12_n_n_12_4_411 x idx (ix5 h r q s k) = x (ix3 h R C) := by
  unfold Host.gather
  congr 1
  funext a
  refine Fin.ext ?_
  generalize hg : gather_S4x15x31_S32x64x8x64x2_S4x32x64x8x64_0_12_n_n_12_4_411 = g
  show g.start (ix5 h r q s k) idx a + g.batchCoord (ix5 h r q s k) a + g.offCoord (ix5 h r q s k) a = _
  subst hg
  rw [GatherDims.batchCoord_eq_zero _ _ _ List.not_mem_nil]
  match a with
  | ⟨0, _⟩ =>
    show gather_S4x15x31_S32x64x8x64x2_S4x32x64x8x64_0_12_n_n_12_4_411.start (ix5 h r q s k) idx (0 : Fin 3) + 0 + gather_S4x15x31_S32x64x8x64x2_S4x32x64x8x64_0_12_n_n_12_4_411.offCoord (ix5 h r q s k) (0 : Fin 3) = _
    unfold GatherDims.start GatherDims.offCoord
    rw [dif_neg (by decide), dif_pos (by decide), Nat.zero_add]
    rfl
  | ⟨1, _⟩ =>
    show gather_S4x15x31_S32x64x8x64x2_S4x32x64x8x64_0_12_n_n_12_4_411.start (ix5 h r q s k) idx (1 : Fin 3) + 0 + gather_S4x15x31_S32x64x8x64x2_S4x32x64x8x64_0_12_n_n_12_4_411.offCoord (ix5 h r q s k) (1 : Fin 3) = _
    rw [GatherDims.offCoord_eq_zero _ _ _ (fun h => ((GatherDims.mem_sKept _ _).mp h).1 (by decide))]
    unfold GatherDims.start
    rw [dif_pos (by decide)]
    rw [show (GatherDims.siIdx gather_S4x15x31_S32x64x8x64x2_S4x32x64x8x64_0_12_n_n_12_4_411 (ix5 h r q s k) ⟨List.idxOf (1 : Fin 3) gather_S4x15x31_S32x64x8x64x2_S4x32x64x8x64_0_12_n_n_12_4_411.startIndexMap, List.idxOf_lt_length_iff.2 (show (1 : Fin 3) ∈ gather_S4x15x31_S32x64x8x64x2_S4x32x64x8x64_0_12_n_n_12_4_411.startIndexMap by decide)⟩) = ix5 r q s k 0 from by
      funext b; refine Fin.ext ?_
      match b with
      | ⟨0, _⟩ => rfl
      | ⟨1, _⟩ => rfl
      | ⟨2, _⟩ => rfl
      | ⟨3, _⟩ => rfl
      | ⟨4, _⟩ => rfl]
    rw [hR]
    clear hR
    show min (BitVec.ofNat 32 R.val).toInt.toNat (15 - 1) + 0 + 0 = R.val
    revert R
    decide +kernel
  | ⟨2, _⟩ =>
    show gather_S4x15x31_S32x64x8x64x2_S4x32x64x8x64_0_12_n_n_12_4_411.start (ix5 h r q s k) idx (2 : Fin 3) + 0 + gather_S4x15x31_S32x64x8x64x2_S4x32x64x8x64_0_12_n_n_12_4_411.offCoord (ix5 h r q s k) (2 : Fin 3) = _
    rw [GatherDims.offCoord_eq_zero _ _ _ (fun h => ((GatherDims.mem_sKept _ _).mp h).1 (by decide))]
    unfold GatherDims.start
    rw [dif_pos (by decide)]
    rw [show (GatherDims.siIdx gather_S4x15x31_S32x64x8x64x2_S4x32x64x8x64_0_12_n_n_12_4_411 (ix5 h r q s k) ⟨List.idxOf (2 : Fin 3) gather_S4x15x31_S32x64x8x64x2_S4x32x64x8x64_0_12_n_n_12_4_411.startIndexMap, List.idxOf_lt_length_iff.2 (show (2 : Fin 3) ∈ gather_S4x15x31_S32x64x8x64x2_S4x32x64x8x64_0_12_n_n_12_4_411.startIndexMap by decide)⟩) = ix5 r q s k 1 from by
      funext b; refine Fin.ext ?_
      match b with
      | ⟨0, _⟩ => rfl
      | ⟨1, _⟩ => rfl
      | ⟨2, _⟩ => rfl
      | ⟨3, _⟩ => rfl
      | ⟨4, _⟩ => rfl]
    rw [hC]
    clear hC
    show min (BitVec.ofNat 32 C.val).toInt.toNat (31 - 1) + 0 + 0 = C.val
    revert C
    decide +kernel

variable (x0 : FVec Ideal S8x2304x1024 .bf16) (x1 : FVec Ideal S4x4x15x31 .f32)

theorem v10_at (b : Fin 8) (r : Fin 32) (q : Fin 64) (h : Fin 4) (d : Fin 64) :
    val_main_v10 (F := Ideal) x0 (ix5 b r q h d) = x0 (ix3 b (tok r q) (lane 256 (by decide) h d)) * Ideal.ofBits .f32 0x3E000000#32 := by
  pointwise [val_main_v10, val_main_v9, val_main_cst, val_main_v8, val_main_v3, val_main_v0]
  rfl

theorem v11_at (b : Fin 8) (r : Fin 32) (q : Fin 64) (h : Fin 4) (d : Fin 64) :
    val_main_v11 (F := Ideal) x0 (ix5 b r q h d) = x0 (ix3 b (tok r q) (lane 512 (by decide) h d)) := by
  pointwise [val_main_v11, val_main_v4, val_main_v0]
  rfl

theorem v12_at (b : Fin 8) (r : Fin 32) (q : Fin 64) (h : Fin 4) (d : Fin 64) :
    val_main_v12 (F := Ideal) x0 (ix5 b r q h d) = x0 (ix3 b (tok r q) (lane 768 (by decide) h d)) := by
  pointwise [val_main_v12, val_main_v5, val_main_v0]
  rfl

theorem v13_at (b : Fin 8) (j : Fin 256) (h : Fin 4) (d : Fin 64) :
    val_main_v13 (F := Ideal) x0 (ix4 b j h d) = x0 (ix3 b (ctx j) (lane 512 (by decide) h d)) := by
  pointwise [val_main_v13, val_main_v6, val_main_v0]
  rfl

theorem v14_at (b : Fin 8) (j : Fin 256) (h : Fin 4) (d : Fin 64) :
    val_main_v14 (F := Ideal) x0 (ix4 b j h d) = x0 (ix3 b (ctx j) (lane 768 (by decide) h d)) := by
  pointwise [val_main_v14, val_main_v7, val_main_v0]
  rfl

theorem v2_at (h : Fin 4) (R : Fin 15) (C : Fin 31) : val_main_v2 (F := Ideal) x1 (ix3 h R C) = x1 (ix4 0 h R C) := by
  pointwise [val_main_v2, val_main_v1]

theorem v31_at (b : Fin 8) (r : Fin 32) (s : Fin 8) (k : Fin 64) (h : Fin 4) (d : Fin 64) :
    val_main_v31 (F := Ideal) x0 (ix6 b r s k h d) = x0 (ix3 b (tok (krow r s) k) (lane 512 (by decide) h d)) :=
  (gather_rows _ _ b r s k h d _ (v30_at r s)).trans (v11_at x0 b _ k h d)

theorem v38_at (b : Fin 8) (r : Fin 32) (s : Fin 8) (k : Fin 64) (h : Fin 4) (d : Fin 64) :
    val_main_v38 (F := Ideal) x0 (ix6 b r s k h d) = x0 (ix3 b (tok (krow r s) k) (lane 768 (by decide) h d)) :=
  (gather_rows _ _ b r s k h d _ (v37_at r s)).trans (v12_at x0 b _ k h d)

theorem v90_at (h : Fin 4) (r : Fin 32) (q : Fin 64) (s : Fin 8) (k : Fin 64) :
    val_main_v90 (F := Ideal) x1 (ix5 h r q s k) = x1 (ix4 0 h (drow r s) (dcol q k)) :=
  (gather_table _ _ h r q s k _ _ (v89_0 r q s k) (v89_1 r q s k)).trans (v2_at x1 h _ _)

/-- The word of minus infinity. -/
theorem ofBits_bot : Ideal.ofBits .f32 0xFF800000#32 = (⊥ : EReal) := by
  simp [Ideal.ofBits, Ideal.ieee]

/-- A choice by a decided word. -/
theorem select_decide {α : Type} (P : Prop) [Decidable P] (x y : α) : Scalar.select (BitVec.ofBool (decide P)) x y = if P then x else y := by
  by_cases h : P <;> simp [h, Scalar.select]

theorem v96_at (b : Fin 8) (h : Fin 4) (r : Fin 32) (q : Fin 64) (s : Fin 8) (k : Fin 64) :
    val_main_v96 (F := Ideal) x0 x1 (ix6 b h r q s k) = scoreW x0 x1 b r q h (s, k) := by
  pointwise [val_main_v96, val_main_call3_v0, val_main_call3_v1, val_main_call3_v2, val_main_cst_20, val_main_v95, val_main_v94, val_main_v93, val_main_v92, val_main_v91]
  simp only [v10_at, v31_at, v90_at, v55_at, select_decide]
  unfold scoreW
  refine if_congr Iff.rfl rfl ofBits_bot

theorem v98_at (b : Fin 8) (h : Fin 4) (r : Fin 32) (q : Fin 64) (j : Fin 256) :
    val_main_v98 (F := Ideal) x0 (ix5 b h r q j) = scoreC x0 b r q h j := by
  pointwise [val_main_v98]
  simp only [v10_at, v13_at]
  rfl

theorem v99_at (b : Fin 8) (h : Fin 4) (r : Fin 32) (q : Fin 64) (j : Fin 768) :
    val_main_v99 (F := Ideal) x0 x1 (ix5 b h r q j) =
      if hj : j.val < 512 then (fun i : Fin 512 => scoreW x0 x1 b r q h (⟨i.val / 64, by omega⟩, ⟨i.val % 64, by omega⟩)) ⟨j.val, hj⟩
        else scoreC x0 b r q h ⟨j.val - 512, by omega⟩ := by
  pointwise [val_main_v99, val_main_v97]
  simp only [v96_at, v98_at]

/-- The window keys in one list, row by row. -/
def flat (y : Fin 8 × Fin 64) : Fin 512 := ⟨y.1.val * 64 + y.2.val, by omega⟩

theorem flat_inj : Function.Injective flat := by
  rintro ⟨a, b⟩ ⟨c, d⟩ e
  have e' : a.val * 64 + b.val = c.val * 64 + d.val := congrArg Fin.val e
  exact Prod.ext (Fin.ext (by show a.val = c.val; omega)) (Fin.ext (by show b.val = d.val; omega))

theorem flat_surj (x : Fin 512) : x ∈ Set.range flat :=
  ⟨(⟨x.val / 64, by omega⟩, ⟨x.val % 64, by omega⟩), Fin.ext (by show x.val / 64 * 64 + x.val % 64 = x.val; omega)⟩

theorem unflat (y : Fin 8 × Fin 64) (h1 : (flat y).val / 64 < 8) (h2 : (flat y).val % 64 < 64) :
    ((⟨(flat y).val / 64, h1⟩, ⟨(flat y).val % 64, h2⟩) : Fin 8 × Fin 64) = y :=
  Prod.ext (Fin.ext (by show (y.1.val * 64 + y.2.val) / 64 = y.1.val; omega)) (Fin.ext (by show (y.1.val * 64 + y.2.val) % 64 = y.2.val; omega))

theorem v100_at (b : Fin 8) (h : Fin 4) (r : Fin 32) (q : Fin 64) :
    val_main_v100 (F := Ideal) x0 x1 (ix4 b h r q) = top (scoreW x0 x1 b r q h) (scoreC x0 b r q h) := by
  pointwise [val_main_v100, val_main_cst_21]
  simp only [v99_at]
  rw [ofBits_bot]
  refine (fold_split 512 256 768 rfl (fun i => scoreW x0 x1 b r q h (⟨i.val / 64, by omega⟩, ⟨i.val % 64, by omega⟩)) (scoreC x0 b r q h)).trans ?_
  refine (top_narrow flat _ _ (fun x hx => absurd (flat_surj x) hx)).trans ?_
  simp only [unflat]

theorem v104_at (b : Fin 8) (h : Fin 4) (r : Fin 32) (q : Fin 64) (j : Fin 768) :
    val_main_v104 (F := Ideal) x0 x1 (ix5 b h r q j) = top (scoreW x0 x1 b r q h) (scoreC x0 b r q h) := by
  rw [val_main_v104_apply, val_main_v103_apply, val_main_v102_apply, val_main_v101_apply]
  have e : idx_main_v103 (idx_main_v104 (ix5 b h r q j)) = ix4 b h r q := by
    funext a
    match a with
    | ⟨0, _⟩ => rfl
    | ⟨1, _⟩ => rfl
    | ⟨2, _⟩ => rfl
    | ⟨3, _⟩ => rfl
  rw [e, v100_at]
  show max (Ideal.ofBits .f32 0xFF800000#32) _ = _
  rw [ofBits_bot, max_eq_right bot_le]

theorem v106_at (b : Fin 8) (h : Fin 4) (r : Fin 32) (q : Fin 64) (j : Fin 768) :
    val_main_v106 (F := Ideal) x0 x1 (ix5 b h r q j) =
      if hj : j.val < 512 then (fun i : Fin 512 => Ideal.exp (scoreW x0 x1 b r q h (⟨i.val / 64, by omega⟩, ⟨i.val % 64, by omega⟩)
          - top (scoreW x0 x1 b r q h) (scoreC x0 b r q h))) ⟨j.val, hj⟩
        else (fun i : Fin 256 => Ideal.exp (scoreC x0 b r q h i - top (scoreW x0 x1 b r q h) (scoreC x0 b r q h))) ⟨j.val - 512, by omega⟩ := by
  rw [val_main_v106_apply, val_main_v105_apply, v104_at, v99_at]
  show Ideal.exp (_ - _) = _
  split <;> rfl

theorem v107_at (b : Fin 8) (h : Fin 4) (r : Fin 32) (q : Fin 64) :
    val_main_v107 (F := Ideal) x0 x1 (ix4 b h r q) = norm (scoreW x0 x1 b r q h) (scoreC x0 b r q h) := by
  pointwise [val_main_v107, val_main_cst_23]
  simp only [v106_at]
  refine (sum_split 512 256 768 rfl
    (fun i => Ideal.exp (scoreW x0 x1 b r q h (⟨i.val / 64, by omega⟩, ⟨i.val % 64, by omega⟩) - top (scoreW x0 x1 b r q h) (scoreC x0 b r q h)))
    (fun i => Ideal.exp (scoreC x0 b r q h i - top (scoreW x0 x1 b r q h) (scoreC x0 b r q h)))).trans ?_
  unfold NaMath.norm
  refine congrArg (· + _) ?_
  refine (sum_narrow flat flat_inj _ (fun x hx => absurd (flat_surj x) hx)).trans ?_
  simp only [unflat]

theorem v112_at (b : Fin 8) (h : Fin 4) (r : Fin 32) (q : Fin 64) (s : Fin 8) (k : Fin 64) :
    val_main_v112 (F := Ideal) x0 x1 (ix6 b h r q s k) =
      Ideal.div (Ideal.exp (scoreW x0 x1 b r q h (s, k) - top (scoreW x0 x1 b r q h) (scoreC x0 b r q h)))
        (norm (scoreW x0 x1 b r q h) (scoreC x0 b r q h)) := by
  pointwise [val_main_v112, val_main_v111, val_main_v110, val_main_v109, val_main_v108]
  rw [v107_at, v106_at, dif_pos (show s.val * 64 + k.val < 512 by omega)]
  have e := unflat (s, k) (by show (s.val * 64 + k.val) / 64 < 8; omega) (by omega)
  refine congrArg (fun y => Ideal.div (Ideal.exp (scoreW x0 x1 b r q h y - _)) _) e

theorem v113_at (b : Fin 8) (h : Fin 4) (r : Fin 32) (q : Fin 64) (j : Fin 256) :
    val_main_v113 (F := Ideal) x0 x1 (ix5 b h r q j) =
      Ideal.div (Ideal.exp (scoreC x0 b r q h j - top (scoreW x0 x1 b r q h) (scoreC x0 b r q h)))
        (norm (scoreW x0 x1 b r q h) (scoreC x0 b r q h)) := by
  pointwise [val_main_v113, val_main_v110, val_main_v109, val_main_v108]
  rw [v107_at, v106_at, dif_neg (show ¬ 512 + j.val < 512 by omega)]
  refine congrArg (fun y => Ideal.div (Ideal.exp (scoreC x0 b r q h y - _)) _) (Fin.ext ?_)
  show 512 + j.val - 512 = j.val
  omega

theorem v118_at (b : Fin 8) (r : Fin 32) (q : Fin 64) (h : Fin 4) (d : Fin 64)
    (hn : norm (scoreW x0 x1 b r q h) (scoreC x0 b r q h) ≠ 0) :
    val_main_v118 (F := Ideal) x0 x1 (ix5 b r q h d) = out x0 x1 b r q h d := by
  pointwise [val_main_v118, val_main_v115, val_main_v117, val_main_v114, val_main_v116]
  simp only [v112_at, v113_at, v14_at, v38_at]
  refine Eq.trans ?_ (attend_divided _ _ _ _ hn)
  congr 1
  rw [Fintype.sum_prod_type, Finset.sum_comm]

theorem v120_at (b : Fin 8) (j : Fin 2048) (l : Fin 256)
    (hn : ∀ r q h, norm (scoreW x0 x1 b r q h) (scoreC x0 b r q h) ≠ 0) :
    val_main_v120 (F := Ideal) x0 x1 (ix3 b j l) =
      out x0 x1 b ⟨j.val / 64, by omega⟩ ⟨j.val % 64, by omega⟩ ⟨l.val / 64, by omega⟩ ⟨l.val % 64, by omega⟩ := by
  pointwise [val_main_v120, val_main_v119]
  exact v118_at x0 x1 _ _ _ _ _ (hn _ _ _)

end Cert.NaRef

end
-- ==== Proof.NaKernel.lean ====
/-
  Neighbourhood attention: the kernels' result array is the formula of the arguments.
-/
module

public import proofs.«01_k».proof.Proof.NaPoint
public import proofs.«01_k».proof.Proof.NaEntry
public import proofs.«01_k».proof.Proof.NaRefOut
public import proofs.«01_k».proof.Pre_finite

@[expose] public section

set_option maxRecDepth 16384

noncomputable section
namespace Cert.NaKernel
open Cert.KernelIdeal Cert.KernelIdeal.Gen Cert.NaIdealRun Cert.NaRead Cert.NaPoint Cert.NaMath Cert.NaSpec
open Cert.NaTable (rowOf)
open Cert.NaEntry (table entry pos)
open Idealize.ShloMosaic Idealize.ShloMosaic.TcCoe

/-- A grid row, by block and row in the block. -/
def gridRow (g : Fin 8) (i : Fin 4) : Fin 32 := ⟨g.val * 4 + i.val, by omega⟩

/-- The rows loaded for a block that lie in a query row's window. -/
theorem row_some : ∀ (g : Fin 8) (i : Fin 4) (s : Fin 8),
    rowOf (caseOf g.val) i.val (rs (gridRow g i) + s.val - startOf g.val) = some (drow (gridRow g i) s) := by
  decide +kernel

/-- The other rows are masked. -/
theorem row_none : ∀ (g : Fin 8) (i : Fin 4) (j : Fin 12), (∀ s : Fin 8, j.val ≠ rs (gridRow g i) + s.val - startOf g.val) →
    rowOf (caseOf g.val) i.val j.val = none := by
  decide +kernel

/-- Where a window key sits among the keys loaded for its block. -/
def win (g : Fin 8) (i : Fin 4) (y : Fin 8 × Fin 64) : Fin 768 :=
  ⟨(rs (gridRow g i) + y.1.val - startOf g.val) * 64 + y.2.val, by unfold rs startOf gridRow; dsimp only; omega⟩

theorem start_rs (g : Fin 8) (i : Fin 4) : startOf g.val ≤ rs (gridRow g i) := by unfold rs startOf gridRow; dsimp only; omega

theorem win_inj (g : Fin 8) (i : Fin 4) : Function.Injective (win g i) := fun x y h => by
  have h' : (rs (gridRow g i) + x.1.val - startOf g.val) * 64 + x.2.val = (rs (gridRow g i) + y.1.val - startOf g.val) * 64 + y.2.val := congrArg Fin.val h
  have := start_rs g i
  exact Prod.ext (Fin.ext (by omega)) (Fin.ext (by omega))

variable (m : (ℓ : Loc nD τ sig) → Buf (Elt Ideal) ℓ) (ρ : Dev nD → PrngReg)

theorem V2_arg0 (c : Dev nD) : V2 m ρ c main_arg0 = m ((c : Thread nD τ).loc main_arg0) := W2_args m ρ c main_arg0 (by decide)

theorem V2_v1 (c : Dev nD) : V2 m ρ c main_v1 = table (V1 m ρ c main_v0) := (W2_arr m ρ c 1).trans (Cert.NaEntry.final (V1 m ρ) c)

theorem keyTok_win (t : Fin cfg1.N) (i : Fin 4) (g : Fin 8) (hg : g.val = blkOf t i) (i' : Fin 4) (y : Fin 8 × Fin 64) :
    keyTok t i (win g i' y) = tok (krow (gridRow g i') y.1) y.2 := by
  have hs := start_rs g i'
  refine Fin.ext ?_
  show startOf (blkOf t i) * 64 + ((rs (gridRow g i') + y.1.val - startOf g.val) * 64 + y.2.val) = (rs (gridRow g i') + y.1.val) * 64 + y.2.val
  rw [← hg]
  omega

/-- The kernel's score of a window key. -/
theorem key_some (c : Dev nD) (t : Fin cfg1.N) (i hd : Fin 4) (b : Fin 8) (g : Fin 8) (hg : g.val = blkOf t i) (i' : Fin 4) (r : Fin 256)
    (hi' : i'.val = r.val / 64) (y : Fin 8 × Fin 64) :
    score (m ((c : Thread nD τ).loc main_arg0)) b (gridRow g i') (qcol r) hd (keyTok t i (win g i' y))
        + table (V1 m ρ c main_v0) (ix5 0 ⟨caseOf (blkOf t i), case_lt _⟩ hd r (win g i' y))
      = scoreW (m ((c : Thread nD τ).loc main_arg0)) (m ((c : Thread nD τ).loc main_arg1)) b (gridRow g i') (qcol r) hd y := by
  have hj : (win g i' y).val / 64 = rs (gridRow g i') + y.1.val - startOf g.val := by
    show ((rs (gridRow g i') + y.1.val - startOf g.val) * 64 + y.2.val) / 64 = _
    omega
  have hk : (⟨(win g i' y).val % 64, by omega⟩ : Fin 64) = y.2 := Fin.ext (by
    show ((rs (gridRow g i') + y.1.val - startOf g.val) * 64 + y.2.val) % 64 = _
    omega)
  have ht : table (V1 m ρ c main_v0) (ix5 0 ⟨caseOf (blkOf t i), case_lt _⟩ hd r (win g i' y))
      = entry (V1 m ρ c main_v0) 0 hd (qcol r) y.2 (some (drow (gridRow g i') y.1)) := by
    show entry (V1 m ρ c main_v0) 0 hd (qcol r) ⟨(win g i' y).val % 64, _⟩ (rowOf (caseOf (blkOf t i)) (r.val / 64) ((win g i' y).val / 64)) = _
    rw [hk, hj, ← hg, ← hi', row_some]
  rw [ht, keyTok_win t i g hg i' y]
  unfold entry scoreW
  by_cases h : colOk (qcol r) y.2
  · simp only [if_pos h]
    rw [Cert.NaEntry.flat_at m ρ c]
  · simp only [if_neg h]
    exact EReal.add_bot _

/-- One lane of the kernel's output block. -/
theorem point (c : Dev nD) (t : Fin cfg1.N) (i hd : Fin 4) (b : Fin 8) (hb : b.val = t.val / 2) (r : Fin 256) (d : Fin 64) :
    outsAt1 (V2 m ρ) c t (ix3 0 ⟨i.val * 256 + r.val, by omega⟩ (hl hd d)) =
      out (m ((c : Thread nD τ).loc main_arg0)) (m ((c : Thread nD τ).loc main_arg1)) b (qrow t i r) (qcol r) hd d := by
  have ht : blkOf t i < 8 := by unfold blkOf; omega
  obtain ⟨g, hg⟩ : ∃ g : Fin 8, g.val = blkOf t i := ⟨⟨_, ht⟩, rfl⟩
  obtain ⟨i', hi'⟩ : ∃ i' : Fin 4, i'.val = r.val / 64 := ⟨⟨r.val / 64, by omega⟩, rfl⟩
  have hR : qrow t i r = gridRow g i' := Fin.ext (by show blkOf t i * 4 + r.val / 64 = g.val * 4 + i'.val; omega)
  have hs := start_rs g i'
  rw [NaPoint.block_at (V2 m ρ) c t i hd b hb r d, V2_arg0, V2_v1, hR]
  unfold out
  rw [attend_narrow (win g i') (win_inj g i')]
  · refine congr (congr (congr (congrArg attend ?_) rfl) ?_) rfl
    · funext y
      exact key_some m ρ c t i hd b g hg i' r hi' y
    · funext y
      rw [keyTok_win t i g hg i' y]
  · intro x hx
    rw [show table (V1 m ρ c main_v0) (ix5 0 ⟨caseOf (blkOf t i), case_lt _⟩ hd r x) = (⊥ : EReal) from ?_, EReal.add_bot]
    refine (congrArg (entry _ _ _ _ _) (?_ : rowOf (caseOf (blkOf t i)) (r.val / 64) (x.val / 64) = none)).trans rfl
    rw [← hg, ← hi']
    refine row_none g i' ⟨x.val / 64, by omega⟩ fun s e => hx ⟨(s, ⟨x.val % 64, by omega⟩), Fin.ext ?_⟩
    show (rs (gridRow g i') + s.val - startOf g.val) * 64 + x.val % 64 = x.val
    have e' : x.val / 64 = rs (gridRow g i') + s.val - startOf g.val := e
    omega

theorem ofBits_top : Ideal.ofBits .f32 2139095040#32 = (⊤ : EReal) := by
  simp [Ideal.ofBits, Ideal.ieee]

theorem ofBits_low : Ideal.ofBits .f32 4286578688#32 = (⊥ : EReal) := by
  simp [Ideal.ofBits, Ideal.ieee]

/-- The scale is finite. -/
theorem scale_fin : IsFin (Ideal.ofBits .f32 0x3E000000#32) := by
  simp [Ideal.ofBits, Ideal.ieee]
  rw [← EReal.coe_mul]
  exact ⟨EReal.coe_ne_bot _, EReal.coe_ne_top _⟩

theorem ofBool_true {p : Prop} [Decidable p] (h : BitVec.ofBool (decide p) = 1#1) : p := by
  by_contra hp
  rw [decide_eq_false hp] at h
  exact absurd h (by decide)

theorem both {p q : Prop} [Decidable p] [Decidable q] (h : IntOp.andi (BitVec.ofBool (decide p)) (BitVec.ofBool (decide q)) = 1#1) : p ∧ q := by
  by_cases hp : p <;> by_cases hq : q
  · exact ⟨hp, hq⟩
  all_goals
    simp only [hp, hq, decide_true, decide_false] at h
    exact absurd h (by decide)

/-- The precondition's first part: every query and key is finite. -/
theorem qk_fin [Cert.Pre_finite.Facts] (x0 : FVec Ideal Cert.Pre_finite.S8x2304x1024 .bf16) (x1 : FVec Ideal Cert.Pre_finite.S4x4x15x31 .f32)
    (h : (Cert.Pre_finite.fn x0 x1).1 = fun _ => 1#1) (b : Fin 8) (j : Fin 2304) (l : Fin 1024) (h0 : 256 ≤ l.val) (h1 : l.val < 768) :
    IsFin (x0 (ix3 b j l)) := by
  have e := congrFun h (ix3 b j ⟨l.val - 256, by omega⟩)
  revert e
  pointwise [Cert.Pre_finite.fn]
  intro e
  have hl : (⟨256 + (l.val - 256), by omega⟩ : Fin 1024) = l := Fin.ext (by show 256 + (l.val - 256) = l.val; omega)
  rw [hl, ofBits_top, ofBits_low] at e
  exact ⟨(both e).1.ne', (both e).2.ne⟩

/-- The precondition's second part: no bias is plus infinity. -/
theorem bias_lt [Cert.Pre_finite.Facts] (x0 : FVec Ideal Cert.Pre_finite.S8x2304x1024 .bf16) (x1 : FVec Ideal Cert.Pre_finite.S4x4x15x31 .f32)
    (h : (Cert.Pre_finite.fn x0 x1).2 = fun _ => 1#1) (a : Fin 4) (b : Fin 4) (d : Fin 15) (e : Fin 31) : x1 (ix4 a b d e) ≠ ⊤ := by
  have e := congrFun h (ix4 a b d e)
  revert e
  pointwise [Cert.Pre_finite.fn]
  intro e
  rw [ofBits_top] at e
  exact (ofBool_true e).ne

theorem score_fin (x0 : FVec Ideal ⟨3, ![8, 2304, 1024]⟩ .bf16) (h : ∀ b j (l : Fin 1024), 256 ≤ l.val → l.val < 768 → IsFin (x0 (ix3 b j l)))
    (b : Fin 8) (r : Fin 32) (q : Fin 64) (hd : Fin 4) (j : Fin 2304) : IsFin (score x0 b r q hd j) :=
  fin_sum _ _ fun x => fin_mul (fin_mul (h _ _ _ (by simp only [lane]; omega) (by simp only [lane]; omega)) scale_fin)
    (h _ _ _ (by simp only [lane]; omega) (by simp only [lane]; omega))

/-- With finite queries and keys, and no bias plus infinity, no normaliser is zero. -/
theorem norm_pos (x0 : FVec Ideal ⟨3, ![8, 2304, 1024]⟩ .bf16) (x1 : FVec Ideal ⟨4, ![4, 4, 15, 31]⟩ .f32)
    (h : ∀ b j (l : Fin 1024), 256 ≤ l.val → l.val < 768 → IsFin (x0 (ix3 b j l))) (h' : ∀ a b d e, x1 (ix4 a b d e) ≠ ⊤)
    (b : Fin 8) (r : Fin 32) (q : Fin 64) (hd : Fin 4) : NaMath.norm (scoreW x0 x1 b r q hd) (scoreC x0 b r q hd) ≠ 0 := by
  refine norm_ne_zero _ _ 0 (score_fin x0 h b r q hd _).1 (fun y => ?_) (fun y => (score_fin x0 h b r q hd _).2)
  unfold scoreW
  split
  · exact EReal.add_ne_top (score_fin x0 h b r q hd _).2 (h' _ _ _ _)
  · exact bot_ne_top

/-- The reference's result, of the kernel's arguments. -/
def want (c : Dev nD) : Vec Ideal S8x2048x256 .bf16 :=
  Cert.ReferenceIdeal.Read.val_main_v120 (F := Ideal) (m ((c : Thread nD τ).loc main_arg0)) (m ((c : Thread nD τ).loc main_arg1))

/-- The result array after the run. -/
theorem final [Cert.Pre_finite.Facts] (c : Dev nD)
    (hp : (Cert.Pre_finite.fn (F := Ideal) (m ((c : Thread nD τ).loc main_arg0)) (m ((c : Thread nD τ).loc main_arg1))).1 = (fun _ => 1#1)
      ∧ (Cert.Pre_finite.fn (F := Ideal) (m ((c : Thread nD τ).loc main_arg0)) (m ((c : Thread nD τ).loc main_arg1))).2 = (fun _ => 1#1)) :
    (dat1 (V2 m ρ) c).arrAt 4 cfg1.N = want m c := by
  have hn := norm_pos (m ((c : Thread nD τ).loc main_arg0)) (m ((c : Thread nD τ).loc main_arg1)) (qk_fin _ _ hp.1) (bias_lt _ _ hp.2)
  refine (dat1 (V2 m ρ) c).arrAt_eq_of_covers 4 _ (by decide +kernel) fun t _ y => ?_
  blk_simp
  rw [after1_4]
  idx_vars y
  obtain rfl : y0 = 0 := Fin.ext (by omega)
  have h8 := (NaRead.idx t).2.2.2.2.2
  have e1 : y1 = ⟨(⟨y1.val / 256, by omega⟩ : Fin 4).val * 256 + (⟨y1.val % 256, by omega⟩ : Fin 256).val, by dsimp only; omega⟩ :=
    Fin.ext (by dsimp only; omega)
  have e2 : y2 = hl ⟨y2.val / 64, by omega⟩ ⟨y2.val % 64, by omega⟩ := Fin.ext (by simp only [hl]; omega)
  refine Eq.trans (congrArg₂ (fun a b => outsAt1 (V2 m ρ) c t (ix3 0 a b)) e1 e2) ?_
  refine (point m ρ c t ⟨y1.val / 256, by omega⟩ ⟨y2.val / 64, by omega⟩ ⟨t.val / 2, h8⟩ rfl ⟨y1.val % 256, by omega⟩ ⟨y2.val % 64, by omega⟩).trans ?_
  refine Eq.trans ?_ ((NaRef.v120_at _ _ ⟨t.val / 2, h8⟩ ⟨t.val % 2 * 1024 + y1.val, by omega⟩ y2 (fun r q h => hn _ r q h)).symm.trans ?_)
  · refine congrArg₂ (fun r q => out (m ((c : Thread nD τ).loc main_arg0)) (m ((c : Thread nD τ).loc main_arg1)) ⟨t.val / 2, h8⟩ r q
      ⟨y2.val / 64, by omega⟩ ⟨y2.val % 64, by omega⟩) (Fin.ext ?_) (Fin.ext ?_)
    · show (t.val % 2 * 4 + y1.val / 256) * 4 + y1.val % 256 / 64 = (t.val % 2 * 1024 + y1.val) / 64
      omega
    · show y1.val % 256 % 64 = (t.val % 2 * 1024 + y1.val) % 64
      omega
  · show want m c (ix3 ⟨t.val / 2, h8⟩ ⟨t.val % 2 * 1024 + y1.val, by omega⟩ y2) = _
    blk_ext [NaRead.idx t]

end Cert.NaKernel
end
-- ==== Proof.MixRun.lean ====
/-
  The run of the merge kernel's body.
-/
module

public import proofs.«01_k».proof.Proof.Gen.Merge.Frame.Runs

@[expose] public section

set_option maxRecDepth 16384

noncomputable section

namespace Cert.MixRun

open Cert.Merge Cert.Merge.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body's run on whole staging buffers, with the pieces its stores leave in the output's. -/
noncomputable def kernelRun0_A (c : Dev nD) (i : grid0.Coords) (arg2 : Memref sig .tc .vmem S1x768x1024 .f32) (harg2 : arg2.IsWhole) (arg3 : Memref sig .tc .vmem S1x1x6144 .f32) (harg3 : arg3.IsWhole) (arg4 : Memref sig .tc .vmem S1x1x6144 .f32) (harg4 : arg4.IsWhole) (arg5 : Memref sig .tc .vmem S1x1x1024 .f32) (harg5 : arg5.IsWhole) (arg6 : Memref sig .tc .vmem S1x768x256 .f32) (harg6 : arg6.IsWhole) (arg7 : Memref sig .tc .vmem S1x768x256 .f32) (harg7 : arg7.IsWhole) (arg8 : Memref sig .tc .vmem S1x768x256 .bf16) (harg8 : arg8.IsWhole) (arg9 : Memref sig .tc .vmem S1x1x256 .f32) (harg9 : arg9.IsWhole) (arg10 : Memref sig .tc .vmem S1x256x256 .bf16) (harg10 : arg10.IsWhole) (arg11 : Memref sig .tc .vmem S1x1x256 .f32) (harg11 : arg11.IsWhole) (arg12 : Memref sig .tc .vmem S1x768x256 .bf16) (harg12 : arg12.IsWhole) (arg13 : Memref sig .tc .vmem S1x512x256 .bf16) (harg13 : arg13.IsWhole) (arg14 : Memref sig .tc .vmem S1x256x256 .bf16) (harg14 : arg14.IsWhole) (arg15 : Memref sig .tc .vmem S1x768x256 .f32) (harg15 : arg15.IsWhole) (arg16 : Memref sig .tc .vmem S1x768x256 .f32) (harg16 : arg16.IsWhole) (arg17 : Memref sig .tc .vmem S1x8x256 .f32) (harg17 : arg17.IsWhole) (arg18 : Memref sig .tc .vmem S1x8x256 .f32) (harg18 : arg18.IsWhole) (arg19 : Memref sig .tc .vmem S1x768x256 .f32) (harg19 : arg19.IsWhole) (arg20 : Memref sig .tc .vmem S1x768x256 .f32) (harg20 : arg20.IsWhole) (arg21 : Memref sig .tc .vmem S1x3x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x128x512 .bf16) (harg24 : arg24.IsWhole) (arg25 : Memref sig .tc .vmem S1x128x256 .f32) (harg25 : arg25.IsWhole) (arg26 : Memref sig .tc .vmem S1x1024x6400 .bf16) (harg26 : arg26.IsWhole) (arg27 : Memref sig .tc .vmem S1x4x256x1024 .bf16) (harg27 : arg27.IsWhole) (arg28 : Memref sig .tc .vmem S1x1024x1024 .bf16) (harg28 : arg28.IsWhole) (arg29 : Memref sig .tc .vmem S1x768x1024 .f32) (harg29 : arg29.IsWhole)
    (x0 : Vec F S1x768x1024 .f32) (x1 : Vec F S1x1x6144 .f32) (x2 : Vec F S1x1x6144 .f32) (x3 : Vec F S1x1x1024 .f32) (x4 : Vec F S1x768x256 .f32) (x5 : Vec F S1x768x256 .f32) (x6 : Vec F S1x768x256 .bf16) (x7 : Vec F S1x1x256 .f32) (x8 : Vec F S1x256x256 .bf16) (x9 : Vec F S1x1x256 .f32) (x10 : Vec F S1x768x256 .bf16) (x11 : Vec F S1x512x256 .bf16) (x12 : Vec F S1x256x256 .bf16) (x13 : Vec F S1x768x256 .f32) (x14 : Vec F S1x768x256 .f32) (x15 : Vec F S1x8x256 .f32) (x16 : Vec F S1x8x256 .f32) (x17 : Vec F S1x768x256 .f32) (x18 : Vec F S1x768x256 .f32) (x19 : Vec F S1x3x256 .f32) (x20 : Vec F S1x1x256 .f32) (x21 : Vec F S1x1x256 .f32) (x22 : Vec F S1x128x512 .bf16) (x23 : Vec F S1x128x256 .f32) (x24 : Vec F S1x1024x6400 .bf16) (x25 : Vec F S1x4x256x1024 .bf16) (x26 : Vec F S1x1024x1024 .bf16) :
    { L27 : List (View.Piece (Elt F) S1x768x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ (∃ f, arg29.view.loc (c : Thread nD τ) ↦[arg29.view.set]{fullShare} arg29.view.writes (Elt F) f L27)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, fun E K => ?run⟩
  case run =>
    simp only [cc0_merge_eq_skeleton]; unfold cc0_merge_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    iexists _; iexact H27

end Cert.MixRun

end
-- ==== Proof.MixFrame.lean ====
/-
  The frame of the merge kernel's run: the points' triple, the run, and the arguments unchanged.
-/
module

public import proofs.«01_k».proof.Proof.MixRun
public import Idealize.ShloMosaic.Lib.Claim

@[expose] public section

set_option maxRecDepth 16384

noncomputable section

namespace Cert.MixRun

open Cert.Merge Cert.Merge.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The three stores cover the output's block. -/
theorem cover0_A_27 (c : Dev nD) (i : grid0.Coords) (arg2 : Memref sig .tc .vmem S1x768x1024 .f32) (harg2 : arg2.IsWhole) (arg3 : Memref sig .tc .vmem S1x1x6144 .f32) (harg3 : arg3.IsWhole) (arg4 : Memref sig .tc .vmem S1x1x6144 .f32) (harg4 : arg4.IsWhole) (arg5 : Memref sig .tc .vmem S1x1x1024 .f32) (harg5 : arg5.IsWhole) (arg6 : Memref sig .tc .vmem S1x768x256 .f32) (harg6 : arg6.IsWhole) (arg7 : Memref sig .tc .vmem S1x768x256 .f32) (harg7 : arg7.IsWhole) (arg8 : Memref sig .tc .vmem S1x768x256 .bf16) (harg8 : arg8.IsWhole) (arg9 : Memref sig .tc .vmem S1x1x256 .f32) (harg9 : arg9.IsWhole) (arg10 : Memref sig .tc .vmem S1x256x256 .bf16) (harg10 : arg10.IsWhole) (arg11 : Memref sig .tc .vmem S1x1x256 .f32) (harg11 : arg11.IsWhole) (arg12 : Memref sig .tc .vmem S1x768x256 .bf16) (harg12 : arg12.IsWhole) (arg13 : Memref sig .tc .vmem S1x512x256 .bf16) (harg13 : arg13.IsWhole) (arg14 : Memref sig .tc .vmem S1x256x256 .bf16) (harg14 : arg14.IsWhole) (arg15 : Memref sig .tc .vmem S1x768x256 .f32) (harg15 : arg15.IsWhole) (arg16 : Memref sig .tc .vmem S1x768x256 .f32) (harg16 : arg16.IsWhole) (arg17 : Memref sig .tc .vmem S1x8x256 .f32) (harg17 : arg17.IsWhole) (arg18 : Memref sig .tc .vmem S1x8x256 .f32) (harg18 : arg18.IsWhole) (arg19 : Memref sig .tc .vmem S1x768x256 .f32) (harg19 : arg19.IsWhole) (arg20 : Memref sig .tc .vmem S1x768x256 .f32) (harg20 : arg20.IsWhole) (arg21 : Memref sig .tc .vmem S1x3x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x128x512 .bf16) (harg24 : arg24.IsWhole) (arg25 : Memref sig .tc .vmem S1x128x256 .f32) (harg25 : arg25.IsWhole) (arg26 : Memref sig .tc .vmem S1x1024x6400 .bf16) (harg26 : arg26.IsWhole) (arg27 : Memref sig .tc .vmem S1x4x256x1024 .bf16) (harg27 : arg27.IsWhole) (arg28 : Memref sig .tc .vmem S1x1024x1024 .bf16) (harg28 : arg28.IsWhole) (arg29 : Memref sig .tc .vmem S1x768x1024 .f32) (harg29 : arg29.IsWhole)
    (x0 : Vec F S1x768x1024 .f32) (x1 : Vec F S1x1x6144 .f32) (x2 : Vec F S1x1x6144 .f32) (x3 : Vec F S1x1x1024 .f32) (x4 : Vec F S1x768x256 .f32) (x5 : Vec F S1x768x256 .f32) (x6 : Vec F S1x768x256 .bf16) (x7 : Vec F S1x1x256 .f32) (x8 : Vec F S1x256x256 .bf16) (x9 : Vec F S1x1x256 .f32) (x10 : Vec F S1x768x256 .bf16) (x11 : Vec F S1x512x256 .bf16) (x12 : Vec F S1x256x256 .bf16) (x13 : Vec F S1x768x256 .f32) (x14 : Vec F S1x768x256 .f32) (x15 : Vec F S1x8x256 .f32) (x16 : Vec F S1x8x256 .f32) (x17 : Vec F S1x768x256 .f32) (x18 : Vec F S1x768x256 .f32) (x19 : Vec F S1x3x256 .f32) (x20 : Vec F S1x1x256 .f32) (x21 : Vec F S1x1x256 .f32) (x22 : Vec F S1x128x512 .bf16) (x23 : Vec F S1x128x256 .f32) (x24 : Vec F S1x1024x6400 .bf16) (x25 : Vec F S1x4x256x1024 .bf16) (x26 : Vec F S1x1024x1024 .bf16) (y : S1x768x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25 x26).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25 x26).1 S1x256x1024.size (by sl_kernel_rfl) y

/-- What the run leaves in the output's buffer. -/
def out0_A_27 (c : Dev nD) (i : grid0.Coords) (arg2 : Memref sig .tc .vmem S1x768x1024 .f32) (harg2 : arg2.IsWhole) (arg3 : Memref sig .tc .vmem S1x1x6144 .f32) (harg3 : arg3.IsWhole) (arg4 : Memref sig .tc .vmem S1x1x6144 .f32) (harg4 : arg4.IsWhole) (arg5 : Memref sig .tc .vmem S1x1x1024 .f32) (harg5 : arg5.IsWhole) (arg6 : Memref sig .tc .vmem S1x768x256 .f32) (harg6 : arg6.IsWhole) (arg7 : Memref sig .tc .vmem S1x768x256 .f32) (harg7 : arg7.IsWhole) (arg8 : Memref sig .tc .vmem S1x768x256 .bf16) (harg8 : arg8.IsWhole) (arg9 : Memref sig .tc .vmem S1x1x256 .f32) (harg9 : arg9.IsWhole) (arg10 : Memref sig .tc .vmem S1x256x256 .bf16) (harg10 : arg10.IsWhole) (arg11 : Memref sig .tc .vmem S1x1x256 .f32) (harg11 : arg11.IsWhole) (arg12 : Memref sig .tc .vmem S1x768x256 .bf16) (harg12 : arg12.IsWhole) (arg13 : Memref sig .tc .vmem S1x512x256 .bf16) (harg13 : arg13.IsWhole) (arg14 : Memref sig .tc .vmem S1x256x256 .bf16) (harg14 : arg14.IsWhole) (arg15 : Memref sig .tc .vmem S1x768x256 .f32) (harg15 : arg15.IsWhole) (arg16 : Memref sig .tc .vmem S1x768x256 .f32) (harg16 : arg16.IsWhole) (arg17 : Memref sig .tc .vmem S1x8x256 .f32) (harg17 : arg17.IsWhole) (arg18 : Memref sig .tc .vmem S1x8x256 .f32) (harg18 : arg18.IsWhole) (arg19 : Memref sig .tc .vmem S1x768x256 .f32) (harg19 : arg19.IsWhole) (arg20 : Memref sig .tc .vmem S1x768x256 .f32) (harg20 : arg20.IsWhole) (arg21 : Memref sig .tc .vmem S1x3x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x128x512 .bf16) (harg24 : arg24.IsWhole) (arg25 : Memref sig .tc .vmem S1x128x256 .f32) (harg25 : arg25.IsWhole) (arg26 : Memref sig .tc .vmem S1x1024x6400 .bf16) (harg26 : arg26.IsWhole) (arg27 : Memref sig .tc .vmem S1x4x256x1024 .bf16) (harg27 : arg27.IsWhole) (arg28 : Memref sig .tc .vmem S1x1024x1024 .bf16) (harg28 : arg28.IsWhole) (arg29 : Memref sig .tc .vmem S1x768x1024 .f32) (harg29 : arg29.IsWhole)
    (x0 : Vec F S1x768x1024 .f32) (x1 : Vec F S1x1x6144 .f32) (x2 : Vec F S1x1x6144 .f32) (x3 : Vec F S1x1x1024 .f32) (x4 : Vec F S1x768x256 .f32) (x5 : Vec F S1x768x256 .f32) (x6 : Vec F S1x768x256 .bf16) (x7 : Vec F S1x1x256 .f32) (x8 : Vec F S1x256x256 .bf16) (x9 : Vec F S1x1x256 .f32) (x10 : Vec F S1x768x256 .bf16) (x11 : Vec F S1x512x256 .bf16) (x12 : Vec F S1x256x256 .bf16) (x13 : Vec F S1x768x256 .f32) (x14 : Vec F S1x768x256 .f32) (x15 : Vec F S1x8x256 .f32) (x16 : Vec F S1x8x256 .f32) (x17 : Vec F S1x768x256 .f32) (x18 : Vec F S1x768x256 .f32) (x19 : Vec F S1x3x256 .f32) (x20 : Vec F S1x1x256 .f32) (x21 : Vec F S1x1x256 .f32) (x22 : Vec F S1x128x512 .bf16) (x23 : Vec F S1x128x256 .f32) (x24 : Vec F S1x1024x6400 .bf16) (x25 : Vec F S1x4x256x1024 .bf16) (x26 : Vec F S1x1024x1024 .bf16) : Vec F S1x768x1024 .f32 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25 x26).1)

/-! ## What the outputs hold after each point -/

/-- What the output's buffer holds after the body at a point. -/
def outsAt0 (c : Dev nD) (t : Fin cfg0.N) : Vec F S1x768x1024 .f32 :=
  out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)

/-! ## The pipeline's proof data -/

/-- The pipeline's data on a core: the arrays as the region finds them, and what each buffer holds after a point's body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => (outsAt0 m c t)
    | ⟨_ + 28, h⟩ => absurd h (Nat.not_lt.2 (Nat.le_add_left _ _))
  Φ _ := Pipeline.ΦA spec0 c
  q w := Pipeline.shareOf spec0 w
  owed _ := 0

/-- The arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = (outsAt0 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 2800000 in
/-- The body at any point: the inputs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  unfold outsAt0
  unfold out0_A_27
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, ⟨%e27, H27⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  unfold owns; iexists _; isplitr
  swap; · iexact H27
  ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body's row at a point's slots. -/
theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- What the launch asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch: the run ends, with every array of the pipeline at what the data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.MixRun

end
-- ==== Proof.Mix.lean ====
/-
  The end of a layer's mixer half as functions of rows of numbers, over the extended reals: the gated unit after the
  state-space scan, the three-tap convolution, the chunked spatial gating, and the gated merge of the four branches.
  Both the kernel's tiles and the reference are read as these.
-/
module

public import proofs.«01_k».proof.Proof.Mlp

@[expose] public section

noncomputable section

namespace Cert.Mix

open Idealize.ShloMosaic

/-- The tanh form of the gelu. -/
def gelu (y : EReal) : EReal :=
  y * (Ideal.ofBits .f32 0x3F000000#32 * (1 + Ideal.tanh (Ideal.ofBits .f32 0x3F4C422A#32 * (y + Ideal.ofBits .f32 0x3D372713#32 * (y * (y * y))))))

/-- The logistic function. -/
def sig (x : EReal) : EReal := Ideal.div 1 (1 + Ideal.exp (-x))

/-- Channel `f` of the gated unit of a row of the scan's sum. -/
def glu (y : Fin 256 → EReal) (w : Fin 256 → Fin 256 → EReal) (b : Fin 256 → EReal) (f : Fin 256) : EReal :=
  gelu (y f) * sig (∑ k, gelu (y k) * w k f + b f)

/-- A row's mean. -/
def mean (v : Fin 256 → EReal) : EReal := Ideal.div (∑ k, v k) (Ideal.ofBits .f32 0x43800000#32)

/-- Channel `c` of a row's layer norm. -/
def lnorm (v g b : Fin 256 → EReal) (c : Fin 256) : EReal :=
  (v c - mean v) * Ideal.rsqrt (mean (fun k => (v k - mean v) * (v k - mean v)) + Ideal.ofBits .f32 0x358637BD#32) * g c + b c

/-- Channel `c`'s group. -/
def grp (c : Fin 256) : Fin 4 := ⟨c.val / 64, by omega⟩

/-- Channel `c` of token `t` of a chunk after the spatial gating: the gate times the mixed normed tokens. -/
def sgu (u : EReal) (vn : Fin 128 → Fin 256 → EReal) (w : Fin 128 → Fin 128 → EReal) (b : EReal) (t : Fin 128) (c : Fin 256) : EReal :=
  u * (∑ s, w t s * vn s c + b)

/-- The three taps, times the gate. -/
def conv (cb w0 w1 w2 p z n : EReal) : EReal := cb * (w0 * p + w1 * z + w2 * n)

/-- Branch `y`'s projection under its gate. -/
def gated (a : Fin 1024 → EReal) (w : Fin 1024 → Fin 1024 → EReal) (y : Fin 256 → EReal) (wb : Fin 256 → Fin 1024 → EReal)
    (m : Fin 1024) : EReal :=
  sig (∑ k, a k * w k m) * ∑ k, y k * wb k m

/-- The four gated branches' sum. -/
def merged (a : Fin 1024 → EReal) (w : Fin 4 → Fin 1024 → Fin 1024 → EReal) (y : Fin 4 → Fin 256 → EReal)
    (wb : Fin 4 → Fin 256 → Fin 1024 → EReal) (m : Fin 1024) : EReal :=
  gated a (w 0) (y 0) (wb 0) m + gated a (w 1) (y 1) (wb 1) m + gated a (w 2) (y 2) (wb 2) m + gated a (w 3) (y 3) (wb 3) m

/-- A row after the mixer half: the row plus the gated projection of the merged branches. -/
def row (h g sc sh gate : Fin 1024 → EReal) (w : Fin 4 → Fin 1024 → Fin 1024 → EReal) (y : Fin 4 → Fin 256 → EReal)
    (wb : Fin 4 → Fin 256 → Fin 1024 → EReal) (wo : Fin 1024 → Fin 1024 → EReal) (n : Fin 1024) : EReal :=
  h n + gate n * ∑ m, merged (Cert.Mlp.act h g sc sh) w y wb m * wo m n

/-- Columns of the first, second and third sixth of a row of modulations (shift, scale and gate). -/
def at0 (k : Fin 1024) : Fin 6144 := ⟨k.val, by omega⟩
def at1 (k : Fin 1024) : Fin 6144 := ⟨1024 + k.val, by omega⟩
def at2 (k : Fin 1024) : Fin 6144 := ⟨2048 + k.val, by omega⟩

/-- Column `m` of branch `k`'s gate in the input projection. -/
def gcol (k : Fin 4) (m : Fin 1024) : Fin 6400 := ⟨2304 + (k.val * 1024 + m.val), by omega⟩

/-- Column `c` of the four pieces of 256 a row of 1024 is cut into. -/
def piece (k : Fin 4) (c : Fin 256) : Fin 1024 := ⟨k.val * 256 + c.val, by omega⟩

/-- Position `s` of group `g` in the row of the four groups' mixing weights. -/
def slot (g : Fin 4) (s : Fin 128) : Fin 512 := ⟨g.val * 128 + s.val, by omega⟩

/-- Token `s` of the chunk of 128 that row `R` lies in. -/
def mate (R : Fin 2304) (s : Fin 128) : Fin 2304 := ⟨R.val / 128 * 128 + s.val, by omega⟩

/-- Row `R`'s place in its chunk. -/
def place (R : Fin 2304) : Fin 128 := ⟨R.val % 128, by omega⟩

/-- The row before `R` of a sequence's column, zero before the first row of a sequence (latents start at row 0, context at 2048). -/
def before (z : Fin 2304 → EReal) (R : Fin 2304) : EReal :=
  if R.val = 0 ∨ R.val = 2048 then 0 else z ⟨R.val - 1, by omega⟩

/-- The row after `R`, zero after the last row of a sequence. -/
def after (z : Fin 2304 → EReal) (R : Fin 2304) : EReal :=
  if h : R.val = 2047 ∨ R.val = 2303 then 0 else z ⟨R.val + 1, by omega⟩

/-- Column `n` of row `R` of a batch after the mixer half, of the batch's rows, the row's modulations and the layer's weights. -/
def spec (h : Fin 2304 → Fin 1024 → EReal) (g sc sh gate : Fin 1024 → EReal) (yf yr : Fin 2304 → Fin 256 → EReal)
    (u : Fin 2304 → Fin 1024 → EReal) (d : Fin 256 → EReal) (gw : Fin 256 → Fin 256 → EReal) (gb yb : Fin 256 → EReal)
    (z : Fin 2304 → Fin 1024 → EReal) (cw : Fin 3 → Fin 256 → EReal) (lg lb : Fin 256 → EReal) (sw : Fin 4 → Fin 128 → Fin 128 → EReal)
    (sb : Fin 4 → Fin 128 → EReal) (w : Fin 1024 → Fin 6400 → EReal) (wb : Fin 4 → Fin 256 → Fin 1024 → EReal)
    (wo : Fin 1024 → Fin 1024 → EReal) (R : Fin 2304) (n : Fin 1024) : EReal :=
  row (h R) g sc sh gate (fun i k m => w k (gcol i m))
    ![fun f => glu (fun k => yf R k + yr R k + u R (piece 0 k) * d k) gw gb f,
      yb,
      fun c => conv (z R (piece 0 c)) (cw 0 c) (cw 1 c) (cw 2 c) (before (fun R => z R (piece 1 c)) R) (z R (piece 1 c)) (after (fun R => z R (piece 1 c)) R),
      fun c => sgu (z R (piece 2 c)) (fun s c => lnorm (fun k => z (mate R s) (piece 3 k)) lg lb c) (sw (grp c)) (sb (grp c) (place R)) (place R) c]
    wb wo n

/-- A sum over four groups positions of which only one group's terms are not zero. -/
theorem sum_slot (F : Fin 512 → EReal) (g : Fin 4) (h : ∀ k s, k ≠ g → F (slot k s) = 0) : ∑ k, F k = ∑ s, F (slot g s) := by
  rw [Fin.sum_univ_tiles 4 128 rfl F]
  refine (Finset.sum_eq_single g (fun k _ hk => Finset.sum_eq_zero fun s _ => h k s hk) (fun hg => absurd (Finset.mem_univ g) hg)).trans ?_
  rfl

end Cert.Mix

end
-- ==== Proof.MixBlocks.lean ====
/-
  What the merge kernel's windows hold at a grid point, of the arguments.
-/
module

public import proofs.«01_k».proof.Proof.MixFrame
public import proofs.«01_k».proof.Proof.Mix
public import Idealize.ShloMosaic.Lib.Pipeline.ValueKit

@[expose] public section

set_option maxRecDepth 16384

noncomputable section

namespace Cert.MixBlocks

open Cert.Merge Cert.Merge.Gen Idealize.ShloMosaic Idealize.ShloMosaic.TcCoe Idealize.SL.Sem
open Cert.Mix

variable (m : (ℓ : Loc nD τ sig) → Buf (Elt Ideal) ℓ)

/-- A grid point's batch and tile. -/
theorem coords : ∀ t : Fin cfg0.N, t.val / 3 < 8 ∧ (grid0.coords t 1).val = t.val % 3 :=
  (by decide +kernel : ∀ t : Fin grid0.N, t.val / 3 < 8 ∧ (grid0.coords t 1).val = t.val % 3)

theorem idx0 : ∀ t : Fin cfg0.N, win0_0.index t = ![t.val / 3, t.val % 3, 0] :=
  (by decide +kernel : ∀ t : Fin grid0.N, win0_0.index t = ![t.val / 3, t.val % 3, 0])
theorem idx1 : ∀ t : Fin cfg0.N, win0_1.index t = ![16 + t.val / 3, 0, 0] :=
  (by decide +kernel : ∀ t : Fin grid0.N, win0_1.index t = ![16 + t.val / 3, 0, 0])
theorem idx2 : ∀ t : Fin cfg0.N, win0_2.index t = ![24, 0, 0] :=
  (by decide +kernel : ∀ t : Fin grid0.N, win0_2.index t = ![24, 0, 0])
theorem idx3 : ∀ t : Fin cfg0.N, win0_3.index t = ![2, 0, 0] :=
  (by decide +kernel : ∀ t : Fin grid0.N, win0_3.index t = ![2, 0, 0])
theorem idx4 : ∀ t : Fin cfg0.N, win0_4.index t = ![t.val / 3, t.val % 3, 0] :=
  (by decide +kernel : ∀ t : Fin grid0.N, win0_4.index t = ![t.val / 3, t.val % 3, 0])
theorem idx5 : ∀ t : Fin cfg0.N, win0_5.index t = ![t.val / 3, t.val % 3, 0] :=
  (by decide +kernel : ∀ t : Fin grid0.N, win0_5.index t = ![t.val / 3, t.val % 3, 0])
theorem idx6 : ∀ t : Fin cfg0.N, win0_6.index t = ![t.val / 3, t.val % 3, 0] :=
  (by decide +kernel : ∀ t : Fin grid0.N, win0_6.index t = ![t.val / 3, t.val % 3, 0])
theorem idx7 : ∀ t : Fin cfg0.N, win0_7.index t = ![1, 0, 0] :=
  (by decide +kernel : ∀ t : Fin grid0.N, win0_7.index t = ![1, 0, 0])
theorem idx8 : ∀ t : Fin cfg0.N, win0_8.index t = ![1, 0, 0] :=
  (by decide +kernel : ∀ t : Fin grid0.N, win0_8.index t = ![1, 0, 0])
theorem idx9 : ∀ t : Fin cfg0.N, win0_9.index t = ![1, 0, 0] :=
  (by decide +kernel : ∀ t : Fin grid0.N, win0_9.index t = ![1, 0, 0])
theorem idx11 : ∀ t : Fin cfg0.N, win0_11.index t = ![t.val / 3, 3, 0] :=
  (by decide +kernel : ∀ t : Fin grid0.N, win0_11.index t = ![t.val / 3, 3, 0])
theorem idx12 : ∀ t : Fin cfg0.N, win0_12.index t = ![t.val / 3, 0, 0] :=
  (by decide +kernel : ∀ t : Fin grid0.N, win0_12.index t = ![t.val / 3, 0, 0])
theorem idx13 : ∀ t : Fin cfg0.N, win0_13.index t = ![t.val / 3, t.val % 3, 0] :=
  (by decide +kernel : ∀ t : Fin grid0.N, win0_13.index t = ![t.val / 3, t.val % 3, 0])
theorem idx14 : ∀ t : Fin cfg0.N, win0_14.index t = ![t.val / 3, t.val % 3, 1] :=
  (by decide +kernel : ∀ t : Fin grid0.N, win0_14.index t = ![t.val / 3, t.val % 3, 1])
theorem idx15 : ∀ t : Fin cfg0.N, win0_15.index t = ![t.val / 3, t.val % 3 * 96 - 1, 1] :=
  (by decide +kernel : ∀ t : Fin grid0.N, win0_15.index t = ![t.val / 3, t.val % 3 * 96 - 1, 1])
theorem idx16 : ∀ t : Fin cfg0.N, win0_16.index t = ![t.val / 3, min (t.val % 3 * 96 + 96) 287, 1] :=
  (by decide +kernel : ∀ t : Fin grid0.N, win0_16.index t = ![t.val / 3, min (t.val % 3 * 96 + 96) 287, 1])
theorem idx17 : ∀ t : Fin cfg0.N, win0_17.index t = ![t.val / 3, t.val % 3, 2] :=
  (by decide +kernel : ∀ t : Fin grid0.N, win0_17.index t = ![t.val / 3, t.val % 3, 2])
theorem idx18 : ∀ t : Fin cfg0.N, win0_18.index t = ![t.val / 3, t.val % 3, 3] :=
  (by decide +kernel : ∀ t : Fin grid0.N, win0_18.index t = ![t.val / 3, t.val % 3, 3])
theorem idx19 : ∀ t : Fin cfg0.N, win0_19.index t = ![1, 0, 0] :=
  (by decide +kernel : ∀ t : Fin grid0.N, win0_19.index t = ![1, 0, 0])
theorem idx20 : ∀ t : Fin cfg0.N, win0_20.index t = ![1, 0, 0] :=
  (by decide +kernel : ∀ t : Fin grid0.N, win0_20.index t = ![1, 0, 0])
theorem idx21 : ∀ t : Fin cfg0.N, win0_21.index t = ![1, 0, 0] :=
  (by decide +kernel : ∀ t : Fin grid0.N, win0_21.index t = ![1, 0, 0])
theorem idx22 : ∀ t : Fin cfg0.N, win0_22.index t = ![1, 0, 0] :=
  (by decide +kernel : ∀ t : Fin grid0.N, win0_22.index t = ![1, 0, 0])
theorem idx23 : ∀ t : Fin cfg0.N, win0_23.index t = ![1, 0, 0] :=
  (by decide +kernel : ∀ t : Fin grid0.N, win0_23.index t = ![1, 0, 0])
theorem idx24 : ∀ t : Fin cfg0.N, win0_24.index t = ![1, 0, 0] :=
  (by decide +kernel : ∀ t : Fin grid0.N, win0_24.index t = ![1, 0, 0])
theorem idx25 : ∀ t : Fin cfg0.N, win0_25.index t = ![1, 0, 0, 0] :=
  (by decide +kernel : ∀ t : Fin grid0.N, win0_25.index t = ![1, 0, 0, 0])
theorem idx26 : ∀ t : Fin cfg0.N, win0_26.index t = ![1, 0, 0] :=
  (by decide +kernel : ∀ t : Fin grid0.N, win0_26.index t = ![1, 0, 0])
theorem idx27 : ∀ t : Fin cfg0.N, win0_27.index t = ![t.val / 3, t.val % 3, 0] :=
  (by decide +kernel : ∀ t : Fin grid0.N, win0_27.index t = ![t.val / 3, t.val % 3, 0])
/-- The clipped window's block is a batch's last tile in the batch's last tile but one, and after. -/
theorem idx10 : ∀ t : Fin cfg0.N, win0_10.index t = ![t.val / 3, min (t.val % 3) 1, 0] :=
  (by decide +kernel : ∀ t : Fin grid0.N, win0_10.index t = ![t.val / 3, min (t.val % 3) 1, 0])

theorem iblk0_at (c : Dev nD) (t : Fin cfg0.N) (b : Fin 8) (R : Fin 2304) (r : Fin 768) (k : Fin 1024) (hb : b.val = t.val / 3) (hR : R.val = t.val % 3 * 768 + r.val) :
    iblk m c 0 t (ix3 0 r k) = m ((c : Thread nD τ).loc main_arg0) (ix3 b R k) := by
  blk_ext [iblk, V, idx0 t]

theorem iblk1_at (c : Dev nD) (t : Fin cfg0.N) (b : Fin 16) (k : Fin 6144) (hb : b.val = t.val / 3) :
    iblk m c 1 t (ix3 0 0 k) = m ((c : Thread nD τ).loc main_arg1) (ix3 1 b k) := by
  have h8 := (coords t).1
  blk_simp [iblk, idx1 t]
  entry_read
  pointwise []
  blk_ext [idx1 t]

theorem iblk2_at (c : Dev nD) (t : Fin cfg0.N) (k : Fin 6144) :
    iblk m c 2 t (ix3 0 0 k) = m ((c : Thread nD τ).loc main_arg1) (ix3 1 8 k) := by
  blk_simp [iblk, idx2 t]
  entry_read
  pointwise []
  blk_ext [idx2 t]

theorem iblk3_at (c : Dev nD) (t : Fin cfg0.N) (k : Fin 1024) :
    iblk m c 3 t (ix3 0 0 k) = m ((c : Thread nD τ).loc main_arg2) (ix3 1 0 k) := by
  blk_simp [iblk, idx3 t]
  entry_read
  pointwise []
  blk_ext [idx3 t]

theorem iblk4_at (c : Dev nD) (t : Fin cfg0.N) (b : Fin 8) (R : Fin 2304) (r : Fin 768) (k : Fin 256) (hb : b.val = t.val / 3) (hR : R.val = t.val % 3 * 768 + r.val) :
    iblk m c 4 t (ix3 0 r k) = m ((c : Thread nD τ).loc main_arg3) (ix3 b R k) := by
  blk_ext [iblk, V, idx4 t]

theorem iblk5_at (c : Dev nD) (t : Fin cfg0.N) (b : Fin 8) (R : Fin 2304) (r : Fin 768) (k : Fin 256) (hb : b.val = t.val / 3) (hR : R.val = t.val % 3 * 768 + r.val) :
    iblk m c 5 t (ix3 0 r k) = m ((c : Thread nD τ).loc main_arg4) (ix3 b R k) := by
  blk_ext [iblk, V, idx5 t]

theorem iblk6_at (c : Dev nD) (t : Fin cfg0.N) (b : Fin 8) (R : Fin 2304) (r : Fin 768) (k : Fin 256) (hb : b.val = t.val / 3) (hR : R.val = t.val % 3 * 768 + r.val) :
    iblk m c 6 t (ix3 0 r k) = m ((c : Thread nD τ).loc main_arg5) (ix3 b R (piece 0 k)) := by
  blk_ext [iblk, V, idx6 t]
  simp [Mix.piece]

theorem iblk7_at (c : Dev nD) (t : Fin cfg0.N) (k : Fin 256) :
    iblk m c 7 t (ix3 0 0 k) = m ((c : Thread nD τ).loc main_arg6) (ix2 1 k) := by
  blk_simp [iblk, idx7 t]
  entry_read
  pointwise []
  blk_ext [idx7 t]

theorem iblk8_at (c : Dev nD) (t : Fin cfg0.N) (k f : Fin 256) :
    iblk m c 8 t (ix3 0 k f) = m ((c : Thread nD τ).loc main_arg7) (ix3 1 k f) := by
  blk_simp [iblk, idx8 t]
  entry_read
  pointwise []
  blk_ext [idx8 t]

theorem iblk9_at (c : Dev nD) (t : Fin cfg0.N) (k : Fin 256) :
    iblk m c 9 t (ix3 0 0 k) = m ((c : Thread nD τ).loc main_arg8) (ix2 1 k) := by
  blk_simp [iblk, idx9 t]
  entry_read
  pointwise []
  blk_ext [idx9 t]

theorem iblk11_at (c : Dev nD) (t : Fin cfg0.N) (b : Fin 8) (R : Fin 2048) (r : Fin 512) (k : Fin 256) (hb : b.val = t.val / 3) (hR : R.val = 1536 + r.val) :
    iblk m c 11 t (ix3 0 r k) = m ((c : Thread nD τ).loc main_arg9) (ix3 b R k) := by
  blk_ext [iblk, V, idx11 t]

theorem iblk12_at (c : Dev nD) (t : Fin cfg0.N) (b : Fin 8) (r k : Fin 256) (hb : b.val = t.val / 3) :
    iblk m c 12 t (ix3 0 r k) = m ((c : Thread nD τ).loc main_arg10) (ix3 b r k) := by
  blk_ext [iblk, V, idx12 t]

theorem iblk13_at (c : Dev nD) (t : Fin cfg0.N) (b : Fin 8) (R : Fin 2304) (r : Fin 768) (k : Fin 256) (hb : b.val = t.val / 3) (hR : R.val = t.val % 3 * 768 + r.val) :
    iblk m c 13 t (ix3 0 r k) = m ((c : Thread nD τ).loc main_arg11) (ix3 b R (piece 0 k)) := by
  blk_ext [iblk, V, idx13 t]
  simp [Mix.piece]

theorem iblk14_at (c : Dev nD) (t : Fin cfg0.N) (b : Fin 8) (R : Fin 2304) (r : Fin 768) (k : Fin 256) (hb : b.val = t.val / 3) (hR : R.val = t.val % 3 * 768 + r.val) :
    iblk m c 14 t (ix3 0 r k) = m ((c : Thread nD τ).loc main_arg11) (ix3 b R (piece 1 k)) := by
  blk_ext [iblk, V, idx14 t]
  simp [Mix.piece]

theorem iblk17_at (c : Dev nD) (t : Fin cfg0.N) (b : Fin 8) (R : Fin 2304) (r : Fin 768) (k : Fin 256) (hb : b.val = t.val / 3) (hR : R.val = t.val % 3 * 768 + r.val) :
    iblk m c 17 t (ix3 0 r k) = m ((c : Thread nD τ).loc main_arg11) (ix3 b R (piece 2 k)) := by
  blk_ext [iblk, V, idx17 t]
  simp [Mix.piece]

theorem iblk18_at (c : Dev nD) (t : Fin cfg0.N) (b : Fin 8) (R : Fin 2304) (r : Fin 768) (k : Fin 256) (hb : b.val = t.val / 3) (hR : R.val = t.val % 3 * 768 + r.val) :
    iblk m c 18 t (ix3 0 r k) = m ((c : Thread nD τ).loc main_arg11) (ix3 b R (piece 3 k)) := by
  blk_ext [iblk, V, idx18 t]
  simp [Mix.piece]

theorem iblk15_at (c : Dev nD) (t : Fin cfg0.N) (b : Fin 8) (R : Fin 2304) (k : Fin 256) (hb : b.val = t.val / 3) (hR : R.val + 1 = t.val % 3 * 768) :
    iblk m c 15 t (ix3 0 7 k) = m ((c : Thread nD τ).loc main_arg11) (ix3 b R (piece 1 k)) := by
  blk_ext [iblk, V, idx15 t]
  simp [Mix.piece]

theorem iblk16_at (c : Dev nD) (t : Fin cfg0.N) (b : Fin 8) (R : Fin 2304) (k : Fin 256) (hb : b.val = t.val / 3) (hR : R.val = t.val % 3 * 768 + 768) :
    iblk m c 16 t (ix3 0 0 k) = m ((c : Thread nD τ).loc main_arg11) (ix3 b R (piece 1 k)) := by
  blk_ext [iblk, V, idx16 t]
  simp [Mix.piece]

theorem iblk19_at (c : Dev nD) (t : Fin cfg0.N) (i : Fin 3) (k : Fin 256) :
    iblk m c 19 t (ix3 0 i k) = m ((c : Thread nD τ).loc main_arg12) (ix3 1 i k) := by
  blk_ext [iblk, V, idx19 t]

theorem iblk20_at (c : Dev nD) (t : Fin cfg0.N) (k : Fin 256) :
    iblk m c 20 t (ix3 0 0 k) = m ((c : Thread nD τ).loc main_arg13) (ix2 1 k) := by
  blk_simp [iblk, idx20 t]
  entry_read
  pointwise []
  blk_ext [idx20 t]

theorem iblk21_at (c : Dev nD) (t : Fin cfg0.N) (k : Fin 256) :
    iblk m c 21 t (ix3 0 0 k) = m ((c : Thread nD τ).loc main_arg14) (ix2 1 k) := by
  blk_simp [iblk, idx21 t]
  entry_read
  pointwise []
  blk_ext [idx21 t]

theorem iblk22_at (c : Dev nD) (t : Fin cfg0.N) (g : Fin 4) (i s : Fin 128) :
    iblk m c 22 t (ix3 0 i (slot g s)) = m ((c : Thread nD τ).loc main_arg15) (ix4 1 g i s) := by
  blk_simp [iblk, idx22 t]
  entry_read
  pointwise []
  blk_ext [idx22 t]
  all_goals
    simp only [slot]
    omega

theorem iblk23_at (c : Dev nD) (t : Fin cfg0.N) (i : Fin 128) (k : Fin 256) :
    iblk m c 23 t (ix3 0 i k) = m ((c : Thread nD τ).loc main_arg16) (ix3 1 (grp k) i) := by
  blk_simp [iblk, idx23 t]
  entry_read
  pointwise []
  blk_ext [idx23 t]
  rfl

theorem iblk24_at (c : Dev nD) (t : Fin cfg0.N) (k : Fin 1024) (n : Fin 6400) :
    iblk m c 24 t (ix3 0 k n) = m ((c : Thread nD τ).loc main_arg17) (ix3 1 k n) := by
  blk_simp [iblk, idx24 t]
  entry_read
  pointwise []
  blk_ext [idx24 t]

theorem iblk25_at (c : Dev nD) (t : Fin cfg0.N) (i : Fin 4) (k : Fin 256) (n : Fin 1024) :
    iblk m c 25 t (ix4 0 i k n) = m ((c : Thread nD τ).loc main_arg18) (ix4 1 i k n) := by
  blk_simp [iblk, idx25 t]
  entry_read
  pointwise []
  blk_ext [idx25 t]

theorem iblk26_at (c : Dev nD) (t : Fin cfg0.N) (k n : Fin 1024) :
    iblk m c 26 t (ix3 0 k n) = m ((c : Thread nD τ).loc main_arg19) (ix3 1 k n) := by
  blk_simp [iblk, idx26 t]
  entry_read
  pointwise []
  blk_ext [idx26 t]

/-- The clipped window's buffer, at the rows that lie in the latents. -/
theorem X10_at (c : Dev nD) (t : Fin cfg0.N) (b : Fin 8) (R : Fin 2048) (r : Fin 768) (k : Fin 256) (hb : b.val = t.val / 3)
    (hR : R.val = t.val % 3 * 768 + r.val) (h : t.val % 3 < 2) :
    X0_10 m c t (ix3 0 r k) = m ((c : Thread nD τ).loc main_arg9) (ix3 b R k) := by
  refine Eq.trans (dif_pos (moved0_10 t _)) ?_
  blk_ext [iblk, V, idx10 t]

end Cert.MixBlocks
end
-- ==== Proof.MixTile.lean ====
/-
  A sub-tile of 256 rows of the merge kernel, step by step: each vector the body forms, read at a row.
-/
module

public import proofs.«01_k».proof.Proof.Mix
public import proofs.«01_k».proof.Proof.Gen.Merge.Skeleton
public import Idealize.ShloMosaic.Lib.Pipeline.ValueKit

@[expose] public section

set_option maxRecDepth 16384

noncomputable section

namespace Cert.MixTile

open Cert.Merge Cert.Merge.Gen Idealize.ShloMosaic Idealize.ShloMosaic.TcCoe
open Cert.Mix

/-- The normed and modulated rows. -/
theorem act_at (sh sc gain : Vec Ideal S1x1x1024 .f32) (h : Vec Ideal S1x256x1024 .f32) (r : Fin 256) (k : Fin 1024) :
    k0_pay13 (k0_pay9 sh) (k0_pay10 sc) (k0_pay12 h) gain (ix2 r k)
      = Cert.Mlp.act (fun k => h (ix3 0 r k)) (fun k => gain (ix3 0 0 k)) (fun k => sc (ix3 0 0 k)) (fun k => sh (ix3 0 0 k)) k := by
  pointwise [k0_pay13, k0_pay12, k0_pay10, k0_pay9]
  rfl

/-- The gated unit after the scan. -/
theorem glu_at (yf yr : Vec Ideal S1x256x256 .f32) (u : Vec Ideal S1x256x256 .bf16) (d : Vec Ideal S1x1x256 .f32)
    (w : Vec Ideal S1x256x256 .bf16) (b : Vec Ideal S1x1x256 .f32) (r f : Fin 256) :
    k0_pay23 (k0_pay22 yf yr) u d w b (ix2 r f)
      = glu (fun k => yf (ix3 0 r k) + yr (ix3 0 r k) + u (ix3 0 r k) * d (ix3 0 0 k)) (fun k f => w (ix3 0 k f)) (fun f => b (ix3 0 0 f)) f := by
  pointwise [k0_pay23, k0_pay22]
  rfl

/-- The normed rows the spatial gating mixes. -/
theorem lnorm_at (v : Vec Ideal S1x256x256 .f32) (g b : Vec Ideal S1x1x256 .f32) (r c : Fin 256) :
    k0_pay16 (k0_pay15 v) g b (ix2 r c) = lnorm (fun k => v (ix3 0 r k)) (fun k => g (ix3 0 0 k)) (fun k => b (ix3 0 0 k)) c := by
  pointwise [k0_pay16, k0_pay15]
  rfl

/-- The lanes of one group of a chunk, the others zero. -/
def lanes (μ : IVec S1x256 1) (v : FVec Ideal S128x256 .bf16) : FVec Ideal S128x256 .bf16 :=
  select (broadcastTo S128x256 (shapeCast S1x256 μ shapeCasts_S1x256_S1x256) broadcasts_S1x256_S128x256) v (k0_pay18 (F := Ideal))

/-- The lanes of group `w`. -/
def ofGroup (w : BitVec 32) : IVec S1x256 1 := cmpi .eq k0_pay17 (broadcast S1x256 w)

/-- A chunk of 128 rows stacked once per group, each copy masked to its group's lanes. -/
def stack (v : FVec Ideal S128x256 .bf16) : FVec Ideal S512x256 .bf16 :=
  concatenate S512x256 0 [⟨S128x256, lanes (ofGroup 0#32) v⟩, ⟨S128x256, lanes (ofGroup 1#32) v⟩, ⟨S128x256, lanes (ofGroup 2#32) v⟩,
    ⟨S128x256, lanes (ofGroup 3#32) v⟩] concatenates_S128x256_S128x256_S128x256_S128x256_S512x256_d0

/-- A chunk of 128 rows after the spatial gating. -/
def chunk (v : FVec Ideal S128x256 .bf16) (u : FVec Ideal S128x256 .f32) (w : Vec Ideal S1x128x512 .bf16) (b : Vec Ideal S1x128x256 .f32) :
    FVec Ideal S128x256 .bf16 :=
  have w' : FVec Ideal S128x512 .bf16 := shapeCast S128x512 w shapeCasts_S1x128x512_S128x512
  have b' : FVec Ideal S128x256 .f32 := shapeCast S128x256 b shapeCasts_S1x128x256_S128x256
  have p : FVec Ideal S128x256 .f32 := matmul dot_S128x512_S512x256_S128x256_1_0_0_1_n_n none w' (stack v) (constant S128x256 .f32 0x00000000#32)
  truncf .bf16 (mulf u (addf p b')) bitsLt_bf16_f32

/-- A lane's group is its number's upper bits. -/
theorem ofGroup_at (c : Fin 256) (k : Fin 4) : ofGroup (BitVec.ofNat 32 k.val) (ix2 0 c) = if k = grp c then 1#1 else 0#1 := by
  pointwise [ofGroup, k0_pay17]
  revert c k
  decide +kernel

/-- A masked copy at a lane: the chunk's entry in the lane's group's copy, zero in the others. -/
theorem lanes_at (v : FVec Ideal S128x256 .bf16) (k : Fin 4) (s : Fin 128) (c : Fin 256) :
    lanes (ofGroup (BitVec.ofNat 32 k.val)) v (ix2 s c) = if k = grp c then v (ix2 s c) else 0 := by
  pointwise [lanes, k0_pay18]
  rw [ofGroup_at]
  by_cases h : k = grp c
  · simp only [if_pos h]; rfl
  · simp only [if_neg h]; rfl

/-- The stack at a group's position. -/
theorem stack_at (v : FVec Ideal S128x256 .bf16) (k : Fin 4) (s : Fin 128) (c : Fin 256) :
    stack v (ix2 (slot k s) c) = if k = grp c then v (ix2 s c) else 0 := by
  refine Eq.trans ?_ (lanes_at v k s c)
  fin_cases k
  · pointwise [stack, slot]
  · pointwise [stack, slot]
  · pointwise [stack, slot]
    rw [dif_neg (by omega), dif_neg (by omega), dif_pos (by omega)]
    exact congrArg (fun t => lanes (ofGroup 2#32) v (ix2 t c)) (Fin.ext (by dsimp only; omega))
  · pointwise [stack, slot]
    rw [dif_neg (by omega), dif_neg (by omega), dif_neg (by omega)]
    exact congrArg (fun t => lanes (ofGroup 3#32) v (ix2 t c)) (Fin.ext (by dsimp only; omega))

/-- A chunk after the spatial gating, at a token and channel. -/
theorem chunk_at (v : FVec Ideal S128x256 .bf16) (u : FVec Ideal S128x256 .f32) (w : Vec Ideal S1x128x512 .bf16) (b : Vec Ideal S1x128x256 .f32)
    (t : Fin 128) (c : Fin 256) :
    chunk v u w b (ix2 t c) = sgu (u (ix2 t c)) (fun s c => v (ix2 s c)) (fun t s => w (ix3 0 t (slot (grp c) s))) (b (ix3 0 t c)) t c := by
  have key : ∑ k : Fin 512, w (ix3 0 t k) * stack v (ix2 k c) = ∑ s : Fin 128, w (ix3 0 t (slot (grp c) s)) * v (ix2 s c) := by
    rw [sum_slot (fun k => w (ix3 0 t k) * stack v (ix2 k c)) (grp c) fun k s hk => by
      rw [stack_at, if_neg hk, mul_zero]]
    refine Finset.sum_congr rfl fun s _ => ?_
    rw [stack_at, if_pos rfl]
  unfold sgu
  rw [← key]
  pointwise [chunk]

/-- The two chunks of a sub-tile after the spatial gating. -/
def gating (vn : FVec Ideal S256x256 .bf16) (u : FVec Ideal S256x256 .f32) (w w' : Vec Ideal S1x128x512 .bf16) (b b' : Vec Ideal S1x128x256 .f32) :
    FVec Ideal S256x256 .bf16 :=
  concatenate S256x256 0 [⟨S128x256, chunk (extractStridedSlice S128x256 ![0, 0] vn slices_S256x256_o0_0_S128x256)
      (extractStridedSlice S128x256 ![0, 0] u slices_S256x256_o0_0_S128x256) w b⟩,
    ⟨S128x256, chunk (extractStridedSlice S128x256 ![128, 0] vn slices_S256x256_o128_0_S128x256)
      (extractStridedSlice S128x256 ![128, 0] u slices_S256x256_o128_0_S128x256) w' b'⟩] concatenates_S128x256_S128x256_S256x256_d0

/-- Row `s` of chunk `q` of a sub-tile. -/
def crow (q : Fin 2) (s : Fin 128) : Fin 256 := ⟨q.val * 128 + s.val, by omega⟩

theorem gating_at (vn : FVec Ideal S256x256 .bf16) (u : FVec Ideal S256x256 .f32) (w : Vec Ideal S1x128x512 .bf16) (b : Vec Ideal S1x128x256 .f32)
    (q : Fin 2) (t : Fin 128) (c : Fin 256) :
    gating vn u w w b b (ix2 (crow q t) c)
      = sgu (u (ix2 (crow q t) c)) (fun s c => vn (ix2 (crow q s) c)) (fun t s => w (ix3 0 t (slot (grp c) s))) (b (ix3 0 t c)) t c := by
  fin_cases q
  · refine Eq.trans (b := chunk (extractStridedSlice S128x256 ![0, 0] vn slices_S256x256_o0_0_S128x256)
      (extractStridedSlice S128x256 ![0, 0] u slices_S256x256_o0_0_S128x256) w b (ix2 t c)) ?_ ?_
    · pointwise [gating, crow]
    · rw [chunk_at]
      pointwise [crow]
  · refine Eq.trans (b := chunk (extractStridedSlice S128x256 ![128, 0] vn slices_S256x256_o128_0_S128x256)
      (extractStridedSlice S128x256 ![128, 0] u slices_S256x256_o128_0_S128x256) w b (ix2 t c)) ?_ ?_
    · pointwise [gating, crow]
    · rw [chunk_at]
      pointwise [crow]

/-- The first sub-tile's spatial gating. -/
theorem gating_first (v : Vec Ideal S1x256x256 .f32) (u : Vec Ideal S1x256x256 .f32) (g b : Vec Ideal S1x1x256 .f32)
    (w w' : Vec Ideal S1x128x512 .bf16) (s s' : Vec Ideal S1x128x256 .f32) :
    k0_pay21 (k0_pay14 u) (k0_pay16 (k0_pay15 v) g b) k0_pay17 k0_pay18 (k0_pay19 (k0_pay14 u)) (k0_pay20 (k0_pay15 v) g b w s) w' s'
      = gating (k0_pay16 (k0_pay15 v) g b) (k0_pay14 u) w w' s s' := rfl

/-- One branch's projection under its gate. -/
def gate (a : FVec Ideal S256x1024 .bf16) (w : Vec Ideal S1x1024x1024 .bf16) (y : FVec Ideal S256x256 .bf16) (wb : Vec Ideal S1x1x256x1024 .bf16) :
    FVec Ideal S256x1024 .f32 :=
  have w' : FVec Ideal S1024x1024 .bf16 := shapeCast S1024x1024 w shapeCasts_S1x1024x1024_S1024x1024
  have wb' : FVec Ideal S256x1024 .bf16 := shapeCast S256x1024 wb shapeCasts_S1x1x256x1024_S256x1024
  have g : FVec Ideal S256x1024 .f32 := matmul dot_S256x1024_S1024x1024_S256x1024_1_0_0_1_n_n none a w' (constant S256x1024 .f32 0x00000000#32)
  have p : FVec Ideal S256x1024 .f32 := matmul dot_S256x256_S256x1024_S256x1024_1_0_0_1_n_n none y wb' (constant S256x1024 .f32 0x00000000#32)
  mulf (logistic g) p

theorem gate_at (a : FVec Ideal S256x1024 .bf16) (w : Vec Ideal S1x1024x1024 .bf16) (y : FVec Ideal S256x256 .bf16)
    (wb : Vec Ideal S1x1x256x1024 .bf16) (r : Fin 256) (m : Fin 1024) :
    gate a w y wb (ix2 r m) = gated (fun k => a (ix2 r k)) (fun k m => w (ix3 0 k m)) (fun k => y (ix2 r k)) (fun k m => wb (ix4 0 0 k m)) m := by
  pointwise [gate]
  rfl

/-- What the body stores of a sub-tile. -/
def tile (g : FVec Ideal S1x1024 .f32) (h : FVec Ideal S256x1024 .f32) (a : FVec Ideal S256x1024 .bf16) (w : Fin 4 → Vec Ideal S1x1024x1024 .bf16)
    (y : Fin 4 → FVec Ideal S256x256 .bf16) (wb : Fin 4 → Vec Ideal S1x1x256x1024 .bf16) (wo : Vec Ideal S1x1024x1024 .bf16) : FVec Ideal S1x256x1024 .f32 :=
  have wo' : FVec Ideal S1024x1024 .bf16 := shapeCast S1024x1024 wo shapeCasts_S1x1024x1024_S1024x1024
  have z : FVec Ideal S256x1024 .f32 := broadcast S256x1024 (Scalar.ofBits .f32 0x00000000#32 : Ideal .f32)
  have s : FVec Ideal S256x1024 .f32 := addf (addf (addf (addf z (gate a (w 0) (y 0) (wb 0))) (gate a (w 1) (y 1) (wb 1))) (gate a (w 2) (y 2) (wb 2)))
    (gate a (w 3) (y 3) (wb 3))
  have o : FVec Ideal S256x1024 .f32 := matmul dot_S256x1024_S1024x1024_S256x1024_1_0_0_1_n_n none (truncf .bf16 s bitsLt_bf16_f32) wo'
    (constant S256x1024 .f32 0x00000000#32)
  shapeCast S1x256x1024 (addf h (mulf (broadcastTo S256x1024 g broadcasts_S1x1024_S256x1024) o)) shapeCasts_S256x1024_S1x256x1024

theorem tile_at (g : FVec Ideal S1x1024 .f32) (h : FVec Ideal S256x1024 .f32) (a : FVec Ideal S256x1024 .bf16) (w : Fin 4 → Vec Ideal S1x1024x1024 .bf16)
    (y : Fin 4 → FVec Ideal S256x256 .bf16) (wb : Fin 4 → Vec Ideal S1x1x256x1024 .bf16) (wo : Vec Ideal S1x1024x1024 .bf16) (r : Fin 256) (n : Fin 1024) :
    tile g h a w y wb wo (ix3 0 r n) = h (ix2 r n) + g (ix2 0 n) * ∑ m, merged (fun k => a (ix2 r k)) (fun i k m => w i (ix3 0 k m))
      (fun i k => y i (ix2 r k)) (fun i k m => wb i (ix4 0 0 k m)) m * wo (ix3 0 m n) := by
  unfold merged
  simp only [← gate_at]
  pointwise [tile]

end Cert.MixTile
end
-- ==== Proof.MixStore.lean ====
/-
  The three sub-tiles the merge kernel's body stores, as one function of the rows it reads, and that function at a row.
-/
module

public import proofs.«01_k».proof.Proof.MixTile

@[expose] public section

set_option maxRecDepth 16384

noncomputable section

namespace Cert.MixTile

open Cert.Merge Cert.Merge.Gen Idealize.ShloMosaic Idealize.ShloMosaic.TcCoe
open Cert.Mix

/-- A sub-tile of 256 rows, of the modulations, the rows it reads, and the weights. -/
def sub (sh sc ga : FVec Ideal S1x1024 .f32) (h : FVec Ideal S256x1024 .f32) (gain : Vec Ideal S1x1x1024 .f32) (su sv : Vec Ideal S1x256x256 .f32)
    (lg lb : Vec Ideal S1x1x256 .f32) (sw : Vec Ideal S1x128x512 .bf16) (sb : Vec Ideal S1x128x256 .f32) (yf yr : Vec Ideal S1x256x256 .f32)
    (u : Vec Ideal S1x256x256 .bf16) (d : Vec Ideal S1x1x256 .f32) (gw : Vec Ideal S1x256x256 .bf16) (gb : Vec Ideal S1x1x256 .f32)
    (yb yc : FVec Ideal S256x256 .bf16) (w : Fin 4 → Vec Ideal S1x1024x1024 .bf16) (wb : Fin 4 → Vec Ideal S1x1x256x1024 .bf16)
    (wo : Vec Ideal S1x1024x1024 .bf16) : FVec Ideal S1x256x1024 .f32 :=
  tile ga h (k0_pay13 sh sc h gain) w
    ![k0_pay23 (k0_pay22 yf yr) u d gw gb, yb, yc, gating (k0_pay16 (k0_pay15 sv) lg lb) (k0_pay14 su) sw sw sb sb] wb wo

/-- A row of a sub-tile: the row after the mixer half. -/
theorem sub_at (sh sc ga : FVec Ideal S1x1024 .f32) (h : FVec Ideal S256x1024 .f32) (gain : Vec Ideal S1x1x1024 .f32) (su sv : Vec Ideal S1x256x256 .f32)
    (lg lb : Vec Ideal S1x1x256 .f32) (sw : Vec Ideal S1x128x512 .bf16) (sb : Vec Ideal S1x128x256 .f32) (yf yr : Vec Ideal S1x256x256 .f32)
    (u : Vec Ideal S1x256x256 .bf16) (d : Vec Ideal S1x1x256 .f32) (gw : Vec Ideal S1x256x256 .bf16) (gb : Vec Ideal S1x1x256 .f32)
    (yb yc : FVec Ideal S256x256 .bf16) (w : Fin 4 → Vec Ideal S1x1024x1024 .bf16) (wb : Fin 4 → Vec Ideal S1x1x256x1024 .bf16)
    (wo : Vec Ideal S1x1024x1024 .bf16) (q : Fin 2) (t : Fin 128) (n : Fin 1024) :
    sub sh sc ga h gain su sv lg lb sw sb yf yr u d gw gb yb yc w wb wo (ix3 0 (crow q t) n)
      = row (fun k => h (ix2 (crow q t) k)) (fun k => gain (ix3 0 0 k)) (fun k => sc (ix2 0 k)) (fun k => sh (ix2 0 k)) (fun k => ga (ix2 0 k))
          (fun i k m => w i (ix3 0 k m))
          ![fun f => glu (fun k => yf (ix3 0 (crow q t) k) + yr (ix3 0 (crow q t) k) + u (ix3 0 (crow q t) k) * d (ix3 0 0 k))
              (fun k f => gw (ix3 0 k f)) (fun f => gb (ix3 0 0 f)) f,
            fun k => yb (ix2 (crow q t) k), fun k => yc (ix2 (crow q t) k),
            fun c => sgu (su (ix3 0 (crow q t) c))
              (fun s c => lnorm (fun k => sv (ix3 0 (crow q s) k)) (fun k => lg (ix3 0 0 k)) (fun k => lb (ix3 0 0 k)) c)
              (fun t s => sw (ix3 0 t (slot (grp c) s))) (sb (ix3 0 t c)) t c]
          (fun i k m => wb i (ix4 0 0 k m)) (fun m n => wo (ix3 0 m n)) n := by
  have ha : ∀ k, k0_pay13 sh sc h gain (ix2 (crow q t) k)
      = Cert.Mlp.act (fun k => h (ix2 (crow q t) k)) (fun k => gain (ix3 0 0 k)) (fun k => sc (ix2 0 k)) (fun k => sh (ix2 0 k)) k := fun k => by
    pointwise [k0_pay13]
    rfl
  have hsu : ∀ c, k0_pay14 su (ix2 (crow q t) c) = su (ix3 0 (crow q t) c) := fun c => by pointwise [k0_pay14]
  have hy : ∀ i k, (![k0_pay23 (k0_pay22 yf yr) u d gw gb, yb, yc, gating (k0_pay16 (k0_pay15 sv) lg lb) (k0_pay14 su) sw sw sb sb] :
        Fin 4 → FVec Ideal S256x256 .bf16) i (ix2 (crow q t) k)
      = (![fun f => glu (fun k => yf (ix3 0 (crow q t) k) + yr (ix3 0 (crow q t) k) + u (ix3 0 (crow q t) k) * d (ix3 0 0 k))
              (fun k f => gw (ix3 0 k f)) (fun f => gb (ix3 0 0 f)) f,
            fun k => yb (ix2 (crow q t) k), fun k => yc (ix2 (crow q t) k),
            fun c => sgu (su (ix3 0 (crow q t) c))
              (fun s c => lnorm (fun k => sv (ix3 0 (crow q s) k)) (fun k => lg (ix3 0 0 k)) (fun k => lb (ix3 0 0 k)) c)
              (fun t s => sw (ix3 0 t (slot (grp c) s))) (sb (ix3 0 t c)) t c] : Fin 4 → Fin 256 → EReal) i k := fun i k => by
    fin_cases i
    · exact glu_at yf yr u d gw gb (crow q t) k
    · rfl
    · rfl
    · refine (gating_at (k0_pay16 (k0_pay15 sv) lg lb) (k0_pay14 su) sw sb q t k).trans ?_
      simp only [hsu, lnorm_at]
      rfl
  unfold sub row
  rw [tile_at]
  simp only [ha, hy]

/-- What the body stores of its first sub-tile. -/
theorem first_eq (i : grid0.Coords) (cv : FVec Ideal S768x256 .bf16) (shl scl gal : Vec Ideal S1x1x1024 .f32) (h : Vec Ideal S1x256x1024 .f32) (gain : Vec Ideal S1x1x1024 .f32) (yf yr : Vec Ideal S1x256x256 .f32) (u : Vec Ideal S1x256x256 .bf16) (d : Vec Ideal S1x1x256 .f32) (gw : Vec Ideal S1x256x256 .bf16) (gb : Vec Ideal S1x1x256 .f32) (yl yt : Vec Ideal S1x256x256 .bf16) (su sv : Vec Ideal S1x256x256 .f32) (lg lb : Vec Ideal S1x1x256 .f32) (sw : Vec Ideal S1x128x512 .bf16) (sb : Vec Ideal S1x128x256 .f32) (w0 : Vec Ideal S1x1024x1024 .bf16) (b0 : Vec Ideal S1x1x256x1024 .bf16) (w1 : Vec Ideal S1x1024x1024 .bf16) (b1 : Vec Ideal S1x1x256x1024 .bf16) (w2 : Vec Ideal S1x1024x1024 .bf16) (b2 : Vec Ideal S1x1x256x1024 .bf16) (w3 : Vec Ideal S1x1024x1024 .bf16) (b3 : Vec Ideal S1x1x256x1024 .bf16) (wo : Vec Ideal S1x1024x1024 .bf16) :
    k0_pay27 (k0_pay11 gal) (k0_pay12 h) (k0_pay13 (k0_pay9 shl) (k0_pay10 scl) (k0_pay12 h) gain) (k0_pay21 (k0_pay14 su) (k0_pay16 (k0_pay15 sv) lg lb) k0_pay17 (k0_pay18 (F := Ideal)) (k0_pay19 (k0_pay14 su)) (k0_pay20 (k0_pay15 sv) lg lb sw sb) sw sb) (k0_pay26 cv (k0_pay13 (k0_pay9 shl) (k0_pay10 scl) (k0_pay12 h) gain) (k0_pay23 (k0_pay22 yf yr) u d gw gb) (k0_pay24 yt) (Scalar.cmpi .eq (BitVec.ofNat 32 (i 1).val) 2#32) (k0_pay25 yl) w0 b0 w1 b1 w2 b2) w3 b3 wo
      = sub (k0_pay9 shl) (k0_pay10 scl) (k0_pay11 gal) (k0_pay12 h) gain su sv lg lb sw sb yf yr u d gw gb (Scalar.select (Scalar.cmpi .eq (BitVec.ofNat 32 (i 1).val) 2#32) (k0_pay24 yt) (k0_pay24 yl))
          (extractStridedSlice S256x256 ![0, 0] cv slices_S768x256_o0_0_S256x256) ![w0, w1, w2, w3] ![b0, b1, b2, b3] wo := rfl

/-- What the body stores of its second sub-tile. -/
theorem second_eq (i : grid0.Coords) (cv : FVec Ideal S768x256 .bf16) (shl scl gal : Vec Ideal S1x1x1024 .f32) (h : Vec Ideal S1x256x1024 .f32) (gain : Vec Ideal S1x1x1024 .f32) (yf yr : Vec Ideal S1x256x256 .f32) (u : Vec Ideal S1x256x256 .bf16) (d : Vec Ideal S1x1x256 .f32) (gw : Vec Ideal S1x256x256 .bf16) (gb : Vec Ideal S1x1x256 .f32) (yl yt : Vec Ideal S1x256x256 .bf16) (su sv : Vec Ideal S1x256x256 .f32) (lg lb : Vec Ideal S1x1x256 .f32) (sw : Vec Ideal S1x128x512 .bf16) (sb : Vec Ideal S1x128x256 .f32) (w0 : Vec Ideal S1x1024x1024 .bf16) (b0 : Vec Ideal S1x1x256x1024 .bf16) (w1 : Vec Ideal S1x1024x1024 .bf16) (b1 : Vec Ideal S1x1x256x1024 .bf16) (w2 : Vec Ideal S1x1024x1024 .bf16) (b2 : Vec Ideal S1x1x256x1024 .bf16) (w3 : Vec Ideal S1x1024x1024 .bf16) (b3 : Vec Ideal S1x1x256x1024 .bf16) (wo : Vec Ideal S1x1024x1024 .bf16) :
    k0_pay47 (k0_pay30 gal) (k0_pay31 h) (k0_pay33 (k0_pay28 shl) (k0_pay29 scl) (k0_pay31 h) (k0_pay32 gain) (Scalar.ofBits .f32 0x3F800000#32)) (k0_pay41 (k0_pay34 su) (k0_pay37 (k0_pay35 sv) (k0_pay36 lg) lb) k0_pay38 (k0_pay39 (F := Ideal)) (k0_pay40 (k0_pay34 su) (k0_pay35 sv) (k0_pay36 lg) lb sw sb) sw sb) (k0_pay46 (k0_pay33 (k0_pay28 shl) (k0_pay29 scl) (k0_pay31 h) (k0_pay32 gain) (Scalar.ofBits .f32 0x3F800000#32)) (k0_pay43 (k0_pay42 yf yr) u d gw gb) (k0_pay44 (BitVec.ofNat 32 (i 1).val) yt yl) (k0_pay45 cv) w0 b0 w1 b1 w2 b2) w3 b3 wo
      = sub (k0_pay9 shl) (k0_pay10 scl) (k0_pay11 gal) (k0_pay12 h) gain su sv lg lb sw sb yf yr u d gw gb (Scalar.select (Scalar.cmpi .eq (BitVec.ofNat 32 (i 1).val) 2#32) (k0_pay24 yt) (k0_pay24 yl))
          (extractStridedSlice S256x256 ![256, 0] cv slices_S768x256_o256_0_S256x256) ![w0, w1, w2, w3] ![b0, b1, b2, b3] wo := rfl

/-- What the body stores of its third sub-tile. -/
theorem third_eq (i : grid0.Coords) (cv : FVec Ideal S768x256 .bf16) (shl scl gal shc scc gac : Vec Ideal S1x1x1024 .f32) (h : Vec Ideal S1x256x1024 .f32) (gain : Vec Ideal S1x1x1024 .f32) (yf yr : Vec Ideal S1x256x256 .f32) (u : Vec Ideal S1x256x256 .bf16) (d : Vec Ideal S1x1x256 .f32) (gw : Vec Ideal S1x256x256 .bf16) (gb : Vec Ideal S1x1x256 .f32) (yl yx : Vec Ideal S1x256x256 .bf16) (su sv : Vec Ideal S1x256x256 .f32) (lg lb : Vec Ideal S1x1x256 .f32) (sw : Vec Ideal S1x128x512 .bf16) (sb : Vec Ideal S1x128x256 .f32) (w0 : Vec Ideal S1x1024x1024 .bf16) (b0 : Vec Ideal S1x1x256x1024 .bf16) (w1 : Vec Ideal S1x1024x1024 .bf16) (b1 : Vec Ideal S1x1x256x1024 .bf16) (w2 : Vec Ideal S1x1024x1024 .bf16) (b2 : Vec Ideal S1x1x256x1024 .bf16) (w3 : Vec Ideal S1x1024x1024 .bf16) (b3 : Vec Ideal S1x1x256x1024 .bf16) (wo : Vec Ideal S1x1024x1024 .bf16) :
    k0_pay1 (k0_pay51 h) (k0_pay75 (k0_pay52 (k0_pay48 (BitVec.ofNat 32 (i 1).val) shc shl) (k0_pay49 (BitVec.ofNat 32 (i 1).val) scc scl) h gain) (k0_pay69 (k0_pay65 (k0_pay53 su) (k0_pay59 (F := Ideal)) (k0_pay60 (k0_pay54 sv) (k0_pay55 sv) (k0_pay56 sv) lg lb) (k0_pay61 (k0_pay54 sv) (k0_pay55 sv) (k0_pay56 sv) lg lb) (k0_pay62 (k0_pay54 sv) (k0_pay55 sv) (k0_pay56 sv) lg lb) (k0_pay63 (k0_pay54 sv) (k0_pay55 sv) (k0_pay56 sv) lg lb) k0_pay64 sw sb) (k0_pay66 (k0_pay53 su)) (k0_pay67 (k0_pay57 (k0_pay54 sv) (k0_pay55 sv) (k0_pay56 sv) lg lb) k0_pay58 (k0_pay59 (F := Ideal)) sw) (k0_pay68 sb)) (k0_pay73 cv) (k0_pay74 (BitVec.ofNat 32 (i 1).val) (k0_pay52 (k0_pay48 (BitVec.ofNat 32 (i 1).val) shc shl) (k0_pay49 (BitVec.ofNat 32 (i 1).val) scc scl) h gain) (k0_pay70 yf yr u d) (k0_pay71 yf yr u d gw) (k0_pay72 gb) yx yl w0 b0 w1 b1) w2 b2 w3 b3 wo) (k0_pay76 (k0_pay50 (Scalar.cmpi .eq (BitVec.ofNat 32 (i 1).val) 2#32) gac gal))
      = sub (Scalar.select (Scalar.cmpi .eq (BitVec.ofNat 32 (i 1).val) 2#32) (k0_pay9 shc) (k0_pay9 shl)) (Scalar.select (Scalar.cmpi .eq (BitVec.ofNat 32 (i 1).val) 2#32) (k0_pay10 scc) (k0_pay10 scl)) (Scalar.select (Scalar.cmpi .eq (BitVec.ofNat 32 (i 1).val) 2#32) (k0_pay11 gac) (k0_pay11 gal)) (k0_pay12 h) gain su sv lg lb sw sb yf yr u d gw gb (Scalar.select (Scalar.cmpi .eq (BitVec.ofNat 32 (i 1).val) 2#32) (k0_pay24 yx) (k0_pay24 yl))
          (extractStridedSlice S256x256 ![512, 0] cv slices_S768x256_o512_0_S256x256) ![w0, w1, w2, w3] ![b0, b1, b2, b3] wo := rfl

/-- The word that says a row is the first of its sequence. -/
theorem first_word (j : Fin 3) (r : Fin 768) : IntOp.ori
    (IntOp.cmpi CmpIPredicate.eq (IntOp.addi (Scalar.muli (BitVec.ofNat 32 j.val) 768#32) (BitVec.ofNat 32 r.val)) 0#32)
    (IntOp.cmpi CmpIPredicate.eq (IntOp.addi (Scalar.muli (BitVec.ofNat 32 j.val) 768#32) (BitVec.ofNat 32 r.val)) 2048#32)
      = if j.val * 768 + r.val = 0 ∨ j.val * 768 + r.val = 2048 then 1#1 else 0#1 := by
  revert j r
  decide +kernel

/-- The word that says a row is the last of its sequence. -/
theorem last_word (j : Fin 3) (r : Fin 768) : IntOp.ori
    (IntOp.cmpi CmpIPredicate.eq (IntOp.addi (Scalar.muli (BitVec.ofNat 32 j.val) 768#32) (BitVec.ofNat 32 r.val)) 2047#32)
    (IntOp.cmpi CmpIPredicate.eq (IntOp.addi (Scalar.muli (BitVec.ofNat 32 j.val) 768#32) (BitVec.ofNat 32 r.val)) 2303#32)
      = if j.val * 768 + r.val = 2047 ∨ j.val * 768 + r.val = 2303 then 1#1 else 0#1 := by
  revert j r
  decide +kernel

/-- The words that say a row is the tile's first, or its last. -/
theorem top_word (r : Fin 768) : IntOp.cmpi CmpIPredicate.eq (BitVec.ofNat 32 r.val) 0#32 = if r.val = 0 then 1#1 else 0#1 := by
  revert r
  decide +kernel
theorem end_word (r : Fin 768) : IntOp.cmpi CmpIPredicate.eq (BitVec.ofNat 32 r.val) 767#32 = if r.val = 767 then 1#1 else 0#1 := by
  revert r
  decide +kernel

/-- A row of the tile's convolution: the three taps of the row before, the row and the row after, where a row before the first of
    its sequence, or after the last, is zero; the halo rows stand before the tile's first row and after its last. -/
theorem conv_at (i : grid0.Coords) (z cb : Vec Ideal S1x768x256 .f32) (zp zn c0 c1 c2 : Vec Ideal S1x1x256 .f32) (r : Fin 768) (c : Fin 256) :
    k0_pay8 (k0_pay3 z) (k0_pay4 z zn) (k0_pay5 i z zp) (k0_pay6 i) (k0_pay7 i) c0 c1 c2 cb (ix2 r c)
      = conv (cb (ix3 0 r c)) (c0 (ix3 0 0 c)) (c1 (ix3 0 0 c)) (c2 (ix3 0 0 c))
          (if (i 1).val * 768 + r.val = 0 ∨ (i 1).val * 768 + r.val = 2048 then 0
            else if h : r.val = 0 then zp (ix3 0 0 c) else z (ix3 0 ⟨r.val - 1, by omega⟩ c))
          (z (ix3 0 r c))
          (if (i 1).val * 768 + r.val = 2047 ∨ (i 1).val * 768 + r.val = 2303 then 0
            else if h : r.val = 767 then zn (ix3 0 0 c) else z (ix3 0 ⟨r.val + 1, by omega⟩ c)) := by
  have hp : Scalar.select (if r.val = 0 then 1#1 else 0#1) (zp (ix3 0 0 c)) (z (ix3 0 ⟨(r.val + 768 - 1) % 768, Nat.mod_lt _ (by decide)⟩ c))
      = if h : r.val = 0 then zp (ix3 0 0 c) else z (ix3 0 ⟨r.val - 1, by omega⟩ c) := by
    by_cases h : r.val = 0
    · rw [if_pos h, dif_pos h]; rfl
    · rw [if_neg h, dif_neg h]
      exact congrArg (fun s => z (ix3 0 s c)) (Fin.ext (by dsimp only; omega))
  have hn : Scalar.select (if r.val = 767 then 1#1 else 0#1) (zn (ix3 0 0 c)) (z (ix3 0 ⟨(r.val + 768 - 767) % 768, Nat.mod_lt _ (by decide)⟩ c))
      = if h : r.val = 767 then zn (ix3 0 0 c) else z (ix3 0 ⟨r.val + 1, by omega⟩ c) := by
    by_cases h : r.val = 767
    · rw [if_pos h, dif_pos h]; rfl
    · rw [if_neg h, dif_neg h]
      exact congrArg (fun s => z (ix3 0 s c)) (Fin.ext (by dsimp only; omega))
  have ite : ∀ (p : Prop) [Decidable p] (w x : EReal), Scalar.select (if p then 1#1 else 0#1) (0 : EReal) (w * x) = w * (if p then 0 else x) := by
    intro p _ w x
    by_cases h : p
    · rw [if_pos h, if_pos h, mul_zero]; rfl
    · rw [if_neg h, if_neg h]; rfl
  pointwise [k0_pay8, k0_pay7, k0_pay6, k0_pay5, k0_pay4, k0_pay3, k0_pay2]
  rw [first_word (i 1) r, last_word (i 1) r, top_word, end_word, hp, hn]
  unfold conv
  rw [ite, ite]

end Cert.MixTile
end
-- ==== Proof.MixRows.lean ====
/-
  The reference of the end of a layer's mixer half, read at an index.
-/
module

public import proofs.«01_k».proof.Proof.Gen.MergeRefIdeal.Read
public import proofs.«01_k».proof.Proof.Mix

@[expose] public section

set_option maxRecDepth 16384

noncomputable section

namespace Cert.MixRows

open Cert.MergeRefIdeal Cert.MergeRefIdeal.Gen Cert.MergeRefIdeal.Read Idealize.ShloMosaic Idealize.ShloMosaic.TcCoe Idealize.SL.Sem
open Cert.Mix
open Cert.Mlp (act act_eq)

variable (x0 : FVec Ideal S8x2304x1024 .f32) (x1 : FVec Ideal S4x16x6144 .f32) (x2 : FVec Ideal S4x2x1024 .f32)
  (x3 x4 : FVec Ideal S8x2304x256 .f32) (x5 : FVec Ideal S8x2304x1024 .bf16) (x6 : FVec Ideal S4x256 .f32) (x7 : FVec Ideal S4x256x256 .f32)
  (x8 : FVec Ideal S4x256 .f32) (x9 : FVec Ideal S8x2048x256 .bf16) (x10 : FVec Ideal S8x256x256 .bf16) (x11 : FVec Ideal S8x2304x1024 .f32)
  (x12 : FVec Ideal S4x3x256 .f32) (x13 x14 : FVec Ideal S4x256 .f32) (x15 : FVec Ideal S4x4x128x128 .f32) (x16 : FVec Ideal S4x4x128 .f32)
  (x17 : FVec Ideal S4x1024x6400 .f32) (x18 : FVec Ideal S4x4x256x1024 .f32) (x19 : FVec Ideal S4x1024x1024 .f32)

/-- The token of a latent row. -/
def lat (r : Fin 2048) : Fin 2304 := ⟨r.val, by omega⟩

/-- The word zero as a number. -/
theorem zero_word : (FloatOps.sitofp (F := Ideal) .f32 (0#32) : EReal) = 0 := by
  refine Eq.trans (b := (((0#32).toInt : ℝ) : EReal)) rfl ?_
  simp

/-- The token of a context row. -/
def ctx (r : Fin 256) : Fin 2304 := ⟨2048 + r.val, by omega⟩

/-- The modulated latent rows. -/
theorem lat_act (b : Fin 8) (r : Fin 2048) (k : Fin 1024) : val_main_v38 (F := Ideal) x0 x1 x2 (ix3 b r k)
    = act (fun k => x0 (ix3 b (lat r) k)) (fun k => x2 (ix3 1 0 k)) (fun k => x1 (ix3 1 (b.castLE (by decide)) (at1 k))) (fun k => x1 (ix3 1 (b.castLE (by decide)) (at0 k))) k := by
  rw [← act_eq]
  pointwise [val_main_v38, val_main_v36, val_main_v37, val_main_v32, val_main_v35, val_main_v3, val_main_v29, val_main_v31, val_main_v34, val_main_v2, val_main_v17, val_main_v28, val_main_v30, val_main_v33, val_main_v4, val_main_v1, val_main_v27, val_main_v19, val_main_cst_2, val_main_v0, val_main_v26, val_main_v18, val_main_v24, val_main_v25, val_main_v22, val_main_v23, val_main_cst_1, val_main_v21, val_main_cst_0, val_main_v20, val_main_cst]
  simp only [lat, ctx]
  rfl

/-- The logits of the latent rows' gates. -/
theorem lat_logit (b : Fin 8) (r : Fin 2048) (j : Fin 4096) : val_main_v42 (F := Ideal) x0 x1 x2 x17 (ix3 b r j)
    = ∑ k, val_main_v38 (F := Ideal) x0 x1 x2 (ix3 b r k) * x17 (ix3 1 k ⟨2304 + j.val, by omega⟩) := by
  pointwise [val_main_v42, val_main_v41, val_main_v40, val_main_v39]

/-- The scan's sum at the latent rows. -/
theorem lat_sum (b : Fin 8) (r : Fin 2048) (c : Fin 256) : val_main_v58 (F := Ideal) x3 x4 x5 x6 (ix3 b r c)
    = x3 (ix3 b (lat r) c) + x4 (ix3 b (lat r) c) + x5 (ix3 b (lat r) (piece 0 c)) * x6 (ix2 1 c) := by
  have e : (⟨0 * 256 + c.val, by omega⟩ : Fin 1024) = ⟨c.val, by omega⟩ := Fin.ext (by dsimp only; omega)
  refine Eq.trans ?_ (add_right_comm _ _ _)
  refine Eq.trans ?_ (congrArg (fun s => s + _) (add_comm _ _))
  pointwise [val_main_v58, val_main_v56, val_main_v57, val_main_v54, val_main_v55, val_main_v44, val_main_v53, val_main_v43, val_main_v52, val_main_v51, val_main_v50]
  simp only [lat, ctx, Mix.piece, Fin.val_zero, e]

/-- The gelu of the latent rows. -/
theorem lat_gelu (b : Fin 8) (r : Fin 2048) (c : Fin 256) : val_main_v75 (F := Ideal) x3 x4 x5 x6 (ix3 b r c) = gelu (val_main_v58 (F := Ideal) x3 x4 x5 x6 (ix3 b r c)) := by
  unfold gelu
  rw [mul_comm (val_main_v58 (F := Ideal) x3 x4 x5 x6 (ix3 b r c)) (val_main_v58 (F := Ideal) x3 x4 x5 x6 (ix3 b r c) * val_main_v58 (F := Ideal) x3 x4 x5 x6 (ix3 b r c))]
  pointwise [val_main_v75, val_main_v74, val_main_v73, val_main_v72, val_main_cst_6, val_main_v71, val_main_v70, val_main_cst_5, val_main_v69, val_main_v68, val_main_v67, val_main_cst_4, val_main_v66, val_main_v65, val_main_v64, val_main_cst_3, val_main_v63]

/-- The gated unit of the latent rows. -/
theorem lat_glu (b : Fin 8) (r : Fin 2048) (f : Fin 256) : val_main_v86 (F := Ideal) x3 x4 x5 x6 x7 x8 (ix3 b r f)
    = glu (fun k => val_main_v58 (F := Ideal) x3 x4 x5 x6 (ix3 b r k)) (fun k f => x7 (ix3 1 k f)) (fun f => x8 (ix2 1 f)) f := by
  pointwise [val_main_v86, val_main_v85, val_main_v84, val_main_v83, val_main_cst_8, val_main_v82, val_main_v81, val_main_cst_7, val_main_v80, val_main_v79, val_main_v76, val_main_v78, val_main_v60, val_main_v77, val_main_v59, val_main_v62, val_main_v61]
  simp only [lat_gelu]
  rfl

/-- The convolution of the latent rows. -/
theorem lat_conv (b : Fin 8) (r : Fin 2048) (c : Fin 256) : val_main_v112 (F := Ideal) x11 x12 (ix3 b r c)
    = conv (x11 (ix3 b (lat r) (piece 0 c))) (x12 (ix3 1 0 c)) (x12 (ix3 1 1 c)) (x12 (ix3 1 2 c))
        (before (fun R => x11 (ix3 b R (piece 1 c))) (lat r)) (x11 (ix3 b (lat r) (piece 1 c))) (after (fun R => x11 (ix3 b R (piece 1 c))) (lat r)) := by
  pointwise [val_main_v112, val_main_v46, val_main_v111, val_main_v45, val_main_v104, val_main_v110, val_main_v97, val_main_v103, val_main_v105, val_main_v109, val_main_v96, val_main_v95, val_main_v98, val_main_v102, val_main_v89, val_main_v108, val_main_cst_9, val_main_v90, val_main_v94, val_main_v101, val_main_v47, val_main_call0_v0, val_main_v107, val_main_v93, val_main_v100, val_main_c, val_main_v106, val_main_v92, val_main_v99, val_main_v88, val_main_v91, val_main_v87]
  have hp : (if h : 1 ≤ r.val ∧ r.val - 1 < 2048 then x11 (ix3 b ⟨r.val - 1, by omega⟩ ⟨256 + c.val, by omega⟩) else FloatOps.sitofp (F := Ideal) .f32 (0#32))
      = before (fun R => x11 (ix3 b R (piece 1 c))) (lat r) := by
    unfold before
    by_cases h : 1 ≤ r.val
    · rw [dif_pos ⟨h, by omega⟩, if_neg (by simp only [lat, ctx]; omega)]
      rfl
    · rw [dif_neg (fun q => h q.1), if_pos (by simp only [lat, ctx]; omega)]
      exact zero_word
  have hn : (if h : 1 ≤ 2 + r.val ∧ 2 + r.val - 1 < 2048 then x11 (ix3 b ⟨2 + r.val - 1, by omega⟩ ⟨256 + c.val, by omega⟩) else FloatOps.sitofp (F := Ideal) .f32 (0#32))
      = after (fun R => x11 (ix3 b R (piece 1 c))) (lat r) := by
    unfold after
    by_cases h : 2 + r.val - 1 < 2048
    · rw [dif_pos ⟨by omega, h⟩, dif_neg (by simp only [lat, ctx]; omega)]
      exact congrArg (fun s => x11 (ix3 b s _)) (Fin.ext (by simp only [lat, ctx]; omega))
    · rw [dif_neg (fun q => h q.2), dif_pos (by simp only [lat, ctx]; omega)]
      exact zero_word
  refine Eq.trans (congrArg₂ (fun p q => _ * (p * _ + _ + q * _)) hp hn) ?_
  unfold conv
  rw [mul_comm (before _ _), mul_comm (after _ _), mul_comm (x11 (ix3 b _ ⟨256 + c.val, by omega⟩))]
  have e : piece 0 c = ⟨c.val, by omega⟩ := Fin.ext (by simp only [Mix.piece, Fin.val_zero]; omega)
  rw [e]
  rfl

/-- The normed latent rows. -/
theorem lat_norm (b : Fin 8) (r : Fin 2048) (c : Fin 256) : val_main_v144 (F := Ideal) x11 x13 x14 (ix3 b r c)
    = lnorm (fun k => x11 (ix3 b (lat r) (piece 3 k))) (fun k => x13 (ix2 1 k)) (fun k => x14 (ix2 1 k)) c := by
  pointwise [val_main_v144, val_main_v141, val_main_v143, val_main_v138, val_main_v140, val_main_v142, val_main_v133, val_main_v137, val_main_v139, val_main_v116, val_main_v49, val_main_v132, val_main_v136, val_main_v114, val_main_v115, val_main_v45, val_main_v124, val_main_v135, val_main_v113, val_main_v122, val_main_v123, val_main_v131, val_main_v134, val_main_v121, val_main_cst_11, val_main_v129, val_main_v130, val_main_cst_14, val_main_cst_10, val_main_v128, val_main_cst_13, val_main_v127, val_main_cst_12, val_main_v126, val_main_v125]
  rfl

/-- The gated chunks of the latent rows. -/
theorem lat_sgu (b : Fin 8) (r : Fin 2048) (c : Fin 256) : val_main_v153 (F := Ideal) x11 x13 x14 x15 x16 (ix3 b r c)
    = sgu (x11 (ix3 b (lat r) (piece 2 c))) (fun s c => val_main_v144 (F := Ideal) x11 x13 x14 (ix3 b ⟨r.val / 128 * 128 + s.val, by omega⟩ c))
        (fun t s => x15 (ix4 1 (grp c) t s)) (x16 (ix3 1 (grp c) (place (lat r)))) (place (lat r)) c := by
  have e : place (lat r) = ⟨r.val % 128, by omega⟩ := Fin.ext (by simp only [place, lat, ctx] <;> omega)
  rw [e]
  pointwise [val_main_v153, val_main_v48, val_main_v152, val_main_v45, val_main_v151, val_main_v147, val_main_v150, val_main_v146, val_main_v149, val_main_v145, val_main_v118, val_main_v148, val_main_v117, val_main_v120, val_main_v119]
  refine Eq.trans (congrArg (fun q => _ * (q + _)) (Finset.sum_congr rfl fun s _ => mul_comm _ _)) ?_
  unfold sgu
  rfl

/-- The four branches of the latent rows. -/
theorem lat_stack (b : Fin 8) (r : Fin 2048) (i : Fin 4) (c : Fin 256) : val_main_v163 (F := Ideal) x3 x4 x5 x6 x7 x8 x9 x11 x12 x13 x14 x15 x16 (ix4 b r i c)
    = (![fun c => val_main_v86 (F := Ideal) x3 x4 x5 x6 x7 x8 (ix3 b r c), fun c => x9 (ix3 b r c), fun c => val_main_v112 (F := Ideal) x11 x12 (ix3 b r c), fun c => val_main_v153 (F := Ideal) x11 x13 x14 x15 x16 (ix3 b r c)] : Fin 4 → Fin 256 → EReal) i c := by
  fin_cases i
  all_goals pointwise [val_main_v163, val_main_v159, val_main_v160, val_main_v161, val_main_v162, val_main_v154]

/-- A branch's projection of the latent rows under its gate. -/
theorem lat_gated (b : Fin 8) (r : Fin 2048) (i : Fin 4) (m : Fin 1024) : val_main_v173 (F := Ideal) x0 x1 x2 x3 x4 x5 x6 x7 x8 x9 x11 x12 x13 x14 x15 x16 x17 x18 (ix4 b r i m)
    = gated (fun k => val_main_v38 (F := Ideal) x0 x1 x2 (ix3 b r k)) (fun k m => x17 (ix3 1 k (gcol i m))) (fun c => val_main_v163 (F := Ideal) x3 x4 x5 x6 x7 x8 x9 x11 x12 x13 x14 x15 x16 (ix4 b r i c))
        (fun k m => x18 (ix4 1 i k m)) m := by
  pointwise [val_main_v173, val_main_v172, val_main_v165, val_main_v171, val_main_v170, val_main_v164, val_main_cst_16, val_main_v169, val_main_v168, val_main_v156, val_main_cst_15, val_main_v167, val_main_v155, val_main_v166]
  rw [lat_logit]
  simp only [mul_comm (x18 _)]
  rfl

/-- The latent rows after the mixer half. -/
theorem lat_row (b : Fin 8) (r : Fin 2048) (n : Fin 1024) : val_main_v178 (F := Ideal) x0 x1 x2 x3 x4 x5 x6 x7 x8 x9 x11 x12 x13 x14 x15 x16 x17 x18 x19 (ix3 b r n)
    = spec (fun R k => x0 (ix3 b R k)) (fun k => x2 (ix3 1 0 k)) (fun k => x1 (ix3 1 (b.castLE (by decide)) (at1 k))) (fun k => x1 (ix3 1 (b.castLE (by decide)) (at0 k)))
      (fun k => x1 (ix3 1 (b.castLE (by decide)) (at2 k))) (fun R k => x3 (ix3 b R k)) (fun R k => x4 (ix3 b R k)) (fun R k => x5 (ix3 b R k)) (fun k => x6 (ix2 1 k))
      (fun k f => x7 (ix3 1 k f)) (fun f => x8 (ix2 1 f)) (fun c => x9 (ix3 b r c)) (fun R k => x11 (ix3 b R k)) (fun k c => x12 (ix3 1 k c))
      (fun k => x13 (ix2 1 k)) (fun k => x14 (ix2 1 k)) (fun g t s => x15 (ix4 1 g t s)) (fun g t => x16 (ix3 1 g t)) (fun k m => x17 (ix3 1 k m))
      (fun i k m => x18 (ix4 1 i k m)) (fun m n => x19 (ix3 1 m n)) (lat r) n := by
  pointwise [val_main_v178, val_main_v17, val_main_v177, val_main_v176, val_main_v175, val_main_v5, val_main_v174, val_main_v158, val_main_v2, val_main_cst_17, val_main_v157, val_main_v1, val_main_v0]
  have hst : ∀ i, (fun c => val_main_v163 (F := Ideal) x3 x4 x5 x6 x7 x8 x9 x11 x12 x13 x14 x15 x16 (ix4 b r i c))
      = (![fun f => glu (fun k => x3 (ix3 b (lat r) k) + x4 (ix3 b (lat r) k) + x5 (ix3 b (lat r) (piece 0 k)) * x6 (ix2 1 k)) (fun k f => x7 (ix3 1 k f)) (fun f => x8 (ix2 1 f)) f,
          fun c => x9 (ix3 b r c),
          fun c => conv (x11 (ix3 b (lat r) (piece 0 c))) (x12 (ix3 1 0 c)) (x12 (ix3 1 1 c)) (x12 (ix3 1 2 c))
            (before (fun R => x11 (ix3 b R (piece 1 c))) (lat r)) (x11 (ix3 b (lat r) (piece 1 c))) (after (fun R => x11 (ix3 b R (piece 1 c))) (lat r)),
          fun c => sgu (x11 (ix3 b (lat r) (piece 2 c))) (fun s c => lnorm (fun k => x11 (ix3 b (mate (lat r) s) (piece 3 k))) (fun k => x13 (ix2 1 k)) (fun k => x14 (ix2 1 k)) c)
            (fun t s => x15 (ix4 1 (grp c) t s)) (x16 (ix3 1 (grp c) (place (lat r)))) (place (lat r)) c] : Fin 4 → Fin 256 → EReal) i := fun i => by
    funext c
    rw [lat_stack]
    fin_cases i
    · refine (lat_glu x3 x4 x5 x6 x7 x8 b r c).trans ?_
      simp only [lat_sum]
      rfl
    · rfl
    · exact lat_conv x11 x12 b r c
    · refine (lat_sgu x11 x13 x14 x15 x16 b r c).trans ?_
      have e : ∀ s : Fin 128, lat ⟨r.val / 128 * 128 + s.val, by omega⟩ = mate (lat r) s := fun s => Fin.ext (by simp only [mate, lat, ctx] <;> omega)
      simp only [lat_norm, e]
      rfl
  simp only [lat_gated, Fin.sum_univ_four, hst, lat_act]
  rfl

/-- The modulated context rows. -/
theorem ctx_act (b : Fin 8) (r : Fin 256) (k : Fin 1024) : val_main_v202 (F := Ideal) x0 x1 x2 (ix3 b r k)
    = act (fun k => x0 (ix3 b (ctx r) k)) (fun k => x2 (ix3 1 0 k)) (fun k => x1 (ix3 1 8 (at1 k))) (fun k => x1 (ix3 1 8 (at0 k))) k := by
  rw [← act_eq]
  pointwise [val_main_v202, val_main_v199, val_main_v201, val_main_v194, val_main_v198, val_main_v200, val_main_v191, val_main_v193, val_main_v197, val_main_v11, val_main_v179, val_main_v190, val_main_v192, val_main_v196, val_main_v10, val_main_v189, val_main_v181, val_main_v195, val_main_v12, val_main_v9, val_main_v188, val_main_v180, val_main_cst_21, val_main_v186, val_main_v187, val_main_v184, val_main_v185, val_main_cst_20, val_main_v183, val_main_cst_19, val_main_v182, val_main_cst_18]
  simp only [lat, ctx]
  rfl

/-- The logits of the context rows' gates. -/
theorem ctx_logit (b : Fin 8) (r : Fin 256) (j : Fin 4096) : val_main_v206 (F := Ideal) x0 x1 x2 x17 (ix3 b r j)
    = ∑ k, val_main_v202 (F := Ideal) x0 x1 x2 (ix3 b r k) * x17 (ix3 1 k ⟨2304 + j.val, by omega⟩) := by
  pointwise [val_main_v206, val_main_v205, val_main_v204, val_main_v203]

/-- The scan's sum at the context rows. -/
theorem ctx_sum (b : Fin 8) (r : Fin 256) (c : Fin 256) : val_main_v222 (F := Ideal) x3 x4 x5 x6 (ix3 b r c)
    = x3 (ix3 b (ctx r) c) + x4 (ix3 b (ctx r) c) + x5 (ix3 b (ctx r) (piece 0 c)) * x6 (ix2 1 c) := by
  have e : (⟨0 * 256 + c.val, by omega⟩ : Fin 1024) = ⟨c.val, by omega⟩ := Fin.ext (by dsimp only; omega)
  refine Eq.trans ?_ (add_right_comm _ _ _)
  refine Eq.trans ?_ (congrArg (fun s => s + _) (add_comm _ _))
  pointwise [val_main_v222, val_main_v220, val_main_v221, val_main_v218, val_main_v219, val_main_v208, val_main_v217, val_main_v207, val_main_v216, val_main_v215, val_main_v214]
  simp only [lat, ctx, Mix.piece, Fin.val_zero, e]

/-- The gelu of the context rows. -/
theorem ctx_gelu (b : Fin 8) (r : Fin 256) (c : Fin 256) : val_main_v239 (F := Ideal) x3 x4 x5 x6 (ix3 b r c) = gelu (val_main_v222 (F := Ideal) x3 x4 x5 x6 (ix3 b r c)) := by
  unfold gelu
  rw [mul_comm (val_main_v222 (F := Ideal) x3 x4 x5 x6 (ix3 b r c)) (val_main_v222 (F := Ideal) x3 x4 x5 x6 (ix3 b r c) * val_main_v222 (F := Ideal) x3 x4 x5 x6 (ix3 b r c))]
  pointwise [val_main_v239, val_main_v238, val_main_v237, val_main_v236, val_main_cst_25, val_main_v235, val_main_v234, val_main_cst_24, val_main_v233, val_main_v232, val_main_v231, val_main_cst_23, val_main_v230, val_main_v229, val_main_v228, val_main_cst_22, val_main_v227]

/-- The gated unit of the context rows. -/
theorem ctx_glu (b : Fin 8) (r : Fin 256) (f : Fin 256) : val_main_v250 (F := Ideal) x3 x4 x5 x6 x7 x8 (ix3 b r f)
    = glu (fun k => val_main_v222 (F := Ideal) x3 x4 x5 x6 (ix3 b r k)) (fun k f => x7 (ix3 1 k f)) (fun f => x8 (ix2 1 f)) f := by
  pointwise [val_main_v250, val_main_v249, val_main_v248, val_main_v247, val_main_cst_27, val_main_v246, val_main_v245, val_main_cst_26, val_main_v244, val_main_v243, val_main_v240, val_main_v242, val_main_v224, val_main_v241, val_main_v223, val_main_v226, val_main_v225]
  simp only [ctx_gelu]
  rfl

/-- The convolution of the context rows. -/
theorem ctx_conv (b : Fin 8) (r : Fin 256) (c : Fin 256) : val_main_v276 (F := Ideal) x11 x12 (ix3 b r c)
    = conv (x11 (ix3 b (ctx r) (piece 0 c))) (x12 (ix3 1 0 c)) (x12 (ix3 1 1 c)) (x12 (ix3 1 2 c))
        (before (fun R => x11 (ix3 b R (piece 1 c))) (ctx r)) (x11 (ix3 b (ctx r) (piece 1 c))) (after (fun R => x11 (ix3 b R (piece 1 c))) (ctx r)) := by
  pointwise [val_main_v276, val_main_v210, val_main_v275, val_main_v209, val_main_v268, val_main_v274, val_main_v261, val_main_v267, val_main_v269, val_main_v273, val_main_v260, val_main_v259, val_main_v262, val_main_v266, val_main_v253, val_main_v272, val_main_cst_29, val_main_v254, val_main_v258, val_main_v265, val_main_v211, val_main_call1_v0, val_main_v271, val_main_v257, val_main_v264, val_main_c_28, val_main_v270, val_main_v256, val_main_v263, val_main_v252, val_main_v255, val_main_v251]
  have hp : (if h : 1 ≤ r.val ∧ r.val - 1 < 256 then x11 (ix3 b ⟨2048 + (r.val - 1), by omega⟩ ⟨256 + c.val, by omega⟩) else FloatOps.sitofp (F := Ideal) .f32 (0#32))
      = before (fun R => x11 (ix3 b R (piece 1 c))) (ctx r) := by
    unfold before
    by_cases h : 1 ≤ r.val
    · rw [dif_pos ⟨h, by omega⟩, if_neg (by simp only [lat, ctx]; omega)]
      exact congrArg (fun s => x11 (ix3 b s _)) (Fin.ext (by simp only [lat, ctx]; omega))
      --rfl
    · rw [dif_neg (fun q => h q.1), if_pos (by simp only [lat, ctx]; omega)]
      exact zero_word
  have hn : (if h : 1 ≤ 2 + r.val ∧ 2 + r.val - 1 < 256 then x11 (ix3 b ⟨2048 + (2 + r.val - 1), by omega⟩ ⟨256 + c.val, by omega⟩) else FloatOps.sitofp (F := Ideal) .f32 (0#32))
      = after (fun R => x11 (ix3 b R (piece 1 c))) (ctx r) := by
    unfold after
    by_cases h : 2 + r.val - 1 < 256
    · rw [dif_pos ⟨by omega, h⟩, dif_neg (by simp only [lat, ctx]; omega)]
      exact congrArg (fun s => x11 (ix3 b s _)) (Fin.ext (by simp only [lat, ctx]; omega))
    · rw [dif_neg (fun q => h q.2), dif_pos (by simp only [lat, ctx]; omega)]
      exact zero_word
  refine Eq.trans (congrArg₂ (fun p q => _ * (p * _ + _ + q * _)) hp hn) ?_
  unfold conv
  rw [mul_comm (before _ _), mul_comm (after _ _), mul_comm (x11 (ix3 b _ ⟨256 + c.val, by omega⟩))]
  have e : piece 0 c = ⟨c.val, by omega⟩ := Fin.ext (by simp only [Mix.piece, Fin.val_zero]; omega)
  rw [e]
  rfl

/-- The normed context rows. -/
theorem ctx_norm (b : Fin 8) (r : Fin 256) (c : Fin 256) : val_main_v308 (F := Ideal) x11 x13 x14 (ix3 b r c)
    = lnorm (fun k => x11 (ix3 b (ctx r) (piece 3 k))) (fun k => x13 (ix2 1 k)) (fun k => x14 (ix2 1 k)) c := by
  pointwise [val_main_v308, val_main_v305, val_main_v307, val_main_v302, val_main_v304, val_main_v306, val_main_v297, val_main_v301, val_main_v303, val_main_v280, val_main_v213, val_main_v296, val_main_v300, val_main_v278, val_main_v279, val_main_v209, val_main_v288, val_main_v299, val_main_v277, val_main_v286, val_main_v287, val_main_v295, val_main_v298, val_main_v285, val_main_cst_31, val_main_v293, val_main_v294, val_main_cst_34, val_main_cst_30, val_main_v292, val_main_cst_33, val_main_v291, val_main_cst_32, val_main_v290, val_main_v289]
  rfl

/-- The gated chunks of the context rows. -/
theorem ctx_sgu (b : Fin 8) (r : Fin 256) (c : Fin 256) : val_main_v317 (F := Ideal) x11 x13 x14 x15 x16 (ix3 b r c)
    = sgu (x11 (ix3 b (ctx r) (piece 2 c))) (fun s c => val_main_v308 (F := Ideal) x11 x13 x14 (ix3 b ⟨r.val / 128 * 128 + s.val, by omega⟩ c))
        (fun t s => x15 (ix4 1 (grp c) t s)) (x16 (ix3 1 (grp c) (place (ctx r)))) (place (ctx r)) c := by
  have e : place (ctx r) = ⟨r.val % 128, by omega⟩ := Fin.ext (by simp only [place, lat, ctx] <;> omega)
  rw [e]
  pointwise [val_main_v317, val_main_v212, val_main_v316, val_main_v209, val_main_v315, val_main_v311, val_main_v314, val_main_v310, val_main_v313, val_main_v309, val_main_v282, val_main_v312, val_main_v281, val_main_v284, val_main_v283]
  refine Eq.trans (congrArg (fun q => _ * (q + _)) (Finset.sum_congr rfl fun s _ => mul_comm _ _)) ?_
  unfold sgu
  rfl

/-- The four branches of the context rows. -/
theorem ctx_stack (b : Fin 8) (r : Fin 256) (i : Fin 4) (c : Fin 256) : val_main_v327 (F := Ideal) x3 x4 x5 x6 x7 x8 x10 x11 x12 x13 x14 x15 x16 (ix4 b r i c)
    = (![fun c => val_main_v250 (F := Ideal) x3 x4 x5 x6 x7 x8 (ix3 b r c), fun c => x10 (ix3 b r c), fun c => val_main_v276 (F := Ideal) x11 x12 (ix3 b r c), fun c => val_main_v317 (F := Ideal) x11 x13 x14 x15 x16 (ix3 b r c)] : Fin 4 → Fin 256 → EReal) i c := by
  fin_cases i
  all_goals pointwise [val_main_v327, val_main_v323, val_main_v324, val_main_v325, val_main_v326, val_main_v318]

/-- A branch's projection of the context rows under its gate. -/
theorem ctx_gated (b : Fin 8) (r : Fin 256) (i : Fin 4) (m : Fin 1024) : val_main_v337 (F := Ideal) x0 x1 x2 x3 x4 x5 x6 x7 x8 x10 x11 x12 x13 x14 x15 x16 x17 x18 (ix4 b r i m)
    = gated (fun k => val_main_v202 (F := Ideal) x0 x1 x2 (ix3 b r k)) (fun k m => x17 (ix3 1 k (gcol i m))) (fun c => val_main_v327 (F := Ideal) x3 x4 x5 x6 x7 x8 x10 x11 x12 x13 x14 x15 x16 (ix4 b r i c))
        (fun k m => x18 (ix4 1 i k m)) m := by
  pointwise [val_main_v337, val_main_v336, val_main_v329, val_main_v335, val_main_v334, val_main_v328, val_main_cst_36, val_main_v333, val_main_v332, val_main_v320, val_main_cst_35, val_main_v331, val_main_v319, val_main_v330]
  rw [ctx_logit]
  simp only [mul_comm (x18 _)]
  rfl

/-- The context rows after the mixer half. -/
theorem ctx_row (b : Fin 8) (r : Fin 256) (n : Fin 1024) : val_main_v343 (F := Ideal) x0 x1 x2 x3 x4 x5 x6 x7 x8 x10 x11 x12 x13 x14 x15 x16 x17 x18 x19 (ix3 b r n)
    = spec (fun R k => x0 (ix3 b R k)) (fun k => x2 (ix3 1 0 k)) (fun k => x1 (ix3 1 8 (at1 k))) (fun k => x1 (ix3 1 8 (at0 k)))
      (fun k => x1 (ix3 1 8 (at2 k))) (fun R k => x3 (ix3 b R k)) (fun R k => x4 (ix3 b R k)) (fun R k => x5 (ix3 b R k)) (fun k => x6 (ix2 1 k))
      (fun k f => x7 (ix3 1 k f)) (fun f => x8 (ix2 1 f)) (fun c => x10 (ix3 b r c)) (fun R k => x11 (ix3 b R k)) (fun k c => x12 (ix3 1 k c))
      (fun k => x13 (ix2 1 k)) (fun k => x14 (ix2 1 k)) (fun g t s => x15 (ix4 1 g t s)) (fun g t => x16 (ix3 1 g t)) (fun k m => x17 (ix3 1 k m))
      (fun i k m => x18 (ix4 1 i k m)) (fun m n => x19 (ix3 1 m n)) (ctx r) n := by
  pointwise [val_main_v343, val_main_v179, val_main_v342, val_main_v341, val_main_v339, val_main_v340, val_main_v338, val_main_v322, val_main_v13, val_main_cst_37, val_main_v321, val_main_v10, val_main_v9]
  have hst : ∀ i, (fun c => val_main_v327 (F := Ideal) x3 x4 x5 x6 x7 x8 x10 x11 x12 x13 x14 x15 x16 (ix4 b r i c))
      = (![fun f => glu (fun k => x3 (ix3 b (ctx r) k) + x4 (ix3 b (ctx r) k) + x5 (ix3 b (ctx r) (piece 0 k)) * x6 (ix2 1 k)) (fun k f => x7 (ix3 1 k f)) (fun f => x8 (ix2 1 f)) f,
          fun c => x10 (ix3 b r c),
          fun c => conv (x11 (ix3 b (ctx r) (piece 0 c))) (x12 (ix3 1 0 c)) (x12 (ix3 1 1 c)) (x12 (ix3 1 2 c))
            (before (fun R => x11 (ix3 b R (piece 1 c))) (ctx r)) (x11 (ix3 b (ctx r) (piece 1 c))) (after (fun R => x11 (ix3 b R (piece 1 c))) (ctx r)),
          fun c => sgu (x11 (ix3 b (ctx r) (piece 2 c))) (fun s c => lnorm (fun k => x11 (ix3 b (mate (ctx r) s) (piece 3 k))) (fun k => x13 (ix2 1 k)) (fun k => x14 (ix2 1 k)) c)
            (fun t s => x15 (ix4 1 (grp c) t s)) (x16 (ix3 1 (grp c) (place (ctx r)))) (place (ctx r)) c] : Fin 4 → Fin 256 → EReal) i := fun i => by
    funext c
    rw [ctx_stack]
    fin_cases i
    · refine (ctx_glu x3 x4 x5 x6 x7 x8 b r c).trans ?_
      simp only [ctx_sum]
      rfl
    · rfl
    · exact ctx_conv x11 x12 b r c
    · refine (ctx_sgu x11 x13 x14 x15 x16 b r c).trans ?_
      have e : ∀ s : Fin 128, ctx ⟨r.val / 128 * 128 + s.val, by omega⟩ = mate (ctx r) s := fun s => Fin.ext (by simp only [mate, lat, ctx] <;> omega)
      simp only [ctx_norm, e]
      rfl
  simp only [ctx_gated, Fin.sum_univ_four, hst, ctx_act]
  rfl

/-- The result, of the arguments: context rows under the context's modulations, latent rows under their batch's. -/
theorem res_at (b : Fin 8) (R : Fin 2304) (n : Fin 1024) : val_main_v344 (F := Ideal) x0 x1 x2 x3 x4 x5 x6 x7 x8 x9 x10 x11 x12 x13 x14 x15 x16 x17 x18 x19 (ix3 b R n)
    = spec (fun R k => x0 (ix3 b R k)) (fun k => x2 (ix3 1 0 k)) (fun k => x1 (ix3 1 (if R.val < 2048 then b.castLE (by decide) else 8) (at1 k))) (fun k => x1 (ix3 1 (if R.val < 2048 then b.castLE (by decide) else 8) (at0 k)))
      (fun k => x1 (ix3 1 (if R.val < 2048 then b.castLE (by decide) else 8) (at2 k))) (fun R k => x3 (ix3 b R k)) (fun R k => x4 (ix3 b R k)) (fun R k => x5 (ix3 b R k)) (fun k => x6 (ix2 1 k))
      (fun k f => x7 (ix3 1 k f)) (fun f => x8 (ix2 1 f)) (fun c => if h : R.val < 2048 then x9 (ix3 b ⟨R.val, h⟩ c) else x10 (ix3 b ⟨R.val - 2048, by omega⟩ c)) (fun R k => x11 (ix3 b R k)) (fun k c => x12 (ix3 1 k c))
      (fun k => x13 (ix2 1 k)) (fun k => x14 (ix2 1 k)) (fun g t s => x15 (ix4 1 g t s)) (fun g t => x16 (ix3 1 g t)) (fun k m => x17 (ix3 1 k m))
      (fun i k m => x18 (ix4 1 i k m)) (fun m n => x19 (ix3 1 m n)) R n := by
  pointwise [val_main_v344]
  by_cases h : R.val < 2048
  · simp only [dif_pos h, if_pos h]
    exact lat_row x0 x1 x2 x3 x4 x5 x6 x7 x8 x9 x11 x12 x13 x14 x15 x16 x17 x18 x19 b ⟨R.val, h⟩ n
  · simp only [dif_neg h, if_neg h]
    refine (ctx_row x0 x1 x2 x3 x4 x5 x6 x7 x8 x10 x11 x12 x13 x14 x15 x16 x17 x18 x19 b ⟨R.val - 2048, by omega⟩ n).trans ?_
    have e : ctx ⟨R.val - 2048, by omega⟩ = R := Fin.ext (by simp only [ctx]; omega)
    rw [e]

end Cert.MixRows
end
-- ==== Proof.MixKernel.lean ====
/-
  The merge kernel over the extended reals: its result, block by block, is the reference's.
-/
module

public import proofs.«01_k».proof.Proof.MixBlocks
public import proofs.«01_k».proof.Proof.MixStore
public import proofs.«01_k».proof.Proof.MixRows
public import proofs.«01_k».proof.Proof.NaPoint

@[expose] public section

set_option maxRecDepth 16384

noncomputable section

namespace Cert.MixKernel

open Cert.Merge Cert.Merge.Gen Idealize.ShloMosaic Idealize.ShloMosaic.TcCoe Idealize.SL.Sem
open Cert.Mix Cert.MixRun Cert.MixBlocks Cert.MixTile

variable (m : (ℓ : Loc nD τ sig) → Buf (Elt Ideal) ℓ)

/-- The reference's result, of the kernel's arguments. -/
def want (c : Dev nD) : Vec Ideal S8x2304x1024 .f32 :=
  Cert.MergeRefIdeal.Read.val_main_v344 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- A batch's row of modulations: the batch's own for a latent row, the ninth for a context row. -/
def modrow (b : Fin 8) (R : Fin 2304) : Fin 16 := if R.val < 2048 then b.castLE (by decide) else 8

/-- The attention branch's row: the latents', and the context's. -/
def ybrow (c : Dev nD) (b : Fin 8) (R : Fin 2304) (k : Fin 256) : EReal :=
  if h : R.val < 2048 then m ((c : Thread nD τ).loc main_arg9) (ix3 b ⟨R.val, h⟩ k)
  else m ((c : Thread nD τ).loc main_arg10) (ix3 b ⟨R.val - 2048, by omega⟩ k)

/-- The convolved branch's row. -/
def convrow (c : Dev nD) (b : Fin 8) (R : Fin 2304) (k : Fin 256) : EReal :=
  conv (m ((c : Thread nD τ).loc main_arg11) (ix3 b R (piece 0 k))) (m ((c : Thread nD τ).loc main_arg12) (ix3 1 0 k))
    (m ((c : Thread nD τ).loc main_arg12) (ix3 1 1 k)) (m ((c : Thread nD τ).loc main_arg12) (ix3 1 2 k))
    (before (fun R => m ((c : Thread nD τ).loc main_arg11) (ix3 b R (piece 1 k))) R) (m ((c : Thread nD τ).loc main_arg11) (ix3 b R (piece 1 k)))
    (after (fun R => m ((c : Thread nD τ).loc main_arg11) (ix3 b R (piece 1 k))) R)

/-- A tile's choice by whether it is its batch's last. -/
theorem sel_word (j : Fin 3) : Scalar.cmpi CmpIPredicate.eq (BitVec.ofNat 32 j.val) 2#32 = if j.val = 2 then 1#1 else 0#1 := by
  revert j
  decide +kernel
theorem sel_at {α : Type} (t : Fin cfg0.N) (x y : α) :
    Scalar.select (Scalar.cmpi CmpIPredicate.eq (BitVec.ofNat 32 (grid0.coords t 1).val) 2#32) x y = if t.val % 3 = 2 then x else y := by
  rw [sel_word (grid0.coords t 1), (coords t).2]
  by_cases h : t.val % 3 = 2
  · rw [if_pos h, if_pos h]; rfl
  · rw [if_neg h, if_neg h]; rfl

/-- A row of the tile's convolution is the reference's. -/
theorem conv_row (c : Dev nD) (t : Fin cfg0.N) (b : Fin 8) (R : Fin 2304) (r : Fin 768) (k : Fin 256) (hb : b.val = t.val / 3)
    (hR : R.val = t.val % 3 * 768 + r.val) (zp zn c0 c1 c2 : Vec Ideal S1x1x256 .f32)
    (hp : zp (ix3 0 0 k) = iblk m c 15 t (ix3 0 7 k)) (hn : zn (ix3 0 0 k) = iblk m c 16 t (ix3 0 0 k))
    (h0 : c0 (ix3 0 0 k) = iblk m c 19 t (ix3 0 0 k)) (h1 : c1 (ix3 0 0 k) = iblk m c 19 t (ix3 0 1 k))
    (h2 : c2 (ix3 0 0 k) = iblk m c 19 t (ix3 0 2 k)) :
    k0_pay8 (k0_pay3 (iblk m c 14 t)) (k0_pay4 (iblk m c 14 t) zn) (k0_pay5 (grid0.coords t) (iblk m c 14 t) zp) (k0_pay6 (grid0.coords t))
        (k0_pay7 (grid0.coords t)) c0 c1 c2 (iblk m c 13 t) (ix2 r k)
      = convrow m c b R k := by
  have hg := (coords t).2
  refine (conv_at (grid0.coords t) (iblk m c 14 t) (iblk m c 13 t) zp zn c0 c1 c2 r k).trans ?_
  unfold convrow
  rw [h0, h1, h2, iblk19_at m c t 0 k, iblk19_at m c t 1 k, iblk19_at m c t 2 k, iblk13_at m c t b R r k hb hR, iblk14_at m c t b R r k hb hR, hg, ← hR]
  refine congrArg₂ (fun x y => conv _ _ _ _ x _ y) ?_ ?_
  · unfold before
    by_cases h : R.val = 0 ∨ R.val = 2048
    · rw [if_pos h, if_pos h]
    · rw [if_neg h, if_neg h]
      by_cases hr : r.val = 0
      · rw [dif_pos hr, hp]
        exact iblk15_at m c t b ⟨R.val - 1, by omega⟩ k hb (by dsimp only; omega)
      · rw [dif_neg hr]
        exact iblk14_at m c t b ⟨R.val - 1, by omega⟩ ⟨r.val - 1, by omega⟩ k hb (by dsimp only; omega)
  · unfold after
    by_cases h : R.val = 2047 ∨ R.val = 2303
    · rw [if_pos h, dif_pos h]
    · rw [if_neg h, dif_neg h]
      by_cases hr : r.val = 767
      · rw [dif_pos hr, hn]
        exact iblk16_at m c t b ⟨R.val + 1, by omega⟩ k hb (by dsimp only; omega)
      · rw [dif_neg hr]
        exact iblk14_at m c t b ⟨R.val + 1, by omega⟩ ⟨r.val + 1, by omega⟩ k hb (by dsimp only; omega)

/-- A row of a sub-tile whose rows start at row `o` of the tile is the reference's. -/
theorem sub_row (c : Dev nD) (t : Fin cfg0.N) (b : Fin 8) (R : Fin 2304) (o : Nat) (q : Fin 2) (p : Fin 128) (n : Fin 1024)
    (hb : b.val = t.val / 3) (ho : o + 256 ≤ 768) (ho' : o % 128 = 0) (hR : R.val = t.val % 3 * 768 + (o + (q.val * 128 + p.val)))
    (sh sc ga : FVec Ideal S1x1024 .f32) (h : FVec Ideal S256x1024 .f32) (su sv : Vec Ideal S1x256x256 .f32)
    (yf yr : Vec Ideal S1x256x256 .f32) (u : Vec Ideal S1x256x256 .bf16)
    (yb yc : FVec Ideal S256x256 .bf16) (w : Fin 4 → Vec Ideal S1x1024x1024 .bf16) (wb : Fin 4 → Vec Ideal S1x1x256x1024 .bf16)
    (hsh : ∀ k, sh (ix2 0 k) = m ((c : Thread nD τ).loc main_arg1) (ix3 1 (modrow b R) (at0 k)))
    (hsc : ∀ k, sc (ix2 0 k) = m ((c : Thread nD τ).loc main_arg1) (ix3 1 (modrow b R) (at1 k)))
    (hga : ∀ k, ga (ix2 0 k) = m ((c : Thread nD τ).loc main_arg1) (ix3 1 (modrow b R) (at2 k)))
    (hh : ∀ (j : Fin 256) k (r : Fin 768), r.val = o + j.val → h (ix2 j k) = iblk m c 0 t (ix3 0 r k))
    (hsu : ∀ (j : Fin 256) k (r : Fin 768), r.val = o + j.val → su (ix3 0 j k) = iblk m c 17 t (ix3 0 r k))
    (hsv : ∀ (j : Fin 256) k (r : Fin 768), r.val = o + j.val → sv (ix3 0 j k) = iblk m c 18 t (ix3 0 r k))
    (hyf : ∀ (j : Fin 256) k (r : Fin 768), r.val = o + j.val → yf (ix3 0 j k) = iblk m c 4 t (ix3 0 r k))
    (hyr : ∀ (j : Fin 256) k (r : Fin 768), r.val = o + j.val → yr (ix3 0 j k) = iblk m c 5 t (ix3 0 r k))
    (hu : ∀ (j : Fin 256) k (r : Fin 768), r.val = o + j.val → u (ix3 0 j k) = iblk m c 6 t (ix3 0 r k))
    (hyb : ∀ k, yb (ix2 (crow q p) k) = ybrow m c b R k)
    (hyc : ∀ k, yc (ix2 (crow q p) k) = convrow m c b R k)
    (hw : ∀ i k n, w i (ix3 0 k n) = iblk m c 24 t (ix3 0 k (gcol i n)))
    (hwb : ∀ i k n, wb i (ix4 0 0 k n) = iblk m c 25 t (ix4 0 i k n)) :
    sub sh sc ga h (iblk m c 3 t) su sv (iblk m c 20 t) (iblk m c 21 t) (iblk m c 22 t) (iblk m c 23 t) yf yr u (iblk m c 7 t) (iblk m c 8 t)
        (iblk m c 9 t) yb yc w wb (iblk m c 26 t) (ix3 0 (crow q p) n)
      = want m c (ix3 b R n) := by
  have hp : place R = p := Fin.ext (by show R.val % 128 = p.val; omega)
  have e0 : ∀ k, h (ix2 (crow q p) k) = m ((c : Thread nD τ).loc main_arg0) (ix3 b R k) := fun k =>
    (hh (crow q p) k ⟨o + (q.val * 128 + p.val), by omega⟩ rfl).trans (iblk0_at m c t b R _ k hb hR)
  have e4 : ∀ k, yf (ix3 0 (crow q p) k) = m ((c : Thread nD τ).loc main_arg3) (ix3 b R k) := fun k =>
    (hyf (crow q p) k ⟨o + (q.val * 128 + p.val), by omega⟩ rfl).trans (iblk4_at m c t b R _ k hb hR)
  have e5 : ∀ k, yr (ix3 0 (crow q p) k) = m ((c : Thread nD τ).loc main_arg4) (ix3 b R k) := fun k =>
    (hyr (crow q p) k ⟨o + (q.val * 128 + p.val), by omega⟩ rfl).trans (iblk5_at m c t b R _ k hb hR)
  have e6 : ∀ k, u (ix3 0 (crow q p) k) = m ((c : Thread nD τ).loc main_arg5) (ix3 b R (piece 0 k)) := fun k =>
    (hu (crow q p) k ⟨o + (q.val * 128 + p.val), by omega⟩ rfl).trans (iblk6_at m c t b R _ k hb hR)
  have e17 : ∀ k, su (ix3 0 (crow q p) k) = m ((c : Thread nD τ).loc main_arg11) (ix3 b R (piece 2 k)) := fun k =>
    (hsu (crow q p) k ⟨o + (q.val * 128 + p.val), by omega⟩ rfl).trans (iblk17_at m c t b R _ k hb hR)
  have e18 : ∀ s k, sv (ix3 0 (crow q s) k) = m ((c : Thread nD τ).loc main_arg11) (ix3 b (mate R s) (piece 3 k)) := fun s k =>
    (hsv (crow q s) k ⟨o + (q.val * 128 + s.val), by omega⟩ rfl).trans (iblk18_at m c t b (mate R s) _ k hb
      (by show R.val / 128 * 128 + s.val = _; dsimp only; omega))
  have ew : ∀ i k n, w i (ix3 0 k n) = m ((c : Thread nD τ).loc main_arg17) (ix3 1 k (gcol i n)) := fun i k n =>
    (hw i k n).trans (iblk24_at m c t k _)
  have ewb : ∀ i k n, wb i (ix4 0 0 k n) = m ((c : Thread nD τ).loc main_arg18) (ix4 1 i k n) := fun i k n =>
    (hwb i k n).trans (iblk25_at m c t i k n)
  refine (sub_at sh sc ga h (iblk m c 3 t) su sv (iblk m c 20 t) (iblk m c 21 t) (iblk m c 22 t) (iblk m c 23 t) yf yr u (iblk m c 7 t) (iblk m c 8 t)
        (iblk m c 9 t) yb yc w wb (iblk m c 26 t) q p n).trans ?_
  refine Eq.trans ?_ (Cert.MixRows.res_at _ _ _ _ _ _ _ _ _ _ _ _ _ _ _ _ _ _ _ _ b R n).symm
  unfold spec
  rw [hp]
  simp only [e0, e4, e5, e6, e17, e18, ew, ewb, hsh, hsc, hga, hyb, hyc, iblk3_at m c t, iblk7_at m c t, iblk8_at m c t, iblk9_at m c t,
    iblk20_at m c t, iblk21_at m c t, iblk22_at m c t, iblk23_at m c t, iblk26_at m c t]
  rfl

/-- A load of columns. -/
theorem ld_cols {n k o l : Nat} {e : EltTy} (X : Shape.Idx ⟨3, ![1, n, k]⟩ → Elt Ideal e) (off : Fin 3 → Nat) (inb) (h : off = ![0, 0, o]) (j : Fin n)
    (x : Fin l) (z : Fin k) (hz : z.val = o + x.val) : View.ld X (Rect.unit (s := ⟨3, ![1, n, k]⟩) off ![1, n, l] inb) (ix3 0 j x) = X (ix3 0 j z) := by
  subst h
  refine Cert.NaPoint.ld_at (S := ⟨3, ![1, n, k]⟩) X _ _ _ _ (ix3 0 j z) fun a => ?_
  match a with
  | 0 => rfl
  | 1 => exact (Nat.zero_add _).symm
  | 2 => exact hz

/-- A load of one of the branches' projections. -/
theorem ld_branch (X : Vec Ideal S1x4x256x1024 .bf16) (i : Fin 4) (off : Fin 4 → Nat) (inb) (h : off = ![0, i.val, 0, 0]) (k : Fin 256) (n : Fin 1024) :
    View.ld X (Rect.unit (s := S1x4x256x1024) off ![1, 1, 256, 1024] inb) (ix4 0 0 k n) = X (ix4 0 i k n) := by
  subst h
  refine Cert.NaPoint.ld_at (S := S1x4x256x1024) (e := .bf16) X _ _ _ _ (ix4 0 i k n) fun a => ?_
  match a with
  | 0 => rfl
  | 1 => rfl
  | 2 => exact (Nat.zero_add _).symm
  | 3 => exact (Nat.zero_add _).symm

/-- The rows of the convolution a sub-tile takes. -/
theorem rows_at (o : Nat) (ho : o + 256 ≤ 768) (v : FVec Ideal S768x256 .bf16) (off : Fin 2 → Nat) (inb) (h : off = ![o, 0]) (j k : Fin 256) :
    extractStridedSlice S256x256 off v inb (ix2 j k) = v (ix2 ⟨o + j.val, by omega⟩ k) := by
  subst h
  refine congrArg v (funext fun a => Fin.ext ?_)
  match a with
  | 0 => rfl
  | 1 => exact Nat.zero_add _

theorem pay9_at (X : Vec Ideal S1x1x1024 .f32) (k : Fin 1024) : k0_pay9 X (ix2 0 k) = X (ix3 0 0 k) := by pointwise [k0_pay9]
theorem pay10_at (X : Vec Ideal S1x1x1024 .f32) (k : Fin 1024) : k0_pay10 X (ix2 0 k) = X (ix3 0 0 k) := by pointwise [k0_pay10]
theorem pay11_at (X : Vec Ideal S1x1x1024 .f32) (k : Fin 1024) : k0_pay11 X (ix2 0 k) = X (ix3 0 0 k) := by pointwise [k0_pay11]
theorem pay12_at (X : Vec Ideal S1x256x1024 .f32) (j : Fin 256) (k : Fin 1024) : k0_pay12 X (ix2 j k) = X (ix3 0 j k) := by pointwise [k0_pay12]
theorem pay24_at (X : Vec Ideal S1x256x256 .bf16) (j k : Fin 256) : k0_pay24 X (ix2 j k) = X (ix3 0 j k) := by pointwise [k0_pay24]

set_option maxHeartbeats 16000000 in
/-- The output block of a point. -/
theorem point (c : Dev nD) (t : Fin cfg0.N) (b : Fin 8) (R : Fin 2304) (r : Fin 768) (n : Fin 1024) (hb : b.val = t.val / 3)
    (hR : R.val = t.val % 3 * 768 + r.val) : outsAt0 m c t (ix3 0 r n) = want m c (ix3 b R n) := by
  have hlt : t.val % 3 < 3 := Nat.mod_lt _ (by decide)
  have h8 := b.isLt
  unfold outsAt0
  frame_out
  canon_tiles y h
  case piece2 =>
    idx_vars y
    obtain rfl : y0 = 0 := Fin.ext (by omega)
    obtain rfl : n = y2 := Fin.ext (by simpa using h2)
    have hr : r.val = 0 + y1.val := by simpa using h1
    have hy : (ix3 0 y1 n : S1x256x1024.Idx) = ix3 0 (crow ⟨y1.val / 128, by omega⟩ ⟨y1.val % 128, by omega⟩) n :=
      congrArg (fun x => ix3 0 x n) (Fin.ext (by show y1.val = y1.val / 128 * 128 + y1.val % 128; omega))
    refine (congrFun (first_eq (grid0.coords t) _ _ _ _ _ _ _ _ _ _ _ _ _ _ _ _ _ _ _ _ _ _ _ _ _ _ _ _ _ ) _).trans ?_
    rw [hy]
    have hm : modrow b R = b.castLE (by decide) := if_pos (by omega)
    refine sub_row m c t b R 0 _ _ n hb (by decide) (by decide) (by dsimp only; omega) _ _ _ _ _ _ _ _ _ _ _ _ _ ?_ ?_ ?_ ?_ ?_ ?_ ?_ ?_ ?_ ?_ ?_ ?_ ?_
    · intro k
      rw [hm, pay9_at, ld_cols (o := 0) (iblk m c 1 t) _ _ rfl 0 k (at0 k) (Nat.zero_add _).symm]
      exact iblk1_at m c t _ _ hb
    · intro k
      rw [hm, pay10_at, ld_cols (o := 1024) (iblk m c 1 t) _ _ rfl 0 k (at1 k) rfl]
      exact iblk1_at m c t _ _ hb
    · intro k
      rw [hm, pay11_at, ld_cols (o := 2048) (iblk m c 1 t) _ _ rfl 0 k (at2 k) rfl]
      exact iblk1_at m c t _ _ hb
    · exact fun j k r h => (pay12_at _ j k).trans (Cert.NaPoint.ld_rows (o := 0) _ _ _ rfl j k r h)
    · exact fun j k r h => Cert.NaPoint.ld_rows (o := 0) _ _ _ rfl j k r h
    · exact fun j k r h => Cert.NaPoint.ld_rows (o := 0) _ _ _ rfl j k r h
    · exact fun j k r h => Cert.NaPoint.ld_rows (o := 0) _ _ _ rfl j k r h
    · exact fun j k r h => Cert.NaPoint.ld_rows (o := 0) _ _ _ rfl j k r h
    · exact fun j k r h => Cert.NaPoint.ld_rows (o := 0) _ _ _ rfl j k r h
    · intro k
      rw [sel_at]
      unfold ybrow
      by_cases hk : t.val % 3 = 2
      · rw [if_pos hk, pay24_at, dif_pos (by omega)]
        refine (Cert.NaPoint.ld_rows (o := 0) (iblk m c 11 t) _ _ rfl _ k ⟨0 + y1.val, by omega⟩ (by show _ = 0 + (y1.val / 128 * 128 + y1.val % 128); dsimp only; omega)).trans ?_
        exact iblk11_at m c t b _ _ k hb (by dsimp only; omega)
      · rw [if_neg hk, pay24_at, dif_pos (by omega)]
        refine (Cert.NaPoint.ld_rows (o := 0) (X0_10 m c t) _ _ rfl _ k ⟨0 + y1.val, by omega⟩ (by show _ = 0 + (y1.val / 128 * 128 + y1.val % 128); dsimp only; omega)).trans ?_
        exact X10_at m c t b _ _ k hb (by dsimp only; omega) (by omega)
    · intro k
      refine (rows_at 0 (by decide) _ _ _ rfl _ k).trans ?_
      refine conv_row m c t b R _ k hb (by show _ = t.val % 3 * 768 + (0 + (y1.val / 128 * 128 + y1.val % 128)); omega) _ _ _ _ _ ?_ ?_ ?_ ?_ ?_
      · exact Cert.NaPoint.ld_rows (o := 7) (iblk m c 15 t) _ _ rfl 0 k 7 rfl
      · exact Cert.NaPoint.ld_rows (o := 0) (iblk m c 16 t) _ _ rfl 0 k 0 rfl
      · exact Cert.NaPoint.ld_rows (o := 0) (iblk m c 19 t) _ _ rfl 0 k 0 rfl
      · exact Cert.NaPoint.ld_rows (o := 1) (iblk m c 19 t) _ _ rfl 0 k 1 rfl
      · exact Cert.NaPoint.ld_rows (o := 2) (iblk m c 19 t) _ _ rfl 0 k 2 rfl
    · intro i k n
      fin_cases i
      · exact ld_cols (o := 2304) (iblk m c 24 t) _ _ rfl k n (gcol 0 n) (by show 2304 + (0 * 1024 + n.val) = _; omega)
      · exact ld_cols (o := 3328) (iblk m c 24 t) _ _ rfl k n (gcol 1 n) (by show 2304 + (1 * 1024 + n.val) = _; omega)
      · exact ld_cols (o := 4352) (iblk m c 24 t) _ _ rfl k n (gcol 2 n) (by show 2304 + (2 * 1024 + n.val) = _; omega)
      · exact ld_cols (o := 5376) (iblk m c 24 t) _ _ rfl k n (gcol 3 n) (by show 2304 + (3 * 1024 + n.val) = _; omega)
    · intro i k n
      fin_cases i
      · exact ld_branch (iblk m c 25 t) 0 _ _ rfl k n
      · exact ld_branch (iblk m c 25 t) 1 _ _ rfl k n
      · exact ld_branch (iblk m c 25 t) 2 _ _ rfl k n
      · exact ld_branch (iblk m c 25 t) 3 _ _ rfl k n
  case piece1 =>
    idx_vars y
    obtain rfl : y0 = 0 := Fin.ext (by omega)
    obtain rfl : n = y2 := Fin.ext (by simpa using h2)
    have hr : r.val = 256 + y1.val := by simpa using h1
    have hy : (ix3 0 y1 n : S1x256x1024.Idx) = ix3 0 (crow ⟨y1.val / 128, by omega⟩ ⟨y1.val % 128, by omega⟩) n :=
      congrArg (fun x => ix3 0 x n) (Fin.ext (by show y1.val = y1.val / 128 * 128 + y1.val % 128; omega))
    refine (congrFun (second_eq (grid0.coords t) _ _ _ _ _ _ _ _ _ _ _ _ _ _ _ _ _ _ _ _ _ _ _ _ _ _ _ _ _ ) _).trans ?_
    rw [hy]
    have hm : modrow b R = b.castLE (by decide) := if_pos (by omega)
    refine sub_row m c t b R 256 _ _ n hb (by decide) (by decide) (by dsimp only; omega) _ _ _ _ _ _ _ _ _ _ _ _ _ ?_ ?_ ?_ ?_ ?_ ?_ ?_ ?_ ?_ ?_ ?_ ?_ ?_
    · intro k
      rw [hm, pay9_at, ld_cols (o := 0) (iblk m c 1 t) _ _ rfl 0 k (at0 k) (Nat.zero_add _).symm]
      exact iblk1_at m c t _ _ hb
    · intro k
      rw [hm, pay10_at, ld_cols (o := 1024) (iblk m c 1 t) _ _ rfl 0 k (at1 k) rfl]
      exact iblk1_at m c t _ _ hb
    · intro k
      rw [hm, pay11_at, ld_cols (o := 2048) (iblk m c 1 t) _ _ rfl 0 k (at2 k) rfl]
      exact iblk1_at m c t _ _ hb
    · exact fun j k r h => (pay12_at _ j k).trans (Cert.NaPoint.ld_rows (o := 256) _ _ _ rfl j k r h)
    · exact fun j k r h => Cert.NaPoint.ld_rows (o := 256) _ _ _ rfl j k r h
    · exact fun j k r h => Cert.NaPoint.ld_rows (o := 256) _ _ _ rfl j k r h
    · exact fun j k r h => Cert.NaPoint.ld_rows (o := 256) _ _ _ rfl j k r h
    · exact fun j k r h => Cert.NaPoint.ld_rows (o := 256) _ _ _ rfl j k r h
    · exact fun j k r h => Cert.NaPoint.ld_rows (o := 256) _ _ _ rfl j k r h
    · intro k
      rw [sel_at]
      unfold ybrow
      by_cases hk : t.val % 3 = 2
      · rw [if_pos hk, pay24_at, dif_pos (by omega)]
        refine (Cert.NaPoint.ld_rows (o := 256) (iblk m c 11 t) _ _ rfl _ k ⟨256 + y1.val, by omega⟩ (by show _ = 256 + (y1.val / 128 * 128 + y1.val % 128); dsimp only; omega)).trans ?_
        exact iblk11_at m c t b _ _ k hb (by dsimp only; omega)
      · rw [if_neg hk, pay24_at, dif_pos (by omega)]
        refine (Cert.NaPoint.ld_rows (o := 256) (X0_10 m c t) _ _ rfl _ k ⟨256 + y1.val, by omega⟩ (by show _ = 256 + (y1.val / 128 * 128 + y1.val % 128); dsimp only; omega)).trans ?_
        exact X10_at m c t b _ _ k hb (by dsimp only; omega) (by omega)
    · intro k
      refine (rows_at 256 (by decide) _ _ _ rfl _ k).trans ?_
      refine conv_row m c t b R _ k hb (by show _ = t.val % 3 * 768 + (256 + (y1.val / 128 * 128 + y1.val % 128)); omega) _ _ _ _ _ ?_ ?_ ?_ ?_ ?_
      · exact Cert.NaPoint.ld_rows (o := 7) (iblk m c 15 t) _ _ rfl 0 k 7 rfl
      · exact Cert.NaPoint.ld_rows (o := 0) (iblk m c 16 t) _ _ rfl 0 k 0 rfl
      · exact Cert.NaPoint.ld_rows (o := 0) (iblk m c 19 t) _ _ rfl 0 k 0 rfl
      · exact Cert.NaPoint.ld_rows (o := 1) (iblk m c 19 t) _ _ rfl 0 k 1 rfl
      · exact Cert.NaPoint.ld_rows (o := 2) (iblk m c 19 t) _ _ rfl 0 k 2 rfl
    · intro i k n
      fin_cases i
      · exact ld_cols (o := 2304) (iblk m c 24 t) _ _ rfl k n (gcol 0 n) (by show 2304 + (0 * 1024 + n.val) = _; omega)
      · exact ld_cols (o := 3328) (iblk m c 24 t) _ _ rfl k n (gcol 1 n) (by show 2304 + (1 * 1024 + n.val) = _; omega)
      · exact ld_cols (o := 4352) (iblk m c 24 t) _ _ rfl k n (gcol 2 n) (by show 2304 + (2 * 1024 + n.val) = _; omega)
      · exact ld_cols (o := 5376) (iblk m c 24 t) _ _ rfl k n (gcol 3 n) (by show 2304 + (3 * 1024 + n.val) = _; omega)
    · intro i k n
      fin_cases i
      · exact ld_branch (iblk m c 25 t) 0 _ _ rfl k n
      · exact ld_branch (iblk m c 25 t) 1 _ _ rfl k n
      · exact ld_branch (iblk m c 25 t) 2 _ _ rfl k n
      · exact ld_branch (iblk m c 25 t) 3 _ _ rfl k n
  case piece0 =>
    idx_vars y
    obtain rfl : y0 = 0 := Fin.ext (by omega)
    obtain rfl : n = y2 := Fin.ext (by simpa using h2)
    have hr : r.val = 512 + y1.val := by simpa using h1
    have hy : (ix3 0 y1 n : S1x256x1024.Idx) = ix3 0 (crow ⟨y1.val / 128, by omega⟩ ⟨y1.val % 128, by omega⟩) n :=
      congrArg (fun x => ix3 0 x n) (Fin.ext (by show y1.val = y1.val / 128 * 128 + y1.val % 128; omega))
    refine (congrFun (third_eq (grid0.coords t) _ _ _ _ _ _ _ _ _ _ _ _ _ _ _ _ _ _ _ _ _ _ _ _ _ _ _ _ _ _ _ _ ) _).trans ?_
    rw [hy]
    refine sub_row m c t b R 512 _ _ n hb (by decide) (by decide) (by dsimp only; omega) _ _ _ _ _ _ _ _ _ _ _ _ _ ?_ ?_ ?_ ?_ ?_ ?_ ?_ ?_ ?_ ?_ ?_ ?_ ?_
    · intro k
      rw [sel_at]
      by_cases hk : t.val % 3 = 2
      · rw [if_pos hk, pay9_at, ld_cols (o := 0) (iblk m c 2 t) _ _ rfl 0 k (at0 k) (Nat.zero_add _).symm, iblk2_at]
        rw [show modrow b R = 8 from if_neg (by omega)]
      · rw [if_neg hk, pay9_at, ld_cols (o := 0) (iblk m c 1 t) _ _ rfl 0 k (at0 k) (Nat.zero_add _).symm]
        rw [show modrow b R = b.castLE (by decide) from if_pos (by omega)]
        exact iblk1_at m c t _ _ hb
    · intro k
      rw [sel_at]
      by_cases hk : t.val % 3 = 2
      · rw [if_pos hk, pay10_at, ld_cols (o := 1024) (iblk m c 2 t) _ _ rfl 0 k (at1 k) rfl, iblk2_at]
        rw [show modrow b R = 8 from if_neg (by omega)]
      · rw [if_neg hk, pay10_at, ld_cols (o := 1024) (iblk m c 1 t) _ _ rfl 0 k (at1 k) rfl]
        rw [show modrow b R = b.castLE (by decide) from if_pos (by omega)]
        exact iblk1_at m c t _ _ hb
    · intro k
      rw [sel_at]
      by_cases hk : t.val % 3 = 2
      · rw [if_pos hk, pay11_at, ld_cols (o := 2048) (iblk m c 2 t) _ _ rfl 0 k (at2 k) rfl, iblk2_at]
        rw [show modrow b R = 8 from if_neg (by omega)]
      · rw [if_neg hk, pay11_at, ld_cols (o := 2048) (iblk m c 1 t) _ _ rfl 0 k (at2 k) rfl]
        rw [show modrow b R = b.castLE (by decide) from if_pos (by omega)]
        exact iblk1_at m c t _ _ hb
    · exact fun j k r h => (pay12_at _ j k).trans (Cert.NaPoint.ld_rows (o := 512) _ _ _ rfl j k r h)
    · exact fun j k r h => Cert.NaPoint.ld_rows (o := 512) _ _ _ rfl j k r h
    · exact fun j k r h => Cert.NaPoint.ld_rows (o := 512) _ _ _ rfl j k r h
    · exact fun j k r h => Cert.NaPoint.ld_rows (o := 512) _ _ _ rfl j k r h
    · exact fun j k r h => Cert.NaPoint.ld_rows (o := 512) _ _ _ rfl j k r h
    · exact fun j k r h => Cert.NaPoint.ld_rows (o := 512) _ _ _ rfl j k r h
    · intro k
      rw [sel_at]
      unfold ybrow
      by_cases hk : t.val % 3 = 2
      · rw [if_pos hk, pay24_at, dif_neg (by omega)]
        refine (iblk12_at m c t b _ k hb).trans ?_
        exact congrArg (fun x => m ((c : Thread nD τ).loc main_arg10) (ix3 b x k)) (Fin.ext (by show y1.val / 128 * 128 + y1.val % 128 = R.val - 2048; omega))
      · rw [if_neg hk, pay24_at, dif_pos (by omega)]
        refine (Cert.NaPoint.ld_rows (o := 512) (X0_10 m c t) _ _ rfl _ k ⟨512 + y1.val, by omega⟩ (by show _ = 512 + (y1.val / 128 * 128 + y1.val % 128); dsimp only; omega)).trans ?_
        exact X10_at m c t b _ _ k hb (by dsimp only; omega) (by omega)
    · intro k
      refine (rows_at 512 (by decide) _ _ _ rfl _ k).trans ?_
      refine conv_row m c t b R _ k hb (by show _ = t.val % 3 * 768 + (512 + (y1.val / 128 * 128 + y1.val % 128)); omega) _ _ _ _ _ ?_ ?_ ?_ ?_ ?_
      · exact Cert.NaPoint.ld_rows (o := 7) (iblk m c 15 t) _ _ rfl 0 k 7 rfl
      · exact Cert.NaPoint.ld_rows (o := 0) (iblk m c 16 t) _ _ rfl 0 k 0 rfl
      · exact Cert.NaPoint.ld_rows (o := 0) (iblk m c 19 t) _ _ rfl 0 k 0 rfl
      · exact Cert.NaPoint.ld_rows (o := 1) (iblk m c 19 t) _ _ rfl 0 k 1 rfl
      · exact Cert.NaPoint.ld_rows (o := 2) (iblk m c 19 t) _ _ rfl 0 k 2 rfl
    · intro i k n
      fin_cases i
      · exact ld_cols (o := 2304) (iblk m c 24 t) _ _ rfl k n (gcol 0 n) (by show 2304 + (0 * 1024 + n.val) = _; omega)
      · exact ld_cols (o := 3328) (iblk m c 24 t) _ _ rfl k n (gcol 1 n) (by show 2304 + (1 * 1024 + n.val) = _; omega)
      · exact ld_cols (o := 4352) (iblk m c 24 t) _ _ rfl k n (gcol 2 n) (by show 2304 + (2 * 1024 + n.val) = _; omega)
      · exact ld_cols (o := 5376) (iblk m c 24 t) _ _ rfl k n (gcol 3 n) (by show 2304 + (3 * 1024 + n.val) = _; omega)
    · intro i k n
      fin_cases i
      · exact ld_branch (iblk m c 25 t) 0 _ _ rfl k n
      · exact ld_branch (iblk m c 25 t) 1 _ _ rfl k n
      · exact ld_branch (iblk m c 25 t) 2 _ _ rfl k n
      · exact ld_branch (iblk m c 25 t) 3 _ _ rfl k n

/-- The merge kernel's result. -/
theorem final (c : Dev nD) : (dats m 0 c).arrAt 27 (cfgs 0).N = want m c := by
  refine (dats m 0 c).arrAt_eq_of_covers 27 _ (by decide +kernel) fun t _ y => ?_
  blk_simp
  rw [after0_27]
  idx_vars y
  obtain rfl : y0 = 0 := Fin.ext (by omega)
  have h8 := (coords t).1
  refine (point m c t ⟨t.val / 3, h8⟩ ⟨t.val % 3 * 768 + y1.val, by omega⟩ y1 y2 rfl rfl).trans ?_
  blk_ext [idx27 t]

/-- The run: the result is the reference's, and the arguments end unchanged. -/
theorem run_want (ρ : Dev nD → PrngReg) : θ_run (defs (F := Ideal)) (onTc (τ := τ) (main (F := Ideal))) ⟨m, fun _ => 0, ρ⟩ (fun r => ∀ c : Dev nD,
      r.2.mem ((c.tc : Thread nD τ).loc main_v16) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h.1 c).1 27).trans (final m c), h.2 c⟩) (θ_run_and (run_main m ρ) (unchanged m ρ))

end Cert.MixKernel
end
-- ==== Proof.ProjTile.lean ====
/-
  One tile of a layer's input projection, read row by row: each of the body's three sub-tiles of 256 rows holds the products
  of its modulated rows with the weights' first 1024 and following 1280 columns.
-/
module

public import proofs.«01_k».proof.Proof.Gen.ProjIdeal.Frame
public import proofs.«01_k».proof.Proof.Mix
public import Idealize.ShloMosaic.Lib.Pipeline.ValueKit

@[expose] public section

set_option maxRecDepth 16384

noncomputable section

namespace Cert.ProjTile

open Cert.ProjIdeal Cert.ProjIdeal.Gen Idealize.ShloMosaic Idealize.ShloMosaic.TcCoe Idealize.SL.Sem
open Cert.Mlp

/-- The modulated rows of a sub-tile. -/
theorem act_apply (sh sc : Vec Ideal S1x1x1024 .f32) (h : Vec Ideal S1x256x1024 .f32) (g : Vec Ideal S1x1x1024 .f32)
    (r : Fin 256) (k : Fin 1024) :
    k0_pay6 sh sc h g (ix2 r k)
      = act (fun k => h (ix3 0 r k)) (fun k => g (ix3 0 0 k)) (fun k => sc (ix3 0 0 k)) (fun k => sh (ix3 0 0 k)) k := by
  pointwise [k0_pay6]
  rfl

/-- The product with the first 1024 columns. -/
theorem att_apply (v : FVec Ideal S256x1024 .bf16) (w : Vec Ideal S1x1024x1024 .bf16) (r : Fin 256) (n : Fin 1024) :
    k0_pay1 v w (ix3 0 r n) = ∑ k, v (ix2 r k) * w (ix3 0 k n) := by
  pointwise [k0_pay1]

/-- The product with the following 1280 columns. -/
theorem wide_apply (v : FVec Ideal S256x1024 .bf16) (w : Vec Ideal S1x1024x1280 .bf16) (r : Fin 256) (j : Fin 1280) :
    k0_pay2 v w (ix2 r j) = ∑ k, v (ix2 r k) * w (ix3 0 k j) := by
  pointwise [k0_pay2]

/-- Its first 256 columns. -/
theorem first_apply (v : FVec Ideal S256x1024 .bf16) (w : Vec Ideal S1x1024x1280 .bf16) (r c : Fin 256) :
    k0_pay3 v w (ix3 0 r c) = k0_pay2 v w (ix2 r ⟨c.val, by omega⟩) := by
  pointwise [k0_pay3]

/-- The product of its next two stretches of 256 columns. -/
theorem second_apply (v : FVec Ideal S256x1024 .bf16) (w : Vec Ideal S1x1024x1280 .bf16) (r c : Fin 256) :
    k0_pay4 v w (ix3 0 r c) = k0_pay2 v w (ix2 r ⟨256 + c.val, by omega⟩) * k0_pay2 v w (ix2 r ⟨512 + c.val, by omega⟩) := by
  pointwise [k0_pay4]

/-- Its last 512 columns. -/
theorem third_apply (v : FVec Ideal S256x1024 .bf16) (w : Vec Ideal S1x1024x1280 .bf16) (r : Fin 256) (c : Fin 512) :
    k0_pay5 v w (ix3 0 r c) = k0_pay2 v w (ix2 r ⟨768 + c.val, by omega⟩) := by
  pointwise [k0_pay5]

variable (sh sc g : Vec Ideal S1x1x1024 .f32) (h : Vec Ideal S1x256x1024 .f32) (w : Vec Ideal S1x1024x1024 .bf16)
  (v : FVec Ideal S256x1024 .bf16) (u : Vec Ideal S1x1024x1280 .bf16)

/-- The first and second sub-tiles' stores are the third's functions. -/
theorem pay7_eq : k0_pay7 sh sc h g w = k0_pay1 (k0_pay6 sh sc h g) w := rfl
theorem pay9_eq : k0_pay9 v u = k0_pay3 v u := rfl
theorem pay10_eq : k0_pay10 v u = k0_pay4 v u := rfl
theorem pay11_eq : k0_pay11 v u = k0_pay5 v u := rfl
theorem pay17_eq : k0_pay17 (k0_pay12 sh) (k0_pay13 h) (k0_pay14 sc g) (k0_pay15 h) w = k0_pay1 (k0_pay6 sh sc h g) w := rfl
theorem pay19_eq : k0_pay19 (k0_pay12 sh) (k0_pay13 h) (k0_pay14 sc g) (k0_pay15 h) u = k0_pay3 (k0_pay6 sh sc h g) u := rfl
theorem pay20_eq : k0_pay20 (k0_pay12 sh) (k0_pay13 h) (k0_pay14 sc g) (k0_pay15 h) u = k0_pay4 (k0_pay6 sh sc h g) u := rfl
theorem pay22_eq : k0_pay22 (k0_pay21 (k0_pay12 sh) (k0_pay13 h) (k0_pay14 sc g) (k0_pay15 h) u) = k0_pay5 (k0_pay6 sh sc h g) u := rfl

/-- The third sub-tile's rows in a batch's last tile: under the context's modulations. -/
theorem third_ctx (shc shl scc scl : Vec Ideal S1x1x1024 .f32) : k0_pay23 2#32 shc shl scc scl h g = k0_pay6 shc scc h g := rfl

/-- In the other tiles: under the batch's. -/
theorem third_lat (j : BitVec 32) (hj : j ≠ 2#32) (shc shl scc scl : Vec Ideal S1x1x1024 .f32) :
    k0_pay23 j shc shl scc scl h g = k0_pay6 shl scl h g := by
  have e : Scalar.cmpi .eq j 2#32 = 0#1 := by
    simp only [Scalar.cmpi, IntOp.cmpi]
    rw [beq_eq_false_iff_ne.mpr hj]
    rfl
  unfold k0_pay23
  simp only [e]
  rfl

end Cert.ProjTile
end
-- ==== Proof.ProjRows.lean ====
/-
  A layer's input projection as functions of rows of numbers, and its reference's two results read at an index.
-/
module

public import proofs.«01_k».proof.Proof.Gen.ProjRefIdeal.Read
public import proofs.«01_k».proof.Proof.Mix

@[expose] public section

set_option maxRecDepth 16384

noncomputable section

namespace Cert.ProjRows

open Cert.ProjRefIdeal Cert.ProjRefIdeal.Gen Cert.ProjRefIdeal.Read Idealize.ShloMosaic Idealize.ShloMosaic.TcCoe Idealize.SL.Sem
open Cert.Mlp

/-- Column `j` of a row's input projection. -/
def prj (a : Fin 1024 → EReal) (w : Fin 1024 → Fin 6400 → EReal) (j : Fin 6400) : EReal := ∑ k, a k * w k j

/-- Column `n` of the attention's share: the projection's first 1024 columns. -/
def qcol (n : Fin 1024) : Fin 6400 := ⟨n.val, by omega⟩

/-- Columns of the other branches' share: those before the product's second factor, and those from it on. -/
def lcol (n : Fin 1024) : Fin 6400 := ⟨1024 + n.val, by omega⟩
def rcol (n : Fin 1024) : Fin 6400 := ⟨1280 + n.val, by omega⟩

/-- Column `n` of the other branches' share of a row: 256 columns as they are, 256 products of two columns, and 512 columns. -/
def loc (p : Fin 6400 → EReal) (n : Fin 1024) : EReal :=
  if n.val < 256 then p (lcol n) else if n.val < 512 then p (lcol n) * p (rcol n) else p (rcol n)

variable (x0 : FVec Ideal S8x2304x1024 .f32) (x1 : FVec Ideal S4x16x6144 .f32) (x2 : FVec Ideal S4x2x1024 .f32)
  (x3 : FVec Ideal S4x1024x6400 .f32)

/-- The token of a latent row. -/
def lat (r : Fin 2048) : Fin 2304 := ⟨r.val, by omega⟩

/-- The token of a context row. -/
def ctx (r : Fin 256) : Fin 2304 := ⟨2048 + r.val, by omega⟩

/-- The row of modulations a token is under: its batch's, or the context's. -/
def modrow (b : Fin 8) (R : Fin 2304) : Fin 16 := if R.val < 2048 then b.castLE (by decide) else 8

/-- Column `j` of the projection of token `R`. -/
def proj (b : Fin 8) (R : Fin 2304) (j : Fin 6400) : EReal :=
  prj (act (fun k => x0 (ix3 b R k)) (fun k => x2 (ix3 1 0 k)) (fun k => x1 (ix3 1 (modrow b R) (Mix.at1 k)))
    (fun k => x1 (ix3 1 (modrow b R) (Mix.at0 k)))) (fun k j => x3 (ix3 1 k j)) j

/-- The modulated latent rows. -/
theorem lat_act (b : Fin 8) (r : Fin 2048) (k : Fin 1024) : val_main_v38 (F := Ideal) x0 x1 x2 (ix3 b r k)
    = act (fun k => x0 (ix3 b (lat r) k)) (fun k => x2 (ix3 1 0 k)) (fun k => x1 (ix3 1 (b.castLE (by decide)) (Mix.at1 k))) (fun k => x1 (ix3 1 (b.castLE (by decide)) (Mix.at0 k))) k := by
  rw [← act_eq]
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v4, val_main_v3, val_main_v2, val_main_v1, val_main_v0, val_main_cst, val_main_cst_0, val_main_cst_1, val_main_cst_2]
  simp only [lat, ctx]
  rfl

/-- The latent rows' projection. -/
theorem lat_proj (b : Fin 8) (r : Fin 2048) (j : Fin 6400) : val_main_v41 (F := Ideal) x0 x1 x2 x3 (ix3 b r j) = proj x0 x1 x2 x3 b (lat r) j := by
  unfold proj modrow
  rw [if_pos (show (lat r).val < 2048 from r.isLt)]
  pointwise [val_main_v41, val_main_v40, val_main_v39]
  simp only [lat_act]
  rfl

/-- The modulated context rows. -/
theorem ctx_act (b : Fin 8) (r : Fin 256) (k : Fin 1024) : val_main_v79 (F := Ideal) x0 x1 x2 (ix3 b r k)
    = act (fun k => x0 (ix3 b (ctx r) k)) (fun k => x2 (ix3 1 0 k)) (fun k => x1 (ix3 1 8 (Mix.at1 k))) (fun k => x1 (ix3 1 8 (Mix.at0 k))) k := by
  rw [← act_eq]
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v12, val_main_v11, val_main_v10, val_main_v9, val_main_cst_3, val_main_cst_4, val_main_cst_5, val_main_cst_6]
  simp only [lat, ctx]
  rfl

/-- The context rows' projection. -/
theorem ctx_proj (b : Fin 8) (r : Fin 256) (j : Fin 6400) : val_main_v82 (F := Ideal) x0 x1 x2 x3 (ix3 b r j) = proj x0 x1 x2 x3 b (ctx r) j := by
  unfold proj modrow
  rw [if_neg (show ¬ (ctx r).val < 2048 from by simp [ctx])]
  pointwise [val_main_v82, val_main_v81, val_main_v80]
  simp only [ctx_act]
  rfl

/-- The attention's share of the latent rows. -/
theorem lat_att (b : Fin 8) (r : Fin 2048) (n : Fin 1024) : val_main_v53 (F := Ideal) x0 x1 x2 x3 (ix3 b r n) = proj x0 x1 x2 x3 b (lat r) (qcol n) := by
  rw [← lat_proj]
  pointwise [val_main_v53, val_main_v52, val_main_v45, val_main_v44, val_main_v43, val_main_v42]
  split_ifs <;> exact congrArg (fun j => val_main_v41 (F := Ideal) x0 x1 x2 x3 (ix3 b r j)) (Fin.ext (by simp only [qcol] <;> omega))

/-- The attention's share of the context rows. -/
theorem ctx_att (b : Fin 8) (r : Fin 256) (n : Fin 1024) : val_main_v94 (F := Ideal) x0 x1 x2 x3 (ix3 b r n) = proj x0 x1 x2 x3 b (ctx r) (qcol n) := by
  rw [← ctx_proj]
  pointwise [val_main_v94, val_main_v93, val_main_v86, val_main_v85, val_main_v84, val_main_v83]
  split_ifs <;> exact congrArg (fun j => val_main_v82 (F := Ideal) x0 x1 x2 x3 (ix3 b r j)) (Fin.ext (by simp only [qcol] <;> omega))

/-- The other branches' share of the latent rows. -/
theorem lat_loc (b : Fin 8) (r : Fin 2048) (n : Fin 1024) : val_main_v55 (F := Ideal) x0 x1 x2 x3 (ix3 b r n) = loc (proj x0 x1 x2 x3 b (lat r)) n := by
  have e : proj x0 x1 x2 x3 b (lat r) = fun j => val_main_v41 (F := Ideal) x0 x1 x2 x3 (ix3 b r j) := funext fun j => (lat_proj x0 x1 x2 x3 b r j).symm
  rw [e]
  unfold loc
  pointwise [val_main_v55, val_main_v54, val_main_v50, val_main_v49, val_main_v48, val_main_v47, val_main_v46]
  by_cases h : n.val < 256
  · rw [dif_pos h, if_pos h]
    rfl
  rw [dif_neg h, if_neg h]
  by_cases h' : n.val < 512
  · rw [dif_pos (by omega), if_pos h']
    exact congrArg₂ (fun i j => val_main_v41 (F := Ideal) x0 x1 x2 x3 (ix3 b r i) * val_main_v41 (F := Ideal) x0 x1 x2 x3 (ix3 b r j))
      (Fin.ext (by simp only [lcol]; omega)) (Fin.ext (by simp only [rcol]; omega))
  rw [dif_neg (by omega), if_neg h']
  split_ifs <;> exact congrArg (fun j => val_main_v41 (F := Ideal) x0 x1 x2 x3 (ix3 b r j)) (Fin.ext (by simp only [rcol]; omega))

/-- The other branches' share of the context rows. -/
theorem ctx_loc (b : Fin 8) (r : Fin 256) (n : Fin 1024) : val_main_v96 (F := Ideal) x0 x1 x2 x3 (ix3 b r n) = loc (proj x0 x1 x2 x3 b (ctx r)) n := by
  have e : proj x0 x1 x2 x3 b (ctx r) = fun j => val_main_v82 (F := Ideal) x0 x1 x2 x3 (ix3 b r j) := funext fun j => (ctx_proj x0 x1 x2 x3 b r j).symm
  rw [e]
  unfold loc
  pointwise [val_main_v96, val_main_v95, val_main_v91, val_main_v90, val_main_v89, val_main_v88, val_main_v87]
  by_cases h : n.val < 256
  · rw [dif_pos h, if_pos h]
    rfl
  rw [dif_neg h, if_neg h]
  by_cases h' : n.val < 512
  · rw [dif_pos (by omega), if_pos h']
    exact congrArg₂ (fun i j => val_main_v82 (F := Ideal) x0 x1 x2 x3 (ix3 b r i) * val_main_v82 (F := Ideal) x0 x1 x2 x3 (ix3 b r j))
      (Fin.ext (by simp only [lcol]; omega)) (Fin.ext (by simp only [rcol]; omega))
  rw [dif_neg (by omega), if_neg h']
  split_ifs <;> exact congrArg (fun j => val_main_v82 (F := Ideal) x0 x1 x2 x3 (ix3 b r j)) (Fin.ext (by simp only [rcol]; omega))

/-- The first result, of the arguments. -/
theorem att_at (b : Fin 8) (R : Fin 2304) (n : Fin 1024) : val_main_v97 (F := Ideal) x0 x1 x2 x3 (ix3 b R n) = proj x0 x1 x2 x3 b R (qcol n) := by
  pointwise [val_main_v97]
  by_cases h : R.val < 2048
  · simp only [dif_pos h]
    exact lat_att x0 x1 x2 x3 b ⟨R.val, h⟩ n
  · simp only [dif_neg h]
    refine (ctx_att x0 x1 x2 x3 b ⟨R.val - 2048, by omega⟩ n).trans ?_
    have e : ctx ⟨R.val - 2048, by omega⟩ = R := Fin.ext (by simp only [ctx]; omega)
    rw [e]

/-- The second result, of the arguments. -/
theorem loc_at (b : Fin 8) (R : Fin 2304) (n : Fin 1024) : val_main_v98 (F := Ideal) x0 x1 x2 x3 (ix3 b R n) = loc (proj x0 x1 x2 x3 b R) n := by
  pointwise [val_main_v98]
  by_cases h : R.val < 2048
  · simp only [dif_pos h]
    exact lat_loc x0 x1 x2 x3 b ⟨R.val, h⟩ n
  · simp only [dif_neg h]
    refine (ctx_loc x0 x1 x2 x3 b ⟨R.val - 2048, by omega⟩ n).trans ?_
    have e : ctx ⟨R.val - 2048, by omega⟩ = R := Fin.ext (by simp only [ctx]; omega)
    rw [e]

end Cert.ProjRows
end
-- ==== Proof.ProjKernel.lean ====
/-
  A layer's input projection: its two result arrays are the reference's, of the same arguments.
-/
module

public import proofs.«01_k».proof.Proof.Gen.ProjIdeal.Value
public import proofs.«01_k».proof.Proof.ProjTile
public import proofs.«01_k».proof.Proof.ProjRows
public import proofs.«01_k».proof.Proof.NaPoint

@[expose] public section

set_option maxRecDepth 16384

noncomputable section

namespace Cert.ProjKernel

open Cert.ProjIdeal Cert.ProjIdeal.Gen Idealize.ShloMosaic Idealize.ShloMosaic.TcCoe Idealize.SL.Sem
open Cert.Mlp Cert.ProjTile

variable (m : (ℓ : Loc nD τ sig) → Buf (Elt Ideal) ℓ)

/-- The windows' index maps at a grid point. -/
theorem idx : ∀ t : Fin cfg0.N, win0_0.index t = ![t.val / 3, t.val % 3, 0] ∧ win0_1.index t = ![16 + t.val / 3, 0, 0]
    ∧ win0_2.index t = ![24, 0, 0] ∧ win0_3.index t = ![2, 0, 0] ∧ win0_4.index t = ![1, 0, 0]
    ∧ win0_5.index t = ![t.val / 3, t.val % 3, 0] ∧ win0_6.index t = ![t.val / 3, t.val % 3, 0] ∧ t.val / 3 < 8 ∧ (grid0.coords t 1).val = t.val % 3 :=
  (by decide +kernel : ∀ t : Fin grid0.N, win0_0.index t = ![t.val / 3, t.val % 3, 0] ∧ win0_1.index t = ![16 + t.val / 3, 0, 0]
    ∧ win0_2.index t = ![24, 0, 0] ∧ win0_3.index t = ![2, 0, 0] ∧ win0_4.index t = ![1, 0, 0]
    ∧ win0_5.index t = ![t.val / 3, t.val % 3, 0] ∧ win0_6.index t = ![t.val / 3, t.val % 3, 0] ∧ t.val / 3 < 8 ∧ (grid0.coords t 1).val = t.val % 3)

theorem iblk0_at (c : Dev nD) (t : Fin cfg0.N) (b : Fin 8) (R : Fin 2304) (r : Fin 768) (k : Fin 1024) (hb : b.val = t.val / 3)
    (hR : R.val = t.val % 3 * 768 + r.val) :
    iblk m c 0 t (ix3 0 r k) = m ((c : Thread nD τ).loc main_arg0) (ix3 b R k) := by
  blk_ext [iblk, V, idx t]

theorem iblk1_at (c : Dev nD) (t : Fin cfg0.N) (b : Fin 16) (k : Fin 6144) (hb : b.val = t.val / 3) :
    iblk m c 1 t (ix3 0 0 k) = m ((c : Thread nD τ).loc main_arg1) (ix3 1 b k) := by
  have h8 := (idx t).2.2.2.2.2.2.2.1
  blk_simp [iblk, idx t]
  entry_read
  pointwise []
  blk_ext [idx t]

theorem iblk2_at (c : Dev nD) (t : Fin cfg0.N) (k : Fin 6144) :
    iblk m c 2 t (ix3 0 0 k) = m ((c : Thread nD τ).loc main_arg1) (ix3 1 8 k) := by
  blk_simp [iblk, idx t]
  entry_read
  pointwise []
  blk_ext [idx t]

theorem iblk3_at (c : Dev nD) (t : Fin cfg0.N) (k : Fin 1024) :
    iblk m c 3 t (ix3 0 0 k) = m ((c : Thread nD τ).loc main_arg2) (ix3 1 0 k) := by
  blk_simp [iblk, idx t]
  entry_read
  pointwise []
  blk_ext [idx t]

theorem X4_at (c : Dev nD) (t : Fin cfg0.N) (k : Fin 1024) (j : Fin 2304) (z : Fin 6400) (hz : z.val = j.val) :
    X0_4 m c t (ix3 0 k j) = m ((c : Thread nD τ).loc main_arg3) (ix3 1 k z) := by
  unfold X0_4
  refine Eq.trans (dif_pos (moved0_4 t (ix3 0 k j))) ?_
  blk_simp [iblk, idx t]
  entry_read
  pointwise []
  blk_ext [idx t]

/-- A load of columns. -/
theorem ld_cols {n k o l : Nat} {e : EltTy} (X : Shape.Idx ⟨3, ![1, n, k]⟩ → Elt Ideal e) (off : Fin 3 → Nat) (inb) (h : off = ![0, 0, o]) (j : Fin n)
    (x : Fin l) (z : Fin k) (hz : z.val = o + x.val) : View.ld X (Rect.unit (s := ⟨3, ![1, n, k]⟩) off ![1, n, l] inb) (ix3 0 j x) = X (ix3 0 j z) := by
  subst h
  refine Cert.NaPoint.ld_at (S := ⟨3, ![1, n, k]⟩) X _ _ _ _ (ix3 0 j z) fun a => ?_
  match a with
  | 0 => rfl
  | 1 => exact (Nat.zero_add _).symm
  | 2 => exact hz

/-- Column `j` of token `R`'s projection, of the kernel's arguments. -/
def want (c : Dev nD) (b : Fin 8) (R : Fin 2304) (j : Fin 6400) : EReal :=
  ProjRows.proj (m ((c : Thread nD τ).loc main_arg0)) (m ((c : Thread nD τ).loc main_arg1)) (m ((c : Thread nD τ).loc main_arg2))
    (m ((c : Thread nD τ).loc main_arg3)) b R j

/-- The first result, of the kernel's arguments. -/
def wantA (c : Dev nD) : FVec Ideal S8x2304x1024 .bf16 :=
  Cert.ProjRefIdeal.Read.val_main_v97 (F := Ideal) (m ((c : Thread nD τ).loc main_arg0)) (m ((c : Thread nD τ).loc main_arg1))
    (m ((c : Thread nD τ).loc main_arg2)) (m ((c : Thread nD τ).loc main_arg3))

/-- The second result, of the kernel's arguments. -/
def wantL (c : Dev nD) : FVec Ideal S8x2304x1024 .f32 :=
  Cert.ProjRefIdeal.Read.val_main_v98 (F := Ideal) (m ((c : Thread nD τ).loc main_arg0)) (m ((c : Thread nD τ).loc main_arg1))
    (m ((c : Thread nD τ).loc main_arg2)) (m ((c : Thread nD τ).loc main_arg3))

/-- Token `R`'s modulated row, of the kernel's arguments. -/
def arow (c : Dev nD) (b : Fin 8) (R : Fin 2304) : Fin 1024 → EReal :=
  act (fun k => m ((c : Thread nD τ).loc main_arg0) (ix3 b R k)) (fun k => m ((c : Thread nD τ).loc main_arg2) (ix3 1 0 k))
    (fun k => m ((c : Thread nD τ).loc main_arg1) (ix3 1 (ProjRows.modrow b R) (Mix.at1 k)))
    (fun k => m ((c : Thread nD τ).loc main_arg1) (ix3 1 (ProjRows.modrow b R) (Mix.at0 k)))

/-- A sub-tile's modulated row under its batch's modulations. -/
theorem lat_row (c : Dev nD) (t : Fin cfg0.N) (b : Fin 8) (R : Fin 2304) (r : Fin 256) (o : Nat) (k : Fin 1024) (hb : b.val = t.val / 3)
    (hR : R.val = t.val % 3 * 768 + (o + r.val)) (ho : o + r.val < 768) (hl : R.val < 2048) (off0 off1 : Fin 3 → Nat) (i0 i1)
    (off : Fin 3 → Nat) (inb) (h0 : off0 = ![0, 0, 0]) (h1 : off1 = ![0, 0, 1024]) (h : off = ![0, o, 0]) :
    k0_pay6 (View.ld (iblk m c 1 t) (Rect.unit (s := S1x1x6144) off0 ![1, 1, 1024] i0)) (View.ld (iblk m c 1 t) (Rect.unit (s := S1x1x6144) off1 ![1, 1, 1024] i1))
      (View.ld (iblk m c 0 t) (Rect.unit (s := S1x768x1024) off ![1, 256, 1024] inb)) (iblk m c 3 t) (ix2 r k) = arow m c b R k := by
  rw [act_apply]
  unfold arow ProjRows.modrow
  rw [if_pos hl]
  congr 1
  · funext k
    exact (Cert.NaPoint.ld_rows (o := o) (iblk m c 0 t) _ _ h r k ⟨o + r.val, ho⟩ rfl).trans (iblk0_at m c t b R _ k hb hR)
  · funext k
    exact iblk3_at m c t k
  · funext k
    exact (ld_cols (o := 1024) (iblk m c 1 t) _ _ h1 0 k (Mix.at1 k) rfl).trans (iblk1_at m c t _ _ hb)
  · funext k
    exact (ld_cols (o := 0) (iblk m c 1 t) _ _ h0 0 k (Mix.at0 k) (Nat.zero_add _).symm).trans (iblk1_at m c t _ _ hb)

/-- A sub-tile's modulated row under the context's modulations. -/
theorem ctx_row (c : Dev nD) (t : Fin cfg0.N) (b : Fin 8) (R : Fin 2304) (r : Fin 256) (o : Nat) (k : Fin 1024) (hb : b.val = t.val / 3)
    (hR : R.val = t.val % 3 * 768 + (o + r.val)) (ho : o + r.val < 768) (hl : ¬ R.val < 2048) (off0 off1 : Fin 3 → Nat) (i0 i1)
    (off : Fin 3 → Nat) (inb) (h0 : off0 = ![0, 0, 0]) (h1 : off1 = ![0, 0, 1024]) (h : off = ![0, o, 0]) :
    k0_pay6 (View.ld (iblk m c 2 t) (Rect.unit (s := S1x1x6144) off0 ![1, 1, 1024] i0)) (View.ld (iblk m c 2 t) (Rect.unit (s := S1x1x6144) off1 ![1, 1, 1024] i1))
      (View.ld (iblk m c 0 t) (Rect.unit (s := S1x768x1024) off ![1, 256, 1024] inb)) (iblk m c 3 t) (ix2 r k) = arow m c b R k := by
  rw [act_apply]
  unfold arow ProjRows.modrow
  rw [if_neg hl]
  congr 1
  · funext k
    exact (Cert.NaPoint.ld_rows (o := o) (iblk m c 0 t) _ _ h r k ⟨o + r.val, ho⟩ rfl).trans (iblk0_at m c t b R _ k hb hR)
  · funext k
    exact iblk3_at m c t k
  · funext k
    exact (ld_cols (o := 1024) (iblk m c 2 t) _ _ h1 0 k (Mix.at1 k) rfl).trans (iblk2_at m c t _)
  · funext k
    exact (ld_cols (o := 0) (iblk m c 2 t) _ _ h0 0 k (Mix.at0 k) (Nat.zero_add _).symm).trans (iblk2_at m c t _)

/-- The third sub-tile's modulated rows. -/
theorem end_row (c : Dev nD) (t : Fin cfg0.N) (b : Fin 8) (R : Fin 2304) (r : Fin 256) (k : Fin 1024) (hb : b.val = t.val / 3)
    (hR : R.val = t.val % 3 * 768 + (512 + r.val)) (off0 off1 off2 off3 : Fin 3 → Nat) (i0 i1 i2 i3)
    (off : Fin 3 → Nat) (inb) (h0 : off0 = ![0, 0, 0]) (h1 : off1 = ![0, 0, 0]) (h2 : off2 = ![0, 0, 1024]) (h3 : off3 = ![0, 0, 1024]) (h : off = ![0, 512, 0]) :
    k0_pay23 (BitVec.ofNat 32 (grid0.coords t 1).val) (View.ld (iblk m c 2 t) (Rect.unit (s := S1x1x6144) off0 ![1, 1, 1024] i0))
      (View.ld (iblk m c 1 t) (Rect.unit (s := S1x1x6144) off1 ![1, 1, 1024] i1)) (View.ld (iblk m c 2 t) (Rect.unit (s := S1x1x6144) off2 ![1, 1, 1024] i2))
      (View.ld (iblk m c 1 t) (Rect.unit (s := S1x1x6144) off3 ![1, 1, 1024] i3))
      (View.ld (iblk m c 0 t) (Rect.unit (s := S1x768x1024) off ![1, 256, 1024] inb)) (iblk m c 3 t) (ix2 r k) = arow m c b R k := by
  have hc := (idx t).2.2.2.2.2.2.2.2
  have hr := r.isLt
  by_cases hi : (grid0.coords t 1).val = 2
  · rw [hi, third_ctx]
    exact ctx_row m c t b R r 512 k hb hR (by omega) (by omega) _ _ _ _ _ _ h0 h2 h
  · rw [third_lat]
    · exact lat_row m c t b R r 512 k hb hR (by omega) (by omega) _ _ _ _ _ _ h1 h3 h
    · intro e
      have e' := congrArg BitVec.toNat e
      have hb : (grid0.coords t 1).val < 3 := (grid0.coords t 1).isLt
      simp at e'
      omega

/-- The attention's share of a sub-tile's row. -/
theorem att_row (c : Dev nD) (t : Fin cfg0.N) (b : Fin 8) (R : Fin 2304) (r : Fin 256) (n : Fin 1024) (v : FVec Ideal S256x1024 .bf16)
    (off : Fin 3 → Nat) (inb) (h : off = ![0, 0, 0]) (hv : ∀ k, v (ix2 r k) = arow m c b R k) :
    k0_pay1 v (View.ld (X0_4 m c t) (Rect.unit (s := S1x1024x2304) off ![1, 1024, 1024] inb)) (ix3 0 r n) = wantA m c (ix3 b R n) := by
  rw [att_apply]
  refine Eq.trans ?_ (ProjRows.att_at _ _ _ _ b R n).symm
  show _ = ∑ k, arow m c b R k * m ((c : Thread nD τ).loc main_arg3) (ix3 1 k (ProjRows.qcol n))
  refine Finset.sum_congr rfl fun k _ => ?_
  rw [hv]
  exact congrArg (arow m c b R k * ·) ((ld_cols (o := 0) (X0_4 m c t) _ _ h k n ⟨n.val, by omega⟩ (Nat.zero_add _).symm).trans
    (X4_at m c t k _ (ProjRows.qcol n) rfl))

/-- A column of the following 1280 of a sub-tile's row. -/
theorem wide_row (c : Dev nD) (t : Fin cfg0.N) (b : Fin 8) (R : Fin 2304) (r : Fin 256) (j : Fin 1280) (z : Fin 6400) (hz : z.val = 1024 + j.val)
    (v : FVec Ideal S256x1024 .bf16) (off : Fin 3 → Nat) (inb) (h : off = ![0, 0, 1024]) (hv : ∀ k, v (ix2 r k) = arow m c b R k) :
    k0_pay2 v (View.ld (X0_4 m c t) (Rect.unit (s := S1x1024x2304) off ![1, 1024, 1280] inb)) (ix2 r j) = want m c b R z := by
  rw [wide_apply]
  show _ = ∑ k, arow m c b R k * m ((c : Thread nD τ).loc main_arg3) (ix3 1 k z)
  refine Finset.sum_congr rfl fun k _ => ?_
  rw [hv]
  exact congrArg (arow m c b R k * ·) ((ld_cols (o := 1024) (X0_4 m c t) _ _ h k j ⟨1024 + j.val, by omega⟩ rfl).trans (X4_at m c t k _ z hz))

/-- The other branches' share of a sub-tile's row, in its three stores. -/
theorem first_row (c : Dev nD) (t : Fin cfg0.N) (b : Fin 8) (R : Fin 2304) (r : Fin 256) (x : Fin 256) (n : Fin 1024) (hn : n.val = x.val)
    (v : FVec Ideal S256x1024 .bf16) (off : Fin 3 → Nat) (inb) (h : off = ![0, 0, 1024]) (hv : ∀ k, v (ix2 r k) = arow m c b R k) :
    k0_pay3 v (View.ld (X0_4 m c t) (Rect.unit (s := S1x1024x2304) off ![1, 1024, 1280] inb)) (ix3 0 r x) = wantL m c (ix3 b R n) := by
  rw [first_apply]
  refine Eq.trans ?_ (ProjRows.loc_at _ _ _ _ b R n).symm
  unfold ProjRows.loc
  rw [if_pos (by omega)]
  exact wide_row m c t b R r _ _ (by simp only [ProjRows.lcol]; omega) v off inb h hv

theorem second_row (c : Dev nD) (t : Fin cfg0.N) (b : Fin 8) (R : Fin 2304) (r : Fin 256) (x : Fin 256) (n : Fin 1024) (hn : n.val = 256 + x.val)
    (v : FVec Ideal S256x1024 .bf16) (off : Fin 3 → Nat) (inb) (h : off = ![0, 0, 1024]) (hv : ∀ k, v (ix2 r k) = arow m c b R k) :
    k0_pay4 v (View.ld (X0_4 m c t) (Rect.unit (s := S1x1024x2304) off ![1, 1024, 1280] inb)) (ix3 0 r x) = wantL m c (ix3 b R n) := by
  rw [second_apply]
  refine Eq.trans ?_ (ProjRows.loc_at _ _ _ _ b R n).symm
  unfold ProjRows.loc
  rw [if_neg (by omega), if_pos (by omega)]
  exact congrArg₂ (· * ·) (wide_row m c t b R r _ _ (by simp only [ProjRows.lcol]; omega) v off inb h hv)
    (wide_row m c t b R r _ _ (by simp only [ProjRows.rcol]; omega) v off inb h hv)

theorem third_row (c : Dev nD) (t : Fin cfg0.N) (b : Fin 8) (R : Fin 2304) (r : Fin 256) (x : Fin 512) (n : Fin 1024) (hn : n.val = 512 + x.val)
    (v : FVec Ideal S256x1024 .bf16) (off : Fin 3 → Nat) (inb) (h : off = ![0, 0, 1024]) (hv : ∀ k, v (ix2 r k) = arow m c b R k) :
    k0_pay5 v (View.ld (X0_4 m c t) (Rect.unit (s := S1x1024x2304) off ![1, 1024, 1280] inb)) (ix3 0 r x) = wantL m c (ix3 b R n) := by
  rw [third_apply]
  refine Eq.trans ?_ (ProjRows.loc_at _ _ _ _ b R n).symm
  unfold ProjRows.loc
  rw [if_neg (by omega), if_neg (by omega)]
  exact wide_row m c t b R r _ _ (by simp only [ProjRows.rcol]; omega) v off inb h hv

/-- A row of a tile's first output is the reference's row it sits at. -/
theorem pointA (c : Dev nD) (t : Fin cfg0.N) (b : Fin 8) (R : Fin 2304) (r : Fin 768) (n : Fin 1024) (hb : b.val = t.val / 3)
    (hR : R.val = t.val % 3 * 768 + r.val) : (outsAt0 m c t).1 (ix3 0 r n) = wantA m c (ix3 b R n) := by
  unfold outsAt0
  frame_out
  canon_tiles y h
  all_goals
    idx_vars y
    obtain rfl : y0 = 0 := Fin.ext (by omega)
    obtain rfl : n = y2 := Fin.ext (by simpa using h2)
  case piece0 =>
    exact att_row m c t b R y1 n _ _ _ rfl fun k => end_row m c t b R y1 k hb (by omega) _ _ _ _ _ _ _ _ _ _ rfl rfl rfl rfl rfl
  case piece1 =>
    rw [pay17_eq]
    exact att_row m c t b R y1 n _ _ _ rfl fun k => lat_row m c t b R y1 256 k hb (by omega) (by omega) (by omega) _ _ _ _ _ _ rfl rfl rfl
  case piece2 =>
    rw [pay7_eq]
    exact att_row m c t b R y1 n _ _ _ rfl fun k => lat_row m c t b R y1 0 k hb (by omega) (by omega) (by omega) _ _ _ _ _ _ rfl rfl rfl

/-- A row of a tile's second output is the reference's row it sits at. -/
theorem pointL (c : Dev nD) (t : Fin cfg0.N) (b : Fin 8) (R : Fin 2304) (r : Fin 768) (n : Fin 1024) (hb : b.val = t.val / 3)
    (hR : R.val = t.val % 3 * 768 + r.val) : (outsAt0 m c t).2 (ix3 0 r n) = wantL m c (ix3 b R n) := by
  unfold outsAt0
  frame_out
  canon_tiles y h using View.cover_of_tiledBy _ ![1, 256, 256] (by sl_kernel_rfl) _
  all_goals
    idx_vars y
    obtain rfl : y0 = 0 := Fin.ext (by omega)
  case piece0 =>
    exact third_row m c t b R y1 y2 n (by omega) _ _ _ rfl fun k => end_row m c t b R y1 k hb (by omega) _ _ _ _ _ _ _ _ _ _ rfl rfl rfl rfl rfl
  case piece1 =>
    exact second_row m c t b R y1 y2 n (by omega) _ _ _ rfl fun k => end_row m c t b R y1 k hb (by omega) _ _ _ _ _ _ _ _ _ _ rfl rfl rfl rfl rfl
  case piece2 =>
    exact first_row m c t b R y1 y2 n (by omega) _ _ _ rfl fun k => end_row m c t b R y1 k hb (by omega) _ _ _ _ _ _ _ _ _ _ rfl rfl rfl rfl rfl
  case piece3 =>
    rw [pay22_eq]
    exact third_row m c t b R y1 y2 n (by omega) _ _ _ rfl fun k => lat_row m c t b R y1 256 k hb (by omega) (by omega) (by omega) _ _ _ _ _ _ rfl rfl rfl
  case piece4 =>
    rw [pay20_eq]
    exact second_row m c t b R y1 y2 n (by omega) _ _ _ rfl fun k => lat_row m c t b R y1 256 k hb (by omega) (by omega) (by omega) _ _ _ _ _ _ rfl rfl rfl
  case piece5 =>
    rw [pay19_eq]
    exact first_row m c t b R y1 y2 n (by omega) _ _ _ rfl fun k => lat_row m c t b R y1 256 k hb (by omega) (by omega) (by omega) _ _ _ _ _ _ rfl rfl rfl
  case piece6 =>
    rw [pay11_eq]
    exact third_row m c t b R y1 y2 n (by omega) _ _ _ rfl fun k => lat_row m c t b R y1 0 k hb (by omega) (by omega) (by omega) _ _ _ _ _ _ rfl rfl rfl
  case piece7 =>
    rw [pay10_eq]
    exact second_row m c t b R y1 y2 n (by omega) _ _ _ rfl fun k => lat_row m c t b R y1 0 k hb (by omega) (by omega) (by omega) _ _ _ _ _ _ rfl rfl rfl
  case piece8 =>
    rw [pay9_eq]
    exact first_row m c t b R y1 y2 n (by omega) _ _ _ rfl fun k => lat_row m c t b R y1 0 k hb (by omega) (by omega) (by omega) _ _ _ _ _ _ rfl rfl rfl

/-- The first result array after the run. -/
theorem finalA (c : Dev nD) : (dats m 0 c).arrAt 5 (cfgs 0).N = wantA m c := by
  refine (dats m 0 c).arrAt_eq_of_covers 5 _ (by decide +kernel) fun t _ y => ?_
  blk_simp
  rw [after0_5]
  idx_vars y
  obtain rfl : y0 = 0 := Fin.ext (by omega)
  have h8 := (idx t).2.2.2.2.2.2.2.1
  refine (pointA m c t ⟨t.val / 3, h8⟩ ⟨t.val % 3 * 768 + y1.val, by omega⟩ y1 y2 rfl rfl).trans ?_
  blk_ext [idx t]

/-- The second result array after the run. -/
theorem finalL (c : Dev nD) : (dats m 0 c).arrAt 6 (cfgs 0).N = wantL m c := by
  refine (dats m 0 c).arrAt_eq_of_covers 6 _ (by decide +kernel) fun t _ y => ?_
  blk_simp
  rw [after0_6]
  idx_vars y
  obtain rfl : y0 = 0 := Fin.ext (by omega)
  have h8 := (idx t).2.2.2.2.2.2.2.1
  refine (pointL m c t ⟨t.val / 3, h8⟩ ⟨t.val % 3 * 768 + y1.val, by omega⟩ y1 y2 rfl rfl).trans ?_
  blk_ext [idx t]

/-- The run: the results are the reference's, and the arguments end unchanged. -/
theorem run_want (ρ : Dev nD → PrngReg) : θ_run (defs (F := Ideal)) (onTc (τ := τ) (main (F := Ideal))) ⟨m, fun _ => 0, ρ⟩ (fun r => ∀ c : Dev nD,
      r.2.mem ((c.tc : Thread nD τ).loc main_v3_0) = wantA m c
      ∧ r.2.mem ((c.tc : Thread nD τ).loc main_v3_1) = wantL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (finalA m c), (h c).2.1.trans (finalL m c), (h c).2.2⟩) (Cert.ProjIdeal.Value.run_blocks m ρ)

end Cert.ProjKernel
end
-- ==== Proof.MixCarry.lean ====
/-
  The merge calls' idealizations are the same programs read over the extended reals, so their runs are the programs' own.
-/
module

public import proofs.«01_k».proof.Proof.Gen.Merge
public import proofs.«01_k».proof.Proof.Gen.MergeIdeal
public import proofs.«01_k».proof.Proof.Gen.MergeFirst
public import proofs.«01_k».proof.Proof.Gen.MergeFirstIdeal
public import Idealize.ShloMosaic.PureOps.Ideal
public import Idealize.ShloMosaic.Lib.Quiescent

@[expose] public section

set_option maxHeartbeats 40000000
set_option maxRecDepth 100000

noncomputable section

namespace Cert.MixCarry

open Idealize.ShloMosaic Idealize.ShloMosaic.TcCoe Idealize.SL.Sem

/-- The merge of the middle layers: the two programs' bodies are one. -/
theorem defs_merge : Cert.MergeIdeal.defs (F := Ideal) = Cert.Merge.defs (F := Ideal) := by
  have e : Cert.MergeIdeal.defs₀ (F := Ideal) = Cert.Merge.defs₀ (F := Ideal) := by
    unfold Cert.MergeIdeal.defs₀ Cert.Merge.defs₀
    refine congrArg Defs.onTc (funext fun l => funext fun a => ?_)
    match l, a with
    | 0, (t, s) => exact rfl
  exact congrArg (Pipeline.defs Cert.Merge.pcfgs) e

/-- What a run of it establishes, the idealization's run does. -/
theorem merge {m : (ℓ : Loc Cert.MergeIdeal.nD Cert.MergeIdeal.τ Cert.MergeIdeal.sig) → Buf (Elt Ideal) ℓ} {ρ : Dev Cert.MergeIdeal.nD → PrngReg} {Q}
    (h : θ_run (Cert.Merge.defs (F := Ideal)) (onTc (τ := Cert.Merge.τ) (Cert.Merge.main (F := Ideal))) ⟨m, fun _ => 0, ρ⟩ Q) :
    θ_run (Cert.MergeIdeal.defs (F := Ideal)) (onTc (τ := Cert.MergeIdeal.τ) (Cert.MergeIdeal.main (F := Ideal))) ⟨m, fun _ => 0, ρ⟩ Q :=
  Eq.mpr (congrArg (fun D => θ_run D (onTc (τ := Cert.MergeIdeal.τ) (Cert.MergeIdeal.main (F := Ideal))) ⟨m, fun _ => 0, ρ⟩ _) defs_merge) h

/-- The merge of the first layer: the two programs' bodies are one. -/
theorem defs_first : Cert.MergeFirstIdeal.defs (F := Ideal) = Cert.MergeFirst.defs (F := Ideal) := by
  have e : Cert.MergeFirstIdeal.defs₀ (F := Ideal) = Cert.MergeFirst.defs₀ (F := Ideal) := by
    unfold Cert.MergeFirstIdeal.defs₀ Cert.MergeFirst.defs₀
    refine congrArg Defs.onTc (funext fun l => funext fun a => ?_)
    match l, a with
    | 0, (t, s) => exact rfl
  exact congrArg (Pipeline.defs Cert.MergeFirst.pcfgs) e

/-- What a run of it establishes, the idealization's run does. -/
theorem first {m : (ℓ : Loc Cert.MergeFirstIdeal.nD Cert.MergeFirstIdeal.τ Cert.MergeFirstIdeal.sig) → Buf (Elt Ideal) ℓ} {ρ : Dev Cert.MergeFirstIdeal.nD → PrngReg} {Q}
    (h : θ_run (Cert.MergeFirst.defs (F := Ideal)) (onTc (τ := Cert.MergeFirst.τ) (Cert.MergeFirst.main (F := Ideal))) ⟨m, fun _ => 0, ρ⟩ Q) :
    θ_run (Cert.MergeFirstIdeal.defs (F := Ideal)) (onTc (τ := Cert.MergeFirstIdeal.τ) (Cert.MergeFirstIdeal.main (F := Ideal))) ⟨m, fun _ => 0, ρ⟩ Q :=
  Eq.mpr (congrArg (fun D => θ_run D (onTc (τ := Cert.MergeFirstIdeal.τ) (Cert.MergeFirstIdeal.main (F := Ideal))) ⟨m, fun _ => 0, ρ⟩ _) defs_first) h

end Cert.MixCarry
end
-- ==== Proof.FirstRun.lean ====
/-
  The run of the body of the first layer's merge kernel.
-/
module

public import proofs.«01_k».proof.Proof.Gen.MergeFirst.Frame.Runs

@[expose] public section

set_option maxRecDepth 16384

noncomputable section

namespace Cert.FirstRun

open Cert.MergeFirst Cert.MergeFirst.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body's run on whole staging buffers, with the pieces its stores leave in the output's. -/
noncomputable def kernelRun0_A (c : Dev nD) (i : grid0.Coords) (arg2 : Memref sig .tc .vmem S1x768x1024 .f32) (harg2 : arg2.IsWhole) (arg3 : Memref sig .tc .vmem S1x512x1024 .f32) (harg3 : arg3.IsWhole) (arg4 : Memref sig .tc .vmem S1x256x1024 .f32) (harg4 : arg4.IsWhole) (arg5 : Memref sig .tc .vmem S1x1x6144 .f32) (harg5 : arg5.IsWhole) (arg6 : Memref sig .tc .vmem S1x1x6144 .f32) (harg6 : arg6.IsWhole) (arg7 : Memref sig .tc .vmem S1x1x1024 .f32) (harg7 : arg7.IsWhole) (arg8 : Memref sig .tc .vmem S1x768x256 .f32) (harg8 : arg8.IsWhole) (arg9 : Memref sig .tc .vmem S1x768x256 .f32) (harg9 : arg9.IsWhole) (arg10 : Memref sig .tc .vmem S1x768x256 .bf16) (harg10 : arg10.IsWhole) (arg11 : Memref sig .tc .vmem S1x1x256 .f32) (harg11 : arg11.IsWhole) (arg12 : Memref sig .tc .vmem S1x256x256 .bf16) (harg12 : arg12.IsWhole) (arg13 : Memref sig .tc .vmem S1x1x256 .f32) (harg13 : arg13.IsWhole) (arg14 : Memref sig .tc .vmem S1x768x256 .bf16) (harg14 : arg14.IsWhole) (arg15 : Memref sig .tc .vmem S1x512x256 .bf16) (harg15 : arg15.IsWhole) (arg16 : Memref sig .tc .vmem S1x256x256 .bf16) (harg16 : arg16.IsWhole) (arg17 : Memref sig .tc .vmem S1x768x256 .f32) (harg17 : arg17.IsWhole) (arg18 : Memref sig .tc .vmem S1x768x256 .f32) (harg18 : arg18.IsWhole) (arg19 : Memref sig .tc .vmem S1x8x256 .f32) (harg19 : arg19.IsWhole) (arg20 : Memref sig .tc .vmem S1x8x256 .f32) (harg20 : arg20.IsWhole) (arg21 : Memref sig .tc .vmem S1x768x256 .f32) (harg21 : arg21.IsWhole) (arg22 : Memref sig .tc .vmem S1x768x256 .f32) (harg22 : arg22.IsWhole) (arg23 : Memref sig .tc .vmem S1x3x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x128x512 .bf16) (harg26 : arg26.IsWhole) (arg27 : Memref sig .tc .vmem S1x128x256 .f32) (harg27 : arg27.IsWhole) (arg28 : Memref sig .tc .vmem S1x1024x6400 .bf16) (harg28 : arg28.IsWhole) (arg29 : Memref sig .tc .vmem S1x4x256x1024 .bf16) (harg29 : arg29.IsWhole) (arg30 : Memref sig .tc .vmem S1x1024x1024 .bf16) (harg30 : arg30.IsWhole) (arg31 : Memref sig .tc .vmem S1x768x1024 .f32) (harg31 : arg31.IsWhole)
    (x0 : Vec F S1x768x1024 .f32) (x1 : Vec F S1x512x1024 .f32) (x2 : Vec F S1x256x1024 .f32) (x3 : Vec F S1x1x6144 .f32) (x4 : Vec F S1x1x6144 .f32) (x5 : Vec F S1x1x1024 .f32) (x6 : Vec F S1x768x256 .f32) (x7 : Vec F S1x768x256 .f32) (x8 : Vec F S1x768x256 .bf16) (x9 : Vec F S1x1x256 .f32) (x10 : Vec F S1x256x256 .bf16) (x11 : Vec F S1x1x256 .f32) (x12 : Vec F S1x768x256 .bf16) (x13 : Vec F S1x512x256 .bf16) (x14 : Vec F S1x256x256 .bf16) (x15 : Vec F S1x768x256 .f32) (x16 : Vec F S1x768x256 .f32) (x17 : Vec F S1x8x256 .f32) (x18 : Vec F S1x8x256 .f32) (x19 : Vec F S1x768x256 .f32) (x20 : Vec F S1x768x256 .f32) (x21 : Vec F S1x3x256 .f32) (x22 : Vec F S1x1x256 .f32) (x23 : Vec F S1x1x256 .f32) (x24 : Vec F S1x128x512 .bf16) (x25 : Vec F S1x128x256 .f32) (x26 : Vec F S1x1024x6400 .bf16) (x27 : Vec F S1x4x256x1024 .bf16) (x28 : Vec F S1x1024x1024 .bf16) :
    { L29 : List (View.Piece (Elt F) S1x768x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ f, arg31.view.loc (c : Thread nD τ) ↦[arg31.view.set]{fullShare} arg31.view.writes (Elt F) f L29)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, fun E K => ?run⟩
  case run =>
    simp only [cc0_merge_eq_skeleton]; unfold cc0_merge_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    iexists _; iexact H29

end Cert.FirstRun

end
-- ==== Proof.FirstFrame.lean ====
/-
  The frame of the first layer's merge kernel's run: the points' triple, the run, and the arguments unchanged.
-/
module

public import proofs.«01_k».proof.Proof.FirstRun
public import Idealize.ShloMosaic.Lib.Claim

@[expose] public section

set_option maxRecDepth 16384

noncomputable section

namespace Cert.FirstRun

open Cert.MergeFirst Cert.MergeFirst.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The three stores cover the output's block. -/
theorem cover0_A_29 (c : Dev nD) (i : grid0.Coords) (arg2 : Memref sig .tc .vmem S1x768x1024 .f32) (harg2 : arg2.IsWhole) (arg3 : Memref sig .tc .vmem S1x512x1024 .f32) (harg3 : arg3.IsWhole) (arg4 : Memref sig .tc .vmem S1x256x1024 .f32) (harg4 : arg4.IsWhole) (arg5 : Memref sig .tc .vmem S1x1x6144 .f32) (harg5 : arg5.IsWhole) (arg6 : Memref sig .tc .vmem S1x1x6144 .f32) (harg6 : arg6.IsWhole) (arg7 : Memref sig .tc .vmem S1x1x1024 .f32) (harg7 : arg7.IsWhole) (arg8 : Memref sig .tc .vmem S1x768x256 .f32) (harg8 : arg8.IsWhole) (arg9 : Memref sig .tc .vmem S1x768x256 .f32) (harg9 : arg9.IsWhole) (arg10 : Memref sig .tc .vmem S1x768x256 .bf16) (harg10 : arg10.IsWhole) (arg11 : Memref sig .tc .vmem S1x1x256 .f32) (harg11 : arg11.IsWhole) (arg12 : Memref sig .tc .vmem S1x256x256 .bf16) (harg12 : arg12.IsWhole) (arg13 : Memref sig .tc .vmem S1x1x256 .f32) (harg13 : arg13.IsWhole) (arg14 : Memref sig .tc .vmem S1x768x256 .bf16) (harg14 : arg14.IsWhole) (arg15 : Memref sig .tc .vmem S1x512x256 .bf16) (harg15 : arg15.IsWhole) (arg16 : Memref sig .tc .vmem S1x256x256 .bf16) (harg16 : arg16.IsWhole) (arg17 : Memref sig .tc .vmem S1x768x256 .f32) (harg17 : arg17.IsWhole) (arg18 : Memref sig .tc .vmem S1x768x256 .f32) (harg18 : arg18.IsWhole) (arg19 : Memref sig .tc .vmem S1x8x256 .f32) (harg19 : arg19.IsWhole) (arg20 : Memref sig .tc .vmem S1x8x256 .f32) (harg20 : arg20.IsWhole) (arg21 : Memref sig .tc .vmem S1x768x256 .f32) (harg21 : arg21.IsWhole) (arg22 : Memref sig .tc .vmem S1x768x256 .f32) (harg22 : arg22.IsWhole) (arg23 : Memref sig .tc .vmem S1x3x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x128x512 .bf16) (harg26 : arg26.IsWhole) (arg27 : Memref sig .tc .vmem S1x128x256 .f32) (harg27 : arg27.IsWhole) (arg28 : Memref sig .tc .vmem S1x1024x6400 .bf16) (harg28 : arg28.IsWhole) (arg29 : Memref sig .tc .vmem S1x4x256x1024 .bf16) (harg29 : arg29.IsWhole) (arg30 : Memref sig .tc .vmem S1x1024x1024 .bf16) (harg30 : arg30.IsWhole) (arg31 : Memref sig .tc .vmem S1x768x1024 .f32) (harg31 : arg31.IsWhole)
    (x0 : Vec F S1x768x1024 .f32) (x1 : Vec F S1x512x1024 .f32) (x2 : Vec F S1x256x1024 .f32) (x3 : Vec F S1x1x6144 .f32) (x4 : Vec F S1x1x6144 .f32) (x5 : Vec F S1x1x1024 .f32) (x6 : Vec F S1x768x256 .f32) (x7 : Vec F S1x768x256 .f32) (x8 : Vec F S1x768x256 .bf16) (x9 : Vec F S1x1x256 .f32) (x10 : Vec F S1x256x256 .bf16) (x11 : Vec F S1x1x256 .f32) (x12 : Vec F S1x768x256 .bf16) (x13 : Vec F S1x512x256 .bf16) (x14 : Vec F S1x256x256 .bf16) (x15 : Vec F S1x768x256 .f32) (x16 : Vec F S1x768x256 .f32) (x17 : Vec F S1x8x256 .f32) (x18 : Vec F S1x8x256 .f32) (x19 : Vec F S1x768x256 .f32) (x20 : Vec F S1x768x256 .f32) (x21 : Vec F S1x3x256 .f32) (x22 : Vec F S1x1x256 .f32) (x23 : Vec F S1x1x256 .f32) (x24 : Vec F S1x128x512 .bf16) (x25 : Vec F S1x128x256 .f32) (x26 : Vec F S1x1024x6400 .bf16) (x27 : Vec F S1x4x256x1024 .bf16) (x28 : Vec F S1x1024x1024 .bf16) (y : S1x768x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 x23 x24 x25 x26 x27 x28).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 x23 x24 x25 x26 x27 x28).1 S1x256x1024.size (by sl_kernel_rfl) y

/-- What the run leaves in the output's buffer. -/
def out0_A_29 (c : Dev nD) (i : grid0.Coords) (arg2 : Memref sig .tc .vmem S1x768x1024 .f32) (harg2 : arg2.IsWhole) (arg3 : Memref sig .tc .vmem S1x512x1024 .f32) (harg3 : arg3.IsWhole) (arg4 : Memref sig .tc .vmem S1x256x1024 .f32) (harg4 : arg4.IsWhole) (arg5 : Memref sig .tc .vmem S1x1x6144 .f32) (harg5 : arg5.IsWhole) (arg6 : Memref sig .tc .vmem S1x1x6144 .f32) (harg6 : arg6.IsWhole) (arg7 : Memref sig .tc .vmem S1x1x1024 .f32) (harg7 : arg7.IsWhole) (arg8 : Memref sig .tc .vmem S1x768x256 .f32) (harg8 : arg8.IsWhole) (arg9 : Memref sig .tc .vmem S1x768x256 .f32) (harg9 : arg9.IsWhole) (arg10 : Memref sig .tc .vmem S1x768x256 .bf16) (harg10 : arg10.IsWhole) (arg11 : Memref sig .tc .vmem S1x1x256 .f32) (harg11 : arg11.IsWhole) (arg12 : Memref sig .tc .vmem S1x256x256 .bf16) (harg12 : arg12.IsWhole) (arg13 : Memref sig .tc .vmem S1x1x256 .f32) (harg13 : arg13.IsWhole) (arg14 : Memref sig .tc .vmem S1x768x256 .bf16) (harg14 : arg14.IsWhole) (arg15 : Memref sig .tc .vmem S1x512x256 .bf16) (harg15 : arg15.IsWhole) (arg16 : Memref sig .tc .vmem S1x256x256 .bf16) (harg16 : arg16.IsWhole) (arg17 : Memref sig .tc .vmem S1x768x256 .f32) (harg17 : arg17.IsWhole) (arg18 : Memref sig .tc .vmem S1x768x256 .f32) (harg18 : arg18.IsWhole) (arg19 : Memref sig .tc .vmem S1x8x256 .f32) (harg19 : arg19.IsWhole) (arg20 : Memref sig .tc .vmem S1x8x256 .f32) (harg20 : arg20.IsWhole) (arg21 : Memref sig .tc .vmem S1x768x256 .f32) (harg21 : arg21.IsWhole) (arg22 : Memref sig .tc .vmem S1x768x256 .f32) (harg22 : arg22.IsWhole) (arg23 : Memref sig .tc .vmem S1x3x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x128x512 .bf16) (harg26 : arg26.IsWhole) (arg27 : Memref sig .tc .vmem S1x128x256 .f32) (harg27 : arg27.IsWhole) (arg28 : Memref sig .tc .vmem S1x1024x6400 .bf16) (harg28 : arg28.IsWhole) (arg29 : Memref sig .tc .vmem S1x4x256x1024 .bf16) (harg29 : arg29.IsWhole) (arg30 : Memref sig .tc .vmem S1x1024x1024 .bf16) (harg30 : arg30.IsWhole) (arg31 : Memref sig .tc .vmem S1x768x1024 .f32) (harg31 : arg31.IsWhole)
    (x0 : Vec F S1x768x1024 .f32) (x1 : Vec F S1x512x1024 .f32) (x2 : Vec F S1x256x1024 .f32) (x3 : Vec F S1x1x6144 .f32) (x4 : Vec F S1x1x6144 .f32) (x5 : Vec F S1x1x1024 .f32) (x6 : Vec F S1x768x256 .f32) (x7 : Vec F S1x768x256 .f32) (x8 : Vec F S1x768x256 .bf16) (x9 : Vec F S1x1x256 .f32) (x10 : Vec F S1x256x256 .bf16) (x11 : Vec F S1x1x256 .f32) (x12 : Vec F S1x768x256 .bf16) (x13 : Vec F S1x512x256 .bf16) (x14 : Vec F S1x256x256 .bf16) (x15 : Vec F S1x768x256 .f32) (x16 : Vec F S1x768x256 .f32) (x17 : Vec F S1x8x256 .f32) (x18 : Vec F S1x8x256 .f32) (x19 : Vec F S1x768x256 .f32) (x20 : Vec F S1x768x256 .f32) (x21 : Vec F S1x3x256 .f32) (x22 : Vec F S1x1x256 .f32) (x23 : Vec F S1x1x256 .f32) (x24 : Vec F S1x128x512 .bf16) (x25 : Vec F S1x128x256 .f32) (x26 : Vec F S1x1024x6400 .bf16) (x27 : Vec F S1x4x256x1024 .bf16) (x28 : Vec F S1x1024x1024 .bf16) : Vec F S1x768x1024 .f32 :=
  VO0_29.read (Elt F) (VO0_29.writes (Elt F) VO0_29.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 x23 x24 x25 x26 x27 x28).1)

/-! ## What the outputs hold after each point -/

/-- What the output's buffer holds after the body at a point. -/
def outsAt0 (c : Dev nD) (t : Fin cfg0.N) : Vec F S1x768x1024 .f32 :=
  out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (X0_12 m c t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

/-! ## The pipeline's proof data -/

/-- The pipeline's data on a core: the arrays as the region finds them, and what each buffer holds after a point's body. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => X0_12 m c t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => (outsAt0 m c t)
    | ⟨_ + 30, h⟩ => absurd h (Nat.not_lt.2 (Nat.le_add_left _ _))
  Φ _ := Pipeline.ΦA spec0 c
  q w := Pipeline.shareOf spec0 w
  owed _ := 0

/-- The arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = X0_12 m c t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = (outsAt0 m c t) := by dsimp only [dats]

/-- Each input's buffer holds its block at every point. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = X0_12 m c t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d

/-! ## The body obligation, at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 2800000 in
/-- The body at any point: the inputs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  unfold outsAt0
  unfold out0_A_29
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (X0_12 m c t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  iintro ⟨H0, H1, H2, H3, H4, H5, H6, H7, H8, H9, H10, H11, H12, H13, H14, H15, H16, H17, H18, H19, H20, H21, H22, H23, H24, H25, H26, H27, H28, ⟨%e29, H29⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  unfold owns; iexists _; isplitr
  swap; · iexact H29
  ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body's row at a point's slots. -/
theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- What the launch asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch: the run ends, with every array of the pipeline at what the data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.FirstRun

end
-- ==== Proof.FirstBlocks.lean ====
/-
  What the first layer's merge kernel's windows hold at a grid point, of the arguments.
-/
module

public import proofs.«01_k».proof.Proof.FirstFrame
public import proofs.«01_k».proof.Proof.Mix
public import Idealize.ShloMosaic.Lib.Pipeline.ValueKit

@[expose] public section

set_option maxRecDepth 16384

noncomputable section

namespace Cert.FirstBlocks

open Cert.MergeFirst Cert.MergeFirst.Gen Idealize.ShloMosaic Idealize.ShloMosaic.TcCoe Idealize.SL.Sem
open Cert.Mix

variable (m : (ℓ : Loc nD τ sig) → Buf (Elt Ideal) ℓ)

/-- A grid point's batch and tile. -/
theorem coords : ∀ t : Fin cfg0.N, t.val / 3 < 8 ∧ (grid0.coords t 1).val = t.val % 3 :=
  (by decide +kernel : ∀ t : Fin grid0.N, t.val / 3 < 8 ∧ (grid0.coords t 1).val = t.val % 3)

theorem idx0 : ∀ t : Fin cfg0.N, win0_0.index t = ![t.val / 3, min (t.val % 3) 1, 0] :=
  (by decide +kernel : ∀ t : Fin grid0.N, win0_0.index t = ![t.val / 3, min (t.val % 3) 1, 0])
theorem idx1 : ∀ t : Fin cfg0.N, win0_1.index t = ![t.val / 3, 3, 0] :=
  (by decide +kernel : ∀ t : Fin grid0.N, win0_1.index t = ![t.val / 3, 3, 0])
theorem idx2 : ∀ t : Fin cfg0.N, win0_2.index t = ![t.val / 3, 0, 0] :=
  (by decide +kernel : ∀ t : Fin grid0.N, win0_2.index t = ![t.val / 3, 0, 0])
theorem idx3 : ∀ t : Fin cfg0.N, win0_3.index t = ![t.val / 3, 0, 0] :=
  (by decide +kernel : ∀ t : Fin grid0.N, win0_3.index t = ![t.val / 3, 0, 0])
theorem idx4 : ∀ t : Fin cfg0.N, win0_4.index t = ![8, 0, 0] :=
  (by decide +kernel : ∀ t : Fin grid0.N, win0_4.index t = ![8, 0, 0])
theorem idx5 : ∀ t : Fin cfg0.N, win0_5.index t = ![0, 0, 0] :=
  (by decide +kernel : ∀ t : Fin grid0.N, win0_5.index t = ![0, 0, 0])
theorem idx6 : ∀ t : Fin cfg0.N, win0_6.index t = ![t.val / 3, t.val % 3, 0] :=
  (by decide +kernel : ∀ t : Fin grid0.N, win0_6.index t = ![t.val / 3, t.val % 3, 0])
theorem idx7 : ∀ t : Fin cfg0.N, win0_7.index t = ![t.val / 3, t.val % 3, 0] :=
  (by decide +kernel : ∀ t : Fin grid0.N, win0_7.index t = ![t.val / 3, t.val % 3, 0])
theorem idx8 : ∀ t : Fin cfg0.N, win0_8.index t = ![t.val / 3, t.val % 3, 0] :=
  (by decide +kernel : ∀ t : Fin grid0.N, win0_8.index t = ![t.val / 3, t.val % 3, 0])
theorem idx9 : ∀ t : Fin cfg0.N, win0_9.index t = ![0, 0, 0] :=
  (by decide +kernel : ∀ t : Fin grid0.N, win0_9.index t = ![0, 0, 0])
theorem idx10 : ∀ t : Fin cfg0.N, win0_10.index t = ![0, 0, 0] :=
  (by decide +kernel : ∀ t : Fin grid0.N, win0_10.index t = ![0, 0, 0])
theorem idx11 : ∀ t : Fin cfg0.N, win0_11.index t = ![0, 0, 0] :=
  (by decide +kernel : ∀ t : Fin grid0.N, win0_11.index t = ![0, 0, 0])
theorem idx13 : ∀ t : Fin cfg0.N, win0_13.index t = ![t.val / 3, 3, 0] :=
  (by decide +kernel : ∀ t : Fin grid0.N, win0_13.index t = ![t.val / 3, 3, 0])
theorem idx14 : ∀ t : Fin cfg0.N, win0_14.index t = ![t.val / 3, 0, 0] :=
  (by decide +kernel : ∀ t : Fin grid0.N, win0_14.index t = ![t.val / 3, 0, 0])
theorem idx15 : ∀ t : Fin cfg0.N, win0_15.index t = ![t.val / 3, t.val % 3, 0] :=
  (by decide +kernel : ∀ t : Fin grid0.N, win0_15.index t = ![t.val / 3, t.val % 3, 0])
theorem idx16 : ∀ t : Fin cfg0.N, win0_16.index t = ![t.val / 3, t.val % 3, 1] :=
  (by decide +kernel : ∀ t : Fin grid0.N, win0_16.index t = ![t.val / 3, t.val % 3, 1])
theorem idx17 : ∀ t : Fin cfg0.N, win0_17.index t = ![t.val / 3, t.val % 3 * 96 - 1, 1] :=
  (by decide +kernel : ∀ t : Fin grid0.N, win0_17.index t = ![t.val / 3, t.val % 3 * 96 - 1, 1])
theorem idx18 : ∀ t : Fin cfg0.N, win0_18.index t = ![t.val / 3, min (t.val % 3 * 96 + 96) 287, 1] :=
  (by decide +kernel : ∀ t : Fin grid0.N, win0_18.index t = ![t.val / 3, min (t.val % 3 * 96 + 96) 287, 1])
theorem idx19 : ∀ t : Fin cfg0.N, win0_19.index t = ![t.val / 3, t.val % 3, 2] :=
  (by decide +kernel : ∀ t : Fin grid0.N, win0_19.index t = ![t.val / 3, t.val % 3, 2])
theorem idx20 : ∀ t : Fin cfg0.N, win0_20.index t = ![t.val / 3, t.val % 3, 3] :=
  (by decide +kernel : ∀ t : Fin grid0.N, win0_20.index t = ![t.val / 3, t.val % 3, 3])
theorem idx21 : ∀ t : Fin cfg0.N, win0_21.index t = ![0, 0, 0] :=
  (by decide +kernel : ∀ t : Fin grid0.N, win0_21.index t = ![0, 0, 0])
theorem idx22 : ∀ t : Fin cfg0.N, win0_22.index t = ![0, 0, 0] :=
  (by decide +kernel : ∀ t : Fin grid0.N, win0_22.index t = ![0, 0, 0])
theorem idx23 : ∀ t : Fin cfg0.N, win0_23.index t = ![0, 0, 0] :=
  (by decide +kernel : ∀ t : Fin grid0.N, win0_23.index t = ![0, 0, 0])
theorem idx24 : ∀ t : Fin cfg0.N, win0_24.index t = ![0, 0, 0] :=
  (by decide +kernel : ∀ t : Fin grid0.N, win0_24.index t = ![0, 0, 0])
theorem idx25 : ∀ t : Fin cfg0.N, win0_25.index t = ![0, 0, 0] :=
  (by decide +kernel : ∀ t : Fin grid0.N, win0_25.index t = ![0, 0, 0])
theorem idx26 : ∀ t : Fin cfg0.N, win0_26.index t = ![0, 0, 0] :=
  (by decide +kernel : ∀ t : Fin grid0.N, win0_26.index t = ![0, 0, 0])
theorem idx27 : ∀ t : Fin cfg0.N, win0_27.index t = ![0, 0, 0, 0] :=
  (by decide +kernel : ∀ t : Fin grid0.N, win0_27.index t = ![0, 0, 0, 0])
theorem idx28 : ∀ t : Fin cfg0.N, win0_28.index t = ![0, 0, 0] :=
  (by decide +kernel : ∀ t : Fin grid0.N, win0_28.index t = ![0, 0, 0])
theorem idx29 : ∀ t : Fin cfg0.N, win0_29.index t = ![t.val / 3, t.val % 3, 0] :=
  (by decide +kernel : ∀ t : Fin grid0.N, win0_29.index t = ![t.val / 3, t.val % 3, 0])
/-- The clipped window's block is a batch's last tile in the batch's last tile but one, and after. -/
theorem idx12 : ∀ t : Fin cfg0.N, win0_12.index t = ![t.val / 3, min (t.val % 3) 1, 0] :=
  (by decide +kernel : ∀ t : Fin grid0.N, win0_12.index t = ![t.val / 3, min (t.val % 3) 1, 0])

/-- The latents' window, at the rows that lie in the latents. -/
theorem X0_at (c : Dev nD) (t : Fin cfg0.N) (b : Fin 8) (R : Fin 2048) (r : Fin 768) (k : Fin 1024) (hb : b.val = t.val / 3)
    (hR : R.val = t.val % 3 * 768 + r.val) (h : t.val % 3 < 2) :
    X0_0 m c t (ix3 0 r k) = m ((c : Thread nD τ).loc main_arg0) (ix3 b R k) := by
  refine Eq.trans (dif_pos (moved0_0 t _)) ?_
  blk_ext [iblk, V, idx0 t]

theorem iblk1_at (c : Dev nD) (t : Fin cfg0.N) (b : Fin 8) (R : Fin 2048) (r : Fin 512) (k : Fin 1024) (hb : b.val = t.val / 3) (hR : R.val = 1536 + r.val) :
    iblk m c 1 t (ix3 0 r k) = m ((c : Thread nD τ).loc main_arg0) (ix3 b R k) := by
  blk_ext [iblk, V, idx1 t]

theorem iblk2_at (c : Dev nD) (t : Fin cfg0.N) (b : Fin 8) (r : Fin 256) (k : Fin 1024) (hb : b.val = t.val / 3) :
    iblk m c 2 t (ix3 0 r k) = m ((c : Thread nD τ).loc main_arg1) (ix3 b r k) := by
  blk_ext [iblk, V, idx2 t]

theorem iblk3_at (c : Dev nD) (t : Fin cfg0.N) (b : Fin 16) (k : Fin 6144) (hb : b.val = t.val / 3) :
    iblk m c 3 t (ix3 0 0 k) = m ((c : Thread nD τ).loc main_arg2) (ix3 0 b k) := by
  have h8 := (coords t).1
  blk_simp [iblk, idx3 t]
  entry_read
  pointwise []
  blk_ext [idx3 t]

theorem iblk4_at (c : Dev nD) (t : Fin cfg0.N) (k : Fin 6144) :
    iblk m c 4 t (ix3 0 0 k) = m ((c : Thread nD τ).loc main_arg2) (ix3 0 8 k) := by
  blk_simp [iblk, idx4 t]
  entry_read
  pointwise []
  blk_ext [idx4 t]

theorem iblk5_at (c : Dev nD) (t : Fin cfg0.N) (k : Fin 1024) :
    iblk m c 5 t (ix3 0 0 k) = m ((c : Thread nD τ).loc main_arg3) (ix3 0 0 k) := by
  blk_simp [iblk, idx5 t]
  entry_read
  pointwise []
  blk_ext [idx5 t]

theorem iblk6_at (c : Dev nD) (t : Fin cfg0.N) (b : Fin 8) (R : Fin 2304) (r : Fin 768) (k : Fin 256) (hb : b.val = t.val / 3) (hR : R.val = t.val % 3 * 768 + r.val) :
    iblk m c 6 t (ix3 0 r k) = m ((c : Thread nD τ).loc main_arg4) (ix3 b R k) := by
  blk_ext [iblk, V, idx6 t]

theorem iblk7_at (c : Dev nD) (t : Fin cfg0.N) (b : Fin 8) (R : Fin 2304) (r : Fin 768) (k : Fin 256) (hb : b.val = t.val / 3) (hR : R.val = t.val % 3 * 768 + r.val) :
    iblk m c 7 t (ix3 0 r k) = m ((c : Thread nD τ).loc main_arg5) (ix3 b R k) := by
  blk_ext [iblk, V, idx7 t]

theorem iblk8_at (c : Dev nD) (t : Fin cfg0.N) (b : Fin 8) (R : Fin 2304) (r : Fin 768) (k : Fin 256) (hb : b.val = t.val / 3) (hR : R.val = t.val % 3 * 768 + r.val) :
    iblk m c 8 t (ix3 0 r k) = m ((c : Thread nD τ).loc main_arg6) (ix3 b R (piece 0 k)) := by
  blk_ext [iblk, V, idx8 t]
  simp [Mix.piece]

theorem iblk9_at (c : Dev nD) (t : Fin cfg0.N) (k : Fin 256) :
    iblk m c 9 t (ix3 0 0 k) = m ((c : Thread nD τ).loc main_arg7) (ix2 0 k) := by
  blk_simp [iblk, idx9 t]
  entry_read
  pointwise []
  blk_ext [idx9 t]

theorem iblk10_at (c : Dev nD) (t : Fin cfg0.N) (k f : Fin 256) :
    iblk m c 10 t (ix3 0 k f) = m ((c : Thread nD τ).loc main_arg8) (ix3 0 k f) := by
  blk_simp [iblk, idx10 t]
  entry_read
  pointwise []
  blk_ext [idx10 t]

theorem iblk11_at (c : Dev nD) (t : Fin cfg0.N) (k : Fin 256) :
    iblk m c 11 t (ix3 0 0 k) = m ((c : Thread nD τ).loc main_arg9) (ix2 0 k) := by
  blk_simp [iblk, idx11 t]
  entry_read
  pointwise []
  blk_ext [idx11 t]

theorem iblk13_at (c : Dev nD) (t : Fin cfg0.N) (b : Fin 8) (R : Fin 2048) (r : Fin 512) (k : Fin 256) (hb : b.val = t.val / 3) (hR : R.val = 1536 + r.val) :
    iblk m c 13 t (ix3 0 r k) = m ((c : Thread nD τ).loc main_arg10) (ix3 b R k) := by
  blk_ext [iblk, V, idx13 t]

theorem iblk14_at (c : Dev nD) (t : Fin cfg0.N) (b : Fin 8) (r k : Fin 256) (hb : b.val = t.val / 3) :
    iblk m c 14 t (ix3 0 r k) = m ((c : Thread nD τ).loc main_arg11) (ix3 b r k) := by
  blk_ext [iblk, V, idx14 t]

theorem iblk15_at (c : Dev nD) (t : Fin cfg0.N) (b : Fin 8) (R : Fin 2304) (r : Fin 768) (k : Fin 256) (hb : b.val = t.val / 3) (hR : R.val = t.val % 3 * 768 + r.val) :
    iblk m c 15 t (ix3 0 r k) = m ((c : Thread nD τ).loc main_arg12) (ix3 b R (piece 0 k)) := by
  blk_ext [iblk, V, idx15 t]
  simp [Mix.piece]

theorem iblk16_at (c : Dev nD) (t : Fin cfg0.N) (b : Fin 8) (R : Fin 2304) (r : Fin 768) (k : Fin 256) (hb : b.val = t.val / 3) (hR : R.val = t.val % 3 * 768 + r.val) :
    iblk m c 16 t (ix3 0 r k) = m ((c : Thread nD τ).loc main_arg12) (ix3 b R (piece 1 k)) := by
  blk_ext [iblk, V, idx16 t]
  simp [Mix.piece]

theorem iblk19_at (c : Dev nD) (t : Fin cfg0.N) (b : Fin 8) (R : Fin 2304) (r : Fin 768) (k : Fin 256) (hb : b.val = t.val / 3) (hR : R.val = t.val % 3 * 768 + r.val) :
    iblk m c 19 t (ix3 0 r k) = m ((c : Thread nD τ).loc main_arg12) (ix3 b R (piece 2 k)) := by
  blk_ext [iblk, V, idx19 t]
  simp [Mix.piece]

theorem iblk20_at (c : Dev nD) (t : Fin cfg0.N) (b : Fin 8) (R : Fin 2304) (r : Fin 768) (k : Fin 256) (hb : b.val = t.val / 3) (hR : R.val = t.val % 3 * 768 + r.val) :
    iblk m c 20 t (ix3 0 r k) = m ((c : Thread nD τ).loc main_arg12) (ix3 b R (piece 3 k)) := by
  blk_ext [iblk, V, idx20 t]
  simp [Mix.piece]

theorem iblk17_at (c : Dev nD) (t : Fin cfg0.N) (b : Fin 8) (R : Fin 2304) (k : Fin 256) (hb : b.val = t.val / 3) (hR : R.val + 1 = t.val % 3 * 768) :
    iblk m c 17 t (ix3 0 7 k) = m ((c : Thread nD τ).loc main_arg12) (ix3 b R (piece 1 k)) := by
  blk_ext [iblk, V, idx17 t]
  simp [Mix.piece]

theorem iblk18_at (c : Dev nD) (t : Fin cfg0.N) (b : Fin 8) (R : Fin 2304) (k : Fin 256) (hb : b.val = t.val / 3) (hR : R.val = t.val % 3 * 768 + 768) :
    iblk m c 18 t (ix3 0 0 k) = m ((c : Thread nD τ).loc main_arg12) (ix3 b R (piece 1 k)) := by
  blk_ext [iblk, V, idx18 t]
  simp [Mix.piece]

theorem iblk21_at (c : Dev nD) (t : Fin cfg0.N) (i : Fin 3) (k : Fin 256) :
    iblk m c 21 t (ix3 0 i k) = m ((c : Thread nD τ).loc main_arg13) (ix3 0 i k) := by
  blk_ext [iblk, V, idx21 t]

theorem iblk22_at (c : Dev nD) (t : Fin cfg0.N) (k : Fin 256) :
    iblk m c 22 t (ix3 0 0 k) = m ((c : Thread nD τ).loc main_arg14) (ix2 0 k) := by
  blk_simp [iblk, idx22 t]
  entry_read
  pointwise []
  blk_ext [idx22 t]

theorem iblk23_at (c : Dev nD) (t : Fin cfg0.N) (k : Fin 256) :
    iblk m c 23 t (ix3 0 0 k) = m ((c : Thread nD τ).loc main_arg15) (ix2 0 k) := by
  blk_simp [iblk, idx23 t]
  entry_read
  pointwise []
  blk_ext [idx23 t]

theorem iblk24_at (c : Dev nD) (t : Fin cfg0.N) (g : Fin 4) (i s : Fin 128) :
    iblk m c 24 t (ix3 0 i (slot g s)) = m ((c : Thread nD τ).loc main_arg16) (ix4 0 g i s) := by
  blk_simp [iblk, idx24 t]
  entry_read
  pointwise []
  blk_ext [idx24 t]
  all_goals
    simp only [slot]
    omega

theorem iblk25_at (c : Dev nD) (t : Fin cfg0.N) (i : Fin 128) (k : Fin 256) :
    iblk m c 25 t (ix3 0 i k) = m ((c : Thread nD τ).loc main_arg17) (ix3 0 (grp k) i) := by
  blk_simp [iblk, idx25 t]
  entry_read
  pointwise []
  blk_ext [idx25 t]
  rfl

theorem iblk26_at (c : Dev nD) (t : Fin cfg0.N) (k : Fin 1024) (n : Fin 6400) :
    iblk m c 26 t (ix3 0 k n) = m ((c : Thread nD τ).loc main_arg18) (ix3 0 k n) := by
  blk_simp [iblk, idx26 t]
  entry_read
  pointwise []
  blk_ext [idx26 t]

theorem iblk27_at (c : Dev nD) (t : Fin cfg0.N) (i : Fin 4) (k : Fin 256) (n : Fin 1024) :
    iblk m c 27 t (ix4 0 i k n) = m ((c : Thread nD τ).loc main_arg19) (ix4 0 i k n) := by
  blk_simp [iblk, idx27 t]
  entry_read
  pointwise []
  blk_ext [idx27 t]

theorem iblk28_at (c : Dev nD) (t : Fin cfg0.N) (k n : Fin 1024) :
    iblk m c 28 t (ix3 0 k n) = m ((c : Thread nD τ).loc main_arg20) (ix3 0 k n) := by
  blk_simp [iblk, idx28 t]
  entry_read
  pointwise []
  blk_ext [idx28 t]

/-- The clipped window's buffer, at the rows that lie in the latents. -/
theorem X12_at (c : Dev nD) (t : Fin cfg0.N) (b : Fin 8) (R : Fin 2048) (r : Fin 768) (k : Fin 256) (hb : b.val = t.val / 3)
    (hR : R.val = t.val % 3 * 768 + r.val) (h : t.val % 3 < 2) :
    X0_12 m c t (ix3 0 r k) = m ((c : Thread nD τ).loc main_arg10) (ix3 b R k) := by
  refine Eq.trans (dif_pos (moved0_12 t _)) ?_
  blk_ext [iblk, V, idx12 t]

end Cert.FirstBlocks
end
-- ==== Proof.FirstStore.lean ====
/-
  The three sub-tiles the first layer's merge kernel's body stores: the later layers' function, of rows the body chooses between
  the latents and the context.
-/
module

public import proofs.«01_k».proof.Proof.MixStore
public import proofs.«01_k».proof.Proof.Gen.MergeFirst.Skeleton

@[expose] public section

set_option maxRecDepth 16384

noncomputable section

namespace Cert.FirstStore

open Cert.MergeFirst Cert.MergeFirst.Gen Idealize.ShloMosaic Idealize.ShloMosaic.TcCoe
open Cert.Mix Cert.MixTile

/-- What the body stores of its first sub-tile. -/
theorem first_eq (i : grid0.Coords) (cv : FVec Ideal S768x256 .bf16) (shl scl gal : Vec Ideal S1x1x1024 .f32) (ht hl : Vec Ideal S1x256x1024 .f32) (gain : Vec Ideal S1x1x1024 .f32) (yf yr : Vec Ideal S1x256x256 .f32) (u : Vec Ideal S1x256x256 .bf16) (d : Vec Ideal S1x1x256 .f32) (gw : Vec Ideal S1x256x256 .bf16) (gb : Vec Ideal S1x1x256 .f32) (yl yt : Vec Ideal S1x256x256 .bf16) (su sv : Vec Ideal S1x256x256 .f32) (lg lb : Vec Ideal S1x1x256 .f32) (sw : Vec Ideal S1x128x512 .bf16) (sb : Vec Ideal S1x128x256 .f32) (w0 : Vec Ideal S1x1024x1024 .bf16) (b0 : Vec Ideal S1x1x256x1024 .bf16) (w1 : Vec Ideal S1x1024x1024 .bf16) (b1 : Vec Ideal S1x1x256x1024 .bf16) (w2 : Vec Ideal S1x1024x1024 .bf16) (b2 : Vec Ideal S1x1x256x1024 .bf16) (w3 : Vec Ideal S1x1024x1024 .bf16) (b3 : Vec Ideal S1x1x256x1024 .bf16) (wo : Vec Ideal S1x1024x1024 .bf16) :
    k0_pay32 (k0_pay11 gal) (k0_pay13 (k0_pay12 ht) (Scalar.cmpi .eq (BitVec.ofNat 32 (i 1).val) 2#32) hl) (k0_pay14 (k0_pay9 shl) (k0_pay10 scl) (k0_pay12 ht) (Scalar.cmpi .eq (BitVec.ofNat 32 (i 1).val) 2#32) hl gain) (k0_pay27 (k0_pay15 su) (k0_pay21 (k0_pay18 sv) (k0_pay19 sv) (k0_pay20 (F := Ideal)) lg lb) k0_pay22 (k0_pay23 (F := Ideal)) (k0_pay24 (k0_pay18 sv) (k0_pay19 sv) (k0_pay20 (F := Ideal)) lg lb) (k0_pay25 (k0_pay15 su)) (k0_pay26 sw) sb sw sb) (k0_pay29 cv) (k0_pay30 (BitVec.ofNat 32 (i 1).val) (k0_pay14 (k0_pay9 shl) (k0_pay10 scl) (k0_pay12 ht) (Scalar.cmpi .eq (BitVec.ofNat 32 (i 1).val) 2#32) hl gain) (k0_pay28 yf yr u d gw gb) yt yl w0 b0 w1 b1) (k0_pay31 (k0_pay14 (k0_pay9 shl) (k0_pay10 scl) (k0_pay12 ht) (Scalar.cmpi .eq (BitVec.ofNat 32 (i 1).val) 2#32) hl gain) w2) b2 w3 b3 wo
      = sub (Cert.Merge.Gen.k0_pay9 shl) (Cert.Merge.Gen.k0_pay10 scl) (Cert.Merge.Gen.k0_pay11 gal) (Scalar.select (Scalar.cmpi .eq (BitVec.ofNat 32 (i 1).val) 2#32) (Cert.Merge.Gen.k0_pay12 ht) (Cert.Merge.Gen.k0_pay12 hl)) gain su sv lg lb sw sb yf yr u d gw gb (Scalar.select (Scalar.cmpi .eq (BitVec.ofNat 32 (i 1).val) 2#32) (Cert.Merge.Gen.k0_pay24 yt) (Cert.Merge.Gen.k0_pay24 yl))
          (extractStridedSlice S256x256 ![0, 0] cv slices_S768x256_o0_0_S256x256) ![w0, w1, w2, w3] ![b0, b1, b2, b3] wo := rfl

/-- What the body stores of its second sub-tile. -/
theorem second_eq (i : grid0.Coords) (cv : FVec Ideal S768x256 .bf16) (shl scl gal : Vec Ideal S1x1x1024 .f32) (ht hl : Vec Ideal S1x256x1024 .f32) (gain : Vec Ideal S1x1x1024 .f32) (yf yr : Vec Ideal S1x256x256 .f32) (u : Vec Ideal S1x256x256 .bf16) (d : Vec Ideal S1x1x256 .f32) (gw : Vec Ideal S1x256x256 .bf16) (gb : Vec Ideal S1x1x256 .f32) (yl yt : Vec Ideal S1x256x256 .bf16) (su sv : Vec Ideal S1x256x256 .f32) (lg lb : Vec Ideal S1x1x256 .f32) (sw : Vec Ideal S1x128x512 .bf16) (sb : Vec Ideal S1x128x256 .f32) (w0 : Vec Ideal S1x1024x1024 .bf16) (b0 : Vec Ideal S1x1x256x1024 .bf16) (w1 : Vec Ideal S1x1024x1024 .bf16) (b1 : Vec Ideal S1x1x256x1024 .bf16) (w2 : Vec Ideal S1x1024x1024 .bf16) (b2 : Vec Ideal S1x1x256x1024 .bf16) (w3 : Vec Ideal S1x1024x1024 .bf16) (b3 : Vec Ideal S1x1x256x1024 .bf16) (wo : Vec Ideal S1x1024x1024 .bf16) :
    k0_pay54 (k0_pay35 gal) (k0_pay36 (BitVec.ofNat 32 (i 1).val) ht hl) (k0_pay37 (BitVec.ofNat 32 (i 1).val) (k0_pay33 shl) (k0_pay34 scl) ht hl gain) (k0_pay48 (k0_pay46 (k0_pay38 su) (k0_pay45 (k0_pay39 sv) (k0_pay40 sv) (k0_pay41 sv) (Scalar.ofBits .f32 0x43800000#32) lg lb) sw sb) (k0_pay47 (k0_pay38 su) (k0_pay42 (k0_pay39 sv) (k0_pay40 sv) (k0_pay41 sv) (Scalar.ofBits .f32 0x43800000#32) lg lb) k0_pay43 (k0_pay44 (F := Ideal)) sw sb)) (k0_pay51 cv) (k0_pay52 (BitVec.ofNat 32 (i 1).val) (k0_pay37 (BitVec.ofNat 32 (i 1).val) (k0_pay33 shl) (k0_pay34 scl) ht hl gain) (k0_pay49 yf yr u d) (k0_pay50 yf yr u d gw gb) yt yl w0 b0 w1 b1) (k0_pay53 w2) (constant (F := Ideal) S256x1024 .f32 0x00000000#32) b2 w3 b3 wo
      = sub (Cert.Merge.Gen.k0_pay9 shl) (Cert.Merge.Gen.k0_pay10 scl) (Cert.Merge.Gen.k0_pay11 gal) (Scalar.select (Scalar.cmpi .eq (BitVec.ofNat 32 (i 1).val) 2#32) (Cert.Merge.Gen.k0_pay12 ht) (Cert.Merge.Gen.k0_pay12 hl)) gain su sv lg lb sw sb yf yr u d gw gb (Scalar.select (Scalar.cmpi .eq (BitVec.ofNat 32 (i 1).val) 2#32) (Cert.Merge.Gen.k0_pay24 yt) (Cert.Merge.Gen.k0_pay24 yl))
          (extractStridedSlice S256x256 ![256, 0] cv slices_S768x256_o256_0_S256x256) ![w0, w1, w2, w3] ![b0, b1, b2, b3] wo := rfl

/-- What the body stores of its third sub-tile. -/
theorem third_eq (i : grid0.Coords) (cv : FVec Ideal S768x256 .bf16) (shl scl gal shc scc gac : Vec Ideal S1x1x1024 .f32) (ht hl : Vec Ideal S1x256x1024 .f32) (gain : Vec Ideal S1x1x1024 .f32) (yf yr : Vec Ideal S1x256x256 .f32) (u : Vec Ideal S1x256x256 .bf16) (d : Vec Ideal S1x1x256 .f32) (gw : Vec Ideal S1x256x256 .bf16) (gb : Vec Ideal S1x1x256 .f32) (yl yx : Vec Ideal S1x256x256 .bf16) (su sv : Vec Ideal S1x256x256 .f32) (lg lb : Vec Ideal S1x1x256 .f32) (sw : Vec Ideal S1x128x512 .bf16) (sb : Vec Ideal S1x128x256 .f32) (w0 : Vec Ideal S1x1024x1024 .bf16) (b0 : Vec Ideal S1x1x256x1024 .bf16) (w1 : Vec Ideal S1x1024x1024 .bf16) (b1 : Vec Ideal S1x1x256x1024 .bf16) (w2 : Vec Ideal S1x1024x1024 .bf16) (b2 : Vec Ideal S1x1x256x1024 .bf16) (w3 : Vec Ideal S1x1024x1024 .bf16) (b3 : Vec Ideal S1x1x256x1024 .bf16) (wo : Vec Ideal S1x1024x1024 .bf16) :
    k0_pay1 (k0_pay58 (Scalar.cmpi .eq (BitVec.ofNat 32 (i 1).val) 2#32) gac gal) (k0_pay59 (BitVec.ofNat 32 (i 1).val) ht hl) (k0_pay80 (k0_pay61 (k0_pay57 (Scalar.cmpi .eq (BitVec.ofNat 32 (i 1).val) 2#32) (k0_pay55 shc) (k0_pay56 shl)) (k0_pay60 (BitVec.ofNat 32 (i 1).val) (Scalar.cmpi .eq (BitVec.ofNat 32 (i 1).val) 2#32) scc scl ht hl gain)) (k0_pay72 (k0_pay62 su) (k0_pay63 sv lg lb) k0_pay64 (k0_pay65 (F := Ideal)) (k0_pay67 (k0_pay62 su) (k0_pay63 sv lg lb) k0_pay64 (k0_pay65 (F := Ideal)) k0_pay66 sw sb) (k0_pay68 (k0_pay63 sv lg lb) k0_pay64 (k0_pay65 (F := Ideal))) (k0_pay69 (k0_pay63 sv lg lb) k0_pay64 (k0_pay65 (F := Ideal))) (k0_pay70 k0_pay64) (k0_pay71 (k0_pay63 sv lg lb)) sw sb) (k0_pay75 (BitVec.ofNat 32 (i 1).val) yx yl) (k0_pay76 cv) (k0_pay77 (F := Ideal)) (k0_pay78 (k0_pay61 (k0_pay57 (Scalar.cmpi .eq (BitVec.ofNat 32 (i 1).val) 2#32) (k0_pay55 shc) (k0_pay56 shl)) (k0_pay60 (BitVec.ofNat 32 (i 1).val) (Scalar.cmpi .eq (BitVec.ofNat 32 (i 1).val) 2#32) scc scl ht hl gain)) w0) (k0_pay79 (k0_pay73 yf yr u d) (k0_pay74 yf yr u d) (Scalar.ofBits .f32 0x3F4C422A#32) gw gb b0) w1 b1 w2 b2 w3 b3) wo
      = sub (Scalar.select (Scalar.cmpi .eq (BitVec.ofNat 32 (i 1).val) 2#32) (Cert.Merge.Gen.k0_pay9 shc) (Cert.Merge.Gen.k0_pay9 shl)) (Scalar.select (Scalar.cmpi .eq (BitVec.ofNat 32 (i 1).val) 2#32) (Cert.Merge.Gen.k0_pay10 scc) (Cert.Merge.Gen.k0_pay10 scl)) (Scalar.select (Scalar.cmpi .eq (BitVec.ofNat 32 (i 1).val) 2#32) (Cert.Merge.Gen.k0_pay11 gac) (Cert.Merge.Gen.k0_pay11 gal)) (Scalar.select (Scalar.cmpi .eq (BitVec.ofNat 32 (i 1).val) 2#32) (Cert.Merge.Gen.k0_pay12 ht) (Cert.Merge.Gen.k0_pay12 hl)) gain su sv lg lb sw sb yf yr u d gw gb (Scalar.select (Scalar.cmpi .eq (BitVec.ofNat 32 (i 1).val) 2#32) (Cert.Merge.Gen.k0_pay24 yx) (Cert.Merge.Gen.k0_pay24 yl))
          (extractStridedSlice S256x256 ![512, 0] cv slices_S768x256_o512_0_S256x256) ![w0, w1, w2, w3] ![b0, b1, b2, b3] wo := rfl

end Cert.FirstStore
end
-- ==== Proof.FirstRows.lean ====
/-
  The reference of the end of the first layer's mixer half, read at an index.
-/
module

public import proofs.«01_k».proof.Proof.Gen.MergeFirstRefIdeal.Read
public import proofs.«01_k».proof.Proof.MixRows

@[expose] public section

set_option maxRecDepth 16384

noncomputable section

namespace Cert.FirstRows

open Cert.MergeFirstRefIdeal Cert.MergeFirstRefIdeal.Gen Cert.MergeFirstRefIdeal.Read Idealize.ShloMosaic Idealize.ShloMosaic.TcCoe Idealize.SL.Sem
open Cert.Mix
open Cert.Mlp (act act_eq)

variable (x0 : FVec Ideal S8x2048x1024 .f32) (x1 : FVec Ideal S8x256x1024 .f32) (x2 : FVec Ideal S4x16x6144 .f32) (x3 : FVec Ideal S4x2x1024 .f32)
  (x4 x5 : FVec Ideal S8x2304x256 .f32) (x6 : FVec Ideal S8x2304x1024 .bf16) (x7 : FVec Ideal S4x256 .f32) (x8 : FVec Ideal S4x256x256 .f32)
  (x9 : FVec Ideal S4x256 .f32) (x10 : FVec Ideal S8x2048x256 .bf16) (x11 : FVec Ideal S8x256x256 .bf16) (x12 : FVec Ideal S8x2304x1024 .f32)
  (x13 : FVec Ideal S4x3x256 .f32) (x14 x15 : FVec Ideal S4x256 .f32) (x16 : FVec Ideal S4x4x128x128 .f32) (x17 : FVec Ideal S4x4x128 .f32)
  (x18 : FVec Ideal S4x1024x6400 .f32) (x19 : FVec Ideal S4x4x256x1024 .f32) (x20 : FVec Ideal S4x1024x1024 .f32)

open Cert.MixRows (lat ctx zero_word)

/-- The modulated latent rows. -/
theorem lat_act (b : Fin 8) (r : Fin 2048) (k : Fin 1024) : val_main_v37 (F := Ideal) x0 x2 x3 (ix3 b r k)
    = act (fun k => x0 (ix3 b r k)) (fun k => x3 (ix3 0 0 k)) (fun k => x2 (ix3 0 (b.castLE (by decide)) (at1 k))) (fun k => x2 (ix3 0 (b.castLE (by decide)) (at0 k))) k := by
  rw [← act_eq]
  pointwise [val_main_v37, val_main_v35, val_main_v36, val_main_v31, val_main_v34, val_main_v3, val_main_v28, val_main_v30, val_main_v33, val_main_v2, val_main_v27, val_main_v29, val_main_v32, val_main_v4, val_main_v1, val_main_v26, val_main_v18, val_main_cst_2, val_main_v0, val_main_v25, val_main_v17, val_main_v23, val_main_v24, val_main_v21, val_main_v22, val_main_cst_1, val_main_v20, val_main_cst_0, val_main_v19, val_main_cst]
  rfl

/-- The logits of the latent rows' gates. -/
theorem lat_logit (b : Fin 8) (r : Fin 2048) (j : Fin 4096) : val_main_v41 (F := Ideal) x0 x2 x3 x18 (ix3 b r j)
    = ∑ k, val_main_v37 (F := Ideal) x0 x2 x3 (ix3 b r k) * x18 (ix3 0 k ⟨2304 + j.val, by omega⟩) := by
  pointwise [val_main_v41, val_main_v40, val_main_v39, val_main_v38]

/-- The scan's sum at the latent rows. -/
theorem lat_sum (b : Fin 8) (r : Fin 2048) (c : Fin 256) : val_main_v57 (F := Ideal) x4 x5 x6 x7 (ix3 b r c)
    = x4 (ix3 b (lat r) c) + x5 (ix3 b (lat r) c) + x6 (ix3 b (lat r) (piece 0 c)) * x7 (ix2 0 c) := by
  have e : (⟨0 * 256 + c.val, by omega⟩ : Fin 1024) = ⟨c.val, by omega⟩ := Fin.ext (by dsimp only; omega)
  refine Eq.trans ?_ (add_right_comm _ _ _)
  refine Eq.trans ?_ (congrArg (fun s => s + _) (add_comm _ _))
  pointwise [val_main_v57, val_main_v55, val_main_v56, val_main_v53, val_main_v54, val_main_v43, val_main_v52, val_main_v42, val_main_v51, val_main_v50, val_main_v49]
  simp only [lat, ctx, Mix.piece, Fin.val_zero, e]

/-- The gelu of the latent rows. -/
theorem lat_gelu (b : Fin 8) (r : Fin 2048) (c : Fin 256) : val_main_v74 (F := Ideal) x4 x5 x6 x7 (ix3 b r c) = gelu (val_main_v57 (F := Ideal) x4 x5 x6 x7 (ix3 b r c)) := by
  unfold gelu
  rw [mul_comm (val_main_v57 (F := Ideal) x4 x5 x6 x7 (ix3 b r c)) (val_main_v57 (F := Ideal) x4 x5 x6 x7 (ix3 b r c) * val_main_v57 (F := Ideal) x4 x5 x6 x7 (ix3 b r c))]
  pointwise [val_main_v74, val_main_v73, val_main_v72, val_main_v71, val_main_cst_6, val_main_v70, val_main_v69, val_main_cst_5, val_main_v68, val_main_v67, val_main_v66, val_main_cst_4, val_main_v65, val_main_v64, val_main_v63, val_main_cst_3, val_main_v62]

/-- The gated unit of the latent rows. -/
theorem lat_glu (b : Fin 8) (r : Fin 2048) (f : Fin 256) : val_main_v85 (F := Ideal) x4 x5 x6 x7 x8 x9 (ix3 b r f)
    = glu (fun k => val_main_v57 (F := Ideal) x4 x5 x6 x7 (ix3 b r k)) (fun k f => x8 (ix3 0 k f)) (fun f => x9 (ix2 0 f)) f := by
  pointwise [val_main_v85, val_main_v84, val_main_v83, val_main_v82, val_main_cst_8, val_main_v81, val_main_v80, val_main_cst_7, val_main_v79, val_main_v78, val_main_v75, val_main_v77, val_main_v59, val_main_v76, val_main_v58, val_main_v61, val_main_v60]
  simp only [lat_gelu]
  rfl

/-- The convolution of the latent rows. -/
theorem lat_conv (b : Fin 8) (r : Fin 2048) (c : Fin 256) : val_main_v111 (F := Ideal) x12 x13 (ix3 b r c)
    = conv (x12 (ix3 b (lat r) (piece 0 c))) (x13 (ix3 0 0 c)) (x13 (ix3 0 1 c)) (x13 (ix3 0 2 c))
        (before (fun R => x12 (ix3 b R (piece 1 c))) (lat r)) (x12 (ix3 b (lat r) (piece 1 c))) (after (fun R => x12 (ix3 b R (piece 1 c))) (lat r)) := by
  pointwise [val_main_v111, val_main_v45, val_main_v110, val_main_v44, val_main_v103, val_main_v109, val_main_v96, val_main_v102, val_main_v104, val_main_v108, val_main_v95, val_main_v94, val_main_v97, val_main_v101, val_main_v88, val_main_v107, val_main_cst_9, val_main_v89, val_main_v93, val_main_v100, val_main_v46, val_main_call0_v0, val_main_v106, val_main_v92, val_main_v99, val_main_c, val_main_v105, val_main_v91, val_main_v98, val_main_v87, val_main_v90, val_main_v86]
  have hp : (if h : 1 ≤ r.val ∧ r.val - 1 < 2048 then x12 (ix3 b ⟨r.val - 1, by omega⟩ ⟨256 + c.val, by omega⟩) else FloatOps.sitofp (F := Ideal) .f32 (0#32))
      = before (fun R => x12 (ix3 b R (piece 1 c))) (lat r) := by
    unfold before
    by_cases h : 1 ≤ r.val
    · rw [dif_pos ⟨h, by omega⟩, if_neg (by simp only [lat, ctx]; omega)]
      rfl
    · rw [dif_neg (fun q => h q.1), if_pos (by simp only [lat, ctx]; omega)]
      exact zero_word
  have hn : (if h : 1 ≤ 2 + r.val ∧ 2 + r.val - 1 < 2048 then x12 (ix3 b ⟨2 + r.val - 1, by omega⟩ ⟨256 + c.val, by omega⟩) else FloatOps.sitofp (F := Ideal) .f32 (0#32))
      = after (fun R => x12 (ix3 b R (piece 1 c))) (lat r) := by
    unfold after
    by_cases h : 2 + r.val - 1 < 2048
    · rw [dif_pos ⟨by omega, h⟩, dif_neg (by simp only [lat, ctx]; omega)]
      exact congrArg (fun s => x12 (ix3 b s _)) (Fin.ext (by simp only [lat, ctx]; omega))
    · rw [dif_neg (fun q => h q.2), dif_pos (by simp only [lat, ctx]; omega)]
      exact zero_word
  refine Eq.trans (congrArg₂ (fun p q => _ * (p * _ + _ + q * _)) hp hn) ?_
  unfold conv
  rw [mul_comm (before _ _), mul_comm (after _ _), mul_comm (x12 (ix3 b _ ⟨256 + c.val, by omega⟩))]
  have e : piece 0 c = ⟨c.val, by omega⟩ := Fin.ext (by simp only [Mix.piece, Fin.val_zero]; omega)
  rw [e]
  rfl

/-- The normed latent rows. -/
theorem lat_norm (b : Fin 8) (r : Fin 2048) (c : Fin 256) : val_main_v143 (F := Ideal) x12 x14 x15 (ix3 b r c)
    = lnorm (fun k => x12 (ix3 b (lat r) (piece 3 k))) (fun k => x14 (ix2 0 k)) (fun k => x15 (ix2 0 k)) c := by
  pointwise [val_main_v143, val_main_v140, val_main_v142, val_main_v137, val_main_v139, val_main_v141, val_main_v132, val_main_v136, val_main_v138, val_main_v115, val_main_v48, val_main_v131, val_main_v135, val_main_v113, val_main_v114, val_main_v44, val_main_v123, val_main_v134, val_main_v112, val_main_v121, val_main_v122, val_main_v130, val_main_v133, val_main_v120, val_main_cst_11, val_main_v128, val_main_v129, val_main_cst_14, val_main_cst_10, val_main_v127, val_main_cst_13, val_main_v126, val_main_cst_12, val_main_v125, val_main_v124]
  rfl

/-- The gated chunks of the latent rows. -/
theorem lat_sgu (b : Fin 8) (r : Fin 2048) (c : Fin 256) : val_main_v152 (F := Ideal) x12 x14 x15 x16 x17 (ix3 b r c)
    = sgu (x12 (ix3 b (lat r) (piece 2 c))) (fun s c => val_main_v143 (F := Ideal) x12 x14 x15 (ix3 b ⟨r.val / 128 * 128 + s.val, by omega⟩ c))
        (fun t s => x16 (ix4 0 (grp c) t s)) (x17 (ix3 0 (grp c) (place (lat r)))) (place (lat r)) c := by
  have e : place (lat r) = ⟨r.val % 128, by omega⟩ := Fin.ext (by simp only [place, lat, ctx] <;> omega)
  rw [e]
  pointwise [val_main_v152, val_main_v47, val_main_v151, val_main_v44, val_main_v150, val_main_v146, val_main_v149, val_main_v145, val_main_v148, val_main_v144, val_main_v117, val_main_v147, val_main_v116, val_main_v119, val_main_v118]
  refine Eq.trans (congrArg (fun q => _ * (q + _)) (Finset.sum_congr rfl fun s _ => mul_comm _ _)) ?_
  unfold sgu
  rfl

/-- The four branches of the latent rows. -/
theorem lat_stack (b : Fin 8) (r : Fin 2048) (i : Fin 4) (c : Fin 256) : val_main_v162 (F := Ideal) x4 x5 x6 x7 x8 x9 x10 x12 x13 x14 x15 x16 x17 (ix4 b r i c)
    = (![fun c => val_main_v85 (F := Ideal) x4 x5 x6 x7 x8 x9 (ix3 b r c), fun c => x10 (ix3 b r c), fun c => val_main_v111 (F := Ideal) x12 x13 (ix3 b r c), fun c => val_main_v152 (F := Ideal) x12 x14 x15 x16 x17 (ix3 b r c)] : Fin 4 → Fin 256 → EReal) i c := by
  fin_cases i
  all_goals pointwise [val_main_v162, val_main_v158, val_main_v159, val_main_v160, val_main_v161, val_main_v153]

/-- A branch's projection of the latent rows under its gate. -/
theorem lat_gated (b : Fin 8) (r : Fin 2048) (i : Fin 4) (m : Fin 1024) : val_main_v172 (F := Ideal) x0 x2 x3 x4 x5 x6 x7 x8 x9 x10 x12 x13 x14 x15 x16 x17 x18 x19 (ix4 b r i m)
    = gated (fun k => val_main_v37 (F := Ideal) x0 x2 x3 (ix3 b r k)) (fun k m => x18 (ix3 0 k (gcol i m))) (fun c => val_main_v162 (F := Ideal) x4 x5 x6 x7 x8 x9 x10 x12 x13 x14 x15 x16 x17 (ix4 b r i c))
        (fun k m => x19 (ix4 0 i k m)) m := by
  pointwise [val_main_v172, val_main_v171, val_main_v164, val_main_v170, val_main_v169, val_main_v163, val_main_cst_16, val_main_v168, val_main_v167, val_main_v155, val_main_cst_15, val_main_v166, val_main_v154, val_main_v165]
  rw [lat_logit]
  simp only [mul_comm (x19 _)]
  rfl

/-- The latent rows after the mixer half. -/
theorem lat_row (b : Fin 8) (r : Fin 2048) (n : Fin 1024) : val_main_v177 (F := Ideal) x0 x2 x3 x4 x5 x6 x7 x8 x9 x10 x12 x13 x14 x15 x16 x17 x18 x19 x20 (ix3 b r n)
    = spec (fun _ k => x0 (ix3 b r k)) (fun k => x3 (ix3 0 0 k)) (fun k => x2 (ix3 0 (b.castLE (by decide)) (at1 k))) (fun k => x2 (ix3 0 (b.castLE (by decide)) (at0 k)))
      (fun k => x2 (ix3 0 (b.castLE (by decide)) (at2 k))) (fun R k => x4 (ix3 b R k)) (fun R k => x5 (ix3 b R k)) (fun R k => x6 (ix3 b R k)) (fun k => x7 (ix2 0 k))
      (fun k f => x8 (ix3 0 k f)) (fun f => x9 (ix2 0 f)) (fun c => x10 (ix3 b r c)) (fun R k => x12 (ix3 b R k)) (fun k c => x13 (ix3 0 k c))
      (fun k => x14 (ix2 0 k)) (fun k => x15 (ix2 0 k)) (fun g t s => x16 (ix4 0 g t s)) (fun g t => x17 (ix3 0 g t)) (fun k m => x18 (ix3 0 k m))
      (fun i k m => x19 (ix4 0 i k m)) (fun m n => x20 (ix3 0 m n)) (lat r) n := by
  pointwise [val_main_v177, val_main_v176, val_main_v175, val_main_v174, val_main_v5, val_main_v173, val_main_v157, val_main_v2, val_main_cst_17, val_main_v156, val_main_v1, val_main_v0]
  have hst : ∀ i, (fun c => val_main_v162 (F := Ideal) x4 x5 x6 x7 x8 x9 x10 x12 x13 x14 x15 x16 x17 (ix4 b r i c))
      = (![fun f => glu (fun k => x4 (ix3 b (lat r) k) + x5 (ix3 b (lat r) k) + x6 (ix3 b (lat r) (piece 0 k)) * x7 (ix2 0 k)) (fun k f => x8 (ix3 0 k f)) (fun f => x9 (ix2 0 f)) f,
          fun c => x10 (ix3 b r c),
          fun c => conv (x12 (ix3 b (lat r) (piece 0 c))) (x13 (ix3 0 0 c)) (x13 (ix3 0 1 c)) (x13 (ix3 0 2 c))
            (before (fun R => x12 (ix3 b R (piece 1 c))) (lat r)) (x12 (ix3 b (lat r) (piece 1 c))) (after (fun R => x12 (ix3 b R (piece 1 c))) (lat r)),
          fun c => sgu (x12 (ix3 b (lat r) (piece 2 c))) (fun s c => lnorm (fun k => x12 (ix3 b (mate (lat r) s) (piece 3 k))) (fun k => x14 (ix2 0 k)) (fun k => x15 (ix2 0 k)) c)
            (fun t s => x16 (ix4 0 (grp c) t s)) (x17 (ix3 0 (grp c) (place (lat r)))) (place (lat r)) c] : Fin 4 → Fin 256 → EReal) i := fun i => by
    funext c
    rw [lat_stack]
    fin_cases i
    · refine (lat_glu x4 x5 x6 x7 x8 x9 b r c).trans ?_
      simp only [lat_sum]
      rfl
    · rfl
    · exact lat_conv x12 x13 b r c
    · refine (lat_sgu x12 x14 x15 x16 x17 b r c).trans ?_
      have e : ∀ s : Fin 128, lat ⟨r.val / 128 * 128 + s.val, by omega⟩ = mate (lat r) s := fun s => Fin.ext (by simp only [mate, lat, ctx] <;> omega)
      simp only [lat_norm, e]
      rfl
  simp only [lat_gated, Fin.sum_univ_four, hst, lat_act]
  rfl

/-- The modulated context rows. -/
theorem ctx_act (b : Fin 8) (r : Fin 256) (k : Fin 1024) : val_main_v200 (F := Ideal) x1 x2 x3 (ix3 b r k)
    = act (fun k => x1 (ix3 b r k)) (fun k => x3 (ix3 0 0 k)) (fun k => x2 (ix3 0 8 (at1 k))) (fun k => x2 (ix3 0 8 (at0 k))) k := by
  rw [← act_eq]
  pointwise [val_main_v200, val_main_v197, val_main_v199, val_main_v192, val_main_v196, val_main_v198, val_main_v189, val_main_v191, val_main_v195, val_main_v11, val_main_v188, val_main_v190, val_main_v194, val_main_v10, val_main_v187, val_main_v179, val_main_v193, val_main_v12, val_main_v9, val_main_v186, val_main_v178, val_main_cst_21, val_main_v184, val_main_v185, val_main_v182, val_main_v183, val_main_cst_20, val_main_v181, val_main_cst_19, val_main_v180, val_main_cst_18]
  rfl

/-- The logits of the context rows' gates. -/
theorem ctx_logit (b : Fin 8) (r : Fin 256) (j : Fin 4096) : val_main_v204 (F := Ideal) x1 x2 x3 x18 (ix3 b r j)
    = ∑ k, val_main_v200 (F := Ideal) x1 x2 x3 (ix3 b r k) * x18 (ix3 0 k ⟨2304 + j.val, by omega⟩) := by
  pointwise [val_main_v204, val_main_v203, val_main_v202, val_main_v201]

/-- The scan's sum at the context rows. -/
theorem ctx_sum (b : Fin 8) (r : Fin 256) (c : Fin 256) : val_main_v220 (F := Ideal) x4 x5 x6 x7 (ix3 b r c)
    = x4 (ix3 b (ctx r) c) + x5 (ix3 b (ctx r) c) + x6 (ix3 b (ctx r) (piece 0 c)) * x7 (ix2 0 c) := by
  have e : (⟨0 * 256 + c.val, by omega⟩ : Fin 1024) = ⟨c.val, by omega⟩ := Fin.ext (by dsimp only; omega)
  refine Eq.trans ?_ (add_right_comm _ _ _)
  refine Eq.trans ?_ (congrArg (fun s => s + _) (add_comm _ _))
  pointwise [val_main_v220, val_main_v218, val_main_v219, val_main_v216, val_main_v217, val_main_v206, val_main_v215, val_main_v205, val_main_v214, val_main_v213, val_main_v212]
  simp only [lat, ctx, Mix.piece, Fin.val_zero, e]

/-- The gelu of the context rows. -/
theorem ctx_gelu (b : Fin 8) (r : Fin 256) (c : Fin 256) : val_main_v237 (F := Ideal) x4 x5 x6 x7 (ix3 b r c) = gelu (val_main_v220 (F := Ideal) x4 x5 x6 x7 (ix3 b r c)) := by
  unfold gelu
  rw [mul_comm (val_main_v220 (F := Ideal) x4 x5 x6 x7 (ix3 b r c)) (val_main_v220 (F := Ideal) x4 x5 x6 x7 (ix3 b r c) * val_main_v220 (F := Ideal) x4 x5 x6 x7 (ix3 b r c))]
  pointwise [val_main_v237, val_main_v236, val_main_v235, val_main_v234, val_main_cst_25, val_main_v233, val_main_v232, val_main_cst_24, val_main_v231, val_main_v230, val_main_v229, val_main_cst_23, val_main_v228, val_main_v227, val_main_v226, val_main_cst_22, val_main_v225]

/-- The gated unit of the context rows. -/
theorem ctx_glu (b : Fin 8) (r : Fin 256) (f : Fin 256) : val_main_v248 (F := Ideal) x4 x5 x6 x7 x8 x9 (ix3 b r f)
    = glu (fun k => val_main_v220 (F := Ideal) x4 x5 x6 x7 (ix3 b r k)) (fun k f => x8 (ix3 0 k f)) (fun f => x9 (ix2 0 f)) f := by
  pointwise [val_main_v248, val_main_v247, val_main_v246, val_main_v245, val_main_cst_27, val_main_v244, val_main_v243, val_main_cst_26, val_main_v242, val_main_v241, val_main_v238, val_main_v240, val_main_v222, val_main_v239, val_main_v221, val_main_v224, val_main_v223]
  simp only [ctx_gelu]
  rfl

/-- The convolution of the context rows. -/
theorem ctx_conv (b : Fin 8) (r : Fin 256) (c : Fin 256) : val_main_v274 (F := Ideal) x12 x13 (ix3 b r c)
    = conv (x12 (ix3 b (ctx r) (piece 0 c))) (x13 (ix3 0 0 c)) (x13 (ix3 0 1 c)) (x13 (ix3 0 2 c))
        (before (fun R => x12 (ix3 b R (piece 1 c))) (ctx r)) (x12 (ix3 b (ctx r) (piece 1 c))) (after (fun R => x12 (ix3 b R (piece 1 c))) (ctx r)) := by
  pointwise [val_main_v274, val_main_v208, val_main_v273, val_main_v207, val_main_v266, val_main_v272, val_main_v259, val_main_v265, val_main_v267, val_main_v271, val_main_v258, val_main_v257, val_main_v260, val_main_v264, val_main_v251, val_main_v270, val_main_cst_29, val_main_v252, val_main_v256, val_main_v263, val_main_v209, val_main_call1_v0, val_main_v269, val_main_v255, val_main_v262, val_main_c_28, val_main_v268, val_main_v254, val_main_v261, val_main_v250, val_main_v253, val_main_v249]
  have hp : (if h : 1 ≤ r.val ∧ r.val - 1 < 256 then x12 (ix3 b ⟨2048 + (r.val - 1), by omega⟩ ⟨256 + c.val, by omega⟩) else FloatOps.sitofp (F := Ideal) .f32 (0#32))
      = before (fun R => x12 (ix3 b R (piece 1 c))) (ctx r) := by
    unfold before
    by_cases h : 1 ≤ r.val
    · rw [dif_pos ⟨h, by omega⟩, if_neg (by simp only [lat, ctx]; omega)]
      exact congrArg (fun s => x12 (ix3 b s _)) (Fin.ext (by simp only [lat, ctx]; omega))
    · rw [dif_neg (fun q => h q.1), if_pos (by simp only [lat, ctx]; omega)]
      exact zero_word
  have hn : (if h : 1 ≤ 2 + r.val ∧ 2 + r.val - 1 < 256 then x12 (ix3 b ⟨2048 + (2 + r.val - 1), by omega⟩ ⟨256 + c.val, by omega⟩) else FloatOps.sitofp (F := Ideal) .f32 (0#32))
      = after (fun R => x12 (ix3 b R (piece 1 c))) (ctx r) := by
    unfold after
    by_cases h : 2 + r.val - 1 < 256
    · rw [dif_pos ⟨by omega, h⟩, dif_neg (by simp only [lat, ctx]; omega)]
      exact congrArg (fun s => x12 (ix3 b s _)) (Fin.ext (by simp only [lat, ctx]; omega))
    · rw [dif_neg (fun q => h q.2), dif_pos (by simp only [lat, ctx]; omega)]
      exact zero_word
  refine Eq.trans (congrArg₂ (fun p q => _ * (p * _ + _ + q * _)) hp hn) ?_
  unfold conv
  rw [mul_comm (before _ _), mul_comm (after _ _), mul_comm (x12 (ix3 b _ ⟨256 + c.val, by omega⟩))]
  have e : piece 0 c = ⟨c.val, by omega⟩ := Fin.ext (by simp only [Mix.piece, Fin.val_zero]; omega)
  rw [e]
  rfl

/-- The normed context rows. -/
theorem ctx_norm (b : Fin 8) (r : Fin 256) (c : Fin 256) : val_main_v306 (F := Ideal) x12 x14 x15 (ix3 b r c)
    = lnorm (fun k => x12 (ix3 b (ctx r) (piece 3 k))) (fun k => x14 (ix2 0 k)) (fun k => x15 (ix2 0 k)) c := by
  pointwise [val_main_v306, val_main_v303, val_main_v305, val_main_v300, val_main_v302, val_main_v304, val_main_v295, val_main_v299, val_main_v301, val_main_v278, val_main_v211, val_main_v294, val_main_v298, val_main_v276, val_main_v277, val_main_v207, val_main_v286, val_main_v297, val_main_v275, val_main_v284, val_main_v285, val_main_v293, val_main_v296, val_main_v283, val_main_cst_31, val_main_v291, val_main_v292, val_main_cst_34, val_main_cst_30, val_main_v290, val_main_cst_33, val_main_v289, val_main_cst_32, val_main_v288, val_main_v287]
  rfl

/-- The gated chunks of the context rows. -/
theorem ctx_sgu (b : Fin 8) (r : Fin 256) (c : Fin 256) : val_main_v315 (F := Ideal) x12 x14 x15 x16 x17 (ix3 b r c)
    = sgu (x12 (ix3 b (ctx r) (piece 2 c))) (fun s c => val_main_v306 (F := Ideal) x12 x14 x15 (ix3 b ⟨r.val / 128 * 128 + s.val, by omega⟩ c))
        (fun t s => x16 (ix4 0 (grp c) t s)) (x17 (ix3 0 (grp c) (place (ctx r)))) (place (ctx r)) c := by
  have e : place (ctx r) = ⟨r.val % 128, by omega⟩ := Fin.ext (by simp only [place, lat, ctx] <;> omega)
  rw [e]
  pointwise [val_main_v315, val_main_v210, val_main_v314, val_main_v207, val_main_v313, val_main_v309, val_main_v312, val_main_v308, val_main_v311, val_main_v307, val_main_v280, val_main_v310, val_main_v279, val_main_v282, val_main_v281]
  refine Eq.trans (congrArg (fun q => _ * (q + _)) (Finset.sum_congr rfl fun s _ => mul_comm _ _)) ?_
  unfold sgu
  rfl

/-- The four branches of the context rows. -/
theorem ctx_stack (b : Fin 8) (r : Fin 256) (i : Fin 4) (c : Fin 256) : val_main_v325 (F := Ideal) x4 x5 x6 x7 x8 x9 x11 x12 x13 x14 x15 x16 x17 (ix4 b r i c)
    = (![fun c => val_main_v248 (F := Ideal) x4 x5 x6 x7 x8 x9 (ix3 b r c), fun c => x11 (ix3 b r c), fun c => val_main_v274 (F := Ideal) x12 x13 (ix3 b r c), fun c => val_main_v315 (F := Ideal) x12 x14 x15 x16 x17 (ix3 b r c)] : Fin 4 → Fin 256 → EReal) i c := by
  fin_cases i
  all_goals pointwise [val_main_v325, val_main_v321, val_main_v322, val_main_v323, val_main_v324, val_main_v316]

/-- A branch's projection of the context rows under its gate. -/
theorem ctx_gated (b : Fin 8) (r : Fin 256) (i : Fin 4) (m : Fin 1024) : val_main_v335 (F := Ideal) x1 x2 x3 x4 x5 x6 x7 x8 x9 x11 x12 x13 x14 x15 x16 x17 x18 x19 (ix4 b r i m)
    = gated (fun k => val_main_v200 (F := Ideal) x1 x2 x3 (ix3 b r k)) (fun k m => x18 (ix3 0 k (gcol i m))) (fun c => val_main_v325 (F := Ideal) x4 x5 x6 x7 x8 x9 x11 x12 x13 x14 x15 x16 x17 (ix4 b r i c))
        (fun k m => x19 (ix4 0 i k m)) m := by
  pointwise [val_main_v335, val_main_v334, val_main_v327, val_main_v333, val_main_v332, val_main_v326, val_main_cst_36, val_main_v331, val_main_v330, val_main_v318, val_main_cst_35, val_main_v329, val_main_v317, val_main_v328]
  rw [ctx_logit]
  simp only [mul_comm (x19 _)]
  rfl

/-- The context rows after the mixer half. -/
theorem ctx_row (b : Fin 8) (r : Fin 256) (n : Fin 1024) : val_main_v341 (F := Ideal) x1 x2 x3 x4 x5 x6 x7 x8 x9 x11 x12 x13 x14 x15 x16 x17 x18 x19 x20 (ix3 b r n)
    = spec (fun _ k => x1 (ix3 b r k)) (fun k => x3 (ix3 0 0 k)) (fun k => x2 (ix3 0 8 (at1 k))) (fun k => x2 (ix3 0 8 (at0 k)))
      (fun k => x2 (ix3 0 8 (at2 k))) (fun R k => x4 (ix3 b R k)) (fun R k => x5 (ix3 b R k)) (fun R k => x6 (ix3 b R k)) (fun k => x7 (ix2 0 k))
      (fun k f => x8 (ix3 0 k f)) (fun f => x9 (ix2 0 f)) (fun c => x11 (ix3 b r c)) (fun R k => x12 (ix3 b R k)) (fun k c => x13 (ix3 0 k c))
      (fun k => x14 (ix2 0 k)) (fun k => x15 (ix2 0 k)) (fun g t s => x16 (ix4 0 g t s)) (fun g t => x17 (ix3 0 g t)) (fun k m => x18 (ix3 0 k m))
      (fun i k m => x19 (ix4 0 i k m)) (fun m n => x20 (ix3 0 m n)) (ctx r) n := by
  pointwise [val_main_v341, val_main_v340, val_main_v339, val_main_v337, val_main_v338, val_main_v336, val_main_v320, val_main_v13, val_main_cst_37, val_main_v319, val_main_v10, val_main_v9]
  have hst : ∀ i, (fun c => val_main_v325 (F := Ideal) x4 x5 x6 x7 x8 x9 x11 x12 x13 x14 x15 x16 x17 (ix4 b r i c))
      = (![fun f => glu (fun k => x4 (ix3 b (ctx r) k) + x5 (ix3 b (ctx r) k) + x6 (ix3 b (ctx r) (piece 0 k)) * x7 (ix2 0 k)) (fun k f => x8 (ix3 0 k f)) (fun f => x9 (ix2 0 f)) f,
          fun c => x11 (ix3 b r c),
          fun c => conv (x12 (ix3 b (ctx r) (piece 0 c))) (x13 (ix3 0 0 c)) (x13 (ix3 0 1 c)) (x13 (ix3 0 2 c))
            (before (fun R => x12 (ix3 b R (piece 1 c))) (ctx r)) (x12 (ix3 b (ctx r) (piece 1 c))) (after (fun R => x12 (ix3 b R (piece 1 c))) (ctx r)),
          fun c => sgu (x12 (ix3 b (ctx r) (piece 2 c))) (fun s c => lnorm (fun k => x12 (ix3 b (mate (ctx r) s) (piece 3 k))) (fun k => x14 (ix2 0 k)) (fun k => x15 (ix2 0 k)) c)
            (fun t s => x16 (ix4 0 (grp c) t s)) (x17 (ix3 0 (grp c) (place (ctx r)))) (place (ctx r)) c] : Fin 4 → Fin 256 → EReal) i := fun i => by
    funext c
    rw [ctx_stack]
    fin_cases i
    · refine (ctx_glu x4 x5 x6 x7 x8 x9 b r c).trans ?_
      simp only [ctx_sum]
      rfl
    · rfl
    · exact ctx_conv x12 x13 b r c
    · refine (ctx_sgu x12 x14 x15 x16 x17 b r c).trans ?_
      have e : ∀ s : Fin 128, ctx ⟨r.val / 128 * 128 + s.val, by omega⟩ = mate (ctx r) s := fun s => Fin.ext (by simp only [mate, lat, ctx] <;> omega)
      simp only [ctx_norm, e]
      rfl
  simp only [ctx_gated, Fin.sum_univ_four, hst, ctx_act]
  rfl

/-- The result, of the arguments: context rows under the context's modulations, latent rows under their batch's. -/
theorem res_at (b : Fin 8) (R : Fin 2304) (n : Fin 1024) : val_main_v342 (F := Ideal) x0 x1 x2 x3 x4 x5 x6 x7 x8 x9 x10 x11 x12 x13 x14 x15 x16 x17 x18 x19 x20 (ix3 b R n)
    = spec (fun _ k => if h : R.val < 2048 then x0 (ix3 b ⟨R.val, h⟩ k) else x1 (ix3 b ⟨R.val - 2048, by omega⟩ k)) (fun k => x3 (ix3 0 0 k)) (fun k => x2 (ix3 0 (if R.val < 2048 then b.castLE (by decide) else 8) (at1 k))) (fun k => x2 (ix3 0 (if R.val < 2048 then b.castLE (by decide) else 8) (at0 k)))
      (fun k => x2 (ix3 0 (if R.val < 2048 then b.castLE (by decide) else 8) (at2 k))) (fun R k => x4 (ix3 b R k)) (fun R k => x5 (ix3 b R k)) (fun R k => x6 (ix3 b R k)) (fun k => x7 (ix2 0 k))
      (fun k f => x8 (ix3 0 k f)) (fun f => x9 (ix2 0 f)) (fun c => if h : R.val < 2048 then x10 (ix3 b ⟨R.val, h⟩ c) else x11 (ix3 b ⟨R.val - 2048, by omega⟩ c)) (fun R k => x12 (ix3 b R k)) (fun k c => x13 (ix3 0 k c))
      (fun k => x14 (ix2 0 k)) (fun k => x15 (ix2 0 k)) (fun g t s => x16 (ix4 0 g t s)) (fun g t => x17 (ix3 0 g t)) (fun k m => x18 (ix3 0 k m))
      (fun i k m => x19 (ix4 0 i k m)) (fun m n => x20 (ix3 0 m n)) R n := by
  pointwise [val_main_v342]
  by_cases h : R.val < 2048
  · simp only [dif_pos h, if_pos h]
    exact lat_row x0 x2 x3 x4 x5 x6 x7 x8 x9 x10 x12 x13 x14 x15 x16 x17 x18 x19 x20 b ⟨R.val, h⟩ n
  · simp only [dif_neg h, if_neg h]
    refine (ctx_row x1 x2 x3 x4 x5 x6 x7 x8 x9 x11 x12 x13 x14 x15 x16 x17 x18 x19 x20 b ⟨R.val - 2048, by omega⟩ n).trans ?_
    have e : ctx ⟨R.val - 2048, by omega⟩ = R := Fin.ext (by simp only [ctx]; omega)
    rw [e]

end Cert.FirstRows
end
-- ==== Proof.FirstKernel.lean ====
/-
  The first layer's merge kernel over the extended reals: its result, block by block, is the reference's.
-/
module

public import proofs.«01_k».proof.Proof.FirstBlocks
public import proofs.«01_k».proof.Proof.FirstStore
public import proofs.«01_k».proof.Proof.FirstRows
public import proofs.«01_k».proof.Proof.MixKernel

@[expose] public section

set_option maxRecDepth 16384

noncomputable section

namespace Cert.FirstKernel

open Cert.MergeFirst Cert.MergeFirst.Gen Idealize.ShloMosaic Idealize.ShloMosaic.TcCoe Idealize.SL.Sem
open Cert.MixKernel (modrow sel_word ld_cols ld_branch rows_at pay9_at pay10_at pay11_at pay12_at pay24_at)
open Cert.Mix Cert.FirstRun Cert.FirstBlocks Cert.FirstStore Cert.MixTile

variable (m : (ℓ : Loc nD τ sig) → Buf (Elt Ideal) ℓ)

/-- The reference's result, of the kernel's arguments. -/
def want (c : Dev nD) : Vec Ideal S8x2304x1024 .f32 :=
  Cert.MergeFirstRefIdeal.Read.val_main_v342 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- A tile's choice by whether it is its batch's last. -/
theorem sel_at {α : Type} (t : Fin cfg0.N) (x y : α) :
    Scalar.select (Scalar.cmpi CmpIPredicate.eq (BitVec.ofNat 32 (grid0.coords t 1).val) 2#32) x y = if t.val % 3 = 2 then x else y := by
  rw [sel_word (grid0.coords t 1), (coords t).2]
  by_cases h : t.val % 3 = 2
  · rw [if_pos h, if_pos h]; rfl
  · rw [if_neg h, if_neg h]; rfl

/-- The row the kernel reads: the latents', and the context's. -/
def hrow (c : Dev nD) (b : Fin 8) (R : Fin 2304) (k : Fin 1024) : EReal :=
  if h : R.val < 2048 then m ((c : Thread nD τ).loc main_arg0) (ix3 b ⟨R.val, h⟩ k)
  else m ((c : Thread nD τ).loc main_arg1) (ix3 b ⟨R.val - 2048, by omega⟩ k)

/-- The attention branch's row: the latents', and the context's. -/
def ybrow (c : Dev nD) (b : Fin 8) (R : Fin 2304) (k : Fin 256) : EReal :=
  if h : R.val < 2048 then m ((c : Thread nD τ).loc main_arg10) (ix3 b ⟨R.val, h⟩ k)
  else m ((c : Thread nD τ).loc main_arg11) (ix3 b ⟨R.val - 2048, by omega⟩ k)

/-- The convolved branch's row. -/
def convrow (c : Dev nD) (b : Fin 8) (R : Fin 2304) (k : Fin 256) : EReal :=
  conv (m ((c : Thread nD τ).loc main_arg12) (ix3 b R (piece 0 k))) (m ((c : Thread nD τ).loc main_arg13) (ix3 0 0 k))
    (m ((c : Thread nD τ).loc main_arg13) (ix3 0 1 k)) (m ((c : Thread nD τ).loc main_arg13) (ix3 0 2 k))
    (before (fun R => m ((c : Thread nD τ).loc main_arg12) (ix3 b R (piece 1 k))) R) (m ((c : Thread nD τ).loc main_arg12) (ix3 b R (piece 1 k)))
    (after (fun R => m ((c : Thread nD τ).loc main_arg12) (ix3 b R (piece 1 k))) R)

/-- A row of the tile's convolution is the reference's. -/
theorem conv_row (c : Dev nD) (t : Fin cfg0.N) (b : Fin 8) (R : Fin 2304) (r : Fin 768) (k : Fin 256) (hb : b.val = t.val / 3)
    (hR : R.val = t.val % 3 * 768 + r.val) (zp zn c0 c1 c2 : Vec Ideal S1x1x256 .f32)
    (hp : zp (ix3 0 0 k) = iblk m c 17 t (ix3 0 7 k)) (hn : zn (ix3 0 0 k) = iblk m c 18 t (ix3 0 0 k))
    (h0 : c0 (ix3 0 0 k) = iblk m c 21 t (ix3 0 0 k)) (h1 : c1 (ix3 0 0 k) = iblk m c 21 t (ix3 0 1 k))
    (h2 : c2 (ix3 0 0 k) = iblk m c 21 t (ix3 0 2 k)) :
    k0_pay8 (k0_pay3 (iblk m c 16 t)) (k0_pay4 (iblk m c 16 t) zn) (k0_pay5 (grid0.coords t) (iblk m c 16 t) zp) (k0_pay6 (grid0.coords t))
        (k0_pay7 (grid0.coords t)) c0 c1 c2 (iblk m c 15 t) (ix2 r k)
      = convrow m c b R k := by
  have hg := (coords t).2
  refine (conv_at (grid0.coords t) (iblk m c 16 t) (iblk m c 15 t) zp zn c0 c1 c2 r k).trans ?_
  unfold convrow
  rw [h0, h1, h2, iblk21_at m c t 0 k, iblk21_at m c t 1 k, iblk21_at m c t 2 k, iblk15_at m c t b R r k hb hR, iblk16_at m c t b R r k hb hR, hg, ← hR]
  refine congrArg₂ (fun x y => conv _ _ _ _ x _ y) ?_ ?_
  · unfold before
    by_cases h : R.val = 0 ∨ R.val = 2048
    · rw [if_pos h, if_pos h]
    · rw [if_neg h, if_neg h]
      by_cases hr : r.val = 0
      · rw [dif_pos hr, hp]
        exact iblk17_at m c t b ⟨R.val - 1, by omega⟩ k hb (by dsimp only; omega)
      · rw [dif_neg hr]
        exact iblk16_at m c t b ⟨R.val - 1, by omega⟩ ⟨r.val - 1, by omega⟩ k hb (by dsimp only; omega)
  · unfold after
    by_cases h : R.val = 2047 ∨ R.val = 2303
    · rw [if_pos h, dif_pos h]
    · rw [if_neg h, dif_neg h]
      by_cases hr : r.val = 767
      · rw [dif_pos hr, hn]
        exact iblk18_at m c t b ⟨R.val + 1, by omega⟩ k hb (by dsimp only; omega)
      · rw [dif_neg hr]
        exact iblk16_at m c t b ⟨R.val + 1, by omega⟩ ⟨r.val + 1, by omega⟩ k hb (by dsimp only; omega)

/-- A row of a sub-tile whose rows start at row `o` of the tile is the reference's. -/
theorem sub_row (c : Dev nD) (t : Fin cfg0.N) (b : Fin 8) (R : Fin 2304) (o : Nat) (q : Fin 2) (p : Fin 128) (n : Fin 1024)
    (hb : b.val = t.val / 3) (ho : o + 256 ≤ 768) (ho' : o % 128 = 0) (hR : R.val = t.val % 3 * 768 + (o + (q.val * 128 + p.val)))
    (sh sc ga : FVec Ideal S1x1024 .f32) (h : FVec Ideal S256x1024 .f32) (su sv : Vec Ideal S1x256x256 .f32)
    (yf yr : Vec Ideal S1x256x256 .f32) (u : Vec Ideal S1x256x256 .bf16)
    (yb yc : FVec Ideal S256x256 .bf16) (w : Fin 4 → Vec Ideal S1x1024x1024 .bf16) (wb : Fin 4 → Vec Ideal S1x1x256x1024 .bf16)
    (hsh : ∀ k, sh (ix2 0 k) = m ((c : Thread nD τ).loc main_arg2) (ix3 0 (modrow b R) (at0 k)))
    (hsc : ∀ k, sc (ix2 0 k) = m ((c : Thread nD τ).loc main_arg2) (ix3 0 (modrow b R) (at1 k)))
    (hga : ∀ k, ga (ix2 0 k) = m ((c : Thread nD τ).loc main_arg2) (ix3 0 (modrow b R) (at2 k)))
    (hh : ∀ k, h (ix2 (crow q p) k) = hrow m c b R k)
    (hsu : ∀ (j : Fin 256) k (r : Fin 768), r.val = o + j.val → su (ix3 0 j k) = iblk m c 19 t (ix3 0 r k))
    (hsv : ∀ (j : Fin 256) k (r : Fin 768), r.val = o + j.val → sv (ix3 0 j k) = iblk m c 20 t (ix3 0 r k))
    (hyf : ∀ (j : Fin 256) k (r : Fin 768), r.val = o + j.val → yf (ix3 0 j k) = iblk m c 6 t (ix3 0 r k))
    (hyr : ∀ (j : Fin 256) k (r : Fin 768), r.val = o + j.val → yr (ix3 0 j k) = iblk m c 7 t (ix3 0 r k))
    (hu : ∀ (j : Fin 256) k (r : Fin 768), r.val = o + j.val → u (ix3 0 j k) = iblk m c 8 t (ix3 0 r k))
    (hyb : ∀ k, yb (ix2 (crow q p) k) = ybrow m c b R k)
    (hyc : ∀ k, yc (ix2 (crow q p) k) = convrow m c b R k)
    (hw : ∀ i k n, w i (ix3 0 k n) = iblk m c 26 t (ix3 0 k (gcol i n)))
    (hwb : ∀ i k n, wb i (ix4 0 0 k n) = iblk m c 27 t (ix4 0 i k n)) :
    sub sh sc ga h (iblk m c 5 t) su sv (iblk m c 22 t) (iblk m c 23 t) (iblk m c 24 t) (iblk m c 25 t) yf yr u (iblk m c 9 t) (iblk m c 10 t)
        (iblk m c 11 t) yb yc w wb (iblk m c 28 t) (ix3 0 (crow q p) n)
      = want m c (ix3 b R n) := by
  have hp : place R = p := Fin.ext (by show R.val % 128 = p.val; omega)
  have e4 : ∀ k, yf (ix3 0 (crow q p) k) = m ((c : Thread nD τ).loc main_arg4) (ix3 b R k) := fun k =>
    (hyf (crow q p) k ⟨o + (q.val * 128 + p.val), by omega⟩ rfl).trans (iblk6_at m c t b R _ k hb hR)
  have e5 : ∀ k, yr (ix3 0 (crow q p) k) = m ((c : Thread nD τ).loc main_arg5) (ix3 b R k) := fun k =>
    (hyr (crow q p) k ⟨o + (q.val * 128 + p.val), by omega⟩ rfl).trans (iblk7_at m c t b R _ k hb hR)
  have e6 : ∀ k, u (ix3 0 (crow q p) k) = m ((c : Thread nD τ).loc main_arg6) (ix3 b R (piece 0 k)) := fun k =>
    (hu (crow q p) k ⟨o + (q.val * 128 + p.val), by omega⟩ rfl).trans (iblk8_at m c t b R _ k hb hR)
  have e17 : ∀ k, su (ix3 0 (crow q p) k) = m ((c : Thread nD τ).loc main_arg12) (ix3 b R (piece 2 k)) := fun k =>
    (hsu (crow q p) k ⟨o + (q.val * 128 + p.val), by omega⟩ rfl).trans (iblk19_at m c t b R _ k hb hR)
  have e18 : ∀ s k, sv (ix3 0 (crow q s) k) = m ((c : Thread nD τ).loc main_arg12) (ix3 b (mate R s) (piece 3 k)) := fun s k =>
    (hsv (crow q s) k ⟨o + (q.val * 128 + s.val), by omega⟩ rfl).trans (iblk20_at m c t b (mate R s) _ k hb
      (by show R.val / 128 * 128 + s.val = _; dsimp only; omega))
  have ew : ∀ i k n, w i (ix3 0 k n) = m ((c : Thread nD τ).loc main_arg18) (ix3 0 k (gcol i n)) := fun i k n =>
    (hw i k n).trans (iblk26_at m c t k _)
  have ewb : ∀ i k n, wb i (ix4 0 0 k n) = m ((c : Thread nD τ).loc main_arg19) (ix4 0 i k n) := fun i k n =>
    (hwb i k n).trans (iblk27_at m c t i k n)
  refine (sub_at sh sc ga h (iblk m c 5 t) su sv (iblk m c 22 t) (iblk m c 23 t) (iblk m c 24 t) (iblk m c 25 t) yf yr u (iblk m c 9 t) (iblk m c 10 t)
        (iblk m c 11 t) yb yc w wb (iblk m c 28 t) q p n).trans ?_
  refine Eq.trans ?_ (Cert.FirstRows.res_at _ _ _ _ _ _ _ _ _ _ _ _ _ _ _ _ _ _ _ _ _ b R n).symm
  unfold spec
  rw [hp]
  simp only [hh, e4, e5, e6, e17, e18, ew, ewb, hsh, hsc, hga, hyb, hyc, iblk5_at m c t, iblk9_at m c t, iblk10_at m c t, iblk11_at m c t,
    iblk22_at m c t, iblk23_at m c t, iblk24_at m c t, iblk25_at m c t, iblk28_at m c t]
  rfl

set_option maxHeartbeats 16000000 in
/-- The output block of a point. -/
theorem point (c : Dev nD) (t : Fin cfg0.N) (b : Fin 8) (R : Fin 2304) (r : Fin 768) (n : Fin 1024) (hb : b.val = t.val / 3)
    (hR : R.val = t.val % 3 * 768 + r.val) : outsAt0 m c t (ix3 0 r n) = want m c (ix3 b R n) := by
  have hlt : t.val % 3 < 3 := Nat.mod_lt _ (by decide)
  have h8 := b.isLt
  unfold outsAt0
  frame_out
  canon_tiles y h
  case piece2 =>
    idx_vars y
    obtain rfl : y0 = 0 := Fin.ext (by omega)
    obtain rfl : n = y2 := Fin.ext (by simpa using h2)
    have hr : r.val = 0 + y1.val := by simpa using h1
    have hy : (ix3 0 y1 n : S1x256x1024.Idx) = ix3 0 (crow ⟨y1.val / 128, by omega⟩ ⟨y1.val % 128, by omega⟩) n :=
      congrArg (fun x => ix3 0 x n) (Fin.ext (by show y1.val = y1.val / 128 * 128 + y1.val % 128; omega))
    refine (congrFun (first_eq (grid0.coords t) _ _ _ _ _ _ _ _ _ _ _ _ _ _ _ _ _ _ _ _ _ _ _ _ _ _ _ _ _ _) _).trans ?_
    rw [hy]
    have hm : modrow b R = b.castLE (by decide) := if_pos (by omega)
    refine sub_row m c t b R 0 _ _ n hb (by decide) (by decide) (by dsimp only; omega) _ _ _ _ _ _ _ _ _ _ _ _ _ ?_ ?_ ?_ ?_ ?_ ?_ ?_ ?_ ?_ ?_ ?_ ?_ ?_
    · intro k
      rw [hm, pay9_at, ld_cols (o := 0) (iblk m c 3 t) _ _ rfl 0 k (at0 k) (Nat.zero_add _).symm]
      exact iblk3_at m c t _ _ hb
    · intro k
      rw [hm, pay10_at, ld_cols (o := 1024) (iblk m c 3 t) _ _ rfl 0 k (at1 k) rfl]
      exact iblk3_at m c t _ _ hb
    · intro k
      rw [hm, pay11_at, ld_cols (o := 2048) (iblk m c 3 t) _ _ rfl 0 k (at2 k) rfl]
      exact iblk3_at m c t _ _ hb
    · intro k
      rw [sel_at]
      unfold hrow
      by_cases hk : t.val % 3 = 2
      · rw [if_pos hk, pay12_at, dif_pos (by omega)]
        refine (Cert.NaPoint.ld_rows (o := 0) (iblk m c 1 t) _ _ rfl _ k ⟨0 + y1.val, by omega⟩ (by show _ = 0 + (y1.val / 128 * 128 + y1.val % 128); dsimp only; omega)).trans ?_
        exact iblk1_at m c t b _ _ k hb (by dsimp only; omega)
      · rw [if_neg hk, pay12_at, dif_pos (by omega)]
        refine (Cert.NaPoint.ld_rows (o := 0) (X0_0 m c t) _ _ rfl _ k ⟨0 + y1.val, by omega⟩ (by show _ = 0 + (y1.val / 128 * 128 + y1.val % 128); dsimp only; omega)).trans ?_
        exact X0_at m c t b _ _ k hb (by dsimp only; omega) (by omega)
    · exact fun j k r h => Cert.NaPoint.ld_rows (o := 0) _ _ _ rfl j k r h
    · exact fun j k r h => Cert.NaPoint.ld_rows (o := 0) _ _ _ rfl j k r h
    · exact fun j k r h => Cert.NaPoint.ld_rows (o := 0) _ _ _ rfl j k r h
    · exact fun j k r h => Cert.NaPoint.ld_rows (o := 0) _ _ _ rfl j k r h
    · exact fun j k r h => Cert.NaPoint.ld_rows (o := 0) _ _ _ rfl j k r h
    · intro k
      rw [sel_at]
      unfold ybrow
      by_cases hk : t.val % 3 = 2
      · rw [if_pos hk, pay24_at, dif_pos (by omega)]
        refine (Cert.NaPoint.ld_rows (o := 0) (iblk m c 13 t) _ _ rfl _ k ⟨0 + y1.val, by omega⟩ (by show _ = 0 + (y1.val / 128 * 128 + y1.val % 128); dsimp only; omega)).trans ?_
        exact iblk13_at m c t b _ _ k hb (by dsimp only; omega)
      · rw [if_neg hk, pay24_at, dif_pos (by omega)]
        refine (Cert.NaPoint.ld_rows (o := 0) (X0_12 m c t) _ _ rfl _ k ⟨0 + y1.val, by omega⟩ (by show _ = 0 + (y1.val / 128 * 128 + y1.val % 128); dsimp only; omega)).trans ?_
        exact X12_at m c t b _ _ k hb (by dsimp only; omega) (by omega)
    · intro k
      refine (rows_at 0 (by decide) _ _ _ rfl _ k).trans ?_
      refine conv_row m c t b R _ k hb (by show _ = t.val % 3 * 768 + (0 + (y1.val / 128 * 128 + y1.val % 128)); omega) _ _ _ _ _ ?_ ?_ ?_ ?_ ?_
      · exact Cert.NaPoint.ld_rows (o := 7) (iblk m c 17 t) _ _ rfl 0 k 7 rfl
      · exact Cert.NaPoint.ld_rows (o := 0) (iblk m c 18 t) _ _ rfl 0 k 0 rfl
      · exact Cert.NaPoint.ld_rows (o := 0) (iblk m c 21 t) _ _ rfl 0 k 0 rfl
      · exact Cert.NaPoint.ld_rows (o := 1) (iblk m c 21 t) _ _ rfl 0 k 1 rfl
      · exact Cert.NaPoint.ld_rows (o := 2) (iblk m c 21 t) _ _ rfl 0 k 2 rfl
    · intro i k n
      fin_cases i
      · exact ld_cols (o := 2304) (iblk m c 26 t) _ _ rfl k n (gcol 0 n) (by show 2304 + (0 * 1024 + n.val) = _; omega)
      · exact ld_cols (o := 3328) (iblk m c 26 t) _ _ rfl k n (gcol 1 n) (by show 2304 + (1 * 1024 + n.val) = _; omega)
      · exact ld_cols (o := 4352) (iblk m c 26 t) _ _ rfl k n (gcol 2 n) (by show 2304 + (2 * 1024 + n.val) = _; omega)
      · exact ld_cols (o := 5376) (iblk m c 26 t) _ _ rfl k n (gcol 3 n) (by show 2304 + (3 * 1024 + n.val) = _; omega)
    · intro i k n
      fin_cases i
      · exact ld_branch (iblk m c 27 t) 0 _ _ rfl k n
      · exact ld_branch (iblk m c 27 t) 1 _ _ rfl k n
      · exact ld_branch (iblk m c 27 t) 2 _ _ rfl k n
      · exact ld_branch (iblk m c 27 t) 3 _ _ rfl k n
  case piece1 =>
    idx_vars y
    obtain rfl : y0 = 0 := Fin.ext (by omega)
    obtain rfl : n = y2 := Fin.ext (by simpa using h2)
    have hr : r.val = 256 + y1.val := by simpa using h1
    have hy : (ix3 0 y1 n : S1x256x1024.Idx) = ix3 0 (crow ⟨y1.val / 128, by omega⟩ ⟨y1.val % 128, by omega⟩) n :=
      congrArg (fun x => ix3 0 x n) (Fin.ext (by show y1.val = y1.val / 128 * 128 + y1.val % 128; omega))
    refine (congrFun (second_eq (grid0.coords t) _ _ _ _ _ _ _ _ _ _ _ _ _ _ _ _ _ _ _ _ _ _ _ _ _ _ _ _ _ _) _).trans ?_
    rw [hy]
    have hm : modrow b R = b.castLE (by decide) := if_pos (by omega)
    refine sub_row m c t b R 256 _ _ n hb (by decide) (by decide) (by dsimp only; omega) _ _ _ _ _ _ _ _ _ _ _ _ _ ?_ ?_ ?_ ?_ ?_ ?_ ?_ ?_ ?_ ?_ ?_ ?_ ?_
    · intro k
      rw [hm, pay9_at, ld_cols (o := 0) (iblk m c 3 t) _ _ rfl 0 k (at0 k) (Nat.zero_add _).symm]
      exact iblk3_at m c t _ _ hb
    · intro k
      rw [hm, pay10_at, ld_cols (o := 1024) (iblk m c 3 t) _ _ rfl 0 k (at1 k) rfl]
      exact iblk3_at m c t _ _ hb
    · intro k
      rw [hm, pay11_at, ld_cols (o := 2048) (iblk m c 3 t) _ _ rfl 0 k (at2 k) rfl]
      exact iblk3_at m c t _ _ hb
    · intro k
      rw [sel_at]
      unfold hrow
      by_cases hk : t.val % 3 = 2
      · rw [if_pos hk, pay12_at, dif_pos (by omega)]
        refine (Cert.NaPoint.ld_rows (o := 256) (iblk m c 1 t) _ _ rfl _ k ⟨256 + y1.val, by omega⟩ (by show _ = 256 + (y1.val / 128 * 128 + y1.val % 128); dsimp only; omega)).trans ?_
        exact iblk1_at m c t b _ _ k hb (by dsimp only; omega)
      · rw [if_neg hk, pay12_at, dif_pos (by omega)]
        refine (Cert.NaPoint.ld_rows (o := 256) (X0_0 m c t) _ _ rfl _ k ⟨256 + y1.val, by omega⟩ (by show _ = 256 + (y1.val / 128 * 128 + y1.val % 128); dsimp only; omega)).trans ?_
        exact X0_at m c t b _ _ k hb (by dsimp only; omega) (by omega)
    · exact fun j k r h => Cert.NaPoint.ld_rows (o := 256) _ _ _ rfl j k r h
    · exact fun j k r h => Cert.NaPoint.ld_rows (o := 256) _ _ _ rfl j k r h
    · exact fun j k r h => Cert.NaPoint.ld_rows (o := 256) _ _ _ rfl j k r h
    · exact fun j k r h => Cert.NaPoint.ld_rows (o := 256) _ _ _ rfl j k r h
    · exact fun j k r h => Cert.NaPoint.ld_rows (o := 256) _ _ _ rfl j k r h
    · intro k
      rw [sel_at]
      unfold ybrow
      by_cases hk : t.val % 3 = 2
      · rw [if_pos hk, pay24_at, dif_pos (by omega)]
        refine (Cert.NaPoint.ld_rows (o := 256) (iblk m c 13 t) _ _ rfl _ k ⟨256 + y1.val, by omega⟩ (by show _ = 256 + (y1.val / 128 * 128 + y1.val % 128); dsimp only; omega)).trans ?_
        exact iblk13_at m c t b _ _ k hb (by dsimp only; omega)
      · rw [if_neg hk, pay24_at, dif_pos (by omega)]
        refine (Cert.NaPoint.ld_rows (o := 256) (X0_12 m c t) _ _ rfl _ k ⟨256 + y1.val, by omega⟩ (by show _ = 256 + (y1.val / 128 * 128 + y1.val % 128); dsimp only; omega)).trans ?_
        exact X12_at m c t b _ _ k hb (by dsimp only; omega) (by omega)
    · intro k
      refine (rows_at 256 (by decide) _ _ _ rfl _ k).trans ?_
      refine conv_row m c t b R _ k hb (by show _ = t.val % 3 * 768 + (256 + (y1.val / 128 * 128 + y1.val % 128)); omega) _ _ _ _ _ ?_ ?_ ?_ ?_ ?_
      · exact Cert.NaPoint.ld_rows (o := 7) (iblk m c 17 t) _ _ rfl 0 k 7 rfl
      · exact Cert.NaPoint.ld_rows (o := 0) (iblk m c 18 t) _ _ rfl 0 k 0 rfl
      · exact Cert.NaPoint.ld_rows (o := 0) (iblk m c 21 t) _ _ rfl 0 k 0 rfl
      · exact Cert.NaPoint.ld_rows (o := 1) (iblk m c 21 t) _ _ rfl 0 k 1 rfl
      · exact Cert.NaPoint.ld_rows (o := 2) (iblk m c 21 t) _ _ rfl 0 k 2 rfl
    · intro i k n
      fin_cases i
      · exact ld_cols (o := 2304) (iblk m c 26 t) _ _ rfl k n (gcol 0 n) (by show 2304 + (0 * 1024 + n.val) = _; omega)
      · exact ld_cols (o := 3328) (iblk m c 26 t) _ _ rfl k n (gcol 1 n) (by show 2304 + (1 * 1024 + n.val) = _; omega)
      · exact ld_cols (o := 4352) (iblk m c 26 t) _ _ rfl k n (gcol 2 n) (by show 2304 + (2 * 1024 + n.val) = _; omega)
      · exact ld_cols (o := 5376) (iblk m c 26 t) _ _ rfl k n (gcol 3 n) (by show 2304 + (3 * 1024 + n.val) = _; omega)
    · intro i k n
      fin_cases i
      · exact ld_branch (iblk m c 27 t) 0 _ _ rfl k n
      · exact ld_branch (iblk m c 27 t) 1 _ _ rfl k n
      · exact ld_branch (iblk m c 27 t) 2 _ _ rfl k n
      · exact ld_branch (iblk m c 27 t) 3 _ _ rfl k n
  case piece0 =>
    idx_vars y
    obtain rfl : y0 = 0 := Fin.ext (by omega)
    obtain rfl : n = y2 := Fin.ext (by simpa using h2)
    have hr : r.val = 512 + y1.val := by simpa using h1
    have hy : (ix3 0 y1 n : S1x256x1024.Idx) = ix3 0 (crow ⟨y1.val / 128, by omega⟩ ⟨y1.val % 128, by omega⟩) n :=
      congrArg (fun x => ix3 0 x n) (Fin.ext (by show y1.val = y1.val / 128 * 128 + y1.val % 128; omega))
    refine (congrFun (third_eq (grid0.coords t) _ _ _ _ _ _ _ _ _ _ _ _ _ _ _ _ _ _ _ _ _ _ _ _ _ _ _ _ _ _ _ _ _) _).trans ?_
    rw [hy]
    refine sub_row m c t b R 512 _ _ n hb (by decide) (by decide) (by dsimp only; omega) _ _ _ _ _ _ _ _ _ _ _ _ _ ?_ ?_ ?_ ?_ ?_ ?_ ?_ ?_ ?_ ?_ ?_ ?_ ?_
    · intro k
      rw [sel_at]
      by_cases hk : t.val % 3 = 2
      · rw [if_pos hk, pay9_at, ld_cols (o := 0) (iblk m c 4 t) _ _ rfl 0 k (at0 k) (Nat.zero_add _).symm, iblk4_at]
        rw [show modrow b R = 8 from if_neg (by omega)]
      · rw [if_neg hk, pay9_at, ld_cols (o := 0) (iblk m c 3 t) _ _ rfl 0 k (at0 k) (Nat.zero_add _).symm]
        rw [show modrow b R = b.castLE (by decide) from if_pos (by omega)]
        exact iblk3_at m c t _ _ hb
    · intro k
      rw [sel_at]
      by_cases hk : t.val % 3 = 2
      · rw [if_pos hk, pay10_at, ld_cols (o := 1024) (iblk m c 4 t) _ _ rfl 0 k (at1 k) rfl, iblk4_at]
        rw [show modrow b R = 8 from if_neg (by omega)]
      · rw [if_neg hk, pay10_at, ld_cols (o := 1024) (iblk m c 3 t) _ _ rfl 0 k (at1 k) rfl]
        rw [show modrow b R = b.castLE (by decide) from if_pos (by omega)]
        exact iblk3_at m c t _ _ hb
    · intro k
      rw [sel_at]
      by_cases hk : t.val % 3 = 2
      · rw [if_pos hk, pay11_at, ld_cols (o := 2048) (iblk m c 4 t) _ _ rfl 0 k (at2 k) rfl, iblk4_at]
        rw [show modrow b R = 8 from if_neg (by omega)]
      · rw [if_neg hk, pay11_at, ld_cols (o := 2048) (iblk m c 3 t) _ _ rfl 0 k (at2 k) rfl]
        rw [show modrow b R = b.castLE (by decide) from if_pos (by omega)]
        exact iblk3_at m c t _ _ hb
    · intro k
      rw [sel_at]
      unfold hrow
      by_cases hk : t.val % 3 = 2
      · rw [if_pos hk, pay12_at, dif_neg (by omega)]
        refine (iblk2_at m c t b _ k hb).trans ?_
        exact congrArg (fun x => m ((c : Thread nD τ).loc main_arg1) (ix3 b x k)) (Fin.ext (by show y1.val / 128 * 128 + y1.val % 128 = R.val - 2048; omega))
      · rw [if_neg hk, pay12_at, dif_pos (by omega)]
        refine (Cert.NaPoint.ld_rows (o := 512) (X0_0 m c t) _ _ rfl _ k ⟨512 + y1.val, by omega⟩ (by show _ = 512 + (y1.val / 128 * 128 + y1.val % 128); dsimp only; omega)).trans ?_
        exact X0_at m c t b _ _ k hb (by dsimp only; omega) (by omega)
    · exact fun j k r h => Cert.NaPoint.ld_rows (o := 512) _ _ _ rfl j k r h
    · exact fun j k r h => Cert.NaPoint.ld_rows (o := 512) _ _ _ rfl j k r h
    · exact fun j k r h => Cert.NaPoint.ld_rows (o := 512) _ _ _ rfl j k r h
    · exact fun j k r h => Cert.NaPoint.ld_rows (o := 512) _ _ _ rfl j k r h
    · exact fun j k r h => Cert.NaPoint.ld_rows (o := 512) _ _ _ rfl j k r h
    · intro k
      rw [sel_at]
      unfold ybrow
      by_cases hk : t.val % 3 = 2
      · rw [if_pos hk, pay24_at, dif_neg (by omega)]
        refine (iblk14_at m c t b _ k hb).trans ?_
        exact congrArg (fun x => m ((c : Thread nD τ).loc main_arg11) (ix3 b x k)) (Fin.ext (by show y1.val / 128 * 128 + y1.val % 128 = R.val - 2048; omega))
      · rw [if_neg hk, pay24_at, dif_pos (by omega)]
        refine (Cert.NaPoint.ld_rows (o := 512) (X0_12 m c t) _ _ rfl _ k ⟨512 + y1.val, by omega⟩ (by show _ = 512 + (y1.val / 128 * 128 + y1.val % 128); dsimp only; omega)).trans ?_
        exact X12_at m c t b _ _ k hb (by dsimp only; omega) (by omega)
    · intro k
      refine (rows_at 512 (by decide) _ _ _ rfl _ k).trans ?_
      refine conv_row m c t b R _ k hb (by show _ = t.val % 3 * 768 + (512 + (y1.val / 128 * 128 + y1.val % 128)); omega) _ _ _ _ _ ?_ ?_ ?_ ?_ ?_
      · exact Cert.NaPoint.ld_rows (o := 7) (iblk m c 17 t) _ _ rfl 0 k 7 rfl
      · exact Cert.NaPoint.ld_rows (o := 0) (iblk m c 18 t) _ _ rfl 0 k 0 rfl
      · exact Cert.NaPoint.ld_rows (o := 0) (iblk m c 21 t) _ _ rfl 0 k 0 rfl
      · exact Cert.NaPoint.ld_rows (o := 1) (iblk m c 21 t) _ _ rfl 0 k 1 rfl
      · exact Cert.NaPoint.ld_rows (o := 2) (iblk m c 21 t) _ _ rfl 0 k 2 rfl
    · intro i k n
      fin_cases i
      · exact ld_cols (o := 2304) (iblk m c 26 t) _ _ rfl k n (gcol 0 n) (by show 2304 + (0 * 1024 + n.val) = _; omega)
      · exact ld_cols (o := 3328) (iblk m c 26 t) _ _ rfl k n (gcol 1 n) (by show 2304 + (1 * 1024 + n.val) = _; omega)
      · exact ld_cols (o := 4352) (iblk m c 26 t) _ _ rfl k n (gcol 2 n) (by show 2304 + (2 * 1024 + n.val) = _; omega)
      · exact ld_cols (o := 5376) (iblk m c 26 t) _ _ rfl k n (gcol 3 n) (by show 2304 + (3 * 1024 + n.val) = _; omega)
    · intro i k n
      fin_cases i
      · exact ld_branch (iblk m c 27 t) 0 _ _ rfl k n
      · exact ld_branch (iblk m c 27 t) 1 _ _ rfl k n
      · exact ld_branch (iblk m c 27 t) 2 _ _ rfl k n
      · exact ld_branch (iblk m c 27 t) 3 _ _ rfl k n

/-- The kernel's result. -/
theorem final (c : Dev nD) : (dats m 0 c).arrAt 29 (cfgs 0).N = want m c := by
  refine (dats m 0 c).arrAt_eq_of_covers 29 _ (by decide +kernel) fun t _ y => ?_
  blk_simp
  rw [after0_29]
  idx_vars y
  obtain rfl : y0 = 0 := Fin.ext (by omega)
  have h8 := (coords t).1
  refine (point m c t ⟨t.val / 3, h8⟩ ⟨t.val % 3 * 768 + y1.val, by omega⟩ y1 y2 rfl rfl).trans ?_
  blk_ext [idx29 t]

/-- The run: the result is the reference's, and the arguments end unchanged. -/
theorem run_want (ρ : Dev nD → PrngReg) : θ_run (defs (F := Ideal)) (onTc (τ := τ) (main (F := Ideal))) ⟨m, fun _ => 0, ρ⟩ (fun r => ∀ c : Dev nD,
      r.2.mem ((c.tc : Thread nD τ).loc main_v16) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h.1 c).1 29).trans (final m c), h.2 c⟩) (θ_run_and (run_main m ρ) (unchanged m ρ))

end Cert.FirstKernel
end
-- ==== Proof.FirstProjTile.lean ====
/-
  One tile of the first layer's input projection: its three sub-tiles' rows are chosen from the latents, their end and the context,
  and the stores are the other layers' functions of them.
-/
module

public import proofs.«01_k».proof.Proof.Gen.ProjFirstIdeal.Frame
public import proofs.«01_k».proof.Proof.ProjTile

@[expose] public section

set_option maxRecDepth 16384

noncomputable section

namespace Cert.FirstProjTile

open Cert.ProjFirstIdeal Cert.ProjFirstIdeal.Gen Idealize.ShloMosaic Idealize.ShloMosaic.TcCoe Idealize.SL.Sem

variable (sh sc shc scc g : Vec Ideal S1x1x1024 .f32) (h h' : Vec Ideal S1x256x1024 .f32) (w : Vec Ideal S1x1024x1024 .bf16)
  (v : FVec Ideal S256x1024 .bf16) (u : Vec Ideal S1x1024x1280 .bf16)

/-- Whether a tile is its batch's last. -/
theorem word_eq (j : Nat) (hj : j = 2) : Scalar.cmpi .eq (BitVec.ofNat 32 j) 2#32 = 1#1 := by
  subst hj
  rfl

theorem word_ne (j : Nat) (hb : j < 3) (hj : j ≠ 2) : Scalar.cmpi .eq (BitVec.ofNat 32 j) 2#32 = 0#1 := by
  match j, hb, hj with
  | 0, _, _ => rfl
  | 1, _, _ => rfl
  | n + 2, hb, hj => exact absurd (by omega) hj

/-- The first sub-tile's rows. -/
theorem first_last (i : grid0.Coords) (hi : (i 1).val = 2) : k0_pay3 i sh sc h h' g = Cert.ProjIdeal.Gen.k0_pay6 sh sc h g := by
  unfold k0_pay3
  simp only [word_eq _ hi]
  rfl

theorem first_other (i : grid0.Coords) (hi : (i 1).val ≠ 2) : k0_pay3 i sh sc h h' g = Cert.ProjIdeal.Gen.k0_pay6 sh sc h' g := by
  unfold k0_pay3
  simp only [word_ne _ (i 1).isLt hi]
  rfl

/-- The second's. -/
theorem second_last (j : Nat) (hj : j = 2) : k0_pay13 (k0_pay10 sh) (k0_pay11 sc) (k0_pay12 h) (Scalar.cmpi .eq (BitVec.ofNat 32 j) 2#32) h' g
    = Cert.ProjIdeal.Gen.k0_pay6 sh sc h g := by
  rw [word_eq _ hj]
  rfl

theorem second_other (j : Nat) (hb : j < 3) (hj : j ≠ 2) : k0_pay13 (k0_pay10 sh) (k0_pay11 sc) (k0_pay12 h) (Scalar.cmpi .eq (BitVec.ofNat 32 j) 2#32) h' g
    = Cert.ProjIdeal.Gen.k0_pay6 sh sc h' g := by
  rw [word_ne _ hb hj]
  rfl

/-- The third's: under the context's modulations, or the batch's. -/
theorem third_last (j : Nat) (hj : j = 2) : k0_pay23 (k0_pay19 (BitVec.ofNat 32 j) shc sh) (k0_pay20 (BitVec.ofNat 32 j) scc sc) (k0_pay21 (BitVec.ofNat 32 j) h h') (k0_pay22 g)
    = Cert.ProjIdeal.Gen.k0_pay6 shc scc h g := by
  unfold k0_pay19 k0_pay20 k0_pay21
  simp only [word_eq _ hj]
  rfl

theorem third_other (j : Nat) (hb : j < 3) (hj : j ≠ 2) : k0_pay23 (k0_pay19 (BitVec.ofNat 32 j) shc sh) (k0_pay20 (BitVec.ofNat 32 j) scc sc) (k0_pay21 (BitVec.ofNat 32 j) h h') (k0_pay22 g)
    = Cert.ProjIdeal.Gen.k0_pay6 sh sc h' g := by
  unfold k0_pay19 k0_pay20 k0_pay21
  simp only [word_ne _ hb hj]
  rfl

variable (a b d : FVec Ideal S1x1024 .f32) (x : FVec Ideal S256x1024 .f32) (q : BitVec 1)

/-- The stores are the other layers' functions of those rows. -/
theorem pay5_eq (i : grid0.Coords) : k0_pay5 (k0_pay4 i sh sc h h' g w) = Cert.ProjIdeal.Gen.k0_pay1 (k0_pay3 i sh sc h h' g) w := rfl
theorem pay7_eq : k0_pay7 v u = Cert.ProjIdeal.Gen.k0_pay3 v u := rfl
theorem pay8_eq : k0_pay8 v u = Cert.ProjIdeal.Gen.k0_pay4 v u := rfl
theorem pay9_eq : k0_pay9 v u = Cert.ProjIdeal.Gen.k0_pay5 v u := rfl
theorem pay14_eq : k0_pay14 a b x q h g w = Cert.ProjIdeal.Gen.k0_pay1 (k0_pay13 a b x q h g) w := rfl
theorem pay16_eq : k0_pay16 a b x q h g u = Cert.ProjIdeal.Gen.k0_pay3 (k0_pay13 a b x q h g) u := rfl
theorem pay17_eq : k0_pay17 (k0_pay15 a b x q h g u) = Cert.ProjIdeal.Gen.k0_pay4 (k0_pay13 a b x q h g) u := rfl
theorem pay18_eq : k0_pay18 (k0_pay15 a b x q h g u) = Cert.ProjIdeal.Gen.k0_pay5 (k0_pay13 a b x q h g) u := rfl
theorem pay24_eq : k0_pay24 a b x d w = Cert.ProjIdeal.Gen.k0_pay1 (k0_pay23 a b x d) w := rfl
theorem pay26_eq : k0_pay26 a b x d u = Cert.ProjIdeal.Gen.k0_pay3 (k0_pay23 a b x d) u := rfl
theorem pay1_eq : k0_pay1 (k0_pay27 a b x d u) = Cert.ProjIdeal.Gen.k0_pay4 (k0_pay23 a b x d) u := rfl
theorem pay2_eq : k0_pay2 (k0_pay25 a b x d u) = Cert.ProjIdeal.Gen.k0_pay5 (k0_pay23 a b x d) u := rfl

end Cert.FirstProjTile
end
-- ==== Proof.FirstProjRows.lean ====
/-
  The first layer's input projection: its reference's two results read at an index.
-/
module

public import proofs.«01_k».proof.Proof.Gen.ProjFirstRefIdeal.Read
public import proofs.«01_k».proof.Proof.ProjRows

@[expose] public section

set_option maxRecDepth 16384

noncomputable section

namespace Cert.FirstProjRows

open Cert.ProjFirstRefIdeal Cert.ProjFirstRefIdeal.Gen Cert.ProjFirstRefIdeal.Read Idealize.ShloMosaic Idealize.ShloMosaic.TcCoe Idealize.SL.Sem
open Cert.Mlp
open Cert.ProjRows (prj qcol lcol rcol loc lat ctx modrow)

variable (x0 : FVec Ideal S8x2048x1024 .f32) (x1 : FVec Ideal S8x256x1024 .f32) (x2 : FVec Ideal S4x16x6144 .f32) (x3 : FVec Ideal S4x2x1024 .f32)
  (x4 : FVec Ideal S4x1024x6400 .f32)

/-- Token `R`'s row: a latent row, or a context row. -/
def hrow (b : Fin 8) (R : Fin 2304) (k : Fin 1024) : EReal :=
  if h : R.val < 2048 then x0 (ix3 b ⟨R.val, h⟩ k) else x1 (ix3 b ⟨R.val - 2048, by omega⟩ k)

theorem hrow_lat (b : Fin 8) (r : Fin 2048) : hrow x0 x1 b (lat r) = fun k => x0 (ix3 b r k) := funext fun k => dif_pos r.isLt
theorem hrow_ctx (b : Fin 8) (r : Fin 256) : hrow x0 x1 b (ctx r) = fun k => x1 (ix3 b r k) := funext fun k =>
  (dif_neg (show ¬ (ctx r).val < 2048 by simp [ctx])).trans (congrArg (fun s => x1 (ix3 b s k)) (Fin.ext (by simp [ctx])))

/-- Column `j` of the projection of token `R`. -/
def proj (b : Fin 8) (R : Fin 2304) (j : Fin 6400) : EReal :=
  prj (act (hrow x0 x1 b R) (fun k => x3 (ix3 0 0 k)) (fun k => x2 (ix3 0 (modrow b R) (Mix.at1 k)))
    (fun k => x2 (ix3 0 (modrow b R) (Mix.at0 k)))) (fun k j => x4 (ix3 0 k j)) j

/-- The modulated latent rows. -/
theorem lat_act (b : Fin 8) (r : Fin 2048) (k : Fin 1024) : val_main_v37 (F := Ideal) x0 x2 x3 (ix3 b r k)
    = act (fun k => x0 (ix3 b r k)) (fun k => x3 (ix3 0 0 k)) (fun k => x2 (ix3 0 (b.castLE (by decide)) (Mix.at1 k))) (fun k => x2 (ix3 0 (b.castLE (by decide)) (Mix.at0 k))) k := by
  rw [← act_eq]
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v4, val_main_v3, val_main_v2, val_main_v1, val_main_v0, val_main_cst, val_main_cst_0, val_main_cst_1, val_main_cst_2]
  rfl

/-- The latent rows' projection. -/
theorem lat_proj (b : Fin 8) (r : Fin 2048) (j : Fin 6400) : val_main_v40 (F := Ideal) x0 x2 x3 x4 (ix3 b r j) = proj x0 x1 x2 x3 x4 b (lat r) j := by
  unfold proj modrow
  rw [hrow_lat]
  rw [if_pos (show (lat r).val < 2048 from r.isLt)]
  pointwise [val_main_v40, val_main_v39, val_main_v38]
  simp only [lat_act]
  rfl

/-- The modulated context rows. -/
theorem ctx_act (b : Fin 8) (r : Fin 256) (k : Fin 1024) : val_main_v77 (F := Ideal) x1 x2 x3 (ix3 b r k)
    = act (fun k => x1 (ix3 b r k)) (fun k => x3 (ix3 0 0 k)) (fun k => x2 (ix3 0 8 (Mix.at1 k))) (fun k => x2 (ix3 0 8 (Mix.at0 k))) k := by
  rw [← act_eq]
  pointwise [val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v12, val_main_v11, val_main_v10, val_main_v9, val_main_cst_3, val_main_cst_4, val_main_cst_5, val_main_cst_6]
  rfl

/-- The context rows' projection. -/
theorem ctx_proj (b : Fin 8) (r : Fin 256) (j : Fin 6400) : val_main_v80 (F := Ideal) x1 x2 x3 x4 (ix3 b r j) = proj x0 x1 x2 x3 x4 b (ctx r) j := by
  unfold proj modrow
  rw [hrow_ctx]
  rw [if_neg (show ¬ (ctx r).val < 2048 from by simp [ctx])]
  pointwise [val_main_v80, val_main_v79, val_main_v78]
  simp only [ctx_act]
  rfl

/-- The attention's share of the latent rows. -/
theorem lat_att (b : Fin 8) (r : Fin 2048) (n : Fin 1024) : val_main_v52 (F := Ideal) x0 x2 x3 x4 (ix3 b r n) = proj x0 x1 x2 x3 x4 b (lat r) (qcol n) := by
  rw [← lat_proj]
  pointwise [val_main_v52, val_main_v51, val_main_v44, val_main_v43, val_main_v42, val_main_v41]
  split_ifs <;> exact congrArg (fun j => val_main_v40 (F := Ideal) x0 x2 x3 x4 (ix3 b r j)) (Fin.ext (by simp only [qcol] <;> omega))

/-- The attention's share of the context rows. -/
theorem ctx_att (b : Fin 8) (r : Fin 256) (n : Fin 1024) : val_main_v92 (F := Ideal) x1 x2 x3 x4 (ix3 b r n) = proj x0 x1 x2 x3 x4 b (ctx r) (qcol n) := by
  rw [← ctx_proj]
  pointwise [val_main_v92, val_main_v91, val_main_v84, val_main_v83, val_main_v82, val_main_v81]
  split_ifs <;> exact congrArg (fun j => val_main_v80 (F := Ideal) x1 x2 x3 x4 (ix3 b r j)) (Fin.ext (by simp only [qcol] <;> omega))

/-- The other branches' share of the latent rows. -/
theorem lat_loc (b : Fin 8) (r : Fin 2048) (n : Fin 1024) : val_main_v54 (F := Ideal) x0 x2 x3 x4 (ix3 b r n) = loc (proj x0 x1 x2 x3 x4 b (lat r)) n := by
  have e : proj x0 x1 x2 x3 x4 b (lat r) = fun j => val_main_v40 (F := Ideal) x0 x2 x3 x4 (ix3 b r j) := funext fun j => (lat_proj x0 x1 x2 x3 x4 b r j).symm
  rw [e]
  unfold loc
  pointwise [val_main_v54, val_main_v53, val_main_v49, val_main_v48, val_main_v47, val_main_v46, val_main_v45]
  by_cases h : n.val < 256
  · rw [dif_pos h, if_pos h]
    rfl
  rw [dif_neg h, if_neg h]
  by_cases h' : n.val < 512
  · rw [dif_pos (by omega), if_pos h']
    exact congrArg₂ (fun i j => val_main_v40 (F := Ideal) x0 x2 x3 x4 (ix3 b r i) * val_main_v40 (F := Ideal) x0 x2 x3 x4 (ix3 b r j))
      (Fin.ext (by simp only [lcol]; omega)) (Fin.ext (by simp only [rcol]; omega))
  rw [dif_neg (by omega), if_neg h']
  split_ifs <;> exact congrArg (fun j => val_main_v40 (F := Ideal) x0 x2 x3 x4 (ix3 b r j)) (Fin.ext (by simp only [rcol]; omega))

/-- The other branches' share of the context rows. -/
theorem ctx_loc (b : Fin 8) (r : Fin 256) (n : Fin 1024) : val_main_v94 (F := Ideal) x1 x2 x3 x4 (ix3 b r n) = loc (proj x0 x1 x2 x3 x4 b (ctx r)) n := by
  have e : proj x0 x1 x2 x3 x4 b (ctx r) = fun j => val_main_v80 (F := Ideal) x1 x2 x3 x4 (ix3 b r j) := funext fun j => (ctx_proj x0 x1 x2 x3 x4 b r j).symm
  rw [e]
  unfold loc
  pointwise [val_main_v94, val_main_v93, val_main_v89, val_main_v88, val_main_v87, val_main_v86, val_main_v85]
  by_cases h : n.val < 256
  · rw [dif_pos h, if_pos h]
    rfl
  rw [dif_neg h, if_neg h]
  by_cases h' : n.val < 512
  · rw [dif_pos (by omega), if_pos h']
    exact congrArg₂ (fun i j => val_main_v80 (F := Ideal) x1 x2 x3 x4 (ix3 b r i) * val_main_v80 (F := Ideal) x1 x2 x3 x4 (ix3 b r j))
      (Fin.ext (by simp only [lcol]; omega)) (Fin.ext (by simp only [rcol]; omega))
  rw [dif_neg (by omega), if_neg h']
  split_ifs <;> exact congrArg (fun j => val_main_v80 (F := Ideal) x1 x2 x3 x4 (ix3 b r j)) (Fin.ext (by simp only [rcol]; omega))

/-- The first result, of the arguments. -/
theorem att_at (b : Fin 8) (R : Fin 2304) (n : Fin 1024) : val_main_v95 (F := Ideal) x0 x1 x2 x3 x4 (ix3 b R n) = proj x0 x1 x2 x3 x4 b R (qcol n) := by
  pointwise [val_main_v95]
  by_cases h : R.val < 2048
  · simp only [dif_pos h]
    exact lat_att x0 x1 x2 x3 x4 b ⟨R.val, h⟩ n
  · simp only [dif_neg h]
    refine (ctx_att x0 x1 x2 x3 x4 b ⟨R.val - 2048, by omega⟩ n).trans ?_
    have e : ctx ⟨R.val - 2048, by omega⟩ = R := Fin.ext (by simp only [ctx]; omega)
    rw [e]

/-- The second result, of the arguments. -/
theorem loc_at (b : Fin 8) (R : Fin 2304) (n : Fin 1024) : val_main_v96 (F := Ideal) x0 x1 x2 x3 x4 (ix3 b R n) = loc (proj x0 x1 x2 x3 x4 b R) n := by
  pointwise [val_main_v96]
  by_cases h : R.val < 2048
  · simp only [dif_pos h]
    exact lat_loc x0 x1 x2 x3 x4 b ⟨R.val, h⟩ n
  · simp only [dif_neg h]
    refine (ctx_loc x0 x1 x2 x3 x4 b ⟨R.val - 2048, by omega⟩ n).trans ?_
    have e : ctx ⟨R.val - 2048, by omega⟩ = R := Fin.ext (by simp only [ctx]; omega)
    rw [e]

end Cert.FirstProjRows
end
-- ==== Proof.FirstProjKernel.lean ====
/-
  The first layer's input projection: its two result arrays are the reference's, of the same arguments.
-/
module

public import proofs.«01_k».proof.Proof.Gen.ProjFirstIdeal.Value
public import proofs.«01_k».proof.Proof.FirstProjTile
public import proofs.«01_k».proof.Proof.FirstProjRows
public import proofs.«01_k».proof.Proof.ProjKernel
public import proofs.«01_k».proof.Proof.NaPoint

@[expose] public section

set_option maxRecDepth 16384

noncomputable section

namespace Cert.FirstProjKernel

open Cert.ProjFirstIdeal Cert.ProjFirstIdeal.Gen Idealize.ShloMosaic Idealize.ShloMosaic.TcCoe Idealize.SL.Sem
open Cert.Mlp Cert.FirstProjTile
open Cert.ProjKernel (ld_cols)

variable (m : (ℓ : Loc nD τ sig) → Buf (Elt Ideal) ℓ)

/-- A grid point's batch and tile. -/
theorem coords : ∀ t : Fin cfg0.N, t.val / 3 < 8 ∧ (grid0.coords t 1).val = t.val % 3 :=
  (by decide +kernel : ∀ t : Fin grid0.N, t.val / 3 < 8 ∧ (grid0.coords t 1).val = t.val % 3)

theorem idx0 : ∀ t : Fin cfg0.N, win0_0.index t = ![t.val / 3, min (t.val % 3) 1, 0] :=
  (by decide +kernel : ∀ t : Fin grid0.N, win0_0.index t = ![t.val / 3, min (t.val % 3) 1, 0])
theorem idx1 : ∀ t : Fin cfg0.N, win0_1.index t = ![t.val / 3, 3, 0] :=
  (by decide +kernel : ∀ t : Fin grid0.N, win0_1.index t = ![t.val / 3, 3, 0])
theorem idx2 : ∀ t : Fin cfg0.N, win0_2.index t = ![t.val / 3, 0, 0] :=
  (by decide +kernel : ∀ t : Fin grid0.N, win0_2.index t = ![t.val / 3, 0, 0])
theorem idx3 : ∀ t : Fin cfg0.N, win0_3.index t = ![t.val / 3, 0, 0] :=
  (by decide +kernel : ∀ t : Fin grid0.N, win0_3.index t = ![t.val / 3, 0, 0])
theorem idx4 : ∀ t : Fin cfg0.N, win0_4.index t = ![8, 0, 0] :=
  (by decide +kernel : ∀ t : Fin grid0.N, win0_4.index t = ![8, 0, 0])
theorem idx5 : ∀ t : Fin cfg0.N, win0_5.index t = ![0, 0, 0] :=
  (by decide +kernel : ∀ t : Fin grid0.N, win0_5.index t = ![0, 0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![t.val / 3, t.val % 3, 0] :=
  (by decide +kernel : ∀ t : Fin grid0.N, win0_7.index t = ![t.val / 3, t.val % 3, 0])
theorem idx8 : ∀ t : Fin cfg0.N, win0_8.index t = ![t.val / 3, t.val % 3, 0] :=
  (by decide +kernel : ∀ t : Fin grid0.N, win0_8.index t = ![t.val / 3, t.val % 3, 0])

/-- The latents' window, where its tile lies in the latents. -/
theorem X0_at (c : Dev nD) (t : Fin cfg0.N) (b : Fin 8) (R : Fin 2048) (r : Fin 768) (k : Fin 1024) (hb : b.val = t.val / 3)
    (hR : R.val = t.val % 3 * 768 + r.val) (h : t.val % 3 < 2) :
    X0_0 m c t (ix3 0 r k) = m ((c : Thread nD τ).loc main_arg0) (ix3 b R k) := by
  unfold X0_0
  refine Eq.trans (dif_pos (moved0_0 t _)) ?_
  blk_ext [iblk, V, idx0 t]

theorem iblk1_at (c : Dev nD) (t : Fin cfg0.N) (b : Fin 8) (R : Fin 2048) (r : Fin 512) (k : Fin 1024) (hb : b.val = t.val / 3) (hR : R.val = 1536 + r.val) :
    iblk m c 1 t (ix3 0 r k) = m ((c : Thread nD τ).loc main_arg0) (ix3 b R k) := by
  blk_ext [iblk, V, idx1 t]

theorem iblk2_at (c : Dev nD) (t : Fin cfg0.N) (b : Fin 8) (r : Fin 256) (k : Fin 1024) (hb : b.val = t.val / 3) :
    iblk m c 2 t (ix3 0 r k) = m ((c : Thread nD τ).loc main_arg1) (ix3 b r k) := by
  blk_ext [iblk, V, idx2 t]

theorem iblk3_at (c : Dev nD) (t : Fin cfg0.N) (b : Fin 16) (k : Fin 6144) (hb : b.val = t.val / 3) :
    iblk m c 3 t (ix3 0 0 k) = m ((c : Thread nD τ).loc main_arg2) (ix3 0 b k) := by
  have h8 := (coords t).1
  blk_simp [iblk, idx3 t]
  entry_read
  pointwise []
  blk_ext [idx3 t]

theorem iblk4_at (c : Dev nD) (t : Fin cfg0.N) (k : Fin 6144) :
    iblk m c 4 t (ix3 0 0 k) = m ((c : Thread nD τ).loc main_arg2) (ix3 0 8 k) := by
  blk_simp [iblk, idx4 t]
  entry_read
  pointwise []
  blk_ext [idx4 t]

theorem iblk5_at (c : Dev nD) (t : Fin cfg0.N) (k : Fin 1024) :
    iblk m c 5 t (ix3 0 0 k) = m ((c : Thread nD τ).loc main_arg3) (ix3 0 0 k) := by
  blk_simp [iblk, idx5 t]
  entry_read
  pointwise []
  blk_ext [idx5 t]

theorem X6_at (c : Dev nD) (t : Fin cfg0.N) (k : Fin 1024) (j : Fin 2304) (z : Fin 6400) (hz : z.val = j.val) :
    X0_6 m c t (ix3 0 k j) = m ((c : Thread nD τ).loc main_arg4) (ix3 0 k z) := by
  unfold X0_6
  refine Eq.trans (dif_pos (moved0_6 t (ix3 0 k j))) ?_
  blk_simp [iblk, idx6 t]
  entry_read
  pointwise []
  blk_ext [idx6 t]

/-- Column `j` of token `R`'s projection, of the kernel's arguments. -/
def want (c : Dev nD) (b : Fin 8) (R : Fin 2304) (j : Fin 6400) : EReal :=
  FirstProjRows.proj (m ((c : Thread nD τ).loc main_arg0)) (m ((c : Thread nD τ).loc main_arg1)) (m ((c : Thread nD τ).loc main_arg2)) (m ((c : Thread nD τ).loc main_arg3)) (m ((c : Thread nD τ).loc main_arg4)) b R j

/-- The first result, of the kernel's arguments. -/
def wantA (c : Dev nD) : FVec Ideal S8x2304x1024 .bf16 :=
  Cert.ProjFirstRefIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The second result, of the kernel's arguments. -/
def wantL (c : Dev nD) : FVec Ideal S8x2304x1024 .f32 :=
  Cert.ProjFirstRefIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Token `R`'s row, of the kernel's arguments. -/
def trow (c : Dev nD) (b : Fin 8) (R : Fin 2304) : Fin 1024 → EReal :=
  FirstProjRows.hrow (m ((c : Thread nD τ).loc main_arg0)) (m ((c : Thread nD τ).loc main_arg1)) b R

/-- Token `R`'s modulated row. -/
def arow (c : Dev nD) (b : Fin 8) (R : Fin 2304) : Fin 1024 → EReal :=
  act (trow m c b R) (fun k => m ((c : Thread nD τ).loc main_arg3) (ix3 0 0 k))
    (fun k => m ((c : Thread nD τ).loc main_arg2) (ix3 0 (ProjRows.modrow b R) (Mix.at1 k)))
    (fun k => m ((c : Thread nD τ).loc main_arg2) (ix3 0 (ProjRows.modrow b R) (Mix.at0 k)))

/-- A modulated row under its batch's modulations. -/
theorem lat_row (c : Dev nD) (t : Fin cfg0.N) (b : Fin 8) (R : Fin 2304) (r : Fin 256) (k : Fin 1024) (hb : b.val = t.val / 3) (hl : R.val < 2048)
    (off0 off1 : Fin 3 → Nat) (i0 i1) (h0 : off0 = ![0, 0, 0]) (h1 : off1 = ![0, 0, 1024]) (H : Vec Ideal S1x256x1024 .f32)
    (hH : ∀ k, H (ix3 0 r k) = trow m c b R k) :
    Cert.ProjIdeal.Gen.k0_pay6 (View.ld (iblk m c 3 t) (Rect.unit (s := S1x1x6144) off0 ![1, 1, 1024] i0)) (View.ld (iblk m c 3 t) (Rect.unit (s := S1x1x6144) off1 ![1, 1, 1024] i1))
      H (iblk m c 5 t) (ix2 r k) = arow m c b R k := by
  rw [ProjTile.act_apply]
  unfold arow ProjRows.modrow
  rw [if_pos hl]
  congr 1
  · funext k
    exact hH k
  · funext k
    exact iblk5_at m c t k
  · funext k
    exact (ld_cols (o := 1024) (iblk m c 3 t) _ _ h1 0 k (Mix.at1 k) rfl).trans (iblk3_at m c t _ _ hb)
  · funext k
    exact (ld_cols (o := 0) (iblk m c 3 t) _ _ h0 0 k (Mix.at0 k) (Nat.zero_add _).symm).trans (iblk3_at m c t _ _ hb)

/-- A modulated row under the context's modulations. -/
theorem ctx_row (c : Dev nD) (t : Fin cfg0.N) (b : Fin 8) (R : Fin 2304) (r : Fin 256) (k : Fin 1024) (hl : ¬ R.val < 2048)
    (off0 off1 : Fin 3 → Nat) (i0 i1) (h0 : off0 = ![0, 0, 0]) (h1 : off1 = ![0, 0, 1024]) (H : Vec Ideal S1x256x1024 .f32)
    (hH : ∀ k, H (ix3 0 r k) = trow m c b R k) :
    Cert.ProjIdeal.Gen.k0_pay6 (View.ld (iblk m c 4 t) (Rect.unit (s := S1x1x6144) off0 ![1, 1, 1024] i0)) (View.ld (iblk m c 4 t) (Rect.unit (s := S1x1x6144) off1 ![1, 1, 1024] i1))
      H (iblk m c 5 t) (ix2 r k) = arow m c b R k := by
  rw [ProjTile.act_apply]
  unfold arow ProjRows.modrow
  rw [if_neg hl]
  congr 1
  · funext k
    exact hH k
  · funext k
    exact iblk5_at m c t k
  · funext k
    exact (ld_cols (o := 1024) (iblk m c 4 t) _ _ h1 0 k (Mix.at1 k) rfl).trans (iblk4_at m c t _)
  · funext k
    exact (ld_cols (o := 0) (iblk m c 4 t) _ _ h0 0 k (Mix.at0 k) (Nat.zero_add _).symm).trans (iblk4_at m c t _)

/-- A loaded row of the latents' window, -/
theorem row_lat (c : Dev nD) (t : Fin cfg0.N) (b : Fin 8) (R : Fin 2304) (r : Fin 256) (o : Nat) (k : Fin 1024) (hb : b.val = t.val / 3)
    (hR : R.val = t.val % 3 * 768 + (o + r.val)) (ho : o + r.val < 768) (hj : t.val % 3 < 2) (off : Fin 3 → Nat) (inb) (h : off = ![0, o, 0]) :
    View.ld (X0_0 m c t) (Rect.unit (s := S1x768x1024) off ![1, 256, 1024] inb) (ix3 0 r k) = trow m c b R k := by
  unfold trow FirstProjRows.hrow
  rw [dif_pos (by omega)]
  exact (Cert.NaPoint.ld_rows (o := o) (X0_0 m c t) _ _ h r k ⟨o + r.val, ho⟩ rfl).trans (X0_at m c t b _ _ k hb hR hj)

/-- of the window on their end, -/
theorem row_end (c : Dev nD) (t : Fin cfg0.N) (b : Fin 8) (R : Fin 2304) (r : Fin 256) (o : Nat) (k : Fin 1024) (hb : b.val = t.val / 3)
    (hR : R.val = 1536 + (o + r.val)) (ho : o + r.val < 512) (off : Fin 3 → Nat) (inb) (h : off = ![0, o, 0]) :
    View.ld (iblk m c 1 t) (Rect.unit (s := S1x512x1024) off ![1, 256, 1024] inb) (ix3 0 r k) = trow m c b R k := by
  unfold trow FirstProjRows.hrow
  rw [dif_pos (by omega)]
  exact (Cert.NaPoint.ld_rows (o := o) (iblk m c 1 t) _ _ h r k ⟨o + r.val, ho⟩ rfl).trans (iblk1_at m c t b _ _ k hb hR)

/-- and of the context. -/
theorem row_ctx (c : Dev nD) (t : Fin cfg0.N) (b : Fin 8) (R : Fin 2304) (r : Fin 256) (k : Fin 1024) (hb : b.val = t.val / 3)
    (hR : R.val = 2048 + r.val) : iblk m c 2 t (ix3 0 r k) = trow m c b R k := by
  unfold trow FirstProjRows.hrow
  rw [dif_neg (by omega)]
  exact (iblk2_at m c t b r k hb).trans (congrArg (fun x => m ((c : Thread nD τ).loc main_arg1) (ix3 b x k)) (Fin.ext (by show r.val = R.val - 2048; omega)))

/-- The first sub-tile's modulated rows. -/
theorem rows0 (c : Dev nD) (t : Fin cfg0.N) (b : Fin 8) (R : Fin 2304) (r : Fin 256) (k : Fin 1024) (hb : b.val = t.val / 3)
    (hR : R.val = t.val % 3 * 768 + r.val) (off0 off1 off2 off3 : Fin 3 → Nat) (i0 i1 i2 i3) (h0 : off0 = ![0, 0, 0]) (h1 : off1 = ![0, 0, 1024])
    (h2 : off2 = ![0, 0, 0]) (h3 : off3 = ![0, 0, 0]) :
    k0_pay3 (grid0.coords t) (View.ld (iblk m c 3 t) (Rect.unit (s := S1x1x6144) off0 ![1, 1, 1024] i0)) (View.ld (iblk m c 3 t) (Rect.unit (s := S1x1x6144) off1 ![1, 1, 1024] i1))
      (View.ld (iblk m c 1 t) (Rect.unit (s := S1x512x1024) off2 ![1, 256, 1024] i2)) (View.ld (X0_0 m c t) (Rect.unit (s := S1x768x1024) off3 ![1, 256, 1024] i3))
      (iblk m c 5 t) (ix2 r k) = arow m c b R k := by
  have hc := (coords t).2
  have hr := r.isLt
  by_cases hi : (grid0.coords t 1).val = 2
  · rw [first_last _ _ _ _ _ _ hi]
    exact lat_row m c t b R r k hb (by omega) _ _ _ _ h0 h1 _ fun k => row_end m c t b R r 0 k hb (by omega) (by omega) _ _ h2
  · rw [first_other _ _ _ _ _ _ hi]
    exact lat_row m c t b R r k hb (by omega) _ _ _ _ h0 h1 _ fun k => row_lat m c t b R r 0 k hb (by omega) (by omega) (by omega) _ _ h3

/-- The second's. -/
theorem rows1 (c : Dev nD) (t : Fin cfg0.N) (b : Fin 8) (R : Fin 2304) (r : Fin 256) (k : Fin 1024) (hb : b.val = t.val / 3)
    (hR : R.val = t.val % 3 * 768 + (256 + r.val)) (off0 off1 off2 off3 : Fin 3 → Nat) (i0 i1 i2 i3) (h0 : off0 = ![0, 0, 0]) (h1 : off1 = ![0, 0, 1024])
    (h2 : off2 = ![0, 256, 0]) (h3 : off3 = ![0, 256, 0]) :
    k0_pay13 (k0_pay10 (View.ld (iblk m c 3 t) (Rect.unit (s := S1x1x6144) off0 ![1, 1, 1024] i0))) (k0_pay11 (View.ld (iblk m c 3 t) (Rect.unit (s := S1x1x6144) off1 ![1, 1, 1024] i1)))
      (k0_pay12 (View.ld (iblk m c 1 t) (Rect.unit (s := S1x512x1024) off2 ![1, 256, 1024] i2))) (Scalar.cmpi .eq (BitVec.ofNat 32 (grid0.coords t 1).val) 2#32)
      (View.ld (X0_0 m c t) (Rect.unit (s := S1x768x1024) off3 ![1, 256, 1024] i3)) (iblk m c 5 t) (ix2 r k) = arow m c b R k := by
  have hc := (coords t).2
  have hr := r.isLt
  by_cases hi : (grid0.coords t 1).val = 2
  · rw [second_last _ _ _ _ _ _ hi]
    exact lat_row m c t b R r k hb (by omega) _ _ _ _ h0 h1 _ fun k => row_end m c t b R r 256 k hb (by omega) (by omega) _ _ h2
  · rw [second_other _ _ _ _ _ _ (grid0.coords t 1).isLt hi]
    exact lat_row m c t b R r k hb (by omega) _ _ _ _ h0 h1 _ fun k => row_lat m c t b R r 256 k hb (by omega) (by omega) (by omega) _ _ h3

/-- The third's. -/
theorem rows2 (c : Dev nD) (t : Fin cfg0.N) (b : Fin 8) (R : Fin 2304) (r : Fin 256) (k : Fin 1024) (hb : b.val = t.val / 3)
    (hR : R.val = t.val % 3 * 768 + (512 + r.val)) (off0 off1 off2 off3 off4 : Fin 3 → Nat) (i0 i1 i2 i3 i4) (h0 : off0 = ![0, 0, 0]) (h1 : off1 = ![0, 0, 0])
    (h2 : off2 = ![0, 0, 1024]) (h3 : off3 = ![0, 0, 1024]) (h4 : off4 = ![0, 512, 0]) :
    k0_pay23 (k0_pay19 (BitVec.ofNat 32 (grid0.coords t 1).val) (View.ld (iblk m c 4 t) (Rect.unit (s := S1x1x6144) off0 ![1, 1, 1024] i0))
        (View.ld (iblk m c 3 t) (Rect.unit (s := S1x1x6144) off1 ![1, 1, 1024] i1)))
      (k0_pay20 (BitVec.ofNat 32 (grid0.coords t 1).val) (View.ld (iblk m c 4 t) (Rect.unit (s := S1x1x6144) off2 ![1, 1, 1024] i2))
        (View.ld (iblk m c 3 t) (Rect.unit (s := S1x1x6144) off3 ![1, 1, 1024] i3)))
      (k0_pay21 (BitVec.ofNat 32 (grid0.coords t 1).val) (iblk m c 2 t) (View.ld (X0_0 m c t) (Rect.unit (s := S1x768x1024) off4 ![1, 256, 1024] i4)))
      (k0_pay22 (iblk m c 5 t)) (ix2 r k) = arow m c b R k := by
  have hc := (coords t).2
  have hr := r.isLt
  by_cases hi : (grid0.coords t 1).val = 2
  · rw [third_last _ _ _ _ _ _ _ _ hi]
    exact ctx_row m c t b R r k (by omega) _ _ _ _ h0 h2 _ fun k => row_ctx m c t b R r k hb (by omega)
  · rw [third_other _ _ _ _ _ _ _ _ (grid0.coords t 1).isLt hi]
    exact lat_row m c t b R r k hb (by omega) _ _ _ _ h1 h3 _ fun k => row_lat m c t b R r 512 k hb (by omega) (by omega) (by omega) _ _ h4

/-- The attention's share of a sub-tile's row. -/
theorem att_row (c : Dev nD) (t : Fin cfg0.N) (b : Fin 8) (R : Fin 2304) (r : Fin 256) (n : Fin 1024) (v : FVec Ideal S256x1024 .bf16)
    (off : Fin 3 → Nat) (inb) (h : off = ![0, 0, 0]) (hv : ∀ k, v (ix2 r k) = arow m c b R k) :
    Cert.ProjIdeal.Gen.k0_pay1 v (View.ld (X0_6 m c t) (Rect.unit (s := S1x1024x2304) off ![1, 1024, 1024] inb)) (ix3 0 r n) = wantA m c (ix3 b R n) := by
  rw [ProjTile.att_apply]
  refine Eq.trans ?_ (FirstProjRows.att_at _ _ _ _ _ b R n).symm
  show _ = ∑ k, arow m c b R k * m ((c : Thread nD τ).loc main_arg4) (ix3 0 k (ProjRows.qcol n))
  refine Finset.sum_congr rfl fun k _ => ?_
  rw [hv]
  exact congrArg (arow m c b R k * ·) ((ld_cols (o := 0) (X0_6 m c t) _ _ h k n ⟨n.val, by omega⟩ (Nat.zero_add _).symm).trans
    (X6_at m c t k _ (ProjRows.qcol n) rfl))

/-- A column of the following 1280 of a sub-tile's row. -/
theorem wide_row (c : Dev nD) (t : Fin cfg0.N) (b : Fin 8) (R : Fin 2304) (r : Fin 256) (j : Fin 1280) (z : Fin 6400) (hz : z.val = 1024 + j.val)
    (v : FVec Ideal S256x1024 .bf16) (off : Fin 3 → Nat) (inb) (h : off = ![0, 0, 1024]) (hv : ∀ k, v (ix2 r k) = arow m c b R k) :
    Cert.ProjIdeal.Gen.k0_pay2 v (View.ld (X0_6 m c t) (Rect.unit (s := S1x1024x2304) off ![1, 1024, 1280] inb)) (ix2 r j) = want m c b R z := by
  rw [ProjTile.wide_apply]
  show _ = ∑ k, arow m c b R k * m ((c : Thread nD τ).loc main_arg4) (ix3 0 k z)
  refine Finset.sum_congr rfl fun k _ => ?_
  rw [hv]
  exact congrArg (arow m c b R k * ·) ((ld_cols (o := 1024) (X0_6 m c t) _ _ h k j ⟨1024 + j.val, by omega⟩ rfl).trans (X6_at m c t k _ z hz))

/-- The other branches' share of a sub-tile's row, in its three stores. -/
theorem first_row (c : Dev nD) (t : Fin cfg0.N) (b : Fin 8) (R : Fin 2304) (r : Fin 256) (x : Fin 256) (n : Fin 1024) (hn : n.val = x.val)
    (v : FVec Ideal S256x1024 .bf16) (off : Fin 3 → Nat) (inb) (h : off = ![0, 0, 1024]) (hv : ∀ k, v (ix2 r k) = arow m c b R k) :
    Cert.ProjIdeal.Gen.k0_pay3 v (View.ld (X0_6 m c t) (Rect.unit (s := S1x1024x2304) off ![1, 1024, 1280] inb)) (ix3 0 r x) = wantL m c (ix3 b R n) := by
  rw [ProjTile.first_apply]
  refine Eq.trans ?_ (FirstProjRows.loc_at _ _ _ _ _ b R n).symm
  unfold ProjRows.loc
  rw [if_pos (by omega)]
  exact wide_row m c t b R r _ _ (by simp only [ProjRows.lcol]; omega) v off inb h hv

theorem second_row (c : Dev nD) (t : Fin cfg0.N) (b : Fin 8) (R : Fin 2304) (r : Fin 256) (x : Fin 256) (n : Fin 1024) (hn : n.val = 256 + x.val)
    (v : FVec Ideal S256x1024 .bf16) (off : Fin 3 → Nat) (inb) (h : off = ![0, 0, 1024]) (hv : ∀ k, v (ix2 r k) = arow m c b R k) :
    Cert.ProjIdeal.Gen.k0_pay4 v (View.ld (X0_6 m c t) (Rect.unit (s := S1x1024x2304) off ![1, 1024, 1280] inb)) (ix3 0 r x) = wantL m c (ix3 b R n) := by
  rw [ProjTile.second_apply]
  refine Eq.trans ?_ (FirstProjRows.loc_at _ _ _ _ _ b R n).symm
  unfold ProjRows.loc
  rw [if_neg (by omega), if_pos (by omega)]
  exact congrArg₂ (· * ·) (wide_row m c t b R r _ _ (by simp only [ProjRows.lcol]; omega) v off inb h hv)
    (wide_row m c t b R r _ _ (by simp only [ProjRows.rcol]; omega) v off inb h hv)

theorem third_row (c : Dev nD) (t : Fin cfg0.N) (b : Fin 8) (R : Fin 2304) (r : Fin 256) (x : Fin 512) (n : Fin 1024) (hn : n.val = 512 + x.val)
    (v : FVec Ideal S256x1024 .bf16) (off : Fin 3 → Nat) (inb) (h : off = ![0, 0, 1024]) (hv : ∀ k, v (ix2 r k) = arow m c b R k) :
    Cert.ProjIdeal.Gen.k0_pay5 v (View.ld (X0_6 m c t) (Rect.unit (s := S1x1024x2304) off ![1, 1024, 1280] inb)) (ix3 0 r x) = wantL m c (ix3 b R n) := by
  rw [ProjTile.third_apply]
  refine Eq.trans ?_ (FirstProjRows.loc_at _ _ _ _ _ b R n).symm
  unfold ProjRows.loc
  rw [if_neg (by omega), if_neg (by omega)]
  exact wide_row m c t b R r _ _ (by simp only [ProjRows.rcol]; omega) v off inb h hv

/-- A row of a tile's first output is the reference's row it sits at. -/
theorem pointA (c : Dev nD) (t : Fin cfg0.N) (b : Fin 8) (R : Fin 2304) (r : Fin 768) (n : Fin 1024) (hb : b.val = t.val / 3)
    (hR : R.val = t.val % 3 * 768 + r.val) : (outsAt0 m c t).1 (ix3 0 r n) = wantA m c (ix3 b R n) := by
  unfold outsAt0
  frame_out
  canon_tiles y h
  all_goals
    idx_vars y
    obtain rfl : y0 = 0 := Fin.ext (by omega)
    obtain rfl : n = y2 := Fin.ext (by simpa using h2)
  case piece0 =>
    rw [pay24_eq]
    exact att_row m c t b R y1 n _ _ _ rfl fun k => rows2 m c t b R y1 k hb (by omega) _ _ _ _ _ _ _ _ _ _ rfl rfl rfl rfl rfl
  case piece1 =>
    rw [pay14_eq]
    exact att_row m c t b R y1 n _ _ _ rfl fun k => rows1 m c t b R y1 k hb (by omega) _ _ _ _ _ _ _ _ rfl rfl rfl rfl
  case piece2 =>
    rw [pay5_eq]
    exact att_row m c t b R y1 n _ _ _ rfl fun k => rows0 m c t b R y1 k hb (by omega) _ _ _ _ _ _ _ _ rfl rfl rfl rfl

/-- A row of a tile's second output is the reference's row it sits at. -/
theorem pointL (c : Dev nD) (t : Fin cfg0.N) (b : Fin 8) (R : Fin 2304) (r : Fin 768) (n : Fin 1024) (hb : b.val = t.val / 3)
    (hR : R.val = t.val % 3 * 768 + r.val) : (outsAt0 m c t).2 (ix3 0 r n) = wantL m c (ix3 b R n) := by
  unfold outsAt0
  frame_out
  canon_tiles y h using View.cover_of_tiledBy _ ![1, 256, 256] (by sl_kernel_rfl) _
  all_goals
    idx_vars y
    obtain rfl : y0 = 0 := Fin.ext (by omega)
  case piece0 =>
    rw [pay2_eq]
    exact third_row m c t b R y1 y2 n (by omega) _ _ _ rfl fun k => rows2 m c t b R y1 k hb (by omega) _ _ _ _ _ _ _ _ _ _ rfl rfl rfl rfl rfl
  case piece1 =>
    rw [pay1_eq]
    exact second_row m c t b R y1 y2 n (by omega) _ _ _ rfl fun k => rows2 m c t b R y1 k hb (by omega) _ _ _ _ _ _ _ _ _ _ rfl rfl rfl rfl rfl
  case piece2 =>
    rw [pay26_eq]
    exact first_row m c t b R y1 y2 n (by omega) _ _ _ rfl fun k => rows2 m c t b R y1 k hb (by omega) _ _ _ _ _ _ _ _ _ _ rfl rfl rfl rfl rfl
  case piece3 =>
    rw [pay18_eq]
    exact third_row m c t b R y1 y2 n (by omega) _ _ _ rfl fun k => rows1 m c t b R y1 k hb (by omega) _ _ _ _ _ _ _ _ rfl rfl rfl rfl
  case piece4 =>
    rw [pay17_eq]
    exact second_row m c t b R y1 y2 n (by omega) _ _ _ rfl fun k => rows1 m c t b R y1 k hb (by omega) _ _ _ _ _ _ _ _ rfl rfl rfl rfl
  case piece5 =>
    rw [pay16_eq]
    exact first_row m c t b R y1 y2 n (by omega) _ _ _ rfl fun k => rows1 m c t b R y1 k hb (by omega) _ _ _ _ _ _ _ _ rfl rfl rfl rfl
  case piece6 =>
    rw [pay9_eq]
    exact third_row m c t b R y1 y2 n (by omega) _ _ _ rfl fun k => rows0 m c t b R y1 k hb (by omega) _ _ _ _ _ _ _ _ rfl rfl rfl rfl
  case piece7 =>
    rw [pay8_eq]
    exact second_row m c t b R y1 y2 n (by omega) _ _ _ rfl fun k => rows0 m c t b R y1 k hb (by omega) _ _ _ _ _ _ _ _ rfl rfl rfl rfl
  case piece8 =>
    rw [pay7_eq]
    exact first_row m c t b R y1 y2 n (by omega) _ _ _ rfl fun k => rows0 m c t b R y1 k hb (by omega) _ _ _ _ _ _ _ _ rfl rfl rfl rfl

/-- The first result array after the run. -/
theorem finalA (c : Dev nD) : (dats m 0 c).arrAt 7 (cfgs 0).N = wantA m c := by
  refine (dats m 0 c).arrAt_eq_of_covers 7 _ (by decide +kernel) fun t _ y => ?_
  blk_simp
  rw [after0_7]
  idx_vars y
  obtain rfl : y0 = 0 := Fin.ext (by omega)
  have h8 := (coords t).1
  refine (pointA m c t ⟨t.val / 3, h8⟩ ⟨t.val % 3 * 768 + y1.val, by omega⟩ y1 y2 rfl rfl).trans ?_
  blk_ext [idx7 t]

/-- The second result array after the run. -/
theorem finalL (c : Dev nD) : (dats m 0 c).arrAt 8 (cfgs 0).N = wantL m c := by
  refine (dats m 0 c).arrAt_eq_of_covers 8 _ (by decide +kernel) fun t _ y => ?_
  blk_simp
  rw [after0_8]
  idx_vars y
  obtain rfl : y0 = 0 := Fin.ext (by omega)
  have h8 := (coords t).1
  refine (pointL m c t ⟨t.val / 3, h8⟩ ⟨t.val % 3 * 768 + y1.val, by omega⟩ y1 y2 rfl rfl).trans ?_
  blk_ext [idx8 t]

/-- The run: the results are the reference's, and the arguments end unchanged. -/
theorem run_want (ρ : Dev nD → PrngReg) : θ_run (defs (F := Ideal)) (onTc (τ := τ) (main (F := Ideal))) ⟨m, fun _ => 0, ρ⟩ (fun r => ∀ c : Dev nD,
      r.2.mem ((c.tc : Thread nD τ).loc main_v3_0) = wantA m c
      ∧ r.2.mem ((c.tc : Thread nD τ).loc main_v3_1) = wantL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (finalA m c), (h c).2.1.trans (finalL m c), (h c).2.2⟩) (Cert.ProjFirstIdeal.Value.run_blocks m ρ)

end Cert.FirstProjKernel
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.MergeIdeal
public import proofs.«01_k».proof.Proof.Gen.MergeRefIdeal
public import proofs.«01_k».proof.Proof.Gen.MergeRefIdeal.Read
public import proofs.«01_k».proof.Proof.Gen.FfnIdeal.Value
public import proofs.«01_k».proof.Proof.Gen.FfnFinalIdeal.Value
public import proofs.«01_k».proof.Proof.Gen.FfnRefIdeal.Read
public import proofs.«01_k».proof.Proof.Gen.FfnFinalRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnFinalRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Read
public import proofs.«01_k».proof.Proof.Gen.ProjFirst
public import proofs.«01_k».proof.Proof.Gen.ProjFirst.Skeleton
public import proofs.«01_k».proof.Proof.Gen.ProjFirst.Launch
public import proofs.«01_k».proof.Proof.Gen.ProjFirst.Points
public import proofs.«01_k».proof.Proof.Gen.ProjFirst.Frame
public import proofs.«01_k».proof.Proof.Gen.ProjFirstIdeal
public import proofs.«01_k».proof.Proof.Gen.ProjFirstIdeal.Skeleton
public import proofs.«01_k».proof.Proof.Gen.ProjFirstIdeal.Launch
public import proofs.«01_k».proof.Proof.Gen.ProjFirstIdeal.Points
public import proofs.«01_k».proof.Proof.Gen.ProjFirstIdeal.Frame
public import proofs.«01_k».proof.Proof.Gen.ProjFirstIdeal.Value
public import proofs.«01_k».proof.Proof.Gen.ProjFirstRefIdeal
public import proofs.«01_k».proof.Proof.Gen.ProjFirstRefIdeal.Read
public import proofs.«01_k».proof.Proof.Gen.MergeFirst
public import proofs.«01_k».proof.Proof.Gen.MergeFirst.Skeleton
public import proofs.«01_k».proof.Proof.Gen.MergeFirst.Launch
public import proofs.«01_k».proof.Proof.Gen.MergeFirst.Points
public import proofs.«01_k».proof.Proof.Gen.MergeFirstIdeal
public import proofs.«01_k».proof.Proof.Gen.MergeFirstRefIdeal
public import proofs.«01_k».proof.Proof.Gen.MergeFirstRefIdeal.Read
public import proofs.«01_k».proof.Proof.FfnKernel
public import proofs.«01_k».proof.Proof.FinalKernel
public import proofs.«01_k».proof.Proof.NaRun
public import proofs.«01_k».proof.Proof.NaKernel
public import proofs.«01_k».proof.Proof.MixFrame
public import proofs.«01_k».proof.Proof.MixKernel
public import proofs.«01_k».proof.Proof.ProjKernel
public import proofs.«01_k».proof.Proof.MixCarry
public import proofs.«01_k».proof.Proof.FirstFrame
public import proofs.«01_k».proof.Proof.FirstKernel
public import proofs.«01_k».proof.Proof.FirstProjKernel
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Ffn

/-- The reference of the middle layers' feed-forward keeps its arguments. -/
theorem frame_ffn_ref : Cert.quiescent_FfnRefIdeal := by
  intro m ρ _
  exact (θ_run Cert.FfnRefIdeal.defs _ _).mono (fun r h => ⟨fun c => (h c).2, sem_eq_zero_of_no_sems (by decide) r.2⟩)
    (Cert.FfnRefIdeal.Value.run (F := Ideal) m ρ)

/-- The reference of the last layer's feed-forward keeps its arguments. -/
theorem frame_final_ref : Cert.quiescent_FfnFinalRefIdeal := by
  intro m ρ _
  exact (θ_run Cert.FfnFinalRefIdeal.defs _ _).mono (fun r h => ⟨fun c => (h c).2, sem_eq_zero_of_no_sems (by decide) r.2⟩)
    (Cert.FfnFinalRefIdeal.Value.run (F := Ideal) m ρ)

/-- The middle layers' feed-forward call computes its reference. -/
theorem algebraic_ffn : Cert.algebraic_FfnIdeal_FfnRefIdeal := by
  pair_intro
  · run_from Cert.FfnIdeal.Gen.run_main m g
  · run_from Cert.FfnRefIdeal.Value.run m' g'
    rw [Cert.FfnRefIdeal.Read.val_main_v86_eq, (hagree c).1, (hagree c).2.1, (hagree c).2.2.1, (hagree c).2.2.2.1, (hagree c).2.2.2.2]
    exact (Cert.FfnKernel.final m c).symm

/-- The last layer's feed-forward call computes its reference. -/
theorem algebraic_final : Cert.algebraic_FfnFinalIdeal_FfnFinalRefIdeal := by
  pair_intro
  · run_from Cert.FfnFinalIdeal.Gen.run_main m g
  · run_from Cert.FfnFinalRefIdeal.Value.run m' g'
    rw [Cert.FfnFinalRefIdeal.Read.val_main_v53_eq, (hagree c).1, (hagree c).2.1, (hagree c).2.2.1, (hagree c).2.2.2.1, (hagree c).2.2.2.2.1, (hagree c).2.2.2.2.2]
    exact (Cert.FinalKernel.final m c).symm

/-- The precondition's side conditions. -/
theorem finite_facts : Cert.Pre_finite.Facts where
  slices_S8x2304x1024_S8x2304x512_0_0_256 := by decide
  bitsLt_bf16_f32 := by decide
  bcast_S_S8x2304x512 := by decide
  bcast_S_S4x4x15x31 := by decide

/-- The attention's reference keeps its arguments. -/
theorem frame_attention_ref : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The neighbourhood attention's two calls compute their reference, of finite queries and keys. -/
theorem algebraic_attention [Cert.Pre_finite.Facts] : Cert.algebraic_KernelIdeal_ReferenceIdeal_pre_finite := by
  pair_intro
  · run_from Cert.NaIdealRun.run_main m g
  · run_from Cert.ReferenceIdeal.Value.run m' g'
    rw [Cert.ReferenceIdeal.Read.val_main_v120_eq, (hagree c).1, (hagree c).2]
    exact (Cert.NaKernel.final m g c (hpre c)).symm

/-- The merge's reference keeps its arguments. -/
theorem frame_merge_ref : Cert.quiescent_MergeRefIdeal := by
  intro m ρ _
  exact (θ_run Cert.MergeRefIdeal.defs _ _).mono (fun r h => ⟨fun c => (h c).2, sem_eq_zero_of_no_sems (by decide) r.2⟩)
    (Cert.MergeRefIdeal.Value.run (F := Ideal) m ρ)

set_option maxHeartbeats 8000000 in
/-- The merge call computes its reference. -/
theorem algebraic_merge : Cert.algebraic_MergeIdeal_MergeRefIdeal := by
  pair_intro
  · run_from Cert.MixCarry.merge (Cert.MixKernel.run_want m g)
  · run_from Cert.MergeRefIdeal.Value.run m' g'
    obtain ⟨h0, h1, h2, h3, h4, h5, h6, h7, h8, h9, h10, h11, h12, h13, h14, h15, h16, h17, h18, h19⟩ := hagree c
    rw [Cert.MergeRefIdeal.Read.val_main_v344_eq,
      show StableHlo.launchContents m' c (Proc.tc.devRef Cert.MergeRefIdeal.main_arg0) = _ from h0,
      show StableHlo.launchContents m' c (Proc.tc.devRef Cert.MergeRefIdeal.main_arg1) = _ from h1,
      show StableHlo.launchContents m' c (Proc.tc.devRef Cert.MergeRefIdeal.main_arg2) = _ from h2,
      show StableHlo.launchContents m' c (Proc.tc.devRef Cert.MergeRefIdeal.main_arg3) = _ from h3,
      show StableHlo.launchContents m' c (Proc.tc.devRef Cert.MergeRefIdeal.main_arg4) = _ from h4,
      show StableHlo.launchContents m' c (Proc.tc.devRef Cert.MergeRefIdeal.main_arg5) = _ from h5,
      show StableHlo.launchContents m' c (Proc.tc.devRef Cert.MergeRefIdeal.main_arg6) = _ from h6,
      show StableHlo.launchContents m' c (Proc.tc.devRef Cert.MergeRefIdeal.main_arg7) = _ from h7,
      show StableHlo.launchContents m' c (Proc.tc.devRef Cert.MergeRefIdeal.main_arg8) = _ from h8,
      show StableHlo.launchContents m' c (Proc.tc.devRef Cert.MergeRefIdeal.main_arg9) = _ from h9,
      show StableHlo.launchContents m' c (Proc.tc.devRef Cert.MergeRefIdeal.main_arg10) = _ from h10,
      show StableHlo.launchContents m' c (Proc.tc.devRef Cert.MergeRefIdeal.main_arg11) = _ from h11,
      show StableHlo.launchContents m' c (Proc.tc.devRef Cert.MergeRefIdeal.main_arg12) = _ from h12,
      show StableHlo.launchContents m' c (Proc.tc.devRef Cert.MergeRefIdeal.main_arg13) = _ from h13,
      show StableHlo.launchContents m' c (Proc.tc.devRef Cert.MergeRefIdeal.main_arg14) = _ from h14,
      show StableHlo.launchContents m' c (Proc.tc.devRef Cert.MergeRefIdeal.main_arg15) = _ from h15,
      show StableHlo.launchContents m' c (Proc.tc.devRef Cert.MergeRefIdeal.main_arg16) = _ from h16,
      show StableHlo.launchContents m' c (Proc.tc.devRef Cert.MergeRefIdeal.main_arg17) = _ from h17,
      show StableHlo.launchContents m' c (Proc.tc.devRef Cert.MergeRefIdeal.main_arg18) = _ from h18,
      show StableHlo.launchContents m' c (Proc.tc.devRef Cert.MergeRefIdeal.main_arg19) = _ from h19]
    rfl

/-- The projection's reference keeps its arguments. -/
theorem frame_proj_ref : Cert.quiescent_ProjRefIdeal := by
  intro m ρ _
  exact (θ_run Cert.ProjRefIdeal.defs _ _).mono (fun r h => ⟨fun c => (h c).2.2, sem_eq_zero_of_no_sems (by decide) r.2⟩)
    (Cert.ProjRefIdeal.Value.run (F := Ideal) m ρ)

set_option maxHeartbeats 8000000 in
/-- The projection call computes both results of its reference. -/
theorem algebraic_proj : Cert.algebraic_ProjIdeal_ProjRefIdeal := by
  pair_intro
  · run_from Cert.ProjKernel.run_want m g
  · run_from Cert.ProjRefIdeal.Value.run m' g'
    · obtain ⟨h0, h1, h2, h3⟩ := hagree c
      rw [Cert.ProjRefIdeal.Read.val_main_v97_eq, h0, h1, h2, h3]
      rfl
    · obtain ⟨h0, h1, h2, h3⟩ := hagree c
      rw [Cert.ProjRefIdeal.Read.val_main_v98_eq, h0, h1, h2, h3]
      rfl

/-- The first projection's reference keeps its arguments. -/
theorem frame_first_proj_ref : Cert.quiescent_ProjFirstRefIdeal := by
  intro m ρ _
  exact (θ_run Cert.ProjFirstRefIdeal.defs _ _).mono (fun r h => ⟨fun c => (h c).2.2, sem_eq_zero_of_no_sems (by decide) r.2⟩)
    (Cert.ProjFirstRefIdeal.Value.run (F := Ideal) m ρ)

set_option maxHeartbeats 8000000 in
/-- The first layer's projection call computes both results of its reference. -/
theorem algebraic_first_proj : Cert.algebraic_ProjFirstIdeal_ProjFirstRefIdeal := by
  pair_intro
  · run_from Cert.FirstProjKernel.run_want m g
  · run_from Cert.ProjFirstRefIdeal.Value.run m' g'
    · obtain ⟨h0, h1, h2, h3, h4⟩ := hagree c
      rw [Cert.ProjFirstRefIdeal.Read.val_main_v95_eq, h0, h1, h2, h3, h4]
      rfl
    · obtain ⟨h0, h1, h2, h3, h4⟩ := hagree c
      rw [Cert.ProjFirstRefIdeal.Read.val_main_v96_eq, h0, h1, h2, h3, h4]
      rfl

/-- The first merge's reference keeps its arguments. -/
theorem frame_first_ref : Cert.quiescent_MergeFirstRefIdeal := by
  intro m ρ _
  exact (θ_run Cert.MergeFirstRefIdeal.defs _ _).mono (fun r h => ⟨fun c => (h c).2, sem_eq_zero_of_no_sems (by decide) r.2⟩)
    (Cert.MergeFirstRefIdeal.Value.run (F := Ideal) m ρ)

set_option maxHeartbeats 8000000 in
/-- The first layer's merge call computes its reference. -/
theorem algebraic_first : Cert.algebraic_MergeFirstIdeal_MergeFirstRefIdeal := by
  pair_intro
  · run_from Cert.MixCarry.first (Cert.FirstKernel.run_want m g)
  · run_from Cert.MergeFirstRefIdeal.Value.run m' g'
    obtain ⟨h0, h1, h2, h3, h4, h5, h6, h7, h8, h9, h10, h11, h12, h13, h14, h15, h16, h17, h18, h19, h20⟩ := hagree c
    rw [Cert.MergeFirstRefIdeal.Read.val_main_v342_eq,
      show StableHlo.launchContents m' c (Proc.tc.devRef Cert.MergeFirstRefIdeal.main_arg0) = _ from h0,
      show StableHlo.launchContents m' c (Proc.tc.devRef Cert.MergeFirstRefIdeal.main_arg1) = _ from h1,
      show StableHlo.launchContents m' c (Proc.tc.devRef Cert.MergeFirstRefIdeal.main_arg2) = _ from h2,
      show StableHlo.launchContents m' c (Proc.tc.devRef Cert.MergeFirstRefIdeal.main_arg3) = _ from h3,
      show StableHlo.launchContents m' c (Proc.tc.devRef Cert.MergeFirstRefIdeal.main_arg4) = _ from h4,
      show StableHlo.launchContents m' c (Proc.tc.devRef Cert.MergeFirstRefIdeal.main_arg5) = _ from h5,
      show StableHlo.launchContents m' c (Proc.tc.devRef Cert.MergeFirstRefIdeal.main_arg6) = _ from h6,
      show StableHlo.launchContents m' c (Proc.tc.devRef Cert.MergeFirstRefIdeal.main_arg7) = _ from h7,
      show StableHlo.launchContents m' c (Proc.tc.devRef Cert.MergeFirstRefIdeal.main_arg8) = _ from h8,
      show StableHlo.launchContents m' c (Proc.tc.devRef Cert.MergeFirstRefIdeal.main_arg9) = _ from h9,
      show StableHlo.launchContents m' c (Proc.tc.devRef Cert.MergeFirstRefIdeal.main_arg10) = _ from h10,
      show StableHlo.launchContents m' c (Proc.tc.devRef Cert.MergeFirstRefIdeal.main_arg11) = _ from h11,
      show StableHlo.launchContents m' c (Proc.tc.devRef Cert.MergeFirstRefIdeal.main_arg12) = _ from h12,
      show StableHlo.launchContents m' c (Proc.tc.devRef Cert.MergeFirstRefIdeal.main_arg13) = _ from h13,
      show StableHlo.launchContents m' c (Proc.tc.devRef Cert.MergeFirstRefIdeal.main_arg14) = _ from h14,
      show StableHlo.launchContents m' c (Proc.tc.devRef Cert.MergeFirstRefIdeal.main_arg15) = _ from h15,
      show StableHlo.launchContents m' c (Proc.tc.devRef Cert.MergeFirstRefIdeal.main_arg16) = _ from h16,
      show StableHlo.launchContents m' c (Proc.tc.devRef Cert.MergeFirstRefIdeal.main_arg17) = _ from h17,
      show StableHlo.launchContents m' c (Proc.tc.devRef Cert.MergeFirstRefIdeal.main_arg18) = _ from h18,
      show StableHlo.launchContents m' c (Proc.tc.devRef Cert.MergeFirstRefIdeal.main_arg19) = _ from h19,
      show StableHlo.launchContents m' c (Proc.tc.devRef Cert.MergeFirstRefIdeal.main_arg20) = _ from h20]
    rfl

/-- Every claim. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.FfnFinal.Gen.facts, Cert.FfnFinalIdeal.Gen.facts, Cert.FfnFinalRefIdeal.Gen.facts,
  Cert.Merge.Gen.facts, Cert.MergeIdeal.Gen.facts, Cert.MergeRefIdeal.Gen.facts,
  Cert.Proj.Gen.facts, Cert.ProjIdeal.Gen.facts, Cert.ProjRefIdeal.Gen.facts,
  Cert.ProjFirst.Gen.facts, Cert.ProjFirstIdeal.Gen.facts, Cert.ProjFirstRefIdeal.Gen.facts,
  Cert.MergeFirst.Gen.facts, Cert.MergeFirstIdeal.Gen.facts, Cert.MergeFirstRefIdeal.Gen.facts, finite_facts,
  fun m ρ _ => Cert.NaRun.frame m ρ, fun m ρ _ => Cert.NaIdealRun.frame m ρ, fun m ρ _ => Cert.NaIdealRun.frame m ρ,
  frame_attention_ref, fun m ρ _ => frame_attention_ref m ρ trivial,
  fun m ρ _ => Cert.Ffn.Gen.frame m ρ, fun m ρ _ => Cert.FfnIdeal.Gen.frame m ρ, frame_ffn_ref,
  fun m ρ _ => Cert.FfnFinal.Gen.frame m ρ, fun m ρ _ => Cert.FfnFinalIdeal.Gen.frame m ρ, frame_final_ref,
  fun m ρ _ => Cert.MixRun.frame m ρ, fun m ρ _ => Cert.MixCarry.merge (Cert.MixRun.frame (F := Ideal) m ρ), frame_merge_ref,
  fun m ρ _ => Cert.Proj.Gen.frame m ρ, fun m ρ _ => Cert.ProjIdeal.Gen.frame m ρ, frame_proj_ref,
  fun m ρ _ => Cert.ProjFirst.Gen.frame m ρ, fun m ρ _ => Cert.ProjFirstIdeal.Gen.frame m ρ, frame_first_proj_ref,
  fun m ρ _ => Cert.FirstRun.frame m ρ, fun m ρ _ => Cert.MixCarry.first (Cert.FirstRun.frame (F := Ideal) m ρ), frame_first_ref,
  IdealRules.named_const.statement Cert.KernelIdeal.κ "mask" .f32 0xF149F2CA#32 ⊥ rfl, @algebraic_attention finite_facts,
  trivial, algebraic_ffn, trivial, algebraic_final,
  trivial, algebraic_merge, trivial, algebraic_proj,
  trivial, algebraic_first_proj, trivial, algebraic_first⟩

end Cert.Proof

end
